-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![4096, 2048]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x2048 : Shape := ⟨2, ![256, 2048]⟩
abbrev S3x16 : Shape := ⟨2, ![3, 16]⟩
abbrev S4096x2048 : Shape := ⟨2, ![4096, 2048]⟩
abbrev S256x1024 : Shape := ⟨2, ![256, 1024]⟩
abbrev S16x256x1024 : Shape := ⟨3, ![16, 256, 1024]⟩
abbrev S15x2 : Shape := ⟨2, ![15, 2]⟩
abbrev S16x8x128 : Shape := ⟨3, ![16, 8, 128]⟩
abbrev S16 : Shape := ⟨1, ![16]⟩
abbrev S1x1 : Shape := ⟨2, ![1, 1]⟩
abbrev S_ : Shape := ⟨0, ![]⟩
abbrev S256x256 : Shape := ⟨2, ![256, 256]⟩
abbrev S1x256x1024 : Shape := ⟨3, ![1, 256, 1024]⟩
abbrev S1x256x512 : Shape := ⟨3, ![1, 256, 512]⟩
abbrev S256x512 : Shape := ⟨2, ![256, 512]⟩
abbrev S1 : Shape := ⟨1, ![1]⟩
abbrev S1x1x1 : Shape := ⟨3, ![1, 1, 1]⟩
abbrev S8x128 : Shape := ⟨2, ![8, 128]⟩
abbrev S1x8x128 : Shape := ⟨3, ![1, 8, 128]⟩
abbrev S16x1x1 : Shape := ⟨3, ![16, 1, 1]⟩
abbrev S1x16 : Shape := ⟨2, ![1, 16]⟩

abbrev nBuf : Space → Nat
  | .hbm => 4
  | .vmem => 14
  | .smem => 1
  | _ => 0

abbrev bufTy : (tb : Table) → Fin (tcTables nBuf tb) → BufTy
  | .hbm, ⟨0, _⟩ => ⟨S4096x256, .bf16⟩
  | .hbm, ⟨1, _⟩ => ⟨S256x2048, .bf16⟩
  | .hbm, ⟨2, _⟩ => ⟨S3x16, .i32⟩
  | .hbm, ⟨3, _⟩ => ⟨S4096x2048, .bf16⟩
  | .local _ .vmem, ⟨0, _⟩ => ⟨S4096x256, .bf16⟩
  | .local _ .vmem, ⟨1, _⟩ => ⟨S256x2048, .bf16⟩
  | .local _ .vmem, ⟨2, _⟩ => ⟨S4096x2048, .bf16⟩
  | .local _ .vmem, ⟨3, _⟩ => ⟨S4096x256, .bf16⟩
  | .local _ .vmem, ⟨4, _⟩ => ⟨S256x2048, .bf16⟩
  | .local _ .vmem, ⟨5, _⟩ => ⟨S256x1024, .f32⟩
  | .local _ .vmem, ⟨6, _⟩ => ⟨S256x1024, .f32⟩
  | .local _ .vmem, ⟨7, _⟩ => ⟨S16x256x1024, .bf16⟩
  | .local _ .vmem, ⟨8, _⟩ => ⟨S16x256x1024, .bf16⟩
  | .local _ .vmem, ⟨9, _⟩ => ⟨S16x256x1024, .fp8e4m3⟩
  | .local _ .vmem, ⟨10, _⟩ => ⟨S16x256x1024, .fp8e4m3⟩
  | .local _ .vmem, ⟨11, _⟩ => ⟨S16x256x1024, .fp8e4m3⟩
  | .local _ .vmem, ⟨12, _⟩ => ⟨S16x256x1024, .fp8e4m3⟩
  | .local _ .vmem, ⟨13, _⟩ => ⟨S16x8x128, .f32⟩
  | .local _ .smem, ⟨0, _⟩ => ⟨S3x16, .i32⟩
  | _, _ => ⟨S4096x256, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_3 (i : Nat) : Bool := match i % 128 with
  | 0 => true
  | 1 => true
  | 2 => true
  | 3 => true
  | 4 => true
  | 5 => true
  | 6 => true
  | 7 => true
  | 8 => true
  | 9 => true
  | 10 => true
  | 11 => true
  | _ => false

abbrev dmaSemScopedAt (i : Nat) : Bool := match i / 128 with
  | 0 => dmaSemScopedAt0_0 i
  | 1 => dmaSemScopedAt0_1 i
  | 2 => dmaSemScopedAt0_2 i
  | 3 => dmaSemScopedAt0_3 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 1 → Bool
  | ⟨0, _⟩ => false
  | _ => false

abbrev dmaSemScoped : Fin 396 → Bool
  | ⟨i, _⟩ => dmaSemScopedAt i

abbrev sig : RefSig :=
  (ofTc nBuf bufTy 1 396 bufScoped semScoped dmaSemScoped tileCredit tileCredit_eq_zero tileCredit_pos).withBarriers [(7, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch16 : Ref sig .tc := ⟨.vmem, 11, rfl⟩
abbrev cc0_scratch17 : Ref sig .tc := ⟨.vmem, 12, rfl⟩
abbrev cc0_scratch22 : Ref sig .tc := ⟨.vmem, 13, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev barrier7 : Sem sig := 0

abbrev nD : Nat := 16
abbrev τ : Topo := Topo.v7x

variable {F : FTy → Type} [FloatOps F]

abbrev grid0 : Pipeline.Grid := .none

def k0_off1 (d0 : Dev nD) : Fin 2 → Nat :=
  let c0 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : Index := Scalar.indexCast v2
  ![0, v3.toNat]
def k0_off2 (d0 : Dev nD) : Fin 2 → Nat :=
  let c1 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v5 : Index := Scalar.indexCast v2
  ![1, v5.toNat]
def k0_off3 (d0 : Dev nD) : Fin 2 → Nat :=
  let c2 : Index := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v7 : Index := Scalar.indexCast v2
  ![2, v7.toNat]
def k0_dev1 (v6 : BitVec 32) : Nat :=
  let c0_i32 : BitVec 32 := 0#32
  let c1_i32_1 : BitVec 32 := 1#32
  let v10 : BitVec 32 := Scalar.muli v6 c1_i32_1
  let v11 : BitVec 32 := Scalar.addi c0_i32 v10
  v11.toNat

def k0_dev2 (v4 : BitVec 32) : Nat :=
  let c0_i32_4 : BitVec 32 := 0#32
  let c1_i32_3 : BitVec 32 := 1#32
  let v12 : BitVec 32 := Scalar.muli v4 c1_i32_3
  let v13 : BitVec 32 := Scalar.addi c0_i32_4 v12
  v13.toNat

def k0_off4 (v8 : BitVec 32) : Fin 2 → Nat :=
  let c256_i32 : BitVec 32 := 256#32
  let v24 : BitVec 32 := Scalar.muli v8 c256_i32
  let v25 : Index := Scalar.indexCast v24
  let c0_13 : Index := 0#32
  ![v25.toNat, 0]

def k0_dev3 (v4 : BitVec 32) : Nat :=
  let c0_i32_33 : BitVec 32 := 0#32
  let c1_i32_32 : BitVec 32 := 1#32
  let v42 : BitVec 32 := Scalar.muli v4 c1_i32_32
  let v43 : BitVec 32 := Scalar.addi c0_i32_33 v42
  v43.toNat
def k0_dev4 (v6 : BitVec 32) : Nat :=
  let c0_i32_45 : BitVec 32 := 0#32
  let c1_i32_44 : BitVec 32 := 1#32
  let v52 : BitVec 32 := Scalar.muli v6 c1_i32_44
  let v53 : BitVec 32 := Scalar.addi c0_i32_45 v52
  v53.toNat
def k0_dev5 (v4 : BitVec 32) : Nat :=
  let c0_i32_57 : BitVec 32 := 0#32
  let c1_i32_56 : BitVec 32 := 1#32
  let v62 : BitVec 32 := Scalar.muli v4 c1_i32_56
  let v63 : BitVec 32 := Scalar.addi c0_i32_57 v62
  v63.toNat
def k0_dev6 (v6 : BitVec 32) : Nat :=
  let c0_i32_68 : BitVec 32 := 0#32
  let c1_i32_67 : BitVec 32 := 1#32
  let v72 : BitVec 32 := Scalar.muli v6 c1_i32_67
  let v73 : BitVec 32 := Scalar.addi c0_i32_68 v72
  v73.toNat
def k0_off5 (v8 : BitVec 32) (c0_i32_75 : BitVec 32) : Fin 2 → Nat :=
  let c16_i32_73 : BitVec 32 := 16#32
  let v82 : BitVec 32 := Scalar.addi v8 c16_i32_73
  let c1_i32_74 : BitVec 32 := 1#32
  let v83 : BitVec 32 := Scalar.subi v82 c1_i32_74
  let v84 : BitVec 32 := Scalar.subi v83 c0_i32_75
  let c16_i32_76 : BitVec 32 := 16#32
  let c0_i32_77 : BitVec 32 := 0#32
  let v85 : BitVec 1 := Scalar.cmpi .eq c16_i32_76 c0_i32_77
  let c1_i32_78 : BitVec 32 := 1#32
  let v86 : BitVec 32 := Scalar.select v85 c1_i32_78 c16_i32_76
  let v87 : BitVec 32 := Scalar.remsi v84 v86
  let c0_i32_80 : BitVec 32 := 0#32
  let v89 : BitVec 1 := Scalar.cmpi .slt v87 c0_i32_80
  let c0_i32_81 : BitVec 32 := 0#32
  let v90 : BitVec 1 := Scalar.cmpi .slt v86 c0_i32_81
  let v91 : BitVec 1 := Scalar.xori v89 v90
  let c0_i32_79 : BitVec 32 := 0#32
  let v88 : BitVec 1 := Scalar.cmpi .ne v87 c0_i32_79
  let v92 : BitVec 1 := Scalar.andi v91 v88
  let v93 : BitVec 32 := Scalar.addi v87 v86
  let v94 : BitVec 32 := Scalar.select v92 v93 v87
  let c256_i32_90 : BitVec 32 := 256#32
  let v107 : BitVec 32 := Scalar.muli v94 c256_i32_90
  let v108 : Index := Scalar.indexCast v107
  let c0_91 : Index := 0#32
  ![v108.toNat, 0]
def k0_off6 (v8 : BitVec 32) (c0_i32_82 : BitVec 32) : Fin 2 → Nat :=
  let v95 : BitVec 32 := Scalar.addi v8 c0_i32_82
  let c1_i32_83 : BitVec 32 := 1#32
  let v96 : BitVec 32 := Scalar.addi v95 c1_i32_83
  let c16_i32_84 : BitVec 32 := 16#32
  let c0_i32_85 : BitVec 32 := 0#32
  let v97 : BitVec 1 := Scalar.cmpi .eq c16_i32_84 c0_i32_85
  let c1_i32_86 : BitVec 32 := 1#32
  let v98 : BitVec 32 := Scalar.select v97 c1_i32_86 c16_i32_84
  let v99 : BitVec 32 := Scalar.remsi v96 v98
  let c0_i32_88 : BitVec 32 := 0#32
  let v101 : BitVec 1 := Scalar.cmpi .slt v99 c0_i32_88
  let c0_i32_89 : BitVec 32 := 0#32
  let v102 : BitVec 1 := Scalar.cmpi .slt v98 c0_i32_89
  let v103 : BitVec 1 := Scalar.xori v101 v102
  let c0_i32_87 : BitVec 32 := 0#32
  let v100 : BitVec 1 := Scalar.cmpi .ne v99 c0_i32_87
  let v104 : BitVec 1 := Scalar.andi v103 v100
  let v105 : BitVec 32 := Scalar.addi v99 v98
  let v106 : BitVec 32 := Scalar.select v104 v105 v99
  let c256_i32_95 : BitVec 32 := 256#32
  let v112 : BitVec 32 := Scalar.muli v106 c256_i32_95
  let v113 : Index := Scalar.indexCast v112
  let c0_96 : Index := 0#32
  ![v113.toNat, 0]
def k0_dev7 (v4 : BitVec 32) : Nat :=
  let c0_i32_136 : BitVec 32 := 0#32
  let c1_i32_135 : BitVec 32 := 1#32
  let v140 : BitVec 32 := Scalar.muli v4 c1_i32_135
  let v141 : BitVec 32 := Scalar.addi c0_i32_136 v140
  v141.toNat
def k0_dev8 (v6 : BitVec 32) : Nat :=
  let c0_i32_177 : BitVec 32 := 0#32
  let c1_i32_176 : BitVec 32 := 1#32
  let v173 : BitVec 32 := Scalar.muli v6 c1_i32_176
  let v174 : BitVec 32 := Scalar.addi c0_i32_177 v173
  v174.toNat
def k0_dev9 (v4 : BitVec 32) : Nat :=
  let c0_i32_217 : BitVec 32 := 0#32
  let c1_i32_216 : BitVec 32 := 1#32
  let v206 : BitVec 32 := Scalar.muli v4 c1_i32_216
  let v207 : BitVec 32 := Scalar.addi c0_i32_217 v206
  v207.toNat
def k0_dev10 (v6 : BitVec 32) : Nat :=
  let c0_i32_258 : BitVec 32 := 0#32
  let c1_i32_257 : BitVec 32 := 1#32
  let v239 : BitVec 32 := Scalar.muli v6 c1_i32_257
  let v240 : BitVec 32 := Scalar.addi c0_i32_258 v239
  v240.toNat
def k0_dev11 (v4 : BitVec 32) : Nat :=
  let c0_i32_325 : BitVec 32 := 0#32
  let c1_i32_324 : BitVec 32 := 1#32
  let v307 : BitVec 32 := Scalar.muli v4 c1_i32_324
  let v308 : BitVec 32 := Scalar.addi c0_i32_325 v307
  v308.toNat
def k0_dev12 (v6 : BitVec 32) : Nat :=
  let c0_i32_366 : BitVec 32 := 0#32
  let c1_i32_365 : BitVec 32 := 1#32
  let v340 : BitVec 32 := Scalar.muli v6 c1_i32_365
  let v341 : BitVec 32 := Scalar.addi c0_i32_366 v340
  v341.toNat
def k0_dev13 (v4 : BitVec 32) : Nat :=
  let c0_i32_407 : BitVec 32 := 0#32
  let c1_i32_406 : BitVec 32 := 1#32
  let v373 : BitVec 32 := Scalar.muli v4 c1_i32_406
  let v374 : BitVec 32 := Scalar.addi c0_i32_407 v373
  v374.toNat
def k0_dev14 (v6 : BitVec 32) : Nat :=
  let c0_i32_448 : BitVec 32 := 0#32
  let c1_i32_447 : BitVec 32 := 1#32
  let v406 : BitVec 32 := Scalar.muli v6 c1_i32_447
  let v407 : BitVec 32 := Scalar.addi c0_i32_448 v406
  v407.toNat
def k0_dev15 (v4 : BitVec 32) : Nat :=
  let c0_i32_514 : BitVec 32 := 0#32
  let c1_i32_513 : BitVec 32 := 1#32
  let v474 : BitVec 32 := Scalar.muli v4 c1_i32_513
  let v475 : BitVec 32 := Scalar.addi c0_i32_514 v474
  v475.toNat
def k0_dev16 (v6 : BitVec 32) : Nat :=
  let c0_i32_555 : BitVec 32 := 0#32
  let c1_i32_554 : BitVec 32 := 1#32
  let v507 : BitVec 32 := Scalar.muli v6 c1_i32_554
  let v508 : BitVec 32 := Scalar.addi c0_i32_555 v507
  v508.toNat
def k0_dev17 (v4 : BitVec 32) : Nat :=
  let c0_i32_596 : BitVec 32 := 0#32
  let c1_i32_595 : BitVec 32 := 1#32
  let v540 : BitVec 32 := Scalar.muli v4 c1_i32_595
  let v541 : BitVec 32 := Scalar.addi c0_i32_596 v540
  v541.toNat
def k0_dev18 (v6 : BitVec 32) : Nat :=
  let c0_i32_637 : BitVec 32 := 0#32
  let c1_i32_636 : BitVec 32 := 1#32
  let v573 : BitVec 32 := Scalar.muli v6 c1_i32_636
  let v574 : BitVec 32 := Scalar.addi c0_i32_637 v573
  v574.toNat
def k0_dev19 (v4 : BitVec 32) : Nat :=
  let c0_i32_703 : BitVec 32 := 0#32
  let c1_i32_702 : BitVec 32 := 1#32
  let v641 : BitVec 32 := Scalar.muli v4 c1_i32_702
  let v642 : BitVec 32 := Scalar.addi c0_i32_703 v641
  v642.toNat
def k0_dev20 (v6 : BitVec 32) : Nat :=
  let c0_i32_744 : BitVec 32 := 0#32
  let c1_i32_743 : BitVec 32 := 1#32
  let v674 : BitVec 32 := Scalar.muli v6 c1_i32_743
  let v675 : BitVec 32 := Scalar.addi c0_i32_744 v674
  v675.toNat
def k0_dev21 (v4 : BitVec 32) : Nat :=
  let c0_i32_785 : BitVec 32 := 0#32
  let c1_i32_784 : BitVec 32 := 1#32
  let v707 : BitVec 32 := Scalar.muli v4 c1_i32_784
  let v708 : BitVec 32 := Scalar.addi c0_i32_785 v707
  v708.toNat
def k0_dev22 (v6 : BitVec 32) : Nat :=
  let c0_i32_826 : BitVec 32 := 0#32
  let c1_i32_825 : BitVec 32 := 1#32
  let v740 : BitVec 32 := Scalar.muli v6 c1_i32_825
  let v741 : BitVec 32 := Scalar.addi c0_i32_826 v740
  v741.toNat
def k0_dev23 (v4 : BitVec 32) : Nat :=
  let c0_i32_892 : BitVec 32 := 0#32
  let c1_i32_891 : BitVec 32 := 1#32
  let v808 : BitVec 32 := Scalar.muli v4 c1_i32_891
  let v809 : BitVec 32 := Scalar.addi c0_i32_892 v808
  v809.toNat
def k0_dev24 (v6 : BitVec 32) : Nat :=
  let c0_i32_933 : BitVec 32 := 0#32
  let c1_i32_932 : BitVec 32 := 1#32
  let v841 : BitVec 32 := Scalar.muli v6 c1_i32_932
  let v842 : BitVec 32 := Scalar.addi c0_i32_933 v841
  v842.toNat
def k0_dev25 (v4 : BitVec 32) : Nat :=
  let c0_i32_974 : BitVec 32 := 0#32
  let c1_i32_973 : BitVec 32 := 1#32
  let v874 : BitVec 32 := Scalar.muli v4 c1_i32_973
  let v875 : BitVec 32 := Scalar.addi c0_i32_974 v874
  v875.toNat
def k0_dev26 (v6 : BitVec 32) : Nat :=
  let c0_i32_1015 : BitVec 32 := 0#32
  let c1_i32_1014 : BitVec 32 := 1#32
  let v907 : BitVec 32 := Scalar.muli v6 c1_i32_1014
  let v908 : BitVec 32 := Scalar.addi c0_i32_1015 v907
  v908.toNat
def k0_dev27 (v4 : BitVec 32) : Nat :=
  let c0_i32_1081 : BitVec 32 := 0#32
  let c1_i32_1080 : BitVec 32 := 1#32
  let v975 : BitVec 32 := Scalar.muli v4 c1_i32_1080
  let v976 : BitVec 32 := Scalar.addi c0_i32_1081 v975
  v976.toNat
def k0_dev28 (v6 : BitVec 32) : Nat :=
  let c0_i32_1122 : BitVec 32 := 0#32
  let c1_i32_1121 : BitVec 32 := 1#32
  let v1008 : BitVec 32 := Scalar.muli v6 c1_i32_1121
  let v1009 : BitVec 32 := Scalar.addi c0_i32_1122 v1008
  v1009.toNat
def k0_dev29 (v4 : BitVec 32) : Nat :=
  let c0_i32_1163 : BitVec 32 := 0#32
  let c1_i32_1162 : BitVec 32 := 1#32
  let v1041 : BitVec 32 := Scalar.muli v4 c1_i32_1162
  let v1042 : BitVec 32 := Scalar.addi c0_i32_1163 v1041
  v1042.toNat
def k0_dev30 (v6 : BitVec 32) : Nat :=
  let c0_i32_1204 : BitVec 32 := 0#32
  let c1_i32_1203 : BitVec 32 := 1#32
  let v1074 : BitVec 32 := Scalar.muli v6 c1_i32_1203
  let v1075 : BitVec 32 := Scalar.addi c0_i32_1204 v1074
  v1075.toNat
def k0_dev31 (v4 : BitVec 32) : Nat :=
  let c0_i32_1270 : BitVec 32 := 0#32
  let c1_i32_1269 : BitVec 32 := 1#32
  let v1142 : BitVec 32 := Scalar.muli v4 c1_i32_1269
  let v1143 : BitVec 32 := Scalar.addi c0_i32_1270 v1142
  v1143.toNat
def k0_dev32 (v6 : BitVec 32) : Nat :=
  let c0_i32_1311 : BitVec 32 := 0#32
  let c1_i32_1310 : BitVec 32 := 1#32
  let v1175 : BitVec 32 := Scalar.muli v6 c1_i32_1310
  let v1176 : BitVec 32 := Scalar.addi c0_i32_1311 v1175
  v1176.toNat
def k0_dev33 (v4 : BitVec 32) : Nat :=
  let c0_i32_1352 : BitVec 32 := 0#32
  let c1_i32_1351 : BitVec 32 := 1#32
  let v1208 : BitVec 32 := Scalar.muli v4 c1_i32_1351
  let v1209 : BitVec 32 := Scalar.addi c0_i32_1352 v1208
  v1209.toNat
def k0_dev34 (v6 : BitVec 32) : Nat :=
  let c0_i32_1393 : BitVec 32 := 0#32
  let c1_i32_1392 : BitVec 32 := 1#32
  let v1241 : BitVec 32 := Scalar.muli v6 c1_i32_1392
  let v1242 : BitVec 32 := Scalar.addi c0_i32_1393 v1241
  v1242.toNat
def k0_dev35 (v4 : BitVec 32) : Nat :=
  let c0_i32_1459 : BitVec 32 := 0#32
  let c1_i32_1458 : BitVec 32 := 1#32
  let v1309 : BitVec 32 := Scalar.muli v4 c1_i32_1458
  let v1310 : BitVec 32 := Scalar.addi c0_i32_1459 v1309
  v1310.toNat
def k0_dev36 (v6 : BitVec 32) : Nat :=
  let c0_i32_1500 : BitVec 32 := 0#32
  let c1_i32_1499 : BitVec 32 := 1#32
  let v1342 : BitVec 32 := Scalar.muli v6 c1_i32_1499
  let v1343 : BitVec 32 := Scalar.addi c0_i32_1500 v1342
  v1343.toNat
def k0_dev37 (v4 : BitVec 32) : Nat :=
  let c0_i32_1541 : BitVec 32 := 0#32
  let c1_i32_1540 : BitVec 32 := 1#32
  let v1375 : BitVec 32 := Scalar.muli v4 c1_i32_1540
  let v1376 : BitVec 32 := Scalar.addi c0_i32_1541 v1375
  v1376.toNat
def k0_dev38 (v6 : BitVec 32) : Nat :=
  let c0_i32_1582 : BitVec 32 := 0#32
  let c1_i32_1581 : BitVec 32 := 1#32
  let v1408 : BitVec 32 := Scalar.muli v6 c1_i32_1581
  let v1409 : BitVec 32 := Scalar.addi c0_i32_1582 v1408
  v1409.toNat
def k0_dev39 (v4 : BitVec 32) : Nat :=
  let c0_i32_1648 : BitVec 32 := 0#32
  let c1_i32_1647 : BitVec 32 := 1#32
  let v1476 : BitVec 32 := Scalar.muli v4 c1_i32_1647
  let v1477 : BitVec 32 := Scalar.addi c0_i32_1648 v1476
  v1477.toNat
def k0_dev40 (v6 : BitVec 32) : Nat :=
  let c0_i32_1689 : BitVec 32 := 0#32
  let c1_i32_1688 : BitVec 32 := 1#32
  let v1509 : BitVec 32 := Scalar.muli v6 c1_i32_1688
  let v1510 : BitVec 32 := Scalar.addi c0_i32_1689 v1509
  v1510.toNat
def k0_dev41 (v4 : BitVec 32) : Nat :=
  let c0_i32_1730 : BitVec 32 := 0#32
  let c1_i32_1729 : BitVec 32 := 1#32
  let v1542 : BitVec 32 := Scalar.muli v4 c1_i32_1729
  let v1543 : BitVec 32 := Scalar.addi c0_i32_1730 v1542
  v1543.toNat
def k0_dev42 (v6 : BitVec 32) : Nat :=
  let c0_i32_1771 : BitVec 32 := 0#32
  let c1_i32_1770 : BitVec 32 := 1#32
  let v1575 : BitVec 32 := Scalar.muli v6 c1_i32_1770
  let v1576 : BitVec 32 := Scalar.addi c0_i32_1771 v1575
  v1576.toNat
def k0_dev43 (v4 : BitVec 32) : Nat :=
  let c0_i32_1841 : BitVec 32 := 0#32
  let c1_i32_1840 : BitVec 32 := 1#32
  let v1651 : BitVec 32 := Scalar.muli v4 c1_i32_1840
  let v1652 : BitVec 32 := Scalar.addi c0_i32_1841 v1651
  v1652.toNat
def k0_dev44 (v4 : BitVec 32) : Nat :=
  let c0_i32_1853 : BitVec 32 := 0#32
  let c1_i32_1852 : BitVec 32 := 1#32
  let v1661 : BitVec 32 := Scalar.muli v4 c1_i32_1852
  let v1662 : BitVec 32 := Scalar.addi c0_i32_1853 v1661
  v1662.toNat
def k0_dev45 (v6 : BitVec 32) : Nat :=
  let c0_i32_1898 : BitVec 32 := 0#32
  let c1_i32_1897 : BitVec 32 := 1#32
  let v1702 : BitVec 32 := Scalar.muli v6 c1_i32_1897
  let v1703 : BitVec 32 := Scalar.addi c0_i32_1898 v1702
  v1703.toNat
def k0_dev46 (v6 : BitVec 32) : Nat :=
  let c0_i32_1910 : BitVec 32 := 0#32
  let c1_i32_1909 : BitVec 32 := 1#32
  let v1712 : BitVec 32 := Scalar.muli v6 c1_i32_1909
  let v1713 : BitVec 32 := Scalar.addi c0_i32_1910 v1712
  v1713.toNat
def k0_dev47 (v4 : BitVec 32) : Nat :=
  let c0_i32_1955 : BitVec 32 := 0#32
  let c1_i32_1954 : BitVec 32 := 1#32
  let v1753 : BitVec 32 := Scalar.muli v4 c1_i32_1954
  let v1754 : BitVec 32 := Scalar.addi c0_i32_1955 v1753
  v1754.toNat
def k0_dev48 (v4 : BitVec 32) : Nat :=
  let c0_i32_1967 : BitVec 32 := 0#32
  let c1_i32_1966 : BitVec 32 := 1#32
  let v1763 : BitVec 32 := Scalar.muli v4 c1_i32_1966
  let v1764 : BitVec 32 := Scalar.addi c0_i32_1967 v1763
  v1764.toNat
def k0_dev49 (v6 : BitVec 32) : Nat :=
  let c0_i32_2012 : BitVec 32 := 0#32
  let c1_i32_2011 : BitVec 32 := 1#32
  let v1804 : BitVec 32 := Scalar.muli v6 c1_i32_2011
  let v1805 : BitVec 32 := Scalar.addi c0_i32_2012 v1804
  v1805.toNat
def k0_dev50 (v6 : BitVec 32) : Nat :=
  let c0_i32_2024 : BitVec 32 := 0#32
  let c1_i32_2023 : BitVec 32 := 1#32
  let v1814 : BitVec 32 := Scalar.muli v6 c1_i32_2023
  let v1815 : BitVec 32 := Scalar.addi c0_i32_2024 v1814
  v1815.toNat
def k0_dev51 (v4 : BitVec 32) : Nat :=
  let c0_i32_2121 : BitVec 32 := 0#32
  let c1_i32_2120 : BitVec 32 := 1#32
  let v1910 : BitVec 32 := Scalar.muli v4 c1_i32_2120
  let v1911 : BitVec 32 := Scalar.addi c0_i32_2121 v1910
  v1911.toNat
def k0_dev52 (v4 : BitVec 32) : Nat :=
  let c0_i32_2133 : BitVec 32 := 0#32
  let c1_i32_2132 : BitVec 32 := 1#32
  let v1920 : BitVec 32 := Scalar.muli v4 c1_i32_2132
  let v1921 : BitVec 32 := Scalar.addi c0_i32_2133 v1920
  v1921.toNat
def k0_dev53 (v6 : BitVec 32) : Nat :=
  let c0_i32_2205 : BitVec 32 := 0#32
  let c1_i32_2204 : BitVec 32 := 1#32
  let v1981 : BitVec 32 := Scalar.muli v6 c1_i32_2204
  let v1982 : BitVec 32 := Scalar.addi c0_i32_2205 v1981
  v1982.toNat
def k0_dev54 (v6 : BitVec 32) : Nat :=
  let c0_i32_2217 : BitVec 32 := 0#32
  let c1_i32_2216 : BitVec 32 := 1#32
  let v1991 : BitVec 32 := Scalar.muli v6 c1_i32_2216
  let v1992 : BitVec 32 := Scalar.addi c0_i32_2217 v1991
  v1992.toNat
def k0_dev55 (v4 : BitVec 32) : Nat :=
  let c0_i32_2289 : BitVec 32 := 0#32
  let c1_i32_2288 : BitVec 32 := 1#32
  let v2052 : BitVec 32 := Scalar.muli v4 c1_i32_2288
  let v2053 : BitVec 32 := Scalar.addi c0_i32_2289 v2052
  v2053.toNat
def k0_dev56 (v4 : BitVec 32) : Nat :=
  let c0_i32_2301 : BitVec 32 := 0#32
  let c1_i32_2300 : BitVec 32 := 1#32
  let v2062 : BitVec 32 := Scalar.muli v4 c1_i32_2300
  let v2063 : BitVec 32 := Scalar.addi c0_i32_2301 v2062
  v2063.toNat
def k0_dev57 (v6 : BitVec 32) : Nat :=
  let c0_i32_2373 : BitVec 32 := 0#32
  let c1_i32_2372 : BitVec 32 := 1#32
  let v2123 : BitVec 32 := Scalar.muli v6 c1_i32_2372
  let v2124 : BitVec 32 := Scalar.addi c0_i32_2373 v2123
  v2124.toNat
def k0_dev58 (v6 : BitVec 32) : Nat :=
  let c0_i32_2385 : BitVec 32 := 0#32
  let c1_i32_2384 : BitVec 32 := 1#32
  let v2133 : BitVec 32 := Scalar.muli v6 c1_i32_2384
  let v2134 : BitVec 32 := Scalar.addi c0_i32_2385 v2133
  v2134.toNat
def k0_dev59 (v4 : BitVec 32) : Nat :=
  let c0_i32_2482 : BitVec 32 := 0#32
  let c1_i32_2481 : BitVec 32 := 1#32
  let v2229 : BitVec 32 := Scalar.muli v4 c1_i32_2481
  let v2230 : BitVec 32 := Scalar.addi c0_i32_2482 v2229
  v2230.toNat
def k0_dev60 (v4 : BitVec 32) : Nat :=
  let c0_i32_2494 : BitVec 32 := 0#32
  let c1_i32_2493 : BitVec 32 := 1#32
  let v2239 : BitVec 32 := Scalar.muli v4 c1_i32_2493
  let v2240 : BitVec 32 := Scalar.addi c0_i32_2494 v2239
  v2240.toNat
def k0_dev61 (v6 : BitVec 32) : Nat :=
  let c0_i32_2566 : BitVec 32 := 0#32
  let c1_i32_2565 : BitVec 32 := 1#32
  let v2300 : BitVec 32 := Scalar.muli v6 c1_i32_2565
  let v2301 : BitVec 32 := Scalar.addi c0_i32_2566 v2300
  v2301.toNat
def k0_dev62 (v6 : BitVec 32) : Nat :=
  let c0_i32_2578 : BitVec 32 := 0#32
  let c1_i32_2577 : BitVec 32 := 1#32
  let v2310 : BitVec 32 := Scalar.muli v6 c1_i32_2577
  let v2311 : BitVec 32 := Scalar.addi c0_i32_2578 v2310
  v2311.toNat
def k0_dev63 (v4 : BitVec 32) : Nat :=
  let c0_i32_2650 : BitVec 32 := 0#32
  let c1_i32_2649 : BitVec 32 := 1#32
  let v2371 : BitVec 32 := Scalar.muli v4 c1_i32_2649
  let v2372 : BitVec 32 := Scalar.addi c0_i32_2650 v2371
  v2372.toNat
def k0_dev64 (v4 : BitVec 32) : Nat :=
  let c0_i32_2662 : BitVec 32 := 0#32
  let c1_i32_2661 : BitVec 32 := 1#32
  let v2381 : BitVec 32 := Scalar.muli v4 c1_i32_2661
  let v2382 : BitVec 32 := Scalar.addi c0_i32_2662 v2381
  v2382.toNat
def k0_dev65 (v6 : BitVec 32) : Nat :=
  let c0_i32_2734 : BitVec 32 := 0#32
  let c1_i32_2733 : BitVec 32 := 1#32
  let v2442 : BitVec 32 := Scalar.muli v6 c1_i32_2733
  let v2443 : BitVec 32 := Scalar.addi c0_i32_2734 v2442
  v2443.toNat
def k0_dev66 (v6 : BitVec 32) : Nat :=
  let c0_i32_2746 : BitVec 32 := 0#32
  let c1_i32_2745 : BitVec 32 := 1#32
  let v2452 : BitVec 32 := Scalar.muli v6 c1_i32_2745
  let v2453 : BitVec 32 := Scalar.addi c0_i32_2746 v2452
  v2453.toNat
def k0_dev67 (v4 : BitVec 32) : Nat :=
  let c0_i32_2843 : BitVec 32 := 0#32
  let c1_i32_2842 : BitVec 32 := 1#32
  let v2548 : BitVec 32 := Scalar.muli v4 c1_i32_2842
  let v2549 : BitVec 32 := Scalar.addi c0_i32_2843 v2548
  v2549.toNat
def k0_dev68 (v4 : BitVec 32) : Nat :=
  let c0_i32_2855 : BitVec 32 := 0#32
  let c1_i32_2854 : BitVec 32 := 1#32
  let v2558 : BitVec 32 := Scalar.muli v4 c1_i32_2854
  let v2559 : BitVec 32 := Scalar.addi c0_i32_2855 v2558
  v2559.toNat
def k0_dev69 (v6 : BitVec 32) : Nat :=
  let c0_i32_2927 : BitVec 32 := 0#32
  let c1_i32_2926 : BitVec 32 := 1#32
  let v2619 : BitVec 32 := Scalar.muli v6 c1_i32_2926
  let v2620 : BitVec 32 := Scalar.addi c0_i32_2927 v2619
  v2620.toNat
def k0_dev70 (v6 : BitVec 32) : Nat :=
  let c0_i32_2939 : BitVec 32 := 0#32
  let c1_i32_2938 : BitVec 32 := 1#32
  let v2629 : BitVec 32 := Scalar.muli v6 c1_i32_2938
  let v2630 : BitVec 32 := Scalar.addi c0_i32_2939 v2629
  v2630.toNat
def k0_dev71 (v4 : BitVec 32) : Nat :=
  let c0_i32_3011 : BitVec 32 := 0#32
  let c1_i32_3010 : BitVec 32 := 1#32
  let v2690 : BitVec 32 := Scalar.muli v4 c1_i32_3010
  let v2691 : BitVec 32 := Scalar.addi c0_i32_3011 v2690
  v2691.toNat
def k0_dev72 (v4 : BitVec 32) : Nat :=
  let c0_i32_3023 : BitVec 32 := 0#32
  let c1_i32_3022 : BitVec 32 := 1#32
  let v2700 : BitVec 32 := Scalar.muli v4 c1_i32_3022
  let v2701 : BitVec 32 := Scalar.addi c0_i32_3023 v2700
  v2701.toNat
def k0_dev73 (v6 : BitVec 32) : Nat :=
  let c0_i32_3095 : BitVec 32 := 0#32
  let c1_i32_3094 : BitVec 32 := 1#32
  let v2761 : BitVec 32 := Scalar.muli v6 c1_i32_3094
  let v2762 : BitVec 32 := Scalar.addi c0_i32_3095 v2761
  v2762.toNat
def k0_dev74 (v6 : BitVec 32) : Nat :=
  let c0_i32_3107 : BitVec 32 := 0#32
  let c1_i32_3106 : BitVec 32 := 1#32
  let v2771 : BitVec 32 := Scalar.muli v6 c1_i32_3106
  let v2772 : BitVec 32 := Scalar.addi c0_i32_3107 v2771
  v2772.toNat
def k0_dev75 (v4 : BitVec 32) : Nat :=
  let c0_i32_3204 : BitVec 32 := 0#32
  let c1_i32_3203 : BitVec 32 := 1#32
  let v2867 : BitVec 32 := Scalar.muli v4 c1_i32_3203
  let v2868 : BitVec 32 := Scalar.addi c0_i32_3204 v2867
  v2868.toNat
def k0_dev76 (v4 : BitVec 32) : Nat :=
  let c0_i32_3216 : BitVec 32 := 0#32
  let c1_i32_3215 : BitVec 32 := 1#32
  let v2877 : BitVec 32 := Scalar.muli v4 c1_i32_3215
  let v2878 : BitVec 32 := Scalar.addi c0_i32_3216 v2877
  v2878.toNat
def k0_dev77 (v6 : BitVec 32) : Nat :=
  let c0_i32_3288 : BitVec 32 := 0#32
  let c1_i32_3287 : BitVec 32 := 1#32
  let v2938 : BitVec 32 := Scalar.muli v6 c1_i32_3287
  let v2939 : BitVec 32 := Scalar.addi c0_i32_3288 v2938
  v2939.toNat
def k0_dev78 (v6 : BitVec 32) : Nat :=
  let c0_i32_3300 : BitVec 32 := 0#32
  let c1_i32_3299 : BitVec 32 := 1#32
  let v2948 : BitVec 32 := Scalar.muli v6 c1_i32_3299
  let v2949 : BitVec 32 := Scalar.addi c0_i32_3300 v2948
  v2949.toNat
def k0_dev79 (v4 : BitVec 32) : Nat :=
  let c0_i32_3372 : BitVec 32 := 0#32
  let c1_i32_3371 : BitVec 32 := 1#32
  let v3009 : BitVec 32 := Scalar.muli v4 c1_i32_3371
  let v3010 : BitVec 32 := Scalar.addi c0_i32_3372 v3009
  v3010.toNat
def k0_dev80 (v4 : BitVec 32) : Nat :=
  let c0_i32_3384 : BitVec 32 := 0#32
  let c1_i32_3383 : BitVec 32 := 1#32
  let v3019 : BitVec 32 := Scalar.muli v4 c1_i32_3383
  let v3020 : BitVec 32 := Scalar.addi c0_i32_3384 v3019
  v3020.toNat
def k0_dev81 (v6 : BitVec 32) : Nat :=
  let c0_i32_3456 : BitVec 32 := 0#32
  let c1_i32_3455 : BitVec 32 := 1#32
  let v3080 : BitVec 32 := Scalar.muli v6 c1_i32_3455
  let v3081 : BitVec 32 := Scalar.addi c0_i32_3456 v3080
  v3081.toNat
def k0_dev82 (v6 : BitVec 32) : Nat :=
  let c0_i32_3468 : BitVec 32 := 0#32
  let c1_i32_3467 : BitVec 32 := 1#32
  let v3090 : BitVec 32 := Scalar.muli v6 c1_i32_3467
  let v3091 : BitVec 32 := Scalar.addi c0_i32_3468 v3090
  v3091.toNat
def k0_off7 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3340 : Index := Scalar.indexCast v2
  let c0_3740 : Index := 0#32
  let c0_3741 : Index := 0#32
  ![v3340.toNat, 0, 0]
def k0_off8 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off9 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_3752 : BitVec 32 := 0#32
  let c0_i32_3753 : BitVec 32 := 0#32
  ![v2.toNat, 0, 0]
def k0_dev83 (d0 : Dev nD) : Nat :=
  let c0_i32_3751 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3742 : BitVec 32 := 1#32
  let v3344 : BitVec 32 := Scalar.addi v2 c1_i32_3742
  let c16_i32_3743 : BitVec 32 := 16#32
  let c0_i32_3744 : BitVec 32 := 0#32
  let v3345 : BitVec 1 := Scalar.cmpi .eq c16_i32_3743 c0_i32_3744
  let c1_i32_3745 : BitVec 32 := 1#32
  let v3346 : BitVec 32 := Scalar.select v3345 c1_i32_3745 c16_i32_3743
  let v3347 : BitVec 32 := Scalar.remsi v3344 v3346
  let c0_i32_3747 : BitVec 32 := 0#32
  let v3349 : BitVec 1 := Scalar.cmpi .slt v3347 c0_i32_3747
  let c0_i32_3748 : BitVec 32 := 0#32
  let v3350 : BitVec 1 := Scalar.cmpi .slt v3346 c0_i32_3748
  let v3351 : BitVec 1 := Scalar.xori v3349 v3350
  let c0_i32_3746 : BitVec 32 := 0#32
  let v3348 : BitVec 1 := Scalar.cmpi .ne v3347 c0_i32_3746
  let v3352 : BitVec 1 := Scalar.andi v3351 v3348
  let v3353 : BitVec 32 := Scalar.addi v3347 v3346
  let v3354 : BitVec 32 := Scalar.select v3352 v3353 v3347
  let c1_i32_3750 : BitVec 32 := 1#32
  let v3355 : BitVec 32 := Scalar.muli v3354 c1_i32_3750
  let v3356 : BitVec 32 := Scalar.addi c0_i32_3751 v3355
  v3356.toNat
def k0_dev84 (d0 : Dev nD) : Nat :=
  let c0_i32_3765 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_3756 : BitVec 32 := 2#32
  let v3365 : BitVec 32 := Scalar.addi v2 c2_i32_3756
  let c16_i32_3757 : BitVec 32 := 16#32
  let c0_i32_3758 : BitVec 32 := 0#32
  let v3366 : BitVec 1 := Scalar.cmpi .eq c16_i32_3757 c0_i32_3758
  let c1_i32_3759 : BitVec 32 := 1#32
  let v3367 : BitVec 32 := Scalar.select v3366 c1_i32_3759 c16_i32_3757
  let v3368 : BitVec 32 := Scalar.remsi v3365 v3367
  let c0_i32_3761 : BitVec 32 := 0#32
  let v3370 : BitVec 1 := Scalar.cmpi .slt v3368 c0_i32_3761
  let c0_i32_3762 : BitVec 32 := 0#32
  let v3371 : BitVec 1 := Scalar.cmpi .slt v3367 c0_i32_3762
  let v3372 : BitVec 1 := Scalar.xori v3370 v3371
  let c0_i32_3760 : BitVec 32 := 0#32
  let v3369 : BitVec 1 := Scalar.cmpi .ne v3368 c0_i32_3760
  let v3373 : BitVec 1 := Scalar.andi v3372 v3369
  let v3374 : BitVec 32 := Scalar.addi v3368 v3367
  let v3375 : BitVec 32 := Scalar.select v3373 v3374 v3368
  let c1_i32_3764 : BitVec 32 := 1#32
  let v3376 : BitVec 32 := Scalar.muli v3375 c1_i32_3764
  let v3377 : BitVec 32 := Scalar.addi c0_i32_3765 v3376
  v3377.toNat
def k0_dev85 (d0 : Dev nD) : Nat :=
  let c0_i32_3779 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_3770 : BitVec 32 := 3#32
  let v3386 : BitVec 32 := Scalar.addi v2 c3_i32_3770
  let c16_i32_3771 : BitVec 32 := 16#32
  let c0_i32_3772 : BitVec 32 := 0#32
  let v3387 : BitVec 1 := Scalar.cmpi .eq c16_i32_3771 c0_i32_3772
  let c1_i32_3773 : BitVec 32 := 1#32
  let v3388 : BitVec 32 := Scalar.select v3387 c1_i32_3773 c16_i32_3771
  let v3389 : BitVec 32 := Scalar.remsi v3386 v3388
  let c0_i32_3775 : BitVec 32 := 0#32
  let v3391 : BitVec 1 := Scalar.cmpi .slt v3389 c0_i32_3775
  let c0_i32_3776 : BitVec 32 := 0#32
  let v3392 : BitVec 1 := Scalar.cmpi .slt v3388 c0_i32_3776
  let v3393 : BitVec 1 := Scalar.xori v3391 v3392
  let c0_i32_3774 : BitVec 32 := 0#32
  let v3390 : BitVec 1 := Scalar.cmpi .ne v3389 c0_i32_3774
  let v3394 : BitVec 1 := Scalar.andi v3393 v3390
  let v3395 : BitVec 32 := Scalar.addi v3389 v3388
  let v3396 : BitVec 32 := Scalar.select v3394 v3395 v3389
  let c1_i32_3778 : BitVec 32 := 1#32
  let v3397 : BitVec 32 := Scalar.muli v3396 c1_i32_3778
  let v3398 : BitVec 32 := Scalar.addi c0_i32_3779 v3397
  v3398.toNat
def k0_dev86 (d0 : Dev nD) : Nat :=
  let c0_i32_3793 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_3784 : BitVec 32 := 4#32
  let v3407 : BitVec 32 := Scalar.addi v2 c4_i32_3784
  let c16_i32_3785 : BitVec 32 := 16#32
  let c0_i32_3786 : BitVec 32 := 0#32
  let v3408 : BitVec 1 := Scalar.cmpi .eq c16_i32_3785 c0_i32_3786
  let c1_i32_3787 : BitVec 32 := 1#32
  let v3409 : BitVec 32 := Scalar.select v3408 c1_i32_3787 c16_i32_3785
  let v3410 : BitVec 32 := Scalar.remsi v3407 v3409
  let c0_i32_3789 : BitVec 32 := 0#32
  let v3412 : BitVec 1 := Scalar.cmpi .slt v3410 c0_i32_3789
  let c0_i32_3790 : BitVec 32 := 0#32
  let v3413 : BitVec 1 := Scalar.cmpi .slt v3409 c0_i32_3790
  let v3414 : BitVec 1 := Scalar.xori v3412 v3413
  let c0_i32_3788 : BitVec 32 := 0#32
  let v3411 : BitVec 1 := Scalar.cmpi .ne v3410 c0_i32_3788
  let v3415 : BitVec 1 := Scalar.andi v3414 v3411
  let v3416 : BitVec 32 := Scalar.addi v3410 v3409
  let v3417 : BitVec 32 := Scalar.select v3415 v3416 v3410
  let c1_i32_3792 : BitVec 32 := 1#32
  let v3418 : BitVec 32 := Scalar.muli v3417 c1_i32_3792
  let v3419 : BitVec 32 := Scalar.addi c0_i32_3793 v3418
  v3419.toNat
def k0_dev87 (d0 : Dev nD) : Nat :=
  let c0_i32_3807 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_3798 : BitVec 32 := 5#32
  let v3428 : BitVec 32 := Scalar.addi v2 c5_i32_3798
  let c16_i32_3799 : BitVec 32 := 16#32
  let c0_i32_3800 : BitVec 32 := 0#32
  let v3429 : BitVec 1 := Scalar.cmpi .eq c16_i32_3799 c0_i32_3800
  let c1_i32_3801 : BitVec 32 := 1#32
  let v3430 : BitVec 32 := Scalar.select v3429 c1_i32_3801 c16_i32_3799
  let v3431 : BitVec 32 := Scalar.remsi v3428 v3430
  let c0_i32_3803 : BitVec 32 := 0#32
  let v3433 : BitVec 1 := Scalar.cmpi .slt v3431 c0_i32_3803
  let c0_i32_3804 : BitVec 32 := 0#32
  let v3434 : BitVec 1 := Scalar.cmpi .slt v3430 c0_i32_3804
  let v3435 : BitVec 1 := Scalar.xori v3433 v3434
  let c0_i32_3802 : BitVec 32 := 0#32
  let v3432 : BitVec 1 := Scalar.cmpi .ne v3431 c0_i32_3802
  let v3436 : BitVec 1 := Scalar.andi v3435 v3432
  let v3437 : BitVec 32 := Scalar.addi v3431 v3430
  let v3438 : BitVec 32 := Scalar.select v3436 v3437 v3431
  let c1_i32_3806 : BitVec 32 := 1#32
  let v3439 : BitVec 32 := Scalar.muli v3438 c1_i32_3806
  let v3440 : BitVec 32 := Scalar.addi c0_i32_3807 v3439
  v3440.toNat
def k0_dev88 (d0 : Dev nD) : Nat :=
  let c0_i32_3821 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_3812 : BitVec 32 := 6#32
  let v3449 : BitVec 32 := Scalar.addi v2 c6_i32_3812
  let c16_i32_3813 : BitVec 32 := 16#32
  let c0_i32_3814 : BitVec 32 := 0#32
  let v3450 : BitVec 1 := Scalar.cmpi .eq c16_i32_3813 c0_i32_3814
  let c1_i32_3815 : BitVec 32 := 1#32
  let v3451 : BitVec 32 := Scalar.select v3450 c1_i32_3815 c16_i32_3813
  let v3452 : BitVec 32 := Scalar.remsi v3449 v3451
  let c0_i32_3817 : BitVec 32 := 0#32
  let v3454 : BitVec 1 := Scalar.cmpi .slt v3452 c0_i32_3817
  let c0_i32_3818 : BitVec 32 := 0#32
  let v3455 : BitVec 1 := Scalar.cmpi .slt v3451 c0_i32_3818
  let v3456 : BitVec 1 := Scalar.xori v3454 v3455
  let c0_i32_3816 : BitVec 32 := 0#32
  let v3453 : BitVec 1 := Scalar.cmpi .ne v3452 c0_i32_3816
  let v3457 : BitVec 1 := Scalar.andi v3456 v3453
  let v3458 : BitVec 32 := Scalar.addi v3452 v3451
  let v3459 : BitVec 32 := Scalar.select v3457 v3458 v3452
  let c1_i32_3820 : BitVec 32 := 1#32
  let v3460 : BitVec 32 := Scalar.muli v3459 c1_i32_3820
  let v3461 : BitVec 32 := Scalar.addi c0_i32_3821 v3460
  v3461.toNat
def k0_dev89 (d0 : Dev nD) : Nat :=
  let c0_i32_3835 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_3826 : BitVec 32 := 7#32
  let v3470 : BitVec 32 := Scalar.addi v2 c7_i32_3826
  let c16_i32_3827 : BitVec 32 := 16#32
  let c0_i32_3828 : BitVec 32 := 0#32
  let v3471 : BitVec 1 := Scalar.cmpi .eq c16_i32_3827 c0_i32_3828
  let c1_i32_3829 : BitVec 32 := 1#32
  let v3472 : BitVec 32 := Scalar.select v3471 c1_i32_3829 c16_i32_3827
  let v3473 : BitVec 32 := Scalar.remsi v3470 v3472
  let c0_i32_3831 : BitVec 32 := 0#32
  let v3475 : BitVec 1 := Scalar.cmpi .slt v3473 c0_i32_3831
  let c0_i32_3832 : BitVec 32 := 0#32
  let v3476 : BitVec 1 := Scalar.cmpi .slt v3472 c0_i32_3832
  let v3477 : BitVec 1 := Scalar.xori v3475 v3476
  let c0_i32_3830 : BitVec 32 := 0#32
  let v3474 : BitVec 1 := Scalar.cmpi .ne v3473 c0_i32_3830
  let v3478 : BitVec 1 := Scalar.andi v3477 v3474
  let v3479 : BitVec 32 := Scalar.addi v3473 v3472
  let v3480 : BitVec 32 := Scalar.select v3478 v3479 v3473
  let c1_i32_3834 : BitVec 32 := 1#32
  let v3481 : BitVec 32 := Scalar.muli v3480 c1_i32_3834
  let v3482 : BitVec 32 := Scalar.addi c0_i32_3835 v3481
  v3482.toNat
def k0_dev90 (d0 : Dev nD) : Nat :=
  let c0_i32_3849 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_3840 : BitVec 32 := 8#32
  let v3491 : BitVec 32 := Scalar.addi v2 c8_i32_3840
  let c16_i32_3841 : BitVec 32 := 16#32
  let c0_i32_3842 : BitVec 32 := 0#32
  let v3492 : BitVec 1 := Scalar.cmpi .eq c16_i32_3841 c0_i32_3842
  let c1_i32_3843 : BitVec 32 := 1#32
  let v3493 : BitVec 32 := Scalar.select v3492 c1_i32_3843 c16_i32_3841
  let v3494 : BitVec 32 := Scalar.remsi v3491 v3493
  let c0_i32_3845 : BitVec 32 := 0#32
  let v3496 : BitVec 1 := Scalar.cmpi .slt v3494 c0_i32_3845
  let c0_i32_3846 : BitVec 32 := 0#32
  let v3497 : BitVec 1 := Scalar.cmpi .slt v3493 c0_i32_3846
  let v3498 : BitVec 1 := Scalar.xori v3496 v3497
  let c0_i32_3844 : BitVec 32 := 0#32
  let v3495 : BitVec 1 := Scalar.cmpi .ne v3494 c0_i32_3844
  let v3499 : BitVec 1 := Scalar.andi v3498 v3495
  let v3500 : BitVec 32 := Scalar.addi v3494 v3493
  let v3501 : BitVec 32 := Scalar.select v3499 v3500 v3494
  let c1_i32_3848 : BitVec 32 := 1#32
  let v3502 : BitVec 32 := Scalar.muli v3501 c1_i32_3848
  let v3503 : BitVec 32 := Scalar.addi c0_i32_3849 v3502
  v3503.toNat
def k0_dev91 (d0 : Dev nD) : Nat :=
  let c0_i32_3863 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_3854 : BitVec 32 := 9#32
  let v3512 : BitVec 32 := Scalar.addi v2 c9_i32_3854
  let c16_i32_3855 : BitVec 32 := 16#32
  let c0_i32_3856 : BitVec 32 := 0#32
  let v3513 : BitVec 1 := Scalar.cmpi .eq c16_i32_3855 c0_i32_3856
  let c1_i32_3857 : BitVec 32 := 1#32
  let v3514 : BitVec 32 := Scalar.select v3513 c1_i32_3857 c16_i32_3855
  let v3515 : BitVec 32 := Scalar.remsi v3512 v3514
  let c0_i32_3859 : BitVec 32 := 0#32
  let v3517 : BitVec 1 := Scalar.cmpi .slt v3515 c0_i32_3859
  let c0_i32_3860 : BitVec 32 := 0#32
  let v3518 : BitVec 1 := Scalar.cmpi .slt v3514 c0_i32_3860
  let v3519 : BitVec 1 := Scalar.xori v3517 v3518
  let c0_i32_3858 : BitVec 32 := 0#32
  let v3516 : BitVec 1 := Scalar.cmpi .ne v3515 c0_i32_3858
  let v3520 : BitVec 1 := Scalar.andi v3519 v3516
  let v3521 : BitVec 32 := Scalar.addi v3515 v3514
  let v3522 : BitVec 32 := Scalar.select v3520 v3521 v3515
  let c1_i32_3862 : BitVec 32 := 1#32
  let v3523 : BitVec 32 := Scalar.muli v3522 c1_i32_3862
  let v3524 : BitVec 32 := Scalar.addi c0_i32_3863 v3523
  v3524.toNat
def k0_dev92 (d0 : Dev nD) : Nat :=
  let c0_i32_3877 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_3868 : BitVec 32 := 10#32
  let v3533 : BitVec 32 := Scalar.addi v2 c10_i32_3868
  let c16_i32_3869 : BitVec 32 := 16#32
  let c0_i32_3870 : BitVec 32 := 0#32
  let v3534 : BitVec 1 := Scalar.cmpi .eq c16_i32_3869 c0_i32_3870
  let c1_i32_3871 : BitVec 32 := 1#32
  let v3535 : BitVec 32 := Scalar.select v3534 c1_i32_3871 c16_i32_3869
  let v3536 : BitVec 32 := Scalar.remsi v3533 v3535
  let c0_i32_3873 : BitVec 32 := 0#32
  let v3538 : BitVec 1 := Scalar.cmpi .slt v3536 c0_i32_3873
  let c0_i32_3874 : BitVec 32 := 0#32
  let v3539 : BitVec 1 := Scalar.cmpi .slt v3535 c0_i32_3874
  let v3540 : BitVec 1 := Scalar.xori v3538 v3539
  let c0_i32_3872 : BitVec 32 := 0#32
  let v3537 : BitVec 1 := Scalar.cmpi .ne v3536 c0_i32_3872
  let v3541 : BitVec 1 := Scalar.andi v3540 v3537
  let v3542 : BitVec 32 := Scalar.addi v3536 v3535
  let v3543 : BitVec 32 := Scalar.select v3541 v3542 v3536
  let c1_i32_3876 : BitVec 32 := 1#32
  let v3544 : BitVec 32 := Scalar.muli v3543 c1_i32_3876
  let v3545 : BitVec 32 := Scalar.addi c0_i32_3877 v3544
  v3545.toNat
def k0_dev93 (d0 : Dev nD) : Nat :=
  let c0_i32_3891 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_3882 : BitVec 32 := 11#32
  let v3554 : BitVec 32 := Scalar.addi v2 c11_i32_3882
  let c16_i32_3883 : BitVec 32 := 16#32
  let c0_i32_3884 : BitVec 32 := 0#32
  let v3555 : BitVec 1 := Scalar.cmpi .eq c16_i32_3883 c0_i32_3884
  let c1_i32_3885 : BitVec 32 := 1#32
  let v3556 : BitVec 32 := Scalar.select v3555 c1_i32_3885 c16_i32_3883
  let v3557 : BitVec 32 := Scalar.remsi v3554 v3556
  let c0_i32_3887 : BitVec 32 := 0#32
  let v3559 : BitVec 1 := Scalar.cmpi .slt v3557 c0_i32_3887
  let c0_i32_3888 : BitVec 32 := 0#32
  let v3560 : BitVec 1 := Scalar.cmpi .slt v3556 c0_i32_3888
  let v3561 : BitVec 1 := Scalar.xori v3559 v3560
  let c0_i32_3886 : BitVec 32 := 0#32
  let v3558 : BitVec 1 := Scalar.cmpi .ne v3557 c0_i32_3886
  let v3562 : BitVec 1 := Scalar.andi v3561 v3558
  let v3563 : BitVec 32 := Scalar.addi v3557 v3556
  let v3564 : BitVec 32 := Scalar.select v3562 v3563 v3557
  let c1_i32_3890 : BitVec 32 := 1#32
  let v3565 : BitVec 32 := Scalar.muli v3564 c1_i32_3890
  let v3566 : BitVec 32 := Scalar.addi c0_i32_3891 v3565
  v3566.toNat
def k0_dev94 (d0 : Dev nD) : Nat :=
  let c0_i32_3905 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_3896 : BitVec 32 := 12#32
  let v3575 : BitVec 32 := Scalar.addi v2 c12_i32_3896
  let c16_i32_3897 : BitVec 32 := 16#32
  let c0_i32_3898 : BitVec 32 := 0#32
  let v3576 : BitVec 1 := Scalar.cmpi .eq c16_i32_3897 c0_i32_3898
  let c1_i32_3899 : BitVec 32 := 1#32
  let v3577 : BitVec 32 := Scalar.select v3576 c1_i32_3899 c16_i32_3897
  let v3578 : BitVec 32 := Scalar.remsi v3575 v3577
  let c0_i32_3901 : BitVec 32 := 0#32
  let v3580 : BitVec 1 := Scalar.cmpi .slt v3578 c0_i32_3901
  let c0_i32_3902 : BitVec 32 := 0#32
  let v3581 : BitVec 1 := Scalar.cmpi .slt v3577 c0_i32_3902
  let v3582 : BitVec 1 := Scalar.xori v3580 v3581
  let c0_i32_3900 : BitVec 32 := 0#32
  let v3579 : BitVec 1 := Scalar.cmpi .ne v3578 c0_i32_3900
  let v3583 : BitVec 1 := Scalar.andi v3582 v3579
  let v3584 : BitVec 32 := Scalar.addi v3578 v3577
  let v3585 : BitVec 32 := Scalar.select v3583 v3584 v3578
  let c1_i32_3904 : BitVec 32 := 1#32
  let v3586 : BitVec 32 := Scalar.muli v3585 c1_i32_3904
  let v3587 : BitVec 32 := Scalar.addi c0_i32_3905 v3586
  v3587.toNat
def k0_dev95 (d0 : Dev nD) : Nat :=
  let c0_i32_3919 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_3910 : BitVec 32 := 13#32
  let v3596 : BitVec 32 := Scalar.addi v2 c13_i32_3910
  let c16_i32_3911 : BitVec 32 := 16#32
  let c0_i32_3912 : BitVec 32 := 0#32
  let v3597 : BitVec 1 := Scalar.cmpi .eq c16_i32_3911 c0_i32_3912
  let c1_i32_3913 : BitVec 32 := 1#32
  let v3598 : BitVec 32 := Scalar.select v3597 c1_i32_3913 c16_i32_3911
  let v3599 : BitVec 32 := Scalar.remsi v3596 v3598
  let c0_i32_3915 : BitVec 32 := 0#32
  let v3601 : BitVec 1 := Scalar.cmpi .slt v3599 c0_i32_3915
  let c0_i32_3916 : BitVec 32 := 0#32
  let v3602 : BitVec 1 := Scalar.cmpi .slt v3598 c0_i32_3916
  let v3603 : BitVec 1 := Scalar.xori v3601 v3602
  let c0_i32_3914 : BitVec 32 := 0#32
  let v3600 : BitVec 1 := Scalar.cmpi .ne v3599 c0_i32_3914
  let v3604 : BitVec 1 := Scalar.andi v3603 v3600
  let v3605 : BitVec 32 := Scalar.addi v3599 v3598
  let v3606 : BitVec 32 := Scalar.select v3604 v3605 v3599
  let c1_i32_3918 : BitVec 32 := 1#32
  let v3607 : BitVec 32 := Scalar.muli v3606 c1_i32_3918
  let v3608 : BitVec 32 := Scalar.addi c0_i32_3919 v3607
  v3608.toNat
def k0_dev96 (d0 : Dev nD) : Nat :=
  let c0_i32_3933 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_3924 : BitVec 32 := 14#32
  let v3617 : BitVec 32 := Scalar.addi v2 c14_i32_3924
  let c16_i32_3925 : BitVec 32 := 16#32
  let c0_i32_3926 : BitVec 32 := 0#32
  let v3618 : BitVec 1 := Scalar.cmpi .eq c16_i32_3925 c0_i32_3926
  let c1_i32_3927 : BitVec 32 := 1#32
  let v3619 : BitVec 32 := Scalar.select v3618 c1_i32_3927 c16_i32_3925
  let v3620 : BitVec 32 := Scalar.remsi v3617 v3619
  let c0_i32_3929 : BitVec 32 := 0#32
  let v3622 : BitVec 1 := Scalar.cmpi .slt v3620 c0_i32_3929
  let c0_i32_3930 : BitVec 32 := 0#32
  let v3623 : BitVec 1 := Scalar.cmpi .slt v3619 c0_i32_3930
  let v3624 : BitVec 1 := Scalar.xori v3622 v3623
  let c0_i32_3928 : BitVec 32 := 0#32
  let v3621 : BitVec 1 := Scalar.cmpi .ne v3620 c0_i32_3928
  let v3625 : BitVec 1 := Scalar.andi v3624 v3621
  let v3626 : BitVec 32 := Scalar.addi v3620 v3619
  let v3627 : BitVec 32 := Scalar.select v3625 v3626 v3620
  let c1_i32_3932 : BitVec 32 := 1#32
  let v3628 : BitVec 32 := Scalar.muli v3627 c1_i32_3932
  let v3629 : BitVec 32 := Scalar.addi c0_i32_3933 v3628
  v3629.toNat
def k0_dev97 (d0 : Dev nD) : Nat :=
  let c0_i32_3947 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_3938 : BitVec 32 := 15#32
  let v3638 : BitVec 32 := Scalar.addi v2 c15_i32_3938
  let c16_i32_3939 : BitVec 32 := 16#32
  let c0_i32_3940 : BitVec 32 := 0#32
  let v3639 : BitVec 1 := Scalar.cmpi .eq c16_i32_3939 c0_i32_3940
  let c1_i32_3941 : BitVec 32 := 1#32
  let v3640 : BitVec 32 := Scalar.select v3639 c1_i32_3941 c16_i32_3939
  let v3641 : BitVec 32 := Scalar.remsi v3638 v3640
  let c0_i32_3943 : BitVec 32 := 0#32
  let v3643 : BitVec 1 := Scalar.cmpi .slt v3641 c0_i32_3943
  let c0_i32_3944 : BitVec 32 := 0#32
  let v3644 : BitVec 1 := Scalar.cmpi .slt v3640 c0_i32_3944
  let v3645 : BitVec 1 := Scalar.xori v3643 v3644
  let c0_i32_3942 : BitVec 32 := 0#32
  let v3642 : BitVec 1 := Scalar.cmpi .ne v3641 c0_i32_3942
  let v3646 : BitVec 1 := Scalar.andi v3645 v3642
  let v3647 : BitVec 32 := Scalar.addi v3641 v3640
  let v3648 : BitVec 32 := Scalar.select v3646 v3647 v3641
  let c1_i32_3946 : BitVec 32 := 1#32
  let v3649 : BitVec 32 := Scalar.muli v3648 c1_i32_3946
  let v3650 : BitVec 32 := Scalar.addi c0_i32_3947 v3649
  v3650.toNat
def k0_off10 (d0 : Dev nD) (c1_i32_3952 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3659 : BitVec 32 := Scalar.addi v2 c1_i32_3952
  let c16_i32_3953 : BitVec 32 := 16#32
  let c0_i32_3954 : BitVec 32 := 0#32
  let v3660 : BitVec 1 := Scalar.cmpi .eq c16_i32_3953 c0_i32_3954
  let c1_i32_3955 : BitVec 32 := 1#32
  let v3661 : BitVec 32 := Scalar.select v3660 c1_i32_3955 c16_i32_3953
  let v3662 : BitVec 32 := Scalar.remsi v3659 v3661
  let c0_i32_3957 : BitVec 32 := 0#32
  let v3664 : BitVec 1 := Scalar.cmpi .slt v3662 c0_i32_3957
  let c0_i32_3958 : BitVec 32 := 0#32
  let v3665 : BitVec 1 := Scalar.cmpi .slt v3661 c0_i32_3958
  let v3666 : BitVec 1 := Scalar.xori v3664 v3665
  let c0_i32_3956 : BitVec 32 := 0#32
  let v3663 : BitVec 1 := Scalar.cmpi .ne v3662 c0_i32_3956
  let v3667 : BitVec 1 := Scalar.andi v3666 v3663
  let v3668 : BitVec 32 := Scalar.addi v3662 v3661
  let v3669 : BitVec 32 := Scalar.select v3667 v3668 v3662
  ![v3669.toNat]
def k0_off11 (d0 : Dev nD) (c1_i32_3952 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3659 : BitVec 32 := Scalar.addi v2 c1_i32_3952
  let c16_i32_3953 : BitVec 32 := 16#32
  let c0_i32_3954 : BitVec 32 := 0#32
  let v3660 : BitVec 1 := Scalar.cmpi .eq c16_i32_3953 c0_i32_3954
  let c1_i32_3955 : BitVec 32 := 1#32
  let v3661 : BitVec 32 := Scalar.select v3660 c1_i32_3955 c16_i32_3953
  let v3662 : BitVec 32 := Scalar.remsi v3659 v3661
  let c0_i32_3957 : BitVec 32 := 0#32
  let v3664 : BitVec 1 := Scalar.cmpi .slt v3662 c0_i32_3957
  let c0_i32_3958 : BitVec 32 := 0#32
  let v3665 : BitVec 1 := Scalar.cmpi .slt v3661 c0_i32_3958
  let v3666 : BitVec 1 := Scalar.xori v3664 v3665
  let c0_i32_3956 : BitVec 32 := 0#32
  let v3663 : BitVec 1 := Scalar.cmpi .ne v3662 c0_i32_3956
  let v3667 : BitVec 1 := Scalar.andi v3666 v3663
  let v3668 : BitVec 32 := Scalar.addi v3662 v3661
  let v3669 : BitVec 32 := Scalar.select v3667 v3668 v3662
  let c0_i32_3962 : BitVec 32 := 0#32
  let c0_i32_3963 : BitVec 32 := 0#32
  ![v3669.toNat, 0, 0]
def k0_dev98 (v4 : BitVec 32) : Nat :=
  let c0_i32_4275 : BitVec 32 := 0#32
  let c1_i32_4274 : BitVec 32 := 1#32
  let v4056 : BitVec 32 := Scalar.muli v4 c1_i32_4274
  let v4057 : BitVec 32 := Scalar.addi c0_i32_4275 v4056
  v4057.toNat
def k0_dev99 (v6 : BitVec 32) : Nat :=
  let c0_i32_4287 : BitVec 32 := 0#32
  let c1_i32_4286 : BitVec 32 := 1#32
  let v4066 : BitVec 32 := Scalar.muli v6 c1_i32_4286
  let v4067 : BitVec 32 := Scalar.addi c0_i32_4287 v4066
  v4067.toNat
def k0_dev100 (v4 : BitVec 32) : Nat :=
  let c0_i32_4299 : BitVec 32 := 0#32
  let c1_i32_4298 : BitVec 32 := 1#32
  let v4076 : BitVec 32 := Scalar.muli v4 c1_i32_4298
  let v4077 : BitVec 32 := Scalar.addi c0_i32_4299 v4076
  v4077.toNat
def k0_dev101 (v6 : BitVec 32) : Nat :=
  let c0_i32_4311 : BitVec 32 := 0#32
  let c1_i32_4310 : BitVec 32 := 1#32
  let v4086 : BitVec 32 := Scalar.muli v6 c1_i32_4310
  let v4087 : BitVec 32 := Scalar.addi c0_i32_4311 v4086
  v4087.toNat
def k0_off12 (v8 : BitVec 32) : Fin 2 → Nat :=
  let c1_i32_3719 : BitVec 32 := 1#32
  let v3303 : BitVec 32 := Scalar.addi v8 c1_i32_3719
  let c16_i32_3720 : BitVec 32 := 16#32
  let c0_i32_3721 : BitVec 32 := 0#32
  let v3304 : BitVec 1 := Scalar.cmpi .eq c16_i32_3720 c0_i32_3721
  let c1_i32_3722 : BitVec 32 := 1#32
  let v3305 : BitVec 32 := Scalar.select v3304 c1_i32_3722 c16_i32_3720
  let v3306 : BitVec 32 := Scalar.remsi v3303 v3305
  let c0_i32_3724 : BitVec 32 := 0#32
  let v3308 : BitVec 1 := Scalar.cmpi .slt v3306 c0_i32_3724
  let c0_i32_3725 : BitVec 32 := 0#32
  let v3309 : BitVec 1 := Scalar.cmpi .slt v3305 c0_i32_3725
  let v3310 : BitVec 1 := Scalar.xori v3308 v3309
  let c0_i32_3723 : BitVec 32 := 0#32
  let v3307 : BitVec 1 := Scalar.cmpi .ne v3306 c0_i32_3723
  let v3311 : BitVec 1 := Scalar.andi v3310 v3307
  let v3312 : BitVec 32 := Scalar.addi v3306 v3305
  let v3313 : BitVec 32 := Scalar.select v3311 v3312 v3306
  let c256_i32_4319 : BitVec 32 := 256#32
  let v4102 : BitVec 32 := Scalar.muli v3313 c256_i32_4319
  let v4103 : Index := Scalar.indexCast v4102
  let c0_4320 : Index := 0#32
  ![v4103.toNat, 0]
def k0_off13 (v8 : BitVec 32) : Fin 2 → Nat :=
  let c16_i32_3726 : BitVec 32 := 16#32
  let v3314 : BitVec 32 := Scalar.addi v8 c16_i32_3726
  let c1_i32_3727 : BitVec 32 := 1#32
  let v3315 : BitVec 32 := Scalar.subi v3314 c1_i32_3727
  let c16_i32_3728 : BitVec 32 := 16#32
  let c0_i32_3729 : BitVec 32 := 0#32
  let v3316 : BitVec 1 := Scalar.cmpi .eq c16_i32_3728 c0_i32_3729
  let c1_i32_3730 : BitVec 32 := 1#32
  let v3317 : BitVec 32 := Scalar.select v3316 c1_i32_3730 c16_i32_3728
  let v3318 : BitVec 32 := Scalar.remsi v3315 v3317
  let c0_i32_3732 : BitVec 32 := 0#32
  let v3320 : BitVec 1 := Scalar.cmpi .slt v3318 c0_i32_3732
  let c0_i32_3733 : BitVec 32 := 0#32
  let v3321 : BitVec 1 := Scalar.cmpi .slt v3317 c0_i32_3733
  let v3322 : BitVec 1 := Scalar.xori v3320 v3321
  let c0_i32_3731 : BitVec 32 := 0#32
  let v3319 : BitVec 1 := Scalar.cmpi .ne v3318 c0_i32_3731
  let v3323 : BitVec 1 := Scalar.andi v3322 v3319
  let v3324 : BitVec 32 := Scalar.addi v3318 v3317
  let v3325 : BitVec 32 := Scalar.select v3323 v3324 v3318
  let c256_i32_4324 : BitVec 32 := 256#32
  let v4111 : BitVec 32 := Scalar.muli v3325 c256_i32_4324
  let v4112 : Index := Scalar.indexCast v4111
  let c1024_4325 : Index := 1024#32
  ![v4112.toNat, 1024]
def k0_dev102 (v4 : BitVec 32) : Nat :=
  let c0_i32_4371 : BitVec 32 := 0#32
  let c1_i32_4370 : BitVec 32 := 1#32
  let v4151 : BitVec 32 := Scalar.muli v4 c1_i32_4370
  let v4152 : BitVec 32 := Scalar.addi c0_i32_4371 v4151
  v4152.toNat
def k0_off14 (v8 : BitVec 32) (c0_i32_4327 : BitVec 32) : Fin 2 → Nat :=
  let c16_i32_4326 : BitVec 32 := 16#32
  let v4114 : BitVec 32 := Scalar.addi v8 c16_i32_4326
  let v4115 : BitVec 32 := Scalar.subi v4114 c0_i32_4327
  let c16_i32_4328 : BitVec 32 := 16#32
  let c0_i32_4329 : BitVec 32 := 0#32
  let v4116 : BitVec 1 := Scalar.cmpi .eq c16_i32_4328 c0_i32_4329
  let c1_i32_4330 : BitVec 32 := 1#32
  let v4117 : BitVec 32 := Scalar.select v4116 c1_i32_4330 c16_i32_4328
  let v4118 : BitVec 32 := Scalar.remsi v4115 v4117
  let c0_i32_4332 : BitVec 32 := 0#32
  let v4120 : BitVec 1 := Scalar.cmpi .slt v4118 c0_i32_4332
  let c0_i32_4333 : BitVec 32 := 0#32
  let v4121 : BitVec 1 := Scalar.cmpi .slt v4117 c0_i32_4333
  let v4122 : BitVec 1 := Scalar.xori v4120 v4121
  let c0_i32_4331 : BitVec 32 := 0#32
  let v4119 : BitVec 1 := Scalar.cmpi .ne v4118 c0_i32_4331
  let v4123 : BitVec 1 := Scalar.andi v4122 v4119
  let v4124 : BitVec 32 := Scalar.addi v4118 v4117
  let v4125 : BitVec 32 := Scalar.select v4123 v4124 v4118
  let c256_i32_4379 : BitVec 32 := 256#32
  let v4167 : BitVec 32 := Scalar.muli v4125 c256_i32_4379
  let v4168 : Index := Scalar.indexCast v4167
  let c0_4380 : Index := 0#32
  ![v4168.toNat, 0]
def k0_dev103 (v6 : BitVec 32) : Nat :=
  let c0_i32_4411 : BitVec 32 := 0#32
  let c1_i32_4410 : BitVec 32 := 1#32
  let v4184 : BitVec 32 := Scalar.muli v6 c1_i32_4410
  let v4185 : BitVec 32 := Scalar.addi c0_i32_4411 v4184
  v4185.toNat
def k0_off15 (v8 : BitVec 32) (c0_i32_4334 : BitVec 32) : Fin 2 → Nat :=
  let v4126 : BitVec 32 := Scalar.addi v8 c0_i32_4334
  let c16_i32_4335 : BitVec 32 := 16#32
  let c0_i32_4336 : BitVec 32 := 0#32
  let v4127 : BitVec 1 := Scalar.cmpi .eq c16_i32_4335 c0_i32_4336
  let c1_i32_4337 : BitVec 32 := 1#32
  let v4128 : BitVec 32 := Scalar.select v4127 c1_i32_4337 c16_i32_4335
  let v4129 : BitVec 32 := Scalar.remsi v4126 v4128
  let c0_i32_4339 : BitVec 32 := 0#32
  let v4131 : BitVec 1 := Scalar.cmpi .slt v4129 c0_i32_4339
  let c0_i32_4340 : BitVec 32 := 0#32
  let v4132 : BitVec 1 := Scalar.cmpi .slt v4128 c0_i32_4340
  let v4133 : BitVec 1 := Scalar.xori v4131 v4132
  let c0_i32_4338 : BitVec 32 := 0#32
  let v4130 : BitVec 1 := Scalar.cmpi .ne v4129 c0_i32_4338
  let v4134 : BitVec 1 := Scalar.andi v4133 v4130
  let v4135 : BitVec 32 := Scalar.addi v4129 v4128
  let v4136 : BitVec 32 := Scalar.select v4134 v4135 v4129
  let c256_i32_4419 : BitVec 32 := 256#32
  let v4200 : BitVec 32 := Scalar.muli v4136 c256_i32_4419
  let v4201 : Index := Scalar.indexCast v4200
  let c1024_4420 : Index := 1024#32
  ![v4201.toNat, 1024]
def k0_dev104 (v4 : BitVec 32) : Nat :=
  let c0_i32_4451 : BitVec 32 := 0#32
  let c1_i32_4450 : BitVec 32 := 1#32
  let v4217 : BitVec 32 := Scalar.muli v4 c1_i32_4450
  let v4218 : BitVec 32 := Scalar.addi c0_i32_4451 v4217
  v4218.toNat
def k0_off16 (v8 : BitVec 32) (c0_i32_4327 : BitVec 32) : Fin 2 → Nat :=
  let c16_i32_4326 : BitVec 32 := 16#32
  let v4114 : BitVec 32 := Scalar.addi v8 c16_i32_4326
  let v4115 : BitVec 32 := Scalar.subi v4114 c0_i32_4327
  let c16_i32_4328 : BitVec 32 := 16#32
  let c0_i32_4329 : BitVec 32 := 0#32
  let v4116 : BitVec 1 := Scalar.cmpi .eq c16_i32_4328 c0_i32_4329
  let c1_i32_4330 : BitVec 32 := 1#32
  let v4117 : BitVec 32 := Scalar.select v4116 c1_i32_4330 c16_i32_4328
  let v4118 : BitVec 32 := Scalar.remsi v4115 v4117
  let c0_i32_4332 : BitVec 32 := 0#32
  let v4120 : BitVec 1 := Scalar.cmpi .slt v4118 c0_i32_4332
  let c0_i32_4333 : BitVec 32 := 0#32
  let v4121 : BitVec 1 := Scalar.cmpi .slt v4117 c0_i32_4333
  let v4122 : BitVec 1 := Scalar.xori v4120 v4121
  let c0_i32_4331 : BitVec 32 := 0#32
  let v4119 : BitVec 1 := Scalar.cmpi .ne v4118 c0_i32_4331
  let v4123 : BitVec 1 := Scalar.andi v4122 v4119
  let v4124 : BitVec 32 := Scalar.addi v4118 v4117
  let v4125 : BitVec 32 := Scalar.select v4123 v4124 v4118
  let c256_i32_4459 : BitVec 32 := 256#32
  let v4233 : BitVec 32 := Scalar.muli v4125 c256_i32_4459
  let v4234 : Index := Scalar.indexCast v4233
  let c512_4460 : Index := 512#32
  ![v4234.toNat, 512]
def k0_dev105 (v6 : BitVec 32) : Nat :=
  let c0_i32_4491 : BitVec 32 := 0#32
  let c1_i32_4490 : BitVec 32 := 1#32
  let v4250 : BitVec 32 := Scalar.muli v6 c1_i32_4490
  let v4251 : BitVec 32 := Scalar.addi c0_i32_4491 v4250
  v4251.toNat
def k0_off17 (v8 : BitVec 32) (c0_i32_4334 : BitVec 32) : Fin 2 → Nat :=
  let v4126 : BitVec 32 := Scalar.addi v8 c0_i32_4334
  let c16_i32_4335 : BitVec 32 := 16#32
  let c0_i32_4336 : BitVec 32 := 0#32
  let v4127 : BitVec 1 := Scalar.cmpi .eq c16_i32_4335 c0_i32_4336
  let c1_i32_4337 : BitVec 32 := 1#32
  let v4128 : BitVec 32 := Scalar.select v4127 c1_i32_4337 c16_i32_4335
  let v4129 : BitVec 32 := Scalar.remsi v4126 v4128
  let c0_i32_4339 : BitVec 32 := 0#32
  let v4131 : BitVec 1 := Scalar.cmpi .slt v4129 c0_i32_4339
  let c0_i32_4340 : BitVec 32 := 0#32
  let v4132 : BitVec 1 := Scalar.cmpi .slt v4128 c0_i32_4340
  let v4133 : BitVec 1 := Scalar.xori v4131 v4132
  let c0_i32_4338 : BitVec 32 := 0#32
  let v4130 : BitVec 1 := Scalar.cmpi .ne v4129 c0_i32_4338
  let v4134 : BitVec 1 := Scalar.andi v4133 v4130
  let v4135 : BitVec 32 := Scalar.addi v4129 v4128
  let v4136 : BitVec 32 := Scalar.select v4134 v4135 v4129
  let c256_i32_4499 : BitVec 32 := 256#32
  let v4266 : BitVec 32 := Scalar.muli v4136 c256_i32_4499
  let v4267 : Index := Scalar.indexCast v4266
  let c1536 : Index := 1536#32
  ![v4267.toNat, 1536]

def k0_chk3 (v8 : BitVec 32) : Prop :=
  (∀ a, (k0_off4 v8) a + S256x256.size a ≤ S4096x256.size a) ∧
  (∀ (r : Fin 15), ∀ a, (k0_off5 v8 (BitVec.ofNat 32 r.val)) a + S256x256.size a ≤ S4096x256.size a) ∧
  (∀ (r : Fin 15), ∀ a, (k0_off6 v8 (BitVec.ofNat 32 r.val)) a + S256x256.size a ≤ S4096x256.size a) ∧
  (∀ a, (k0_off12 v8) a + S256x1024.size a ≤ S4096x2048.size a) ∧
  (∀ (hinb : ∀ a, (k0_off12 v8) a + S256x1024.size a ≤ S4096x2048.size a), (Rect.unit (s := S4096x2048) (k0_off12 v8) S256x1024.size hinb).PackedRows (EltTy.packing .bf16)) ∧
  (∀ a, (k0_off13 v8) a + S256x1024.size a ≤ S4096x2048.size a) ∧
  (∀ (hinb : ∀ a, (k0_off13 v8) a + S256x1024.size a ≤ S4096x2048.size a), (Rect.unit (s := S4096x2048) (k0_off13 v8) S256x1024.size hinb).PackedRows (EltTy.packing .bf16)) ∧
  (∀ (r : Fin 15), ∀ a, (k0_off14 v8 (BitVec.ofNat 32 r.val)) a + S256x512.size a ≤ S4096x2048.size a) ∧
  (∀ (r : Fin 15), ∀ (hinb : ∀ a, (k0_off14 v8 (BitVec.ofNat 32 r.val)) a + S256x512.size a ≤ S4096x2048.size a), (Rect.unit (s := S4096x2048) (k0_off14 v8 (BitVec.ofNat 32 r.val)) S256x512.size hinb).PackedRows (EltTy.packing .bf16)) ∧
  (∀ (r : Fin 15), ∀ a, (k0_off15 v8 (BitVec.ofNat 32 r.val)) a + S256x512.size a ≤ S4096x2048.size a) ∧
  (∀ (r : Fin 15), ∀ (hinb : ∀ a, (k0_off15 v8 (BitVec.ofNat 32 r.val)) a + S256x512.size a ≤ S4096x2048.size a), (Rect.unit (s := S4096x2048) (k0_off15 v8 (BitVec.ofNat 32 r.val)) S256x512.size hinb).PackedRows (EltTy.packing .bf16)) ∧
  (∀ (r : Fin 15), ∀ a, (k0_off16 v8 (BitVec.ofNat 32 r.val)) a + S256x512.size a ≤ S4096x2048.size a) ∧
  (∀ (r : Fin 15), ∀ (hinb : ∀ a, (k0_off16 v8 (BitVec.ofNat 32 r.val)) a + S256x512.size a ≤ S4096x2048.size a), (Rect.unit (s := S4096x2048) (k0_off16 v8 (BitVec.ofNat 32 r.val)) S256x512.size hinb).PackedRows (EltTy.packing .bf16)) ∧
  (∀ (r : Fin 15), ∀ a, (k0_off17 v8 (BitVec.ofNat 32 r.val)) a + S256x512.size a ≤ S4096x2048.size a) ∧
  (∀ (r : Fin 15), ∀ (hinb : ∀ a, (k0_off17 v8 (BitVec.ofNat 32 r.val)) a + S256x512.size a ≤ S4096x2048.size a), (Rect.unit (s := S4096x2048) (k0_off17 v8 (BitVec.ofNat 32 r.val)) S256x512.size hinb).PackedRows (EltTy.packing .bf16))
theorem k0_off4_inb : ∀ (v8 : BitVec 32) (k0_hw3 : k0_chk3 v8), ∀ a, (k0_off4 v8) a + S256x256.size a ≤ S4096x256.size a := fun v8 k0_hw3 => k0_hw3.1
theorem k0_off5_inb : ∀ (v8 : BitVec 32) (k0_hw3 : k0_chk3 v8), ∀ (r : Fin 15), ∀ a, (k0_off5 v8 (BitVec.ofNat 32 r.val)) a + S256x256.size a ≤ S4096x256.size a := fun v8 k0_hw3 r => k0_hw3.2.1 r
theorem k0_off6_inb : ∀ (v8 : BitVec 32) (k0_hw3 : k0_chk3 v8), ∀ (r : Fin 15), ∀ a, (k0_off6 v8 (BitVec.ofNat 32 r.val)) a + S256x256.size a ≤ S4096x256.size a := fun v8 k0_hw3 r => k0_hw3.2.2.1 r
theorem k0_off12_inb : ∀ (v8 : BitVec 32) (k0_hw3 : k0_chk3 v8), ∀ a, (k0_off12 v8) a + S256x1024.size a ≤ S4096x2048.size a := fun v8 k0_hw3 => k0_hw3.2.2.2.1
theorem k0_off12_packedbf16 : ∀ (v8 : BitVec 32) (k0_hw3 : k0_chk3 v8), (Rect.unit (s := S4096x2048) (k0_off12 v8) S256x1024.size (k0_off12_inb v8 k0_hw3)).PackedRows (EltTy.packing .bf16) := fun v8 k0_hw3 => k0_hw3.2.2.2.2.1 (k0_off12_inb v8 k0_hw3)
theorem k0_off13_inb : ∀ (v8 : BitVec 32) (k0_hw3 : k0_chk3 v8), ∀ a, (k0_off13 v8) a + S256x1024.size a ≤ S4096x2048.size a := fun v8 k0_hw3 => k0_hw3.2.2.2.2.2.1
theorem k0_off13_packedbf16 : ∀ (v8 : BitVec 32) (k0_hw3 : k0_chk3 v8), (Rect.unit (s := S4096x2048) (k0_off13 v8) S256x1024.size (k0_off13_inb v8 k0_hw3)).PackedRows (EltTy.packing .bf16) := fun v8 k0_hw3 => k0_hw3.2.2.2.2.2.2.1 (k0_off13_inb v8 k0_hw3)
theorem k0_off14_inb : ∀ (v8 : BitVec 32) (k0_hw3 : k0_chk3 v8), ∀ (r : Fin 15), ∀ a, (k0_off14 v8 (BitVec.ofNat 32 r.val)) a + S256x512.size a ≤ S4096x2048.size a := fun v8 k0_hw3 r => k0_hw3.2.2.2.2.2.2.2.1 r
theorem k0_off14_packedbf16 : ∀ (v8 : BitVec 32) (k0_hw3 : k0_chk3 v8), ∀ (r : Fin 15), (Rect.unit (s := S4096x2048) (k0_off14 v8 (BitVec.ofNat 32 r.val)) S256x512.size (k0_off14_inb v8 k0_hw3 r)).PackedRows (EltTy.packing .bf16) := fun v8 k0_hw3 r => k0_hw3.2.2.2.2.2.2.2.2.1 r (k0_off14_inb v8 k0_hw3 r)
theorem k0_off15_inb : ∀ (v8 : BitVec 32) (k0_hw3 : k0_chk3 v8), ∀ (r : Fin 15), ∀ a, (k0_off15 v8 (BitVec.ofNat 32 r.val)) a + S256x512.size a ≤ S4096x2048.size a := fun v8 k0_hw3 r => k0_hw3.2.2.2.2.2.2.2.2.2.1 r
theorem k0_off15_packedbf16 : ∀ (v8 : BitVec 32) (k0_hw3 : k0_chk3 v8), ∀ (r : Fin 15), (Rect.unit (s := S4096x2048) (k0_off15 v8 (BitVec.ofNat 32 r.val)) S256x512.size (k0_off15_inb v8 k0_hw3 r)).PackedRows (EltTy.packing .bf16) := fun v8 k0_hw3 r => k0_hw3.2.2.2.2.2.2.2.2.2.2.1 r (k0_off15_inb v8 k0_hw3 r)
theorem k0_off16_inb : ∀ (v8 : BitVec 32) (k0_hw3 : k0_chk3 v8), ∀ (r : Fin 15), ∀ a, (k0_off16 v8 (BitVec.ofNat 32 r.val)) a + S256x512.size a ≤ S4096x2048.size a := fun v8 k0_hw3 r => k0_hw3.2.2.2.2.2.2.2.2.2.2.2.1 r
theorem k0_off16_packedbf16 : ∀ (v8 : BitVec 32) (k0_hw3 : k0_chk3 v8), ∀ (r : Fin 15), (Rect.unit (s := S4096x2048) (k0_off16 v8 (BitVec.ofNat 32 r.val)) S256x512.size (k0_off16_inb v8 k0_hw3 r)).PackedRows (EltTy.packing .bf16) := fun v8 k0_hw3 r => k0_hw3.2.2.2.2.2.2.2.2.2.2.2.2.1 r (k0_off16_inb v8 k0_hw3 r)
theorem k0_off17_inb : ∀ (v8 : BitVec 32) (k0_hw3 : k0_chk3 v8), ∀ (r : Fin 15), ∀ a, (k0_off17 v8 (BitVec.ofNat 32 r.val)) a + S256x512.size a ≤ S4096x2048.size a := fun v8 k0_hw3 r => k0_hw3.2.2.2.2.2.2.2.2.2.2.2.2.2.1 r
theorem k0_off17_packedbf16 : ∀ (v8 : BitVec 32) (k0_hw3 : k0_chk3 v8), ∀ (r : Fin 15), (Rect.unit (s := S4096x2048) (k0_off17 v8 (BitVec.ofNat 32 r.val)) S256x512.size (k0_off17_inb v8 k0_hw3 r)).PackedRows (EltTy.packing .bf16) := fun v8 k0_hw3 r => k0_hw3.2.2.2.2.2.2.2.2.2.2.2.2.2.2 r (k0_off17_inb v8 k0_hw3 r)

def k0_dev106 (v4 : BitVec 32) : Nat :=
  let c0_i32_4545 : BitVec 32 := 0#32
  let c1_i32_4544 : BitVec 32 := 1#32
  let v4306 : BitVec 32 := Scalar.muli v4 c1_i32_4544
  let v4307 : BitVec 32 := Scalar.addi c0_i32_4545 v4306
  v4307.toNat
def k0_dev107 (v6 : BitVec 32) : Nat :=
  let c0_i32_4585 : BitVec 32 := 0#32
  let c1_i32_4584 : BitVec 32 := 1#32
  let v4339 : BitVec 32 := Scalar.muli v6 c1_i32_4584
  let v4340 : BitVec 32 := Scalar.addi c0_i32_4585 v4339
  v4340.toNat
def k0_dev108 (v4 : BitVec 32) : Nat :=
  let c0_i32_4625 : BitVec 32 := 0#32
  let c1_i32_4624 : BitVec 32 := 1#32
  let v4372 : BitVec 32 := Scalar.muli v4 c1_i32_4624
  let v4373 : BitVec 32 := Scalar.addi c0_i32_4625 v4372
  v4373.toNat
def k0_dev109 (v6 : BitVec 32) : Nat :=
  let c0_i32_4665 : BitVec 32 := 0#32
  let c1_i32_4664 : BitVec 32 := 1#32
  let v4405 : BitVec 32 := Scalar.muli v6 c1_i32_4664
  let v4406 : BitVec 32 := Scalar.addi c0_i32_4665 v4405
  v4406.toNat
def k0_dev110 (v4 : BitVec 32) : Nat :=
  let c0_i32_4720 : BitVec 32 := 0#32
  let c1_i32_4719 : BitVec 32 := 1#32
  let v4461 : BitVec 32 := Scalar.muli v4 c1_i32_4719
  let v4462 : BitVec 32 := Scalar.addi c0_i32_4720 v4461
  v4462.toNat
def k0_dev111 (v6 : BitVec 32) : Nat :=
  let c0_i32_4760 : BitVec 32 := 0#32
  let c1_i32_4759 : BitVec 32 := 1#32
  let v4494 : BitVec 32 := Scalar.muli v6 c1_i32_4759
  let v4495 : BitVec 32 := Scalar.addi c0_i32_4760 v4494
  v4495.toNat
def k0_dev112 (v4 : BitVec 32) : Nat :=
  let c0_i32_4800 : BitVec 32 := 0#32
  let c1_i32_4799 : BitVec 32 := 1#32
  let v4527 : BitVec 32 := Scalar.muli v4 c1_i32_4799
  let v4528 : BitVec 32 := Scalar.addi c0_i32_4800 v4527
  v4528.toNat
def k0_dev113 (v6 : BitVec 32) : Nat :=
  let c0_i32_4840 : BitVec 32 := 0#32
  let c1_i32_4839 : BitVec 32 := 1#32
  let v4560 : BitVec 32 := Scalar.muli v6 c1_i32_4839
  let v4561 : BitVec 32 := Scalar.addi c0_i32_4840 v4560
  v4561.toNat
def k0_dev114 (v4 : BitVec 32) : Nat :=
  let c0_i32_4895 : BitVec 32 := 0#32
  let c1_i32_4894 : BitVec 32 := 1#32
  let v4616 : BitVec 32 := Scalar.muli v4 c1_i32_4894
  let v4617 : BitVec 32 := Scalar.addi c0_i32_4895 v4616
  v4617.toNat
def k0_dev115 (v6 : BitVec 32) : Nat :=
  let c0_i32_4935 : BitVec 32 := 0#32
  let c1_i32_4934 : BitVec 32 := 1#32
  let v4649 : BitVec 32 := Scalar.muli v6 c1_i32_4934
  let v4650 : BitVec 32 := Scalar.addi c0_i32_4935 v4649
  v4650.toNat
def k0_dev116 (v4 : BitVec 32) : Nat :=
  let c0_i32_4975 : BitVec 32 := 0#32
  let c1_i32_4974 : BitVec 32 := 1#32
  let v4682 : BitVec 32 := Scalar.muli v4 c1_i32_4974
  let v4683 : BitVec 32 := Scalar.addi c0_i32_4975 v4682
  v4683.toNat
def k0_dev117 (v6 : BitVec 32) : Nat :=
  let c0_i32_5015 : BitVec 32 := 0#32
  let c1_i32_5014 : BitVec 32 := 1#32
  let v4715 : BitVec 32 := Scalar.muli v6 c1_i32_5014
  let v4716 : BitVec 32 := Scalar.addi c0_i32_5015 v4715
  v4716.toNat
def k0_dev118 (v4 : BitVec 32) : Nat :=
  let c0_i32_5070 : BitVec 32 := 0#32
  let c1_i32_5069 : BitVec 32 := 1#32
  let v4771 : BitVec 32 := Scalar.muli v4 c1_i32_5069
  let v4772 : BitVec 32 := Scalar.addi c0_i32_5070 v4771
  v4772.toNat
def k0_dev119 (v6 : BitVec 32) : Nat :=
  let c0_i32_5110 : BitVec 32 := 0#32
  let c1_i32_5109 : BitVec 32 := 1#32
  let v4804 : BitVec 32 := Scalar.muli v6 c1_i32_5109
  let v4805 : BitVec 32 := Scalar.addi c0_i32_5110 v4804
  v4805.toNat
def k0_dev120 (v4 : BitVec 32) : Nat :=
  let c0_i32_5150 : BitVec 32 := 0#32
  let c1_i32_5149 : BitVec 32 := 1#32
  let v4837 : BitVec 32 := Scalar.muli v4 c1_i32_5149
  let v4838 : BitVec 32 := Scalar.addi c0_i32_5150 v4837
  v4838.toNat
def k0_dev121 (v6 : BitVec 32) : Nat :=
  let c0_i32_5190 : BitVec 32 := 0#32
  let c1_i32_5189 : BitVec 32 := 1#32
  let v4870 : BitVec 32 := Scalar.muli v6 c1_i32_5189
  let v4871 : BitVec 32 := Scalar.addi c0_i32_5190 v4870
  v4871.toNat
def k0_dev122 (v4 : BitVec 32) : Nat :=
  let c0_i32_5245 : BitVec 32 := 0#32
  let c1_i32_5244 : BitVec 32 := 1#32
  let v4926 : BitVec 32 := Scalar.muli v4 c1_i32_5244
  let v4927 : BitVec 32 := Scalar.addi c0_i32_5245 v4926
  v4927.toNat
def k0_dev123 (v6 : BitVec 32) : Nat :=
  let c0_i32_5285 : BitVec 32 := 0#32
  let c1_i32_5284 : BitVec 32 := 1#32
  let v4959 : BitVec 32 := Scalar.muli v6 c1_i32_5284
  let v4960 : BitVec 32 := Scalar.addi c0_i32_5285 v4959
  v4960.toNat
def k0_dev124 (v4 : BitVec 32) : Nat :=
  let c0_i32_5325 : BitVec 32 := 0#32
  let c1_i32_5324 : BitVec 32 := 1#32
  let v4992 : BitVec 32 := Scalar.muli v4 c1_i32_5324
  let v4993 : BitVec 32 := Scalar.addi c0_i32_5325 v4992
  v4993.toNat
def k0_dev125 (v6 : BitVec 32) : Nat :=
  let c0_i32_5365 : BitVec 32 := 0#32
  let c1_i32_5364 : BitVec 32 := 1#32
  let v5025 : BitVec 32 := Scalar.muli v6 c1_i32_5364
  let v5026 : BitVec 32 := Scalar.addi c0_i32_5365 v5025
  v5026.toNat
def k0_dev126 (v4 : BitVec 32) : Nat :=
  let c0_i32_5420 : BitVec 32 := 0#32
  let c1_i32_5419 : BitVec 32 := 1#32
  let v5081 : BitVec 32 := Scalar.muli v4 c1_i32_5419
  let v5082 : BitVec 32 := Scalar.addi c0_i32_5420 v5081
  v5082.toNat
def k0_dev127 (v6 : BitVec 32) : Nat :=
  let c0_i32_5460 : BitVec 32 := 0#32
  let c1_i32_5459 : BitVec 32 := 1#32
  let v5114 : BitVec 32 := Scalar.muli v6 c1_i32_5459
  let v5115 : BitVec 32 := Scalar.addi c0_i32_5460 v5114
  v5115.toNat
def k0_dev128 (v4 : BitVec 32) : Nat :=
  let c0_i32_5500 : BitVec 32 := 0#32
  let c1_i32_5499 : BitVec 32 := 1#32
  let v5147 : BitVec 32 := Scalar.muli v4 c1_i32_5499
  let v5148 : BitVec 32 := Scalar.addi c0_i32_5500 v5147
  v5148.toNat
def k0_dev129 (v6 : BitVec 32) : Nat :=
  let c0_i32_5540 : BitVec 32 := 0#32
  let c1_i32_5539 : BitVec 32 := 1#32
  let v5180 : BitVec 32 := Scalar.muli v6 c1_i32_5539
  let v5181 : BitVec 32 := Scalar.addi c0_i32_5540 v5180
  v5181.toNat
def k0_dev130 (v4 : BitVec 32) : Nat :=
  let c0_i32_5595 : BitVec 32 := 0#32
  let c1_i32_5594 : BitVec 32 := 1#32
  let v5236 : BitVec 32 := Scalar.muli v4 c1_i32_5594
  let v5237 : BitVec 32 := Scalar.addi c0_i32_5595 v5236
  v5237.toNat
def k0_dev131 (v6 : BitVec 32) : Nat :=
  let c0_i32_5635 : BitVec 32 := 0#32
  let c1_i32_5634 : BitVec 32 := 1#32
  let v5269 : BitVec 32 := Scalar.muli v6 c1_i32_5634
  let v5270 : BitVec 32 := Scalar.addi c0_i32_5635 v5269
  v5270.toNat
def k0_dev132 (v4 : BitVec 32) : Nat :=
  let c0_i32_5675 : BitVec 32 := 0#32
  let c1_i32_5674 : BitVec 32 := 1#32
  let v5302 : BitVec 32 := Scalar.muli v4 c1_i32_5674
  let v5303 : BitVec 32 := Scalar.addi c0_i32_5675 v5302
  v5303.toNat
def k0_dev133 (v6 : BitVec 32) : Nat :=
  let c0_i32_5715 : BitVec 32 := 0#32
  let c1_i32_5714 : BitVec 32 := 1#32
  let v5335 : BitVec 32 := Scalar.muli v6 c1_i32_5714
  let v5336 : BitVec 32 := Scalar.addi c0_i32_5715 v5335
  v5336.toNat
def k0_dev134 (v4 : BitVec 32) : Nat :=
  let c0_i32_5770 : BitVec 32 := 0#32
  let c1_i32_5769 : BitVec 32 := 1#32
  let v5391 : BitVec 32 := Scalar.muli v4 c1_i32_5769
  let v5392 : BitVec 32 := Scalar.addi c0_i32_5770 v5391
  v5392.toNat
def k0_dev135 (v6 : BitVec 32) : Nat :=
  let c0_i32_5810 : BitVec 32 := 0#32
  let c1_i32_5809 : BitVec 32 := 1#32
  let v5424 : BitVec 32 := Scalar.muli v6 c1_i32_5809
  let v5425 : BitVec 32 := Scalar.addi c0_i32_5810 v5424
  v5425.toNat
def k0_dev136 (v4 : BitVec 32) : Nat :=
  let c0_i32_5850 : BitVec 32 := 0#32
  let c1_i32_5849 : BitVec 32 := 1#32
  let v5457 : BitVec 32 := Scalar.muli v4 c1_i32_5849
  let v5458 : BitVec 32 := Scalar.addi c0_i32_5850 v5457
  v5458.toNat
def k0_dev137 (v6 : BitVec 32) : Nat :=
  let c0_i32_5890 : BitVec 32 := 0#32
  let c1_i32_5889 : BitVec 32 := 1#32
  let v5490 : BitVec 32 := Scalar.muli v6 c1_i32_5889
  let v5491 : BitVec 32 := Scalar.addi c0_i32_5890 v5490
  v5491.toNat
def k0_dev138 (v4 : BitVec 32) : Nat :=
  let c0_i32_5945 : BitVec 32 := 0#32
  let c1_i32_5944 : BitVec 32 := 1#32
  let v5546 : BitVec 32 := Scalar.muli v4 c1_i32_5944
  let v5547 : BitVec 32 := Scalar.addi c0_i32_5945 v5546
  v5547.toNat
def k0_dev139 (v6 : BitVec 32) : Nat :=
  let c0_i32_5985 : BitVec 32 := 0#32
  let c1_i32_5984 : BitVec 32 := 1#32
  let v5579 : BitVec 32 := Scalar.muli v6 c1_i32_5984
  let v5580 : BitVec 32 := Scalar.addi c0_i32_5985 v5579
  v5580.toNat
def k0_dev140 (v4 : BitVec 32) : Nat :=
  let c0_i32_6025 : BitVec 32 := 0#32
  let c1_i32_6024 : BitVec 32 := 1#32
  let v5612 : BitVec 32 := Scalar.muli v4 c1_i32_6024
  let v5613 : BitVec 32 := Scalar.addi c0_i32_6025 v5612
  v5613.toNat
def k0_dev141 (v6 : BitVec 32) : Nat :=
  let c0_i32_6065 : BitVec 32 := 0#32
  let c1_i32_6064 : BitVec 32 := 1#32
  let v5645 : BitVec 32 := Scalar.muli v6 c1_i32_6064
  let v5646 : BitVec 32 := Scalar.addi c0_i32_6065 v5645
  v5646.toNat
def k0_dev142 (v4 : BitVec 32) : Nat :=
  let c0_i32_6120 : BitVec 32 := 0#32
  let c1_i32_6119 : BitVec 32 := 1#32
  let v5701 : BitVec 32 := Scalar.muli v4 c1_i32_6119
  let v5702 : BitVec 32 := Scalar.addi c0_i32_6120 v5701
  v5702.toNat
def k0_dev143 (v6 : BitVec 32) : Nat :=
  let c0_i32_6160 : BitVec 32 := 0#32
  let c1_i32_6159 : BitVec 32 := 1#32
  let v5734 : BitVec 32 := Scalar.muli v6 c1_i32_6159
  let v5735 : BitVec 32 := Scalar.addi c0_i32_6160 v5734
  v5735.toNat
def k0_dev144 (v4 : BitVec 32) : Nat :=
  let c0_i32_6200 : BitVec 32 := 0#32
  let c1_i32_6199 : BitVec 32 := 1#32
  let v5767 : BitVec 32 := Scalar.muli v4 c1_i32_6199
  let v5768 : BitVec 32 := Scalar.addi c0_i32_6200 v5767
  v5768.toNat
def k0_dev145 (v6 : BitVec 32) : Nat :=
  let c0_i32_6240 : BitVec 32 := 0#32
  let c1_i32_6239 : BitVec 32 := 1#32
  let v5800 : BitVec 32 := Scalar.muli v6 c1_i32_6239
  let v5801 : BitVec 32 := Scalar.addi c0_i32_6240 v5800
  v5801.toNat
def k0_dev146 (v4 : BitVec 32) : Nat :=
  let c0_i32_6295 : BitVec 32 := 0#32
  let c1_i32_6294 : BitVec 32 := 1#32
  let v5856 : BitVec 32 := Scalar.muli v4 c1_i32_6294
  let v5857 : BitVec 32 := Scalar.addi c0_i32_6295 v5856
  v5857.toNat
def k0_dev147 (v6 : BitVec 32) : Nat :=
  let c0_i32_6335 : BitVec 32 := 0#32
  let c1_i32_6334 : BitVec 32 := 1#32
  let v5889 : BitVec 32 := Scalar.muli v6 c1_i32_6334
  let v5890 : BitVec 32 := Scalar.addi c0_i32_6335 v5889
  v5890.toNat
def k0_dev148 (v4 : BitVec 32) : Nat :=
  let c0_i32_6375 : BitVec 32 := 0#32
  let c1_i32_6374 : BitVec 32 := 1#32
  let v5922 : BitVec 32 := Scalar.muli v4 c1_i32_6374
  let v5923 : BitVec 32 := Scalar.addi c0_i32_6375 v5922
  v5923.toNat
def k0_dev149 (v6 : BitVec 32) : Nat :=
  let c0_i32_6415 : BitVec 32 := 0#32
  let c1_i32_6414 : BitVec 32 := 1#32
  let v5955 : BitVec 32 := Scalar.muli v6 c1_i32_6414
  let v5956 : BitVec 32 := Scalar.addi c0_i32_6415 v5955
  v5956.toNat
def k0_dev150 (v4 : BitVec 32) : Nat :=
  let c0_i32_6470 : BitVec 32 := 0#32
  let c1_i32_6469 : BitVec 32 := 1#32
  let v6011 : BitVec 32 := Scalar.muli v4 c1_i32_6469
  let v6012 : BitVec 32 := Scalar.addi c0_i32_6470 v6011
  v6012.toNat
def k0_dev151 (v6 : BitVec 32) : Nat :=
  let c0_i32_6510 : BitVec 32 := 0#32
  let c1_i32_6509 : BitVec 32 := 1#32
  let v6044 : BitVec 32 := Scalar.muli v6 c1_i32_6509
  let v6045 : BitVec 32 := Scalar.addi c0_i32_6510 v6044
  v6045.toNat
def k0_dev152 (v4 : BitVec 32) : Nat :=
  let c0_i32_6550 : BitVec 32 := 0#32
  let c1_i32_6549 : BitVec 32 := 1#32
  let v6077 : BitVec 32 := Scalar.muli v4 c1_i32_6549
  let v6078 : BitVec 32 := Scalar.addi c0_i32_6550 v6077
  v6078.toNat
def k0_dev153 (v6 : BitVec 32) : Nat :=
  let c0_i32_6590 : BitVec 32 := 0#32
  let c1_i32_6589 : BitVec 32 := 1#32
  let v6110 : BitVec 32 := Scalar.muli v6 c1_i32_6589
  let v6111 : BitVec 32 := Scalar.addi c0_i32_6590 v6110
  v6111.toNat
def k0_dev154 (v4 : BitVec 32) : Nat :=
  let c0_i32_6645 : BitVec 32 := 0#32
  let c1_i32_6644 : BitVec 32 := 1#32
  let v6166 : BitVec 32 := Scalar.muli v4 c1_i32_6644
  let v6167 : BitVec 32 := Scalar.addi c0_i32_6645 v6166
  v6167.toNat
def k0_dev155 (v6 : BitVec 32) : Nat :=
  let c0_i32_6685 : BitVec 32 := 0#32
  let c1_i32_6684 : BitVec 32 := 1#32
  let v6199 : BitVec 32 := Scalar.muli v6 c1_i32_6684
  let v6200 : BitVec 32 := Scalar.addi c0_i32_6685 v6199
  v6200.toNat
def k0_dev156 (v4 : BitVec 32) : Nat :=
  let c0_i32_6725 : BitVec 32 := 0#32
  let c1_i32_6724 : BitVec 32 := 1#32
  let v6232 : BitVec 32 := Scalar.muli v4 c1_i32_6724
  let v6233 : BitVec 32 := Scalar.addi c0_i32_6725 v6232
  v6233.toNat

def k0_chk2_0 (v4 : BitVec 32) : Prop :=
  ((k0_dev2 v4) < nD) ∧
  ((k0_dev3 v4) < nD) ∧
  ((k0_dev5 v4) < nD) ∧
  ((k0_dev7 v4) < nD) ∧
  ((k0_dev9 v4) < nD) ∧
  ((k0_dev11 v4) < nD) ∧
  ((k0_dev13 v4) < nD) ∧
  ((k0_dev15 v4) < nD) ∧
  ((k0_dev17 v4) < nD) ∧
  ((k0_dev19 v4) < nD) ∧
  ((k0_dev21 v4) < nD) ∧
  ((k0_dev23 v4) < nD) ∧
  ((k0_dev25 v4) < nD) ∧
  ((k0_dev27 v4) < nD) ∧
  ((k0_dev29 v4) < nD) ∧
  ((k0_dev31 v4) < nD) ∧
  ((k0_dev33 v4) < nD) ∧
  ((k0_dev35 v4) < nD) ∧
  ((k0_dev37 v4) < nD) ∧
  ((k0_dev39 v4) < nD) ∧
  ((k0_dev41 v4) < nD) ∧
  ((k0_dev43 v4) < nD) ∧
  ((k0_dev44 v4) < nD) ∧
  ((k0_dev47 v4) < nD) ∧
  ((k0_dev48 v4) < nD) ∧
  ((k0_dev51 v4) < nD) ∧
  ((k0_dev52 v4) < nD) ∧
  ((k0_dev55 v4) < nD) ∧
  ((k0_dev56 v4) < nD) ∧
  ((k0_dev59 v4) < nD) ∧
  ((k0_dev60 v4) < nD) ∧
  ((k0_dev63 v4) < nD)
def k0_chk2_1 (v4 : BitVec 32) : Prop :=
  ((k0_dev64 v4) < nD) ∧
  ((k0_dev67 v4) < nD) ∧
  ((k0_dev68 v4) < nD) ∧
  ((k0_dev71 v4) < nD) ∧
  ((k0_dev72 v4) < nD) ∧
  ((k0_dev75 v4) < nD) ∧
  ((k0_dev76 v4) < nD) ∧
  ((k0_dev79 v4) < nD) ∧
  ((k0_dev80 v4) < nD) ∧
  ((k0_dev98 v4) < nD) ∧
  ((k0_dev100 v4) < nD) ∧
  ((k0_dev102 v4) < nD) ∧
  ((k0_dev104 v4) < nD) ∧
  ((k0_dev106 v4) < nD) ∧
  ((k0_dev108 v4) < nD) ∧
  ((k0_dev110 v4) < nD) ∧
  ((k0_dev112 v4) < nD) ∧
  ((k0_dev114 v4) < nD) ∧
  ((k0_dev116 v4) < nD) ∧
  ((k0_dev118 v4) < nD) ∧
  ((k0_dev120 v4) < nD) ∧
  ((k0_dev122 v4) < nD) ∧
  ((k0_dev124 v4) < nD) ∧
  ((k0_dev126 v4) < nD) ∧
  ((k0_dev128 v4) < nD) ∧
  ((k0_dev130 v4) < nD) ∧
  ((k0_dev132 v4) < nD) ∧
  ((k0_dev134 v4) < nD) ∧
  ((k0_dev136 v4) < nD) ∧
  ((k0_dev138 v4) < nD) ∧
  ((k0_dev140 v4) < nD) ∧
  ((k0_dev142 v4) < nD)
def k0_chk2_2 (v4 : BitVec 32) : Prop :=
  ((k0_dev144 v4) < nD) ∧
  ((k0_dev146 v4) < nD) ∧
  ((k0_dev148 v4) < nD) ∧
  ((k0_dev150 v4) < nD) ∧
  ((k0_dev152 v4) < nD) ∧
  ((k0_dev154 v4) < nD) ∧
  ((k0_dev156 v4) < nD)
def k0_chk2 (v4 : BitVec 32) : Prop :=
  k0_chk2_0 v4 ∧
  k0_chk2_1 v4 ∧
  k0_chk2_2 v4
theorem k0_dev2_lt : ∀ (v4 : BitVec 32) (k0_hw2 : k0_chk2 v4), (k0_dev2 v4) < nD := fun v4 k0_hw2 => k0_hw2.1.1
theorem k0_dev3_lt : ∀ (v4 : BitVec 32) (k0_hw2 : k0_chk2 v4), (k0_dev3 v4) < nD := fun v4 k0_hw2 => k0_hw2.1.2.1
theorem k0_dev5_lt : ∀ (v4 : BitVec 32) (k0_hw2 : k0_chk2 v4), (k0_dev5 v4) < nD := fun v4 k0_hw2 => k0_hw2.1.2.2.1
theorem k0_dev7_lt : ∀ (v4 : BitVec 32) (k0_hw2 : k0_chk2 v4), (k0_dev7 v4) < nD := fun v4 k0_hw2 => k0_hw2.1.2.2.2.1
theorem k0_dev9_lt : ∀ (v4 : BitVec 32) (k0_hw2 : k0_chk2 v4), (k0_dev9 v4) < nD := fun v4 k0_hw2 => k0_hw2.1.2.2.2.2.1
theorem k0_dev11_lt : ∀ (v4 : BitVec 32) (k0_hw2 : k0_chk2 v4), (k0_dev11 v4) < nD := fun v4 k0_hw2 => k0_hw2.1.2.2.2.2.2.1
theorem k0_dev13_lt : ∀ (v4 : BitVec 32) (k0_hw2 : k0_chk2 v4), (k0_dev13 v4) < nD := fun v4 k0_hw2 => k0_hw2.1.2.2.2.2.2.2.1
theorem k0_dev15_lt : ∀ (v4 : BitVec 32) (k0_hw2 : k0_chk2 v4), (k0_dev15 v4) < nD := fun v4 k0_hw2 => k0_hw2.1.2.2.2.2.2.2.2.1
theorem k0_dev17_lt : ∀ (v4 : BitVec 32) (k0_hw2 : k0_chk2 v4), (k0_dev17 v4) < nD := fun v4 k0_hw2 => k0_hw2.1.2.2.2.2.2.2.2.2.1
theorem k0_dev19_lt : ∀ (v4 : BitVec 32) (k0_hw2 : k0_chk2 v4), (k0_dev19 v4) < nD := fun v4 k0_hw2 => k0_hw2.1.2.2.2.2.2.2.2.2.2.1
theorem k0_dev21_lt : ∀ (v4 : BitVec 32) (k0_hw2 : k0_chk2 v4), (k0_dev21 v4) < nD := fun v4 k0_hw2 => k0_hw2.1.2.2.2.2.2.2.2.2.2.2.1
theorem k0_dev23_lt : ∀ (v4 : BitVec 32) (k0_hw2 : k0_chk2 v4), (k0_dev23 v4) < nD := fun v4 k0_hw2 => k0_hw2.1.2.2.2.2.2.2.2.2.2.2.2.1
theorem k0_dev25_lt : ∀ (v4 : BitVec 32) (k0_hw2 : k0_chk2 v4), (k0_dev25 v4) < nD := fun v4 k0_hw2 => k0_hw2.1.2.2.2.2.2.2.2.2.2.2.2.2.1
theorem k0_dev27_lt : ∀ (v4 : BitVec 32) (k0_hw2 : k0_chk2 v4), (k0_dev27 v4) < nD := fun v4 k0_hw2 => k0_hw2.1.2.2.2.2.2.2.2.2.2.2.2.2.2.1
theorem k0_dev29_lt : ∀ (v4 : BitVec 32) (k0_hw2 : k0_chk2 v4), (k0_dev29 v4) < nD := fun v4 k0_hw2 => k0_hw2.1.2.2.2.2.2.2.2.2.2.2.2.2.2.2.1
theorem k0_dev31_lt : ∀ (v4 : BitVec 32) (k0_hw2 : k0_chk2 v4), (k0_dev31 v4) < nD := fun v4 k0_hw2 => k0_hw2.1.2.2.2.2.2.2.2.2.2.2.2.2.2.2.2.1
theorem k0_dev33_lt : ∀ (v4 : BitVec 32) (k0_hw2 : k0_chk2 v4), (k0_dev33 v4) < nD := fun v4 k0_hw2 => k0_hw2.1.2.2.2.2.2.2.2.2.2.2.2.2.2.2.2.2.1
theorem k0_dev35_lt : ∀ (v4 : BitVec 32) (k0_hw2 : k0_chk2 v4), (k0_dev35 v4) < nD := fun v4 k0_hw2 => k0_hw2.1.2.2.2.2.2.2.2.2.2.2.2.2.2.2.2.2.2.1
theorem k0_dev37_lt : ∀ (v4 : BitVec 32) (k0_hw2 : k0_chk2 v4), (k0_dev37 v4) < nD := fun v4 k0_hw2 => k0_hw2.1.2.2.2.2.2.2.2.2.2.2.2.2.2.2.2.2.2.2.1
theorem k0_dev39_lt : ∀ (v4 : BitVec 32) (k0_hw2 : k0_chk2 v4), (k0_dev39 v4) < nD := fun v4 k0_hw2 => k0_hw2.1.2.2.2.2.2.2.2.2.2.2.2.2.2.2.2.2.2.2.2.1
theorem k0_dev41_lt : ∀ (v4 : BitVec 32) (k0_hw2 : k0_chk2 v4), (k0_dev41 v4) < nD := fun v4 k0_hw2 => k0_hw2.1.2.2.2.2.2.2.2.2.2.2.2.2.2.2.2.2.2.2.2.2.1
theorem k0_dev43_lt : ∀ (v4 : BitVec 32) (k0_hw2 : k0_chk2 v4), (k0_dev43 v4) < nD := fun v4 k0_hw2 => k0_hw2.1.2.2.2.2.2.2.2.2.2.2.2.2.2.2.2.2.2.2.2.2.2.1
theorem k0_dev44_lt : ∀ (v4 : BitVec 32) (k0_hw2 : k0_chk2 v4), (k0_dev44 v4) < nD := fun v4 k0_hw2 => k0_hw2.1.2.2.2.2.2.2.2.2.2.2.2.2.2.2.2.2.2.2.2.2.2.2.1
theorem k0_dev47_lt : ∀ (v4 : BitVec 32) (k0_hw2 : k0_chk2 v4), (k0_dev47 v4) < nD := fun v4 k0_hw2 => k0_hw2.1.2.2.2.2.2.2.2.2.2.2.2.2.2.2.2.2.2.2.2.2.2.2.2.1
theorem k0_dev48_lt : ∀ (v4 : BitVec 32) (k0_hw2 : k0_chk2 v4), (k0_dev48 v4) < nD := fun v4 k0_hw2 => k0_hw2.1.2.2.2.2.2.2.2.2.2.2.2.2.2.2.2.2.2.2.2.2.2.2.2.2.1
theorem k0_dev51_lt : ∀ (v4 : BitVec 32) (k0_hw2 : k0_chk2 v4), (k0_dev51 v4) < nD := fun v4 k0_hw2 => k0_hw2.1.2.2.2.2.2.2.2.2.2.2.2.2.2.2.2.2.2.2.2.2.2.2.2.2.2.1
theorem k0_dev52_lt : ∀ (v4 : BitVec 32) (k0_hw2 : k0_chk2 v4), (k0_dev52 v4) < nD := fun v4 k0_hw2 => k0_hw2.1.2.2.2.2.2.2.2.2.2.2.2.2.2.2.2.2.2.2.2.2.2.2.2.2.2.2.1
theorem k0_dev55_lt : ∀ (v4 : BitVec 32) (k0_hw2 : k0_chk2 v4), (k0_dev55 v4) < nD := fun v4 k0_hw2 => k0_hw2.1.2.2.2.2.2.2.2.2.2.2.2.2.2.2.2.2.2.2.2.2.2.2.2.2.2.2.2.1
theorem k0_dev56_lt : ∀ (v4 : BitVec 32) (k0_hw2 : k0_chk2 v4), (k0_dev56 v4) < nD := fun v4 k0_hw2 => k0_hw2.1.2.2.2.2.2.2.2.2.2.2.2.2.2.2.2.2.2.2.2.2.2.2.2.2.2.2.2.2.1
theorem k0_dev59_lt : ∀ (v4 : BitVec 32) (k0_hw2 : k0_chk2 v4), (k0_dev59 v4) < nD := fun v4 k0_hw2 => k0_hw2.1.2.2.2.2.2.2.2.2.2.2.2.2.2.2.2.2.2.2.2.2.2.2.2.2.2.2.2.2.2.1
theorem k0_dev60_lt : ∀ (v4 : BitVec 32) (k0_hw2 : k0_chk2 v4), (k0_dev60 v4) < nD := fun v4 k0_hw2 => k0_hw2.1.2.2.2.2.2.2.2.2.2.2.2.2.2.2.2.2.2.2.2.2.2.2.2.2.2.2.2.2.2.2.1
theorem k0_dev63_lt : ∀ (v4 : BitVec 32) (k0_hw2 : k0_chk2 v4), (k0_dev63 v4) < nD := fun v4 k0_hw2 => k0_hw2.1.2.2.2.2.2.2.2.2.2.2.2.2.2.2.2.2.2.2.2.2.2.2.2.2.2.2.2.2.2.2.2
theorem k0_dev64_lt : ∀ (v4 : BitVec 32) (k0_hw2 : k0_chk2 v4), (k0_dev64 v4) < nD := fun v4 k0_hw2 => k0_hw2.2.1.1
theorem k0_dev67_lt : ∀ (v4 : BitVec 32) (k0_hw2 : k0_chk2 v4), (k0_dev67 v4) < nD := fun v4 k0_hw2 => k0_hw2.2.1.2.1
theorem k0_dev68_lt : ∀ (v4 : BitVec 32) (k0_hw2 : k0_chk2 v4), (k0_dev68 v4) < nD := fun v4 k0_hw2 => k0_hw2.2.1.2.2.1
theorem k0_dev71_lt : ∀ (v4 : BitVec 32) (k0_hw2 : k0_chk2 v4), (k0_dev71 v4) < nD := fun v4 k0_hw2 => k0_hw2.2.1.2.2.2.1
theorem k0_dev72_lt : ∀ (v4 : BitVec 32) (k0_hw2 : k0_chk2 v4), (k0_dev72 v4) < nD := fun v4 k0_hw2 => k0_hw2.2.1.2.2.2.2.1
theorem k0_dev75_lt : ∀ (v4 : BitVec 32) (k0_hw2 : k0_chk2 v4), (k0_dev75 v4) < nD := fun v4 k0_hw2 => k0_hw2.2.1.2.2.2.2.2.1
theorem k0_dev76_lt : ∀ (v4 : BitVec 32) (k0_hw2 : k0_chk2 v4), (k0_dev76 v4) < nD := fun v4 k0_hw2 => k0_hw2.2.1.2.2.2.2.2.2.1
theorem k0_dev79_lt : ∀ (v4 : BitVec 32) (k0_hw2 : k0_chk2 v4), (k0_dev79 v4) < nD := fun v4 k0_hw2 => k0_hw2.2.1.2.2.2.2.2.2.2.1
theorem k0_dev80_lt : ∀ (v4 : BitVec 32) (k0_hw2 : k0_chk2 v4), (k0_dev80 v4) < nD := fun v4 k0_hw2 => k0_hw2.2.1.2.2.2.2.2.2.2.2.1
theorem k0_dev98_lt : ∀ (v4 : BitVec 32) (k0_hw2 : k0_chk2 v4), (k0_dev98 v4) < nD := fun v4 k0_hw2 => k0_hw2.2.1.2.2.2.2.2.2.2.2.2.1
theorem k0_dev100_lt : ∀ (v4 : BitVec 32) (k0_hw2 : k0_chk2 v4), (k0_dev100 v4) < nD := fun v4 k0_hw2 => k0_hw2.2.1.2.2.2.2.2.2.2.2.2.2.1
theorem k0_dev102_lt : ∀ (v4 : BitVec 32) (k0_hw2 : k0_chk2 v4), (k0_dev102 v4) < nD := fun v4 k0_hw2 => k0_hw2.2.1.2.2.2.2.2.2.2.2.2.2.2.1
theorem k0_dev104_lt : ∀ (v4 : BitVec 32) (k0_hw2 : k0_chk2 v4), (k0_dev104 v4) < nD := fun v4 k0_hw2 => k0_hw2.2.1.2.2.2.2.2.2.2.2.2.2.2.2.1
theorem k0_dev106_lt : ∀ (v4 : BitVec 32) (k0_hw2 : k0_chk2 v4), (k0_dev106 v4) < nD := fun v4 k0_hw2 => k0_hw2.2.1.2.2.2.2.2.2.2.2.2.2.2.2.2.1
theorem k0_dev108_lt : ∀ (v4 : BitVec 32) (k0_hw2 : k0_chk2 v4), (k0_dev108 v4) < nD := fun v4 k0_hw2 => k0_hw2.2.1.2.2.2.2.2.2.2.2.2.2.2.2.2.2.1
theorem k0_dev110_lt : ∀ (v4 : BitVec 32) (k0_hw2 : k0_chk2 v4), (k0_dev110 v4) < nD := fun v4 k0_hw2 => k0_hw2.2.1.2.2.2.2.2.2.2.2.2.2.2.2.2.2.2.1
theorem k0_dev112_lt : ∀ (v4 : BitVec 32) (k0_hw2 : k0_chk2 v4), (k0_dev112 v4) < nD := fun v4 k0_hw2 => k0_hw2.2.1.2.2.2.2.2.2.2.2.2.2.2.2.2.2.2.2.1
theorem k0_dev114_lt : ∀ (v4 : BitVec 32) (k0_hw2 : k0_chk2 v4), (k0_dev114 v4) < nD := fun v4 k0_hw2 => k0_hw2.2.1.2.2.2.2.2.2.2.2.2.2.2.2.2.2.2.2.2.1
theorem k0_dev116_lt : ∀ (v4 : BitVec 32) (k0_hw2 : k0_chk2 v4), (k0_dev116 v4) < nD := fun v4 k0_hw2 => k0_hw2.2.1.2.2.2.2.2.2.2.2.2.2.2.2.2.2.2.2.2.2.1
theorem k0_dev118_lt : ∀ (v4 : BitVec 32) (k0_hw2 : k0_chk2 v4), (k0_dev118 v4) < nD := fun v4 k0_hw2 => k0_hw2.2.1.2.2.2.2.2.2.2.2.2.2.2.2.2.2.2.2.2.2.2.1
theorem k0_dev120_lt : ∀ (v4 : BitVec 32) (k0_hw2 : k0_chk2 v4), (k0_dev120 v4) < nD := fun v4 k0_hw2 => k0_hw2.2.1.2.2.2.2.2.2.2.2.2.2.2.2.2.2.2.2.2.2.2.2.1
theorem k0_dev122_lt : ∀ (v4 : BitVec 32) (k0_hw2 : k0_chk2 v4), (k0_dev122 v4) < nD := fun v4 k0_hw2 => k0_hw2.2.1.2.2.2.2.2.2.2.2.2.2.2.2.2.2.2.2.2.2.2.2.2.1
theorem k0_dev124_lt : ∀ (v4 : BitVec 32) (k0_hw2 : k0_chk2 v4), (k0_dev124 v4) < nD := fun v4 k0_hw2 => k0_hw2.2.1.2.2.2.2.2.2.2.2.2.2.2.2.2.2.2.2.2.2.2.2.2.2.1
theorem k0_dev126_lt : ∀ (v4 : BitVec 32) (k0_hw2 : k0_chk2 v4), (k0_dev126 v4) < nD := fun v4 k0_hw2 => k0_hw2.2.1.2.2.2.2.2.2.2.2.2.2.2.2.2.2.2.2.2.2.2.2.2.2.2.1
theorem k0_dev128_lt : ∀ (v4 : BitVec 32) (k0_hw2 : k0_chk2 v4), (k0_dev128 v4) < nD := fun v4 k0_hw2 => k0_hw2.2.1.2.2.2.2.2.2.2.2.2.2.2.2.2.2.2.2.2.2.2.2.2.2.2.2.1
theorem k0_dev130_lt : ∀ (v4 : BitVec 32) (k0_hw2 : k0_chk2 v4), (k0_dev130 v4) < nD := fun v4 k0_hw2 => k0_hw2.2.1.2.2.2.2.2.2.2.2.2.2.2.2.2.2.2.2.2.2.2.2.2.2.2.2.2.1
theorem k0_dev132_lt : ∀ (v4 : BitVec 32) (k0_hw2 : k0_chk2 v4), (k0_dev132 v4) < nD := fun v4 k0_hw2 => k0_hw2.2.1.2.2.2.2.2.2.2.2.2.2.2.2.2.2.2.2.2.2.2.2.2.2.2.2.2.2.1
theorem k0_dev134_lt : ∀ (v4 : BitVec 32) (k0_hw2 : k0_chk2 v4), (k0_dev134 v4) < nD := fun v4 k0_hw2 => k0_hw2.2.1.2.2.2.2.2.2.2.2.2.2.2.2.2.2.2.2.2.2.2.2.2.2.2.2.2.2.2.1
theorem k0_dev136_lt : ∀ (v4 : BitVec 32) (k0_hw2 : k0_chk2 v4), (k0_dev136 v4) < nD := fun v4 k0_hw2 => k0_hw2.2.1.2.2.2.2.2.2.2.2.2.2.2.2.2.2.2.2.2.2.2.2.2.2.2.2.2.2.2.2.1
theorem k0_dev138_lt : ∀ (v4 : BitVec 32) (k0_hw2 : k0_chk2 v4), (k0_dev138 v4) < nD := fun v4 k0_hw2 => k0_hw2.2.1.2.2.2.2.2.2.2.2.2.2.2.2.2.2.2.2.2.2.2.2.2.2.2.2.2.2.2.2.2.1
theorem k0_dev140_lt : ∀ (v4 : BitVec 32) (k0_hw2 : k0_chk2 v4), (k0_dev140 v4) < nD := fun v4 k0_hw2 => k0_hw2.2.1.2.2.2.2.2.2.2.2.2.2.2.2.2.2.2.2.2.2.2.2.2.2.2.2.2.2.2.2.2.2.1
theorem k0_dev142_lt : ∀ (v4 : BitVec 32) (k0_hw2 : k0_chk2 v4), (k0_dev142 v4) < nD := fun v4 k0_hw2 => k0_hw2.2.1.2.2.2.2.2.2.2.2.2.2.2.2.2.2.2.2.2.2.2.2.2.2.2.2.2.2.2.2.2.2.2
theorem k0_dev144_lt : ∀ (v4 : BitVec 32) (k0_hw2 : k0_chk2 v4), (k0_dev144 v4) < nD := fun v4 k0_hw2 => k0_hw2.2.2.1
theorem k0_dev146_lt : ∀ (v4 : BitVec 32) (k0_hw2 : k0_chk2 v4), (k0_dev146 v4) < nD := fun v4 k0_hw2 => k0_hw2.2.2.2.1
theorem k0_dev148_lt : ∀ (v4 : BitVec 32) (k0_hw2 : k0_chk2 v4), (k0_dev148 v4) < nD := fun v4 k0_hw2 => k0_hw2.2.2.2.2.1
theorem k0_dev150_lt : ∀ (v4 : BitVec 32) (k0_hw2 : k0_chk2 v4), (k0_dev150 v4) < nD := fun v4 k0_hw2 => k0_hw2.2.2.2.2.2.1
theorem k0_dev152_lt : ∀ (v4 : BitVec 32) (k0_hw2 : k0_chk2 v4), (k0_dev152 v4) < nD := fun v4 k0_hw2 => k0_hw2.2.2.2.2.2.2.1
theorem k0_dev154_lt : ∀ (v4 : BitVec 32) (k0_hw2 : k0_chk2 v4), (k0_dev154 v4) < nD := fun v4 k0_hw2 => k0_hw2.2.2.2.2.2.2.2.1
theorem k0_dev156_lt : ∀ (v4 : BitVec 32) (k0_hw2 : k0_chk2 v4), (k0_dev156 v4) < nD := fun v4 k0_hw2 => k0_hw2.2.2.2.2.2.2.2.2

def k0_dev157 (v6 : BitVec 32) : Nat :=
  let c0_i32_6765 : BitVec 32 := 0#32
  let c1_i32_6764 : BitVec 32 := 1#32
  let v6265 : BitVec 32 := Scalar.muli v6 c1_i32_6764
  let v6266 : BitVec 32 := Scalar.addi c0_i32_6765 v6265
  v6266.toNat

def k0_chk1_0 (v6 : BitVec 32) : Prop :=
  ((k0_dev1 v6) < nD) ∧
  ((k0_dev4 v6) < nD) ∧
  ((k0_dev6 v6) < nD) ∧
  ((k0_dev8 v6) < nD) ∧
  ((k0_dev10 v6) < nD) ∧
  ((k0_dev12 v6) < nD) ∧
  ((k0_dev14 v6) < nD) ∧
  ((k0_dev16 v6) < nD) ∧
  ((k0_dev18 v6) < nD) ∧
  ((k0_dev20 v6) < nD) ∧
  ((k0_dev22 v6) < nD) ∧
  ((k0_dev24 v6) < nD) ∧
  ((k0_dev26 v6) < nD) ∧
  ((k0_dev28 v6) < nD) ∧
  ((k0_dev30 v6) < nD) ∧
  ((k0_dev32 v6) < nD) ∧
  ((k0_dev34 v6) < nD) ∧
  ((k0_dev36 v6) < nD) ∧
  ((k0_dev38 v6) < nD) ∧
  ((k0_dev40 v6) < nD) ∧
  ((k0_dev42 v6) < nD) ∧
  ((k0_dev45 v6) < nD) ∧
  ((k0_dev46 v6) < nD) ∧
  ((k0_dev49 v6) < nD) ∧
  ((k0_dev50 v6) < nD) ∧
  ((k0_dev53 v6) < nD) ∧
  ((k0_dev54 v6) < nD) ∧
  ((k0_dev57 v6) < nD) ∧
  ((k0_dev58 v6) < nD) ∧
  ((k0_dev61 v6) < nD) ∧
  ((k0_dev62 v6) < nD) ∧
  ((k0_dev65 v6) < nD)
def k0_chk1_1 (v6 : BitVec 32) : Prop :=
  ((k0_dev66 v6) < nD) ∧
  ((k0_dev69 v6) < nD) ∧
  ((k0_dev70 v6) < nD) ∧
  ((k0_dev73 v6) < nD) ∧
  ((k0_dev74 v6) < nD) ∧
  ((k0_dev77 v6) < nD) ∧
  ((k0_dev78 v6) < nD) ∧
  ((k0_dev81 v6) < nD) ∧
  ((k0_dev82 v6) < nD) ∧
  ((k0_dev99 v6) < nD) ∧
  ((k0_dev101 v6) < nD) ∧
  ((k0_dev103 v6) < nD) ∧
  ((k0_dev105 v6) < nD) ∧
  ((k0_dev107 v6) < nD) ∧
  ((k0_dev109 v6) < nD) ∧
  ((k0_dev111 v6) < nD) ∧
  ((k0_dev113 v6) < nD) ∧
  ((k0_dev115 v6) < nD) ∧
  ((k0_dev117 v6) < nD) ∧
  ((k0_dev119 v6) < nD) ∧
  ((k0_dev121 v6) < nD) ∧
  ((k0_dev123 v6) < nD) ∧
  ((k0_dev125 v6) < nD) ∧
  ((k0_dev127 v6) < nD) ∧
  ((k0_dev129 v6) < nD) ∧
  ((k0_dev131 v6) < nD) ∧
  ((k0_dev133 v6) < nD) ∧
  ((k0_dev135 v6) < nD) ∧
  ((k0_dev137 v6) < nD) ∧
  ((k0_dev139 v6) < nD) ∧
  ((k0_dev141 v6) < nD) ∧
  ((k0_dev143 v6) < nD)
def k0_chk1_2 (v6 : BitVec 32) : Prop :=
  ((k0_dev145 v6) < nD) ∧
  ((k0_dev147 v6) < nD) ∧
  ((k0_dev149 v6) < nD) ∧
  ((k0_dev151 v6) < nD) ∧
  ((k0_dev153 v6) < nD) ∧
  ((k0_dev155 v6) < nD) ∧
  ((k0_dev157 v6) < nD)
def k0_chk1 (v6 : BitVec 32) : Prop :=
  k0_chk1_0 v6 ∧
  k0_chk1_1 v6 ∧
  k0_chk1_2 v6
theorem k0_dev1_lt : ∀ (v6 : BitVec 32) (k0_hw1 : k0_chk1 v6), (k0_dev1 v6) < nD := fun v6 k0_hw1 => k0_hw1.1.1
theorem k0_dev4_lt : ∀ (v6 : BitVec 32) (k0_hw1 : k0_chk1 v6), (k0_dev4 v6) < nD := fun v6 k0_hw1 => k0_hw1.1.2.1
theorem k0_dev6_lt : ∀ (v6 : BitVec 32) (k0_hw1 : k0_chk1 v6), (k0_dev6 v6) < nD := fun v6 k0_hw1 => k0_hw1.1.2.2.1
theorem k0_dev8_lt : ∀ (v6 : BitVec 32) (k0_hw1 : k0_chk1 v6), (k0_dev8 v6) < nD := fun v6 k0_hw1 => k0_hw1.1.2.2.2.1
theorem k0_dev10_lt : ∀ (v6 : BitVec 32) (k0_hw1 : k0_chk1 v6), (k0_dev10 v6) < nD := fun v6 k0_hw1 => k0_hw1.1.2.2.2.2.1
theorem k0_dev12_lt : ∀ (v6 : BitVec 32) (k0_hw1 : k0_chk1 v6), (k0_dev12 v6) < nD := fun v6 k0_hw1 => k0_hw1.1.2.2.2.2.2.1
theorem k0_dev14_lt : ∀ (v6 : BitVec 32) (k0_hw1 : k0_chk1 v6), (k0_dev14 v6) < nD := fun v6 k0_hw1 => k0_hw1.1.2.2.2.2.2.2.1
theorem k0_dev16_lt : ∀ (v6 : BitVec 32) (k0_hw1 : k0_chk1 v6), (k0_dev16 v6) < nD := fun v6 k0_hw1 => k0_hw1.1.2.2.2.2.2.2.2.1
theorem k0_dev18_lt : ∀ (v6 : BitVec 32) (k0_hw1 : k0_chk1 v6), (k0_dev18 v6) < nD := fun v6 k0_hw1 => k0_hw1.1.2.2.2.2.2.2.2.2.1
theorem k0_dev20_lt : ∀ (v6 : BitVec 32) (k0_hw1 : k0_chk1 v6), (k0_dev20 v6) < nD := fun v6 k0_hw1 => k0_hw1.1.2.2.2.2.2.2.2.2.2.1
theorem k0_dev22_lt : ∀ (v6 : BitVec 32) (k0_hw1 : k0_chk1 v6), (k0_dev22 v6) < nD := fun v6 k0_hw1 => k0_hw1.1.2.2.2.2.2.2.2.2.2.2.1
theorem k0_dev24_lt : ∀ (v6 : BitVec 32) (k0_hw1 : k0_chk1 v6), (k0_dev24 v6) < nD := fun v6 k0_hw1 => k0_hw1.1.2.2.2.2.2.2.2.2.2.2.2.1
theorem k0_dev26_lt : ∀ (v6 : BitVec 32) (k0_hw1 : k0_chk1 v6), (k0_dev26 v6) < nD := fun v6 k0_hw1 => k0_hw1.1.2.2.2.2.2.2.2.2.2.2.2.2.1
theorem k0_dev28_lt : ∀ (v6 : BitVec 32) (k0_hw1 : k0_chk1 v6), (k0_dev28 v6) < nD := fun v6 k0_hw1 => k0_hw1.1.2.2.2.2.2.2.2.2.2.2.2.2.2.1
theorem k0_dev30_lt : ∀ (v6 : BitVec 32) (k0_hw1 : k0_chk1 v6), (k0_dev30 v6) < nD := fun v6 k0_hw1 => k0_hw1.1.2.2.2.2.2.2.2.2.2.2.2.2.2.2.1
theorem k0_dev32_lt : ∀ (v6 : BitVec 32) (k0_hw1 : k0_chk1 v6), (k0_dev32 v6) < nD := fun v6 k0_hw1 => k0_hw1.1.2.2.2.2.2.2.2.2.2.2.2.2.2.2.2.1
theorem k0_dev34_lt : ∀ (v6 : BitVec 32) (k0_hw1 : k0_chk1 v6), (k0_dev34 v6) < nD := fun v6 k0_hw1 => k0_hw1.1.2.2.2.2.2.2.2.2.2.2.2.2.2.2.2.2.1
theorem k0_dev36_lt : ∀ (v6 : BitVec 32) (k0_hw1 : k0_chk1 v6), (k0_dev36 v6) < nD := fun v6 k0_hw1 => k0_hw1.1.2.2.2.2.2.2.2.2.2.2.2.2.2.2.2.2.2.1
theorem k0_dev38_lt : ∀ (v6 : BitVec 32) (k0_hw1 : k0_chk1 v6), (k0_dev38 v6) < nD := fun v6 k0_hw1 => k0_hw1.1.2.2.2.2.2.2.2.2.2.2.2.2.2.2.2.2.2.2.1
theorem k0_dev40_lt : ∀ (v6 : BitVec 32) (k0_hw1 : k0_chk1 v6), (k0_dev40 v6) < nD := fun v6 k0_hw1 => k0_hw1.1.2.2.2.2.2.2.2.2.2.2.2.2.2.2.2.2.2.2.2.1
theorem k0_dev42_lt : ∀ (v6 : BitVec 32) (k0_hw1 : k0_chk1 v6), (k0_dev42 v6) < nD := fun v6 k0_hw1 => k0_hw1.1.2.2.2.2.2.2.2.2.2.2.2.2.2.2.2.2.2.2.2.2.1
theorem k0_dev45_lt : ∀ (v6 : BitVec 32) (k0_hw1 : k0_chk1 v6), (k0_dev45 v6) < nD := fun v6 k0_hw1 => k0_hw1.1.2.2.2.2.2.2.2.2.2.2.2.2.2.2.2.2.2.2.2.2.2.1
theorem k0_dev46_lt : ∀ (v6 : BitVec 32) (k0_hw1 : k0_chk1 v6), (k0_dev46 v6) < nD := fun v6 k0_hw1 => k0_hw1.1.2.2.2.2.2.2.2.2.2.2.2.2.2.2.2.2.2.2.2.2.2.2.1
theorem k0_dev49_lt : ∀ (v6 : BitVec 32) (k0_hw1 : k0_chk1 v6), (k0_dev49 v6) < nD := fun v6 k0_hw1 => k0_hw1.1.2.2.2.2.2.2.2.2.2.2.2.2.2.2.2.2.2.2.2.2.2.2.2.1
theorem k0_dev50_lt : ∀ (v6 : BitVec 32) (k0_hw1 : k0_chk1 v6), (k0_dev50 v6) < nD := fun v6 k0_hw1 => k0_hw1.1.2.2.2.2.2.2.2.2.2.2.2.2.2.2.2.2.2.2.2.2.2.2.2.2.1
theorem k0_dev53_lt : ∀ (v6 : BitVec 32) (k0_hw1 : k0_chk1 v6), (k0_dev53 v6) < nD := fun v6 k0_hw1 => k0_hw1.1.2.2.2.2.2.2.2.2.2.2.2.2.2.2.2.2.2.2.2.2.2.2.2.2.2.1
theorem k0_dev54_lt : ∀ (v6 : BitVec 32) (k0_hw1 : k0_chk1 v6), (k0_dev54 v6) < nD := fun v6 k0_hw1 => k0_hw1.1.2.2.2.2.2.2.2.2.2.2.2.2.2.2.2.2.2.2.2.2.2.2.2.2.2.2.1
theorem k0_dev57_lt : ∀ (v6 : BitVec 32) (k0_hw1 : k0_chk1 v6), (k0_dev57 v6) < nD := fun v6 k0_hw1 => k0_hw1.1.2.2.2.2.2.2.2.2.2.2.2.2.2.2.2.2.2.2.2.2.2.2.2.2.2.2.2.1
theorem k0_dev58_lt : ∀ (v6 : BitVec 32) (k0_hw1 : k0_chk1 v6), (k0_dev58 v6) < nD := fun v6 k0_hw1 => k0_hw1.1.2.2.2.2.2.2.2.2.2.2.2.2.2.2.2.2.2.2.2.2.2.2.2.2.2.2.2.2.1
theorem k0_dev61_lt : ∀ (v6 : BitVec 32) (k0_hw1 : k0_chk1 v6), (k0_dev61 v6) < nD := fun v6 k0_hw1 => k0_hw1.1.2.2.2.2.2.2.2.2.2.2.2.2.2.2.2.2.2.2.2.2.2.2.2.2.2.2.2.2.2.1
theorem k0_dev62_lt : ∀ (v6 : BitVec 32) (k0_hw1 : k0_chk1 v6), (k0_dev62 v6) < nD := fun v6 k0_hw1 => k0_hw1.1.2.2.2.2.2.2.2.2.2.2.2.2.2.2.2.2.2.2.2.2.2.2.2.2.2.2.2.2.2.2.1
theorem k0_dev65_lt : ∀ (v6 : BitVec 32) (k0_hw1 : k0_chk1 v6), (k0_dev65 v6) < nD := fun v6 k0_hw1 => k0_hw1.1.2.2.2.2.2.2.2.2.2.2.2.2.2.2.2.2.2.2.2.2.2.2.2.2.2.2.2.2.2.2.2
theorem k0_dev66_lt : ∀ (v6 : BitVec 32) (k0_hw1 : k0_chk1 v6), (k0_dev66 v6) < nD := fun v6 k0_hw1 => k0_hw1.2.1.1
theorem k0_dev69_lt : ∀ (v6 : BitVec 32) (k0_hw1 : k0_chk1 v6), (k0_dev69 v6) < nD := fun v6 k0_hw1 => k0_hw1.2.1.2.1
theorem k0_dev70_lt : ∀ (v6 : BitVec 32) (k0_hw1 : k0_chk1 v6), (k0_dev70 v6) < nD := fun v6 k0_hw1 => k0_hw1.2.1.2.2.1
theorem k0_dev73_lt : ∀ (v6 : BitVec 32) (k0_hw1 : k0_chk1 v6), (k0_dev73 v6) < nD := fun v6 k0_hw1 => k0_hw1.2.1.2.2.2.1
theorem k0_dev74_lt : ∀ (v6 : BitVec 32) (k0_hw1 : k0_chk1 v6), (k0_dev74 v6) < nD := fun v6 k0_hw1 => k0_hw1.2.1.2.2.2.2.1
theorem k0_dev77_lt : ∀ (v6 : BitVec 32) (k0_hw1 : k0_chk1 v6), (k0_dev77 v6) < nD := fun v6 k0_hw1 => k0_hw1.2.1.2.2.2.2.2.1
theorem k0_dev78_lt : ∀ (v6 : BitVec 32) (k0_hw1 : k0_chk1 v6), (k0_dev78 v6) < nD := fun v6 k0_hw1 => k0_hw1.2.1.2.2.2.2.2.2.1
theorem k0_dev81_lt : ∀ (v6 : BitVec 32) (k0_hw1 : k0_chk1 v6), (k0_dev81 v6) < nD := fun v6 k0_hw1 => k0_hw1.2.1.2.2.2.2.2.2.2.1
theorem k0_dev82_lt : ∀ (v6 : BitVec 32) (k0_hw1 : k0_chk1 v6), (k0_dev82 v6) < nD := fun v6 k0_hw1 => k0_hw1.2.1.2.2.2.2.2.2.2.2.1
theorem k0_dev99_lt : ∀ (v6 : BitVec 32) (k0_hw1 : k0_chk1 v6), (k0_dev99 v6) < nD := fun v6 k0_hw1 => k0_hw1.2.1.2.2.2.2.2.2.2.2.2.1
theorem k0_dev101_lt : ∀ (v6 : BitVec 32) (k0_hw1 : k0_chk1 v6), (k0_dev101 v6) < nD := fun v6 k0_hw1 => k0_hw1.2.1.2.2.2.2.2.2.2.2.2.2.1
theorem k0_dev103_lt : ∀ (v6 : BitVec 32) (k0_hw1 : k0_chk1 v6), (k0_dev103 v6) < nD := fun v6 k0_hw1 => k0_hw1.2.1.2.2.2.2.2.2.2.2.2.2.2.1
theorem k0_dev105_lt : ∀ (v6 : BitVec 32) (k0_hw1 : k0_chk1 v6), (k0_dev105 v6) < nD := fun v6 k0_hw1 => k0_hw1.2.1.2.2.2.2.2.2.2.2.2.2.2.2.1
theorem k0_dev107_lt : ∀ (v6 : BitVec 32) (k0_hw1 : k0_chk1 v6), (k0_dev107 v6) < nD := fun v6 k0_hw1 => k0_hw1.2.1.2.2.2.2.2.2.2.2.2.2.2.2.2.1
theorem k0_dev109_lt : ∀ (v6 : BitVec 32) (k0_hw1 : k0_chk1 v6), (k0_dev109 v6) < nD := fun v6 k0_hw1 => k0_hw1.2.1.2.2.2.2.2.2.2.2.2.2.2.2.2.2.1
theorem k0_dev111_lt : ∀ (v6 : BitVec 32) (k0_hw1 : k0_chk1 v6), (k0_dev111 v6) < nD := fun v6 k0_hw1 => k0_hw1.2.1.2.2.2.2.2.2.2.2.2.2.2.2.2.2.2.1
theorem k0_dev113_lt : ∀ (v6 : BitVec 32) (k0_hw1 : k0_chk1 v6), (k0_dev113 v6) < nD := fun v6 k0_hw1 => k0_hw1.2.1.2.2.2.2.2.2.2.2.2.2.2.2.2.2.2.2.1
theorem k0_dev115_lt : ∀ (v6 : BitVec 32) (k0_hw1 : k0_chk1 v6), (k0_dev115 v6) < nD := fun v6 k0_hw1 => k0_hw1.2.1.2.2.2.2.2.2.2.2.2.2.2.2.2.2.2.2.2.1
theorem k0_dev117_lt : ∀ (v6 : BitVec 32) (k0_hw1 : k0_chk1 v6), (k0_dev117 v6) < nD := fun v6 k0_hw1 => k0_hw1.2.1.2.2.2.2.2.2.2.2.2.2.2.2.2.2.2.2.2.2.1
theorem k0_dev119_lt : ∀ (v6 : BitVec 32) (k0_hw1 : k0_chk1 v6), (k0_dev119 v6) < nD := fun v6 k0_hw1 => k0_hw1.2.1.2.2.2.2.2.2.2.2.2.2.2.2.2.2.2.2.2.2.2.1
theorem k0_dev121_lt : ∀ (v6 : BitVec 32) (k0_hw1 : k0_chk1 v6), (k0_dev121 v6) < nD := fun v6 k0_hw1 => k0_hw1.2.1.2.2.2.2.2.2.2.2.2.2.2.2.2.2.2.2.2.2.2.2.1
theorem k0_dev123_lt : ∀ (v6 : BitVec 32) (k0_hw1 : k0_chk1 v6), (k0_dev123 v6) < nD := fun v6 k0_hw1 => k0_hw1.2.1.2.2.2.2.2.2.2.2.2.2.2.2.2.2.2.2.2.2.2.2.2.1
theorem k0_dev125_lt : ∀ (v6 : BitVec 32) (k0_hw1 : k0_chk1 v6), (k0_dev125 v6) < nD := fun v6 k0_hw1 => k0_hw1.2.1.2.2.2.2.2.2.2.2.2.2.2.2.2.2.2.2.2.2.2.2.2.2.1
theorem k0_dev127_lt : ∀ (v6 : BitVec 32) (k0_hw1 : k0_chk1 v6), (k0_dev127 v6) < nD := fun v6 k0_hw1 => k0_hw1.2.1.2.2.2.2.2.2.2.2.2.2.2.2.2.2.2.2.2.2.2.2.2.2.2.1
theorem k0_dev129_lt : ∀ (v6 : BitVec 32) (k0_hw1 : k0_chk1 v6), (k0_dev129 v6) < nD := fun v6 k0_hw1 => k0_hw1.2.1.2.2.2.2.2.2.2.2.2.2.2.2.2.2.2.2.2.2.2.2.2.2.2.2.1
theorem k0_dev131_lt : ∀ (v6 : BitVec 32) (k0_hw1 : k0_chk1 v6), (k0_dev131 v6) < nD := fun v6 k0_hw1 => k0_hw1.2.1.2.2.2.2.2.2.2.2.2.2.2.2.2.2.2.2.2.2.2.2.2.2.2.2.2.1
theorem k0_dev133_lt : ∀ (v6 : BitVec 32) (k0_hw1 : k0_chk1 v6), (k0_dev133 v6) < nD := fun v6 k0_hw1 => k0_hw1.2.1.2.2.2.2.2.2.2.2.2.2.2.2.2.2.2.2.2.2.2.2.2.2.2.2.2.2.1
theorem k0_dev135_lt : ∀ (v6 : BitVec 32) (k0_hw1 : k0_chk1 v6), (k0_dev135 v6) < nD := fun v6 k0_hw1 => k0_hw1.2.1.2.2.2.2.2.2.2.2.2.2.2.2.2.2.2.2.2.2.2.2.2.2.2.2.2.2.2.1
theorem k0_dev137_lt : ∀ (v6 : BitVec 32) (k0_hw1 : k0_chk1 v6), (k0_dev137 v6) < nD := fun v6 k0_hw1 => k0_hw1.2.1.2.2.2.2.2.2.2.2.2.2.2.2.2.2.2.2.2.2.2.2.2.2.2.2.2.2.2.2.1
theorem k0_dev139_lt : ∀ (v6 : BitVec 32) (k0_hw1 : k0_chk1 v6), (k0_dev139 v6) < nD := fun v6 k0_hw1 => k0_hw1.2.1.2.2.2.2.2.2.2.2.2.2.2.2.2.2.2.2.2.2.2.2.2.2.2.2.2.2.2.2.2.1
theorem k0_dev141_lt : ∀ (v6 : BitVec 32) (k0_hw1 : k0_chk1 v6), (k0_dev141 v6) < nD := fun v6 k0_hw1 => k0_hw1.2.1.2.2.2.2.2.2.2.2.2.2.2.2.2.2.2.2.2.2.2.2.2.2.2.2.2.2.2.2.2.2.1
theorem k0_dev143_lt : ∀ (v6 : BitVec 32) (k0_hw1 : k0_chk1 v6), (k0_dev143 v6) < nD := fun v6 k0_hw1 => k0_hw1.2.1.2.2.2.2.2.2.2.2.2.2.2.2.2.2.2.2.2.2.2.2.2.2.2.2.2.2.2.2.2.2.2
theorem k0_dev145_lt : ∀ (v6 : BitVec 32) (k0_hw1 : k0_chk1 v6), (k0_dev145 v6) < nD := fun v6 k0_hw1 => k0_hw1.2.2.1
theorem k0_dev147_lt : ∀ (v6 : BitVec 32) (k0_hw1 : k0_chk1 v6), (k0_dev147 v6) < nD := fun v6 k0_hw1 => k0_hw1.2.2.2.1
theorem k0_dev149_lt : ∀ (v6 : BitVec 32) (k0_hw1 : k0_chk1 v6), (k0_dev149 v6) < nD := fun v6 k0_hw1 => k0_hw1.2.2.2.2.1
theorem k0_dev151_lt : ∀ (v6 : BitVec 32) (k0_hw1 : k0_chk1 v6), (k0_dev151 v6) < nD := fun v6 k0_hw1 => k0_hw1.2.2.2.2.2.1
theorem k0_dev153_lt : ∀ (v6 : BitVec 32) (k0_hw1 : k0_chk1 v6), (k0_dev153 v6) < nD := fun v6 k0_hw1 => k0_hw1.2.2.2.2.2.2.1
theorem k0_dev155_lt : ∀ (v6 : BitVec 32) (k0_hw1 : k0_chk1 v6), (k0_dev155 v6) < nD := fun v6 k0_hw1 => k0_hw1.2.2.2.2.2.2.2.1
theorem k0_dev157_lt : ∀ (v6 : BitVec 32) (k0_hw1 : k0_chk1 v6), (k0_dev157 v6) < nD := fun v6 k0_hw1 => k0_hw1.2.2.2.2.2.2.2.2

abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S3x16 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1x4096x2048 : Shape := ⟨3, ![1, 4096, 2048]⟩
abbrev S1 : Shape := ⟨1, ![1]⟩
abbrev S1x1x1 : Shape := ⟨3, ![1, 1, 1]⟩

abbrev nBuf : Space → Nat
  | .hbm => 3
  | .vmem => 3
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .bf16⟩
  | .local _ .vmem, ⟨0, _⟩ => ⟨S4096x4096, .bf16⟩
  | .local _ .vmem, ⟨1, _⟩ => ⟨S4096x2048, .bf16⟩
  | .local _ .vmem, ⟨2, _⟩ => ⟨S4096x2048, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.KernelIdeal.Steps.lean ====
/- The body of the kernel, written as steps: one definition for a step of a lane of the reduce-scatter, one for a step
   of a lane of the all-gather, one for each loop, all symbolic in the step, the direction and the half. -/
module

public import proofs.«01_k».proof.Proof.Gen.KernelIdeal
public import proofs.«01_k».proof.Proof.Gen.KernelIdeal.Skeleton

@[expose] public section

noncomputable section

namespace Cert.KernelIdeal.Pf

open Idealize.ShloMosaic Idealize.SL.Sem Cert.KernelIdeal Cert.KernelIdeal.Gen

variable {F : FTy → Type} [FloatOps F]

/-! ## The two directions' buffers and semaphores (`false`: to the right, `true`: to the left) -/

/-- The accumulator's slots. -/
def hiM : Bool → Memref sig .tc .vmem S16x256x1024 .bf16
  | false => Memref.whole cc0_scratch4
  | true => Memref.whole cc0_scratch5
/-- The slots of the accumulator's remainders. -/
def loM : Bool → Memref sig .tc .vmem S16x256x1024 .fp8e4m3
  | false => Memref.whole cc0_scratch6
  | true => Memref.whole cc0_scratch7
/-- The slots of the quantised rows. -/
def qM : Bool → Memref sig .tc .vmem S16x256x1024 .fp8e4m3
  | false => Memref.whole cc0_scratch16
  | true => Memref.whole cc0_scratch17
/-- The sum a device ends with. -/
def finM : Bool → Memref sig .tc .vmem S256x1024 .f32
  | false => Memref.whole cc0_scratch2
  | true => Memref.whole cc0_scratch3
theorem hiW : ∀ d, (hiM d).IsWhole | false => Memref.isWhole_whole _ | true => Memref.isWhole_whole _
theorem loW : ∀ d, (loM d).IsWhole | false => Memref.isWhole_whole _ | true => Memref.isWhole_whole _
theorem qW : ∀ d, (qM d).IsWhole | false => Memref.isWhole_whole _ | true => Memref.isWhole_whole _
theorem finW : ∀ d, (finM d).IsWhole | false => Memref.isWhole_whole _ | true => Memref.isWhole_whole _

/-- The semaphores of a lane's three kinds of message, at the sender and at the receiver. -/
def hiS : Bool → DmaSems sig S15x2 | false => cc0_scratch8 | true => cc0_scratch10
def hiR : Bool → DmaSems sig S15x2 | false => cc0_scratch9 | true => cc0_scratch11
def loS : Bool → DmaSems sig S15x2 | false => cc0_scratch12 | true => cc0_scratch14
def loR : Bool → DmaSems sig S15x2 | false => cc0_scratch13 | true => cc0_scratch15
def qS : Bool → DmaSems sig S15x2 | false => cc0_scratch18 | true => cc0_scratch20
def qR : Bool → DmaSems sig S15x2 | false => cc0_scratch19 | true => cc0_scratch21

abbrev aM : Memref sig .tc .vmem S4096x256 .bf16 := Memref.whole cc0_scratch0
abbrev wM : Memref sig .tc .vmem S256x2048 .bf16 := Memref.whole cc0_scratch1
abbrev mM : Memref sig .tc .vmem S16x8x128 .f32 := Memref.whole cc0_scratch22
theorem aW : aM.IsWhole := Memref.isWhole_whole _
theorem wW : wM.IsWhole := Memref.isWhole_whole _
theorem mW : mM.IsWhole := Memref.isWhole_whole _

/-! ## Rectangles -/

theorem slot_inb (k : Fin 16) (b : Fin 2) : ∀ a, (![k.val, 0, 512 * b.val] : Fin 3 → Nat) a + S1x256x512.size a ≤ S16x256x1024.size a := by
  decide +revert
/-- Half `b` of slot `k`. -/
abbrev slotR (k : Fin 16) (b : Fin 2) : Rect S16x256x1024 := Rect.unit (s := S16x256x1024) ![k.val, 0, 512 * b.val] S1x256x512.size (slot_inb k b)
theorem slot_packed (p : Nat) (hp : p ∣ 256) (k : Fin 16) (b : Fin 2) : (slotR k b).PackedRows p :=
  by refine .inr ⟨by decide, rfl, .inl ⟨⟨0, rfl⟩, ?_⟩⟩; exact hp
theorem slot_words (p : Nat) (hp : p ∣ 256) (k : Fin 16) (b : Fin 2) : (slotR k b).WholeWords p := .inl (slot_packed p hp k b)
theorem full_inb (k : Fin 16) : ∀ a, (![k.val, 0, 0] : Fin 3 → Nat) a + S1x256x1024.size a ≤ S16x256x1024.size a := by
  decide +revert
/-- The whole of slot `k`. -/
abbrev fullR (k : Fin 16) : Rect S16x256x1024 := Rect.unit (s := S16x256x1024) ![k.val, 0, 0] S1x256x1024.size (full_inb k)
theorem full_packed (p : Nat) (hp : p ∣ 256) (k : Fin 16) : (fullR k).PackedRows p :=
  by refine .inr ⟨by decide, rfl, .inl ⟨⟨0, rfl⟩, ?_⟩⟩; exact hp
theorem fin_inb (b : Fin 2) : ∀ a, (![0, 512 * b.val] : Fin 2 → Nat) a + S256x512.size a ≤ S256x1024.size a := by
  decide +revert
abbrev finR (b : Fin 2) : Rect S256x1024 := Rect.unit (s := S256x1024) ![0, 512 * b.val] S256x512.size (fin_inb b)
theorem fin_packed (p : Nat) (hp : p ∣ 256) (b : Fin 2) : (finR b).PackedRows p :=
  by refine .inr ⟨by decide, rfl, .inl ⟨⟨0, rfl⟩, ?_⟩⟩; exact hp
theorem cols_inb (d : Bool) : ∀ a, (![0, 1024 * d.toNat] : Fin 2 → Nat) a + S256x1024.size a ≤ S256x2048.size a := by
  decide +revert
theorem sem_inb (s : Fin 15) (b : Fin 2) : ∀ a, (![s.val, b.val] : Fin 2 → Nat) a + S1x1.size a ≤ S15x2.size a := by
  decide +revert
theorem slice_inb (b : Fin 2) : S256x1024.Slices ![0, 512 * b.val] S256x512 := by
  decide +revert

/-- The semaphore of step `s`, half `b`. -/
abbrev semAt (A : DmaSems sig S15x2) (s : Fin 15) (b : Fin 2) : DmaSem sig :=
  ((A.slice (Rect.unit (s := S15x2) ![s.val, b.val] S1x1.size (sem_inb s b))).squeeze S_ squeezes_S1x1_S_).sem
/-- Half `b` of slot `k` as a memref. -/
abbrev slotM {e : EltTy} (M : Memref sig .tc .vmem S16x256x1024 e) (k : Fin 16) (b : Fin 2) : Memref sig .tc .vmem S256x512 e :=
  (M.slice (slotR k b) (fun _ => rfl)).squeeze S256x512 squeezes_S1x256x512_S256x512

/-! ## Values -/

/-- A device's product for a block of rows. -/
abbrev prodV (x : Vec F S256x256 .bf16) (w : Vec F S256x1024 .bf16) : FVec F S256x1024 .f32 :=
  matmul dot_S256x256_S256x1024_S256x1024_1_0_0_1_n_n none x w (constant S256x1024 .f32 0x00000000#32)
/-- What arrived, at f32, without the remainders. -/
abbrev gotV (g : Vec F S1x256x512 .bf16) : FVec F S256x512 .f32 :=
  extf .f32 (shapeCast S256x512 g shapeCasts_S1x256x512_S256x512) bitsLt_bf16_f32
/-- What arrived, at f32, with the remainders. -/
abbrev gotLoV (g : Vec F S1x256x512 .bf16) (l : Vec F S1x256x512 .fp8e4m3) : FVec F S256x512 .f32 :=
  addf (gotV g) (mulf (extf .f32 (shapeCast S256x512 l shapeCasts_S1x256x512_S256x512) bitsLt_fp8e4m3_f32)
    (broadcast S256x512 (Scalar.ofBits .f32 0x3B000000#32)))
/-- The half `b` of the device's product added. -/
abbrev accV (b : Fin 2) (p : FVec F S256x1024 .f32) (g : FVec F S256x512 .f32) : FVec F S256x512 .f32 :=
  addf g (extractStridedSlice S256x512 ![0, 512 * b.val] p (slice_inb b))
abbrev hiV (y : FVec F S256x512 .f32) : FVec F S256x512 .bf16 := truncf .bf16 y bitsLt_bf16_f32
abbrev loV (y : FVec F S256x512 .f32) : FVec F S256x512 .fp8e4m3 :=
  truncf .fp8e4m3 (mulf (subf y (extf .f32 (hiV y) bitsLt_bf16_f32)) (broadcast S256x512 (Scalar.ofBits .f32 0x44000000#32))) bitsLt_fp8e4m3_f32
/-- A half of a quantised slot times the scale. -/
abbrev outV (sc : F .f32) (q : Vec F S1x256x512 .fp8e4m3) : FVec F S256x512 .bf16 :=
  truncf .bf16 (mulf (extf .f32 (shapeCast S256x512 q shapeCasts_S1x256x512_S256x512) bitsLt_fp8e4m3_f32) (broadcast S256x512 sc)) bitsLt_bf16_f32

/-! ## The steps -/

abbrev Pg (F : FTy → Type) (α : Type) : Type 1 := Prog (TpuEff nD τ sig (Elt F) Λ₀ .tc) α

/-- Send half `b` of slot `m` to slot `m + 1` of device `t`. -/
abbrev sendHi (d : Bool) (t : Dev nD) (m : Fin 15) (b : Fin 2) (K : Pg F PUnit) : Pg F PUnit :=
  .op (.enqueueDma (slotM (hiM d) m.castSucc b) (.remote (Dev.tc t) (slotM (hiM d) m.succ b) (.dma (semAt (hiS d) m b))) (.dma (semAt (hiR d) m b))
    (((hiW d).wordExact_slice rfl _ (slot_words _ (by decide) _ _)).reshape _ _) (((hiW d).wordExact_slice rfl _ (slot_words _ (by decide) _ _)).reshape _ _) ⟨⟨rfl, Or.inl rfl⟩, trivial⟩) fun _ => K
abbrev sendLo (d : Bool) (t : Dev nD) (m : Fin 15) (b : Fin 2) (K : Pg F PUnit) : Pg F PUnit :=
  .op (.enqueueDma (slotM (loM d) m.castSucc b) (.remote (Dev.tc t) (slotM (loM d) m.succ b) (.dma (semAt (loS d) m b))) (.dma (semAt (loR d) m b))
    (((loW d).wordExact_slice rfl _ (slot_words _ (by decide) _ _)).reshape _ _) (((loW d).wordExact_slice rfl _ (slot_words _ (by decide) _ _)).reshape _ _) ⟨⟨rfl, Or.inl rfl⟩, trivial⟩) fun _ => K
abbrev sendQ (d : Bool) (t : Dev nD) (m : Fin 15) (b : Fin 2) (K : Pg F PUnit) : Pg F PUnit :=
  .op (.enqueueDma (slotM (qM d) m.castSucc b) (.remote (Dev.tc t) (slotM (qM d) m.succ b) (.dma (semAt (qS d) m b))) (.dma (semAt (qR d) m b))
    (((qW d).wordExact_slice rfl _ (slot_words _ (by decide) _ _)).reshape _ _) (((qW d).wordExact_slice rfl _ (slot_words _ (by decide) _ _)).reshape _ _) ⟨⟨rfl, Or.inl rfl⟩, trivial⟩) fun _ => K
/-- Wait for the send of message `m` to be done, then for message `m` to arrive. -/
abbrev waitS {e : EltTy} (M : Memref sig .tc .vmem S16x256x1024 e) (hM : M.IsWhole) (hp : e.packing ∣ 256) (A : DmaSems sig S15x2) (m : Fin 15) (b : Fin 2) (K : Pg F PUnit) : Pg F PUnit :=
  .op (.waitDma2 (semAt A m b) (slotM M m.succ b) (slotM M m.castSucc b)
    ((hM.wordExact_slice rfl _ (slot_words _ hp _ _)).reshape _ _) ((hM.wordExact_slice rfl _ (slot_words _ hp _ _)).reshape _ _)) fun _ => K
abbrev waitR {e : EltTy} (M : Memref sig .tc .vmem S16x256x1024 e) (hM : M.IsWhole) (hp : e.packing ∣ 256) (A : DmaSems sig S15x2) (m : Fin 15) (b : Fin 2) (K : Pg F PUnit) : Pg F PUnit :=
  .op (.waitDma2 (semAt A m b) (slotM M m.castSucc b) (slotM M m.succ b)
    ((hM.wordExact_slice rfl _ (slot_words _ hp _ _)).reshape _ _) ((hM.wordExact_slice rfl _ (slot_words _ hp _ _)).reshape _ _)) fun _ => K
abbrev waitHi (d : Bool) (m : Fin 15) (b : Fin 2) (K : Pg F PUnit) : Pg F PUnit :=
  waitS (hiM d) (hiW d) (by decide) (hiS d) m b <|
  waitR (hiM d) (hiW d) (by decide) (hiR d) m b K
abbrev waitLo (d : Bool) (m : Fin 15) (b : Fin 2) (K : Pg F PUnit) : Pg F PUnit :=
  waitS (loM d) (loW d) (by decide) (loS d) m b <|
  waitR (loM d) (loW d) (by decide) (loR d) m b K
abbrev waitQ (d : Bool) (m : Fin 15) (b : Fin 2) (K : Pg F PUnit) : Pg F PUnit :=
  waitS (qM d) (qW d) (by decide) (qS d) m b <|
  waitR (qM d) (qW d) (by decide) (qR d) m b K

abbrev loadSlot {e : EltTy} (M : Memref sig .tc .vmem S16x256x1024 e) (k : Fin 16) (b : Fin 2) (K : Vec F S1x256x512 e → Pg F PUnit) : Pg F PUnit :=
  .op (.load M (slotR k b).toLoadRect (View.loadsAt_vmem h_S1x256x512)) K
abbrev storeSlot {e : EltTy} (M : Memref sig .tc .vmem S16x256x1024 e) (hM : M.IsWhole) (hp : e.packing ∣ 256) (k : Fin 16) (b : Fin 2) (v : Vec F S1x256x512 e) (K : Pg F PUnit) : Pg F PUnit :=
  .op (.store M (slotR k b) v Finset.univ (View.stores_vmem h_S1x256x512 (hM.storeExact_slice rfl _ (slot_packed _ hp _ _)) (fun _ => rfl)) (.inl rfl)) fun _ => K

/-- What a step does with its sum: it stores it to the slot it arrived in and sends it on, with its remainder from step 9
    on; the last step keeps it. -/
def rsOut (d : Bool) (t : Dev nD) (s : Fin 15) (b : Fin 2) (y : FVec F S256x512 .f32) (K : Pg F PUnit) : Pg F PUnit :=
  if h : s.val < 14 then
    if 9 ≤ s.val then
      loadSlot (hiM d) s.succ b fun _ =>
      storeSlot (hiM d) (hiW d) (by decide) s.succ b (shapeCast S1x256x512 (hiV y) shapeCasts_S256x512_S1x256x512) <|
      loadSlot (loM d) s.succ b fun _ =>
      storeSlot (loM d) (loW d) (by decide) s.succ b (shapeCast S1x256x512 (loV y) shapeCasts_S256x512_S1x256x512) <|
      sendHi d t ⟨s.val + 1, by omega⟩ b <|
      sendLo d t ⟨s.val + 1, by omega⟩ b K
    else
      loadSlot (hiM d) s.succ b fun _ =>
      storeSlot (hiM d) (hiW d) (by decide) s.succ b (shapeCast S1x256x512 (hiV y) shapeCasts_S256x512_S1x256x512) <|
      sendHi d t ⟨s.val + 1, by omega⟩ b K
  else
    .op (.load (finM d) (finR b).toLoadRect (View.loadsAt_vmem h_S256x512)) fun _ =>
    .op (.store (finM d) (finR b) (shapeCast S256x512 y shapeCasts_S256x512_S256x512) Finset.univ (View.stores_vmem h_S256x512 ((finW d).storeExact_slice rfl _ (fin_packed _ (by decide) _)) (fun _ => rfl)) (.inl rfl)) fun _ => K

/-- A step of one lane of the reduce-scatter. -/
def rsLane (d : Bool) (t : Dev nD) (s : Fin 15) (b : Fin 2) (p : FVec F S256x1024 .f32) (K : Pg F PUnit) : Pg F PUnit :=
  waitHi d s b <|
  if 10 ≤ s.val then
    waitLo d s b <|
    loadSlot (hiM d) s.succ b fun g =>
    loadSlot (loM d) s.succ b fun l =>
    rsOut d t s b (accV b p (gotLoV g l)) K
  else
    loadSlot (hiM d) s.succ b fun g =>
    rsOut d t s b (accV b p (gotV g)) K

/-- The block of columns a direction works on. -/
abbrev loadW (d : Bool) (K : Vec F S256x1024 .bf16 → Pg F PUnit) : Pg F PUnit :=
  .op (.load wM (Rect.unit (s := S256x2048) ![0, 1024 * d.toNat] S256x1024.size (cols_inb d)).toLoadRect (View.loadsAt_vmem h_S256x1024)) K

section Ring

variable (v4 v6 v8 : BitVec 32) (h2 : k0_chk2 v4) (h1 : k0_chk1 v6) (h3 : k0_chk3 v8)

/-- The neighbours. -/
abbrev rightD : Dev nD := ⟨k0_dev3 v4, k0_dev3_lt v4 h2⟩
abbrev leftD : Dev nD := ⟨k0_dev4 v6, k0_dev4_lt v6 h1⟩
def nbr : Bool → Dev nD
  | false => rightD v4 h2
  | true => leftD v6 h1

/-- The block of rows a direction adds at step `s`. -/
def offA : Bool → BitVec 32 → Fin 2 → Nat
  | false => k0_off5 v8
  | true => k0_off6 v8
include h3 in
theorem offA_inb : ∀ (d : Bool) (s : Fin 15) (a : Fin 2), (offA v8 d (BitVec.ofNat 32 s.val)) a + S256x256.size a ≤ S4096x256.size a
  | false => k0_off5_inb v8 h3
  | true => k0_off6_inb v8 h3
abbrev loadA (d : Bool) (s : Fin 15) (K : Vec F S256x256 .bf16 → Pg F PUnit) : Pg F PUnit :=
  .op (.load aM (Rect.unit (s := S4096x256) (offA v8 d (BitVec.ofNat 32 s.val)) S256x256.size (offA_inb v8 h3 d s)).toLoadRect (View.loadsAt_vmem h_S256x256)) K

/-- A step of the reduce-scatter. -/
def rsStep (s : Fin 15) (K : Pg F PUnit) : Pg F PUnit :=
  loadA v8 h3 false s fun x =>
  loadW false fun w =>
  loadA v8 h3 true s fun x' =>
  loadW true fun w' =>
  rsLane false (nbr v4 v6 h2 h1 false) s 0 (prodV x w) <|
  rsLane true (nbr v4 v6 h2 h1 true) s 0 (prodV x' w') <|
  rsLane false (nbr v4 v6 h2 h1 false) s 1 (prodV x w) <|
  rsLane true (nbr v4 v6 h2 h1 true) s 1 (prodV x' w') K

/-- The last `n` steps of the reduce-scatter. -/
def rsFrom (K : Pg F PUnit) : (n : Nat) → n ≤ 15 → Pg F PUnit
  | 0, _ => K
  | n + 1, h => rsStep v4 v6 v8 h2 h1 h3 ⟨14 - n, by omega⟩ (rsFrom K n (by omega))

/-- The rectangle of the result a lane of the all-gather writes at step `s`. -/
def offQ : Bool → Fin 2 → BitVec 32 → Fin 2 → Nat
  | false, 0 => k0_off14 v8
  | true, 0 => k0_off15 v8
  | false, 1 => k0_off16 v8
  | true, 1 => k0_off17 v8
include h3 in
theorem offQ_inb : ∀ (d : Bool) (b : Fin 2) (s : Fin 15) (a : Fin 2), (offQ v8 d b (BitVec.ofNat 32 s.val)) a + S256x512.size a ≤ S4096x2048.size a
  | false, 0 => k0_off14_inb v8 h3
  | true, 0 => k0_off15_inb v8 h3
  | false, 1 => k0_off16_inb v8 h3
  | true, 1 => k0_off17_inb v8 h3
abbrev outR (d : Bool) (b : Fin 2) (s : Fin 15) : Rect S4096x2048 :=
  Rect.unit (s := S4096x2048) (offQ v8 d b (BitVec.ofNat 32 s.val)) S256x512.size (offQ_inb v8 h3 d b s)
theorem outR_packed : ∀ (d : Bool) (b : Fin 2) (s : Fin 15), (outR v8 h3 d b s).PackedRows (EltTy.packing .bf16)
  | false, 0 => k0_off14_packedbf16 v8 h3
  | true, 0 => k0_off15_packedbf16 v8 h3
  | false, 1 => k0_off16_packedbf16 v8 h3
  | true, 1 => k0_off17_packedbf16 v8 h3

variable (arg3 : Memref sig .tc .vmem S4096x2048 .bf16) (harg3 : arg3.IsWhole)

/-- A lane of the all-gather writes what arrived, scaled, to the result. -/
abbrev agOut (d : Bool) (s : Fin 15) (b : Fin 2) (sc : F .f32) (K : Pg F PUnit) : Pg F PUnit :=
  loadSlot (qM d) s.succ b fun q =>
  .op (.load arg3 (outR v8 h3 d b s).toLoadRect (View.loadsAt_vmem h_S256x512)) fun _ =>
  .op (.store arg3 (outR v8 h3 d b s) (outV sc q) Finset.univ (View.stores_vmem h_S256x512 (harg3.storeExact_slice rfl _ (outR_packed v8 h3 d b s)) (fun _ => rfl)) (.inl rfl)) fun _ => K

/-- A step of one lane of the all-gather. -/
def agLane (d : Bool) (t : Dev nD) (s : Fin 15) (b : Fin 2) (sc : F .f32) (K : Pg F PUnit) : Pg F PUnit :=
  waitQ d s b <|
  if h : s.val < 14 then
    sendQ d t ⟨s.val + 1, by omega⟩ b <|
    agOut v8 h3 arg3 harg3 d s b sc K
  else
    agOut v8 h3 arg3 harg3 d s b sc K

/-- A step of the all-gather. -/
def agStep (s : Fin 15) (sc : F .f32) (K : Pg F PUnit) : Pg F PUnit :=
  agLane v8 h3 arg3 harg3 false (nbr v4 v6 h2 h1 false) s 0 sc <|
  agLane v8 h3 arg3 harg3 true (nbr v4 v6 h2 h1 true) s 0 sc <|
  agLane v8 h3 arg3 harg3 false (nbr v4 v6 h2 h1 false) s 1 sc <|
  agLane v8 h3 arg3 harg3 true (nbr v4 v6 h2 h1 true) s 1 sc K

/-- The last `n` steps of the all-gather. -/
def agFrom (sc : F .f32) (K : Pg F PUnit) : (n : Nat) → n ≤ 15 → Pg F PUnit
  | 0, _ => K
  | n + 1, h => agStep v4 v6 v8 h2 h1 h3 arg3 harg3 ⟨14 - n, by omega⟩ sc (agFrom sc K n (by omega))

/-- A device's first product, put to slot 0. -/
abbrev firstV (x : Vec F S256x256 .bf16) (w : Vec F S256x1024 .bf16) : FVec F S1x256x1024 .bf16 :=
  shapeCast S1x256x1024 (truncf .bf16 (prodV x w) bitsLt_bf16_f32) shapeCasts_S256x1024_S1x256x1024
def firstStore (d : Bool) (K : Pg F PUnit) : Pg F PUnit :=
  .op (.load aM (Rect.unit (s := S4096x256) (k0_off4 v8) S256x256.size (k0_off4_inb v8 h3)).toLoadRect (View.loadsAt_vmem h_S256x256)) fun x =>
  loadW d fun w =>
  .op (.load (hiM d) (fullR 0).toLoadRect (View.loadsAt_vmem h_S1x256x1024)) fun _ =>
  .op (.store (hiM d) (fullR 0) (firstV x w) Finset.univ (View.stores_vmem h_S1x256x1024 ((hiW d).storeExact_slice rfl _ (full_packed _ (by decide) _)) (fun _ => rfl)) (.inl rfl)) fun _ => K

/-- The first messages of a ring's four lanes. -/
def firstSends (send : Bool → Dev nD → Fin 15 → Fin 2 → Pg F PUnit → Pg F PUnit) (K : Pg F PUnit) : Pg F PUnit :=
  send false (nbr v4 v6 h2 h1 false) 0 0 <|
  send true (nbr v4 v6 h2 h1 true) 0 0 <|
  send false (nbr v4 v6 h2 h1 false) 0 1 <|
  send true (nbr v4 v6 h2 h1 true) 0 1 K

/-- Where the result's own block of a direction begins. -/
def offO : Bool → Fin 2 → Nat
  | false => k0_off12 v8
  | true => k0_off13 v8
include h3 in
theorem offO_inb : ∀ (d : Bool) (a : Fin 2), (offO v8 d) a + S256x1024.size a ≤ S4096x2048.size a
  | false => k0_off12_inb v8 h3
  | true => k0_off13_inb v8 h3
abbrev ownR (d : Bool) : Rect S4096x2048 := Rect.unit (s := S4096x2048) (offO v8 d) S256x1024.size (offO_inb v8 h3 d)
theorem ownR_packed : ∀ (d : Bool), (ownR v8 h3 d).PackedRows (EltTy.packing .bf16)
  | false => k0_off12_packedbf16 v8 h3
  | true => k0_off13_packedbf16 v8 h3

abbrev loadFin (d : Bool) (K : Vec F S256x1024 .f32 → Pg F PUnit) : Pg F PUnit :=
  .op (.load (finM d) (Rect.unit (s := S256x1024) ![0, 0] S256x1024.size inb_S256x1024_S256x1024_0_0).toLoadRect (View.loadsAt_vmem h_S256x1024)) K

/-- A direction's sum quantised to slot 0. -/
def quant (d : Bool) (m : Vec F S16x1x1 .f32) (K : Pg F PUnit) : Pg F PUnit :=
  loadFin d fun y =>
  .op (.load (qM d) (fullR 0).toLoadRect (View.loadsAt_vmem h_S1x256x1024)) fun _ =>
  .op (.store (qM d) (fullR 0) (k0_pay182 m y) Finset.univ (View.stores_vmem h_S1x256x1024 ((qW d).storeExact_slice rfl _ (full_packed _ (by decide) _)) (fun _ => rfl)) (.inl rfl)) fun _ => K

/-- A direction's own block written to the result. -/
def ownOut (d : Bool) (sc : F .f32) (K : Pg F PUnit) : Pg F PUnit :=
  .op (.load (qM d) (fullR 0).toLoadRect (View.loadsAt_vmem h_S1x256x1024)) fun q =>
  .op (.load arg3 (ownR v8 h3 d).toLoadRect (View.loadsAt_vmem h_S256x1024)) fun _ =>
  .op (.store arg3 (ownR v8 h3 d) (k0_pay184 sc q) Finset.univ (View.stores_vmem h_S256x1024 (harg3.storeExact_slice rfl _ (ownR_packed v8 h3 d)) (fun _ => rfl)) (.inl rfl)) fun _ => K

end Ring

/-! ## The exchange of the maxima -/

/-- The number of the device `o` after `d` on the mesh, as the kernel computes it. -/
def rotW (d0 : Dev nD) (o : BitVec 32) : BitVec 32 :=
  let v2 : BitVec 32 := Scalar.remsi (Scalar.divsi (Dev.word d0) 1#32) 16#32
  let v61 : BitVec 32 := Scalar.select (Scalar.cmpi .eq 16#32 0#32) 1#32 16#32
  let v62 : BitVec 32 := Scalar.remsi (Scalar.addi v2 o) v61
  Scalar.select (Scalar.andi (Scalar.xori (Scalar.cmpi .slt v62 0#32) (Scalar.cmpi .slt v61 0#32)) (Scalar.cmpi .ne v62 0#32)) (Scalar.addi v62 v61) v62
theorem rotW_lt (d0 : Dev nD) (r : Fin 15) : (Scalar.addi 0#32 (Scalar.muli (rotW d0 (BitVec.ofNat 32 (1 + r.val))) 1#32)).toNat < nD := by
  revert d0 r; decide +kernel
/-- The device `1 + r` after `d0` on the mesh. -/
abbrev peerD (d0 : Dev nD) (r : Fin 15) : Dev nD := ⟨_, rotW_lt d0 r⟩

/-- A device's own entry of the table of maxima. -/
abbrev myM (d0 : Dev nD) : Memref sig .tc .vmem S8x128 .f32 :=
  (mM.slice (Rect.unit (s := S16x8x128) (k0_off9 d0) S1x8x128.size (k0_off9_inb d0)) (fun _ => rfl)).squeeze S8x128 squeezes_S1x8x128_S8x128
abbrev peerM (d0 : Dev nD) (r : Fin 15) : Memref sig .tc .vmem S8x128 .f32 :=
  (mM.slice (Rect.unit (s := S16x8x128) (k0_off11 d0 (BitVec.ofNat 32 (1 + r.val))) S1x8x128.size (k0_off11_inb d0 r)) (fun _ => rfl)).squeeze S8x128 squeezes_S1x8x128_S8x128
theorem mSem_inb (r : Fin 15) : ∀ a, (![1 + r.val] : Fin 1 → Nat) a + S1.size a ≤ S16.size a := by decide +revert
abbrev mSendS (r : Fin 15) : DmaSem sig := ((cc0_scratch23.slice (Rect.unit (s := S16) ![1 + r.val] S1.size (mSem_inb r))).squeeze S_ squeezes_S1_S_).sem
abbrev mRecvS (d0 : Dev nD) : DmaSem sig := ((cc0_scratch24.slice (Rect.unit (s := S16) (k0_off8 d0) S1.size (k0_off8_inb d0))).squeeze S_ squeezes_S1_S_).sem
abbrev mFromS (d0 : Dev nD) (r : Fin 15) : DmaSem sig :=
  ((cc0_scratch24.slice (Rect.unit (s := S16) (k0_off10 d0 (BitVec.ofNat 32 (1 + r.val))) S1.size (k0_off10_inb d0 r))).squeeze S_ squeezes_S1_S_).sem

theorem m_words (off : Fin 3 → Nat) (inb : ∀ a, off a + S1x8x128.size a ≤ S16x8x128.size a) : (Rect.unit (s := S16x8x128) off S1x8x128.size inb).WholeWords (EltTy.packing .f32) :=
  .inl (by refine .inr ⟨by decide, rfl, .inl ⟨?_, ?_⟩⟩ <;> exact Nat.one_dvd _)
theorem m_packed (off : Fin 3 → Nat) (inb : ∀ a, off a + S1x8x128.size a ≤ S16x8x128.size a) : (Rect.unit (s := S16x8x128) off S1x8x128.size inb).PackedRows (EltTy.packing .f32) := by
  refine .inr ⟨by decide, rfl, .inl ⟨?_, ?_⟩⟩ <;> exact Nat.one_dvd _

def mSend (d0 : Dev nD) (r : Fin 15) (K : Pg F PUnit) : Pg F PUnit :=
  .op (.enqueueDma (myM d0) (.remote (Dev.tc (peerD d0 r)) (myM d0) (.dma (mSendS r))) (.dma (mRecvS d0))
    ((mW.wordExact_slice rfl _ (m_words _ _)).reshape _ _) ((mW.wordExact_slice rfl _ (m_words _ _)).reshape _ _) ⟨⟨rfl, Or.inl rfl⟩, trivial⟩) fun _ => K
def mWaitR (d0 : Dev nD) (r : Fin 15) (K : Pg F PUnit) : Pg F PUnit :=
  .op (.waitDma2 (mFromS d0 r) (peerM d0 r) (peerM d0 r)
    ((mW.wordExact_slice rfl _ (m_words _ _)).reshape _ _) ((mW.wordExact_slice rfl _ (m_words _ _)).reshape _ _)) fun _ => K
def mWaitS (d0 : Dev nD) (r : Fin 15) (K : Pg F PUnit) : Pg F PUnit :=
  .op (.waitDma2 (mSendS r) (myM d0) (myM d0)
    ((mW.wordExact_slice rfl _ (m_words _ _)).reshape _ _) ((mW.wordExact_slice rfl _ (m_words _ _)).reshape _ _)) fun _ => K
/-- The last `n` turns of a loop over the fifteen other devices. -/
def overPeers (g : Fin 15 → Pg F PUnit → Pg F PUnit) (K : Pg F PUnit) : (n : Nat) → n ≤ 15 → Pg F PUnit
  | 0, _ => K
  | n + 1, h => g ⟨14 - n, by omega⟩ (overPeers g K n (by omega))

/-! ## The body -/

variable (arg0 : Memref sig .tc .vmem S4096x256 .bf16) (harg0 : arg0.IsWhole) (arg1 : Memref sig .tc .vmem S256x2048 .bf16) (harg1 : arg1.IsWhole)
  (arg2 : Memref sig .tc .smem S3x16 .i32) (harg2 : arg2.IsWhole) (arg3 : Memref sig .tc .vmem S4096x2048 .bf16) (harg3 : arg3.IsWhole)

/-- The operands copied to the buffers the loops read. -/
def copyIn (K : Pg F PUnit) : Pg F PUnit :=
  .op (.load arg0 (Rect.unit (s := S4096x256) ![0, 0] S4096x256.size inb_S4096x256_S4096x256_0_0).toLoadRect (View.loadsAt_vmem h_S4096x256)) fun x =>
  .op (.load aM (Rect.unit (s := S4096x256) ![0, 0] S4096x256.size inb_S4096x256_S4096x256_0_0).toLoadRect (View.loadsAt_vmem h_S4096x256)) fun _ =>
  .op (.store aM (Rect.unit (s := S4096x256) ![0, 0] S4096x256.size inb_S4096x256_S4096x256_0_0) (k0_pay2 x) Finset.univ (View.stores_vmem h_S4096x256 (aW.storeExact_slice rfl _ packedbf16_S4096x256_S4096x256_0_0) (fun _ => rfl)) (.inl rfl)) fun _ =>
  .op (.load arg1 (Rect.unit (s := S256x2048) ![0, 0] S256x2048.size inb_S256x2048_S256x2048_0_0).toLoadRect (View.loadsAt_vmem h_S256x2048)) fun w =>
  .op (.load wM (Rect.unit (s := S256x2048) ![0, 0] S256x2048.size inb_S256x2048_S256x2048_0_0).toLoadRect (View.loadsAt_vmem h_S256x2048)) fun _ =>
  .op (.store wM (Rect.unit (s := S256x2048) ![0, 0] S256x2048.size inb_S256x2048_S256x2048_0_0) (k0_pay3 w) Finset.univ (View.stores_vmem h_S256x2048 (wW.storeExact_slice rfl _ packedbf16_S256x2048_S256x2048_0_0) (fun _ => rfl)) (.inl rfl)) fun _ => K

abbrev mineR (d0 : Dev nD) : Rect S16x8x128 := Rect.unit (s := S16x8x128) (k0_off7 d0) S1x8x128.size (k0_off7_inb d0)
/-- The device's maximum stored to its own entry. -/
def maxStore (d0 : Dev nD) (K : Pg F PUnit) : Pg F PUnit :=
  loadFin false fun y =>
  loadFin true fun y' =>
  .op (.load mM (mineR d0).toLoadRect (View.loadsAt_vmem h_S1x8x128)) fun _ =>
  .op (.store mM (mineR d0) (k0_pay179 (k0_pay178 y) y') Finset.univ (View.stores_vmem h_S1x8x128 (mW.storeExact_slice rfl _ (m_packed _ _)) (fun _ => rfl)) (.inl rfl)) fun _ => K

/-- The first entry of every device's maximum. -/
def loadMax (K : Vec F S16x1x1 .f32 → Pg F PUnit) : Pg F PUnit :=
  .op (.load mM (Rect.unit (s := S16x8x128) ![0, 0, 0] S16x1x1.size inb_S16x8x128_S16x1x1_0_0_0).toLoadRect (View.loadsAt_vmem h_S16x1x1)) K

/-- Everything after the maxima are known. -/
def rest2 (v4 v6 v8 : BitVec 32) (h2 : k0_chk2 v4) (h1 : k0_chk1 v6) (h3 : k0_chk3 v8) (m : Vec F S16x1x1 .f32) (K : Pg F PUnit) : Pg F PUnit :=
  quant false m <|
  quant true m <|
  firstSends v4 v6 h2 h1 sendQ <|
  ownOut v8 h3 arg3 harg3 false (k0_pay180 m) <|
  ownOut v8 h3 arg3 harg3 true (k0_pay180 m) <|
  agFrom v4 v6 v8 h2 h1 h3 arg3 harg3 (k0_pay180 m) K 15 (Nat.le_refl _)

/-- Everything between the barrier and the maxima. -/
def rest1 (d0 : Dev nD) (v4 v6 v8 : BitVec 32) (h2 : k0_chk2 v4) (h1 : k0_chk1 v6) (h3 : k0_chk3 v8) (K : Vec F S16x1x1 .f32 → Pg F PUnit) : Pg F PUnit :=
  copyIn arg0 arg1 <|
  firstStore v8 h3 false <|
  firstStore v8 h3 true <|
  firstSends v4 v6 h2 h1 sendHi <|
  rsFrom v4 v6 v8 h2 h1 h3
   (maxStore d0 <|
    overPeers (mSend d0)
     (overPeers (mWaitR d0)
      (overPeers (mWaitS d0) (loadMax K)
       15 (Nat.le_refl _))
      15 (Nat.le_refl _))
     15 (Nat.le_refl _))
   15 (Nat.le_refl _)

/-- A word of the table of neighbours. -/
abbrev loadWord (off : Fin 2 → Nat) (inb : ∀ a, off a + S1x1.size a ≤ S3x16.size a) (K : BitVec 32 → Pg F PUnit) : Pg F PUnit :=
  smemLoadElt arg2 (Rect.unit (s := S3x16) off S1x1.size inb) (View.loads_smem_one (by rfl) numel1_S1x1) (Shape.Idx.first (numel1_S1x1.symm ▸ Nat.one_pos)) K

/-- The kernel's body, up to the barrier. -/
def start (K : (d0 : Dev nD) → (v4 v6 v8 : BitVec 32) → k0_chk2 v4 → k0_chk1 v6 → k0_chk3 v8 → Pg F PUnit) : Pg F PUnit :=
  .op .deviceId fun d0 =>
  loadWord arg2 (k0_off1 d0) (k0_off1_inb d0) fun v4 =>
  .op (.assume (k0_chk2 v4) (k0_chk2.dec v4)) fun h2 =>
  loadWord arg2 (k0_off2 d0) (k0_off2_inb d0) fun v6 =>
  .op (.assume (k0_chk1 v6) (k0_chk1.dec v6)) fun h1 =>
  loadWord arg2 (k0_off3 d0) (k0_off3_inb d0) fun v8 =>
  .op (.assume (k0_chk3 v8) (k0_chk3.dec v8)) fun h3 =>
  .op (.semSignal (Dev.tc (leftD v6 h1.down)) (sig.barrier 7 rfl) 1) fun _ =>
  .op (.semSignal (Dev.tc (rightD v4 h2.down)) (sig.barrier 7 rfl) 1) fun _ =>
  .op (.semWait (sig.barrier 7 rfl) 2) fun _ =>
  K d0 v4 v6 v8 h2.down h1.down h3.down

/-- The kernel's body. -/
def body : Pg F PUnit :=
  start arg2 fun d0 v4 v6 v8 h2 h1 h3 =>
  rest1 arg0 arg1 d0 v4 v6 v8 h2 h1 h3 fun m =>
  rest2 arg3 harg3 v4 v6 v8 h2 h1 h3 m (.ret ⟨⟩)

end Cert.KernelIdeal.Pf

end
-- ==== Proof.KernelIdeal.Keys.lean ====
/- The ring of the sixteen devices, the kernel's own semaphores named by what they count, and the messages with the
   order they are sent in. -/
module

public import proofs.«01_k».proof.Proof.KernelIdeal.Steps
public import Idealize.ShloMosaic.Lib.Rounds.Family
public import Idealize.ShloMosaic.Lib.Pipeline.Regions
public import Idealize.ShloMosaic.Lib.Pipeline.Kit
public import Idealize.ShloMosaic.Lib.Tactic
public import Idealize.ShloMosaic.Lib.ShareLeaves

@[expose] public section

noncomputable section

namespace Cert.KernelIdeal.Pf

open Idealize.ShloMosaic Idealize.SL.Sem Cert.KernelIdeal Cert.KernelIdeal.Gen

/-! ## The ring -/

/-- The device after (`false`: to the right, `true`: to the left). -/
def nx : Bool → Dev nD → Dev nD
  | false => ![4, 0, 6, 2, 8, 1, 10, 3, 12, 5, 14, 7, 15, 9, 13, 11]
  | true => ![1, 5, 3, 7, 0, 9, 2, 11, 4, 13, 6, 15, 8, 14, 10, 12]
/-- The device before. -/
abbrev pv (d : Bool) (c : Dev nD) : Dev nD := nx (!d) c
theorem nx_pv (d : Bool) (c : Dev nD) : nx d (pv d c) = c := by revert d c; decide
theorem pv_nx (d : Bool) (c : Dev nD) : pv d (nx d c) = c := by revert d c; decide
theorem nx_ne (d : Bool) (c : Dev nD) : nx d c ≠ c := by revert d c; decide
/-- The device `n` before. -/
def back (d : Bool) : Nat → Dev nD → Dev nD
  | 0, c => c
  | n + 1, c => back d n (pv d c)
/-- The device `n` after. -/
def fwd (d : Bool) : Nat → Dev nD → Dev nD
  | 0, c => c
  | n + 1, c => nx d (fwd d n c)
theorem back_succ (d : Bool) (n : Nat) (c : Dev nD) : back d (n + 1) c = pv d (back d n c) := by
  induction n generalizing c with
  | zero => rfl
  | succ n ih => exact ih (pv d c)
theorem fwd_back (d : Bool) (n : Nat) (c : Dev nD) : fwd d n (back d n c) = c := by
  induction n generalizing c with
  | zero => rfl
  | succ n ih => show nx d (fwd d n (back d n (pv d c))) = c; rw [ih, nx_pv]

/-- The table of neighbours and positions. -/
def metaV : S3x16.Idx → BitVec 32 := fun i => lit0 (S3x16.rowMajor i)
/-- The words a device reads of it: its neighbours' numbers and its position. -/
def nxW (d : Bool) (c : Dev nD) : BitVec 32 := lit0 ⟨16 * d.toNat + c.val, by cases d <;> · have := c.isLt; simp only [Bool.toNat_true, Bool.toNat_false]; unfold nD at this; omega⟩
def posW (c : Dev nD) : BitVec 32 := lit0 ⟨32 + c.val, by have := c.isLt; unfold nD at this; omega⟩
theorem chk2_ok (c : Dev nD) : k0_chk2 (nxW false c) := by revert c; decide +kernel
theorem chk1_ok (c : Dev nD) : k0_chk1 (nxW true c) := by revert c; decide +kernel
theorem chk3_ok (c : Dev nD) : k0_chk3 (posW c) := by revert c; decide +kernel
theorem nbr_eq (d : Bool) (c : Dev nD) : nbr (nxW false c) (nxW true c) (chk2_ok c) (chk1_ok c) d = nx d c := by
  revert d c; decide +kernel

/-! ## The kernel's own semaphores -/

/-- The three kinds of message of a lane. -/
inductive Kd | hi | lo | q
  deriving DecidableEq
instance : Fintype Kd := ⟨{.hi, .lo, .q}, fun k => by cases k <;> decide⟩
/-- The elements of a kind. -/
abbrev el : Kd → EltTy | .hi => .bf16 | .lo => .fp8e4m3 | .q => .fp8e4m3
abbrev chM : (k : Kd) → Bool → Memref sig .tc .vmem S16x256x1024 (el k)
  | .hi => hiM | .lo => loM | .q => qM
theorem chW : ∀ (k : Kd) (d : Bool), (chM k d).IsWhole | .hi => hiW | .lo => loW | .q => qW
theorem chP : ∀ k : Kd, (el k).packing ∣ 256 | .hi => by decide | .lo => by decide | .q => by decide
abbrev chS : Kd → Bool → DmaSems sig S15x2 | .hi => hiS | .lo => loS | .q => qS
abbrev chR : Kd → Bool → DmaSems sig S15x2 | .hi => hiR | .lo => loR | .q => qR

/-- A message of a lane: its kind, its direction, its step, its half. -/
abbrev Lm : Type := Kd × Bool × Fin 15 × Fin 2
/-- The names of a device's own semaphores: a message of a lane with whether the semaphore is the receiver's, or the
    sending (`false`) and receiving (`true`) semaphores of the exchange of maxima. -/
abbrev Ck : Type := (Bool × Lm) ⊕ (Bool × Fin 16)
abbrev lmS (i : Lm) : DmaSem sig := semAt (chS i.1 i.2.1) i.2.2.1 i.2.2.2
abbrev lmR (i : Lm) : DmaSem sig := semAt (chR i.1 i.2.1) i.2.2.1 i.2.2.2
theorem mx_inb (o : Fin 16) : ∀ a, (![o.val] : Fin 1 → Nat) a + S1.size a ≤ S16.size a := by decide +revert
abbrev mxAt (A : DmaSems sig S16) (o : Fin 16) : DmaSem sig := ((A.slice (Rect.unit (s := S16) ![o.val] S1.size (mx_inb o))).squeeze S_ squeezes_S1_S_).sem
def semOf : Ck → DmaSem sig
  | .inl (false, i) => lmS i
  | .inl (true, i) => lmR i
  | .inr (false, o) => mxAt cc0_scratch23 o
  | .inr (true, o) => mxAt cc0_scratch24 o

/-- The name of a semaphore, by its number (of one that is not the kernel's own, a name whose semaphore is not used). -/
def keyAt (n : Nat) : Ck :=
  if n < 4 then .inr (false, 0)
  else if n < 364 then
    let g := (n - 4) / 30
    let m : Fin 15 := Fin.ofNat 15 ((n - 4) % 30 / 2)
    let b : Fin 2 := Fin.ofNat 2 (n % 2)
    match g with
    | 0 => .inl (false, .hi, false, m, b)
    | 1 => .inl (true, .hi, false, m, b)
    | 2 => .inl (false, .hi, true, m, b)
    | 3 => .inl (true, .hi, true, m, b)
    | 4 => .inl (false, .lo, false, m, b)
    | 5 => .inl (true, .lo, false, m, b)
    | 6 => .inl (false, .lo, true, m, b)
    | 7 => .inl (true, .lo, true, m, b)
    | 8 => .inl (false, .q, false, m, b)
    | 9 => .inl (true, .q, false, m, b)
    | 10 => .inl (false, .q, true, m, b)
    | 11 => .inl (true, .q, true, m, b)
    | _ => .inr (false, 0)
  else if n < 380 then .inr (false, Fin.ofNat 16 (n - 364))
  else .inr (true, Fin.ofNat 16 (n - 380))
theorem keyAt_all : ∀ k ∈ (Finset.univ : Finset Ck), keyAt (semOf k).val = k := by decide +kernel
theorem keyAt_semOf (k : Ck) : keyAt (semOf k).val = k := keyAt_all k (Finset.mem_univ k)
theorem semOf_inj : Function.Injective semOf := fun k k' h => (keyAt_semOf k).symm.trans ((congrArg (fun s : DmaSem sig => keyAt s.val) h).trans (keyAt_semOf k'))

theorem mSendS_eq (r : Fin 15) : mSendS r = semOf (.inr (false, r.succ)) := by revert r; decide +kernel
theorem mRecvS_eq (c : Dev nD) : mRecvS c = semOf (.inr (true, c)) := by revert c; decide +kernel
theorem mFromS_eq (c : Dev nD) (r : Fin 15) : mFromS c r = semOf (.inr (true, peerD c r)) := by revert c r; decide +kernel

/-! ## The messages -/

/-- Which messages are sent: remainders from step 10 on. -/
abbrev lmUsed (i : Lm) : Bool := match i.1 with | .lo => 10 ≤ i.2.2.1.val | _ => true
/-- The order a device sends its messages in, and waits for them. -/
def lmOrd (i : Lm) : Nat := match i with
  | (.hi, d, m, b) => 8 * m.val + 2 * (2 * b.val + d.toNat)
  | (.lo, d, m, b) => 8 * m.val + 2 * (2 * b.val + d.toNat) + 1
  | (.q, d, m, b) => 143 + 4 * m.val + (2 * b.val + d.toNat)
theorem lmOrd_inj (i j : Lm) (h : lmOrd i = lmOrd j) : i = j := by
  obtain ⟨k, d, m, b⟩ := i; obtain ⟨k', d', m', b'⟩ := j
  have hm := m.isLt; have hm' := m'.isLt; have hb := b.isLt; have hb' := b'.isLt
  have e : ∀ d : Bool, d.toNat ≤ 1 := fun d => by cases d <;> decide
  have hd := e d; have hd' := e d'
  have key : k = k' ∧ d.toNat = d'.toNat ∧ m.val = m'.val ∧ b.val = b'.val := by
    cases k <;> cases k' <;> simp only [lmOrd] at h <;> refine ⟨?_, ?_, ?_, ?_⟩ <;> first | rfl | omega | (exfalso; omega)
  obtain ⟨h1, h2, h3, h4⟩ := key
  have h2' : d = d' := by cases d <;> cases d' <;> simp_all
  rw [h1, h2', Fin.ext h3, Fin.ext h4]

/-- A message: one of a lane's, or one of the exchange of maxima. -/
abbrev Mg : Type := Lm ⊕ Fin 15
abbrev mUsed : Mg → Bool | .inl i => lmUsed i | .inr _ => true
def mOrd : Mg → Nat | .inl i => lmOrd i | .inr r => 128 + r.val
theorem lmOrd_range (i : Lm) : lmOrd i < 120 ∨ (143 ≤ lmOrd i ∧ lmOrd i < 203) := by
  obtain ⟨k, d, m, b⟩ := i
  have hm := m.isLt; have hb := b.isLt
  have hd : d.toNat ≤ 1 := by cases d <;> decide
  cases k <;> simp only [lmOrd] <;> omega
theorem mOrd_inj (i j : Mg) (h : mOrd i = mOrd j) : i = j := by
  cases i with
  | inl i => cases j with
    | inl j => exact congrArg _ (lmOrd_inj i j h)
    | inr r => have := lmOrd_range i; have := r.isLt; simp only [mOrd] at h; omega
  | inr r => cases j with
    | inl j => have := lmOrd_range j; have := r.isLt; simp only [mOrd] at h; omega
    | inr r' => simp only [mOrd] at h; exact congrArg _ (Fin.ext (by omega))
/-- The device a message goes to, and the names of its two semaphores. -/
def mTo (c : Dev nD) : Mg → Dev nD | .inl i => nx i.2.1 c | .inr r => peerD c r
def mKeyS : Mg → Ck | .inl i => .inl (false, i) | .inr r => .inr (false, r.succ)
def mKeyR (c : Dev nD) : Mg → Ck | .inl i => .inl (true, i) | .inr _ => .inr (true, c)
/-- Which of the fifteen others of `i` device `x` is. -/
def peerIx (i x : Dev nD) : Fin 15 := Fin.ofNat 15 ((x.val + 15 - i.val) % 16)
theorem peerIx_peerD (c : Dev nD) (r : Fin 15) : peerIx c (peerD c r) = r := by revert c r; decide +kernel
theorem peerD_ne (c : Dev nD) (r : Fin 15) : peerD c r ≠ c := by revert c r; decide +kernel

end Cert.KernelIdeal.Pf

end
-- ==== Proof.KernelIdeal.Vals.lean ====
/- What the kernel's buffers hold, as functions of the operands of all devices. -/
module

public import proofs.«01_k».proof.Proof.KernelIdeal.Keys
public import Idealize.ShloMosaic.Lib.ValueIdxCore

@[expose] public section

noncomputable section

namespace Cert.KernelIdeal.Pf

open Idealize.ShloMosaic Idealize.SL.Sem Cert.KernelIdeal Cert.KernelIdeal.Gen
open Idealize.ShloMosaic.ValueIdx (ix2)

variable {F : FTy → Type} [FloatOps F]
variable (A : Dev nD → Vec F S4096x256 .bf16) (B : Dev nD → Vec F S256x2048 .bf16)

/-- A half of a row block. -/
abbrev half {α : Type} (b : Fin 2) (v : S256x1024.Idx → α) : S256x512.Idx → α := extractStridedSlice S256x512 ![0, 512 * b.val] v (slice_inb b)
/-- A half with the slots' leading axis. -/
abbrev up {α : Type} (v : S256x512.Idx → α) : S1x256x512.Idx → α := shapeCast S1x256x512 v shapeCasts_S256x512_S1x256x512
abbrev dn {α : Type} (v : S1x256x512.Idx → α) : S256x512.Idx → α := shapeCast S256x512 v shapeCasts_S1x256x512_S256x512

/-- The columns of the second operand a direction works on. -/
def wV (d : Bool) (c : Dev nD) : Vec F S256x1024 .bf16 :=
  (wM.access (Rect.unit (s := S256x2048) ![0, 1024 * d.toNat] S256x1024.size (cols_inb d))).read (Elt F) (k0_pay3 (B c))
/-- The rows of the first operand for the block a device starts with, and for the block of step `s`. -/
def x0V (c : Dev nD) : Vec F S256x256 .bf16 :=
  (aM.access (Rect.unit (s := S4096x256) (k0_off4 (posW c)) S256x256.size (k0_off4_inb (posW c) (chk3_ok c)))).read (Elt F) (k0_pay2 (A c))
def xV (d : Bool) (s : Fin 15) (c : Dev nD) : Vec F S256x256 .bf16 :=
  (aM.access (Rect.unit (s := S4096x256) (offA (posW c) d (BitVec.ofNat 32 s.val)) S256x256.size (offA_inb (posW c) (chk3_ok c) d s))).read (Elt F) (k0_pay2 (A c))
abbrev prod0 (d : Bool) (c : Dev nD) : FVec F S256x1024 .f32 := prodV (x0V A c) (wV B d c)
abbrev prodAt (d : Bool) (s : Fin 15) (c : Dev nD) : FVec F S256x1024 .f32 := prodV (xV A d s c) (wV B d c)

/-- What a device sends first. -/
abbrev hi0 (d : Bool) (b : Fin 2) (c : Dev nD) : FVec F S256x512 .bf16 := half b (truncf .bf16 (prod0 A B d c) bitsLt_bf16_f32)
/-- A device's sum after step `s`. -/
def yV (d : Bool) (b : Fin 2) : Nat → Dev nD → FVec F S256x512 .f32
  | 0, c => accV b (prodAt A B d 0 c) (gotV (up (hi0 A B d b (pv d c))))
  | s + 1, c => accV b (prodAt A B d (Fin.ofNat 15 (s + 1)) c)
      (if 10 ≤ s + 1 then gotLoV (up (hiV (yV d b s (pv d c)))) (up (loV (yV d b s (pv d c)))) else gotV (up (hiV (yV d b s (pv d c)))))
/-- The accumulator's message and its remainder's. -/
def hiMsg (d : Bool) (b : Fin 2) : Nat → Dev nD → FVec F S256x512 .bf16
  | 0, c => hi0 A B d b c
  | s + 1, c => hiV (yV A B d b s c)
def loMsg (d : Bool) (b : Fin 2) (s : Nat) (c : Dev nD) : FVec F S256x512 .fp8e4m3 := loV (yV A B d b (s - 1) c)
theorem yV_eq (d : Bool) (b : Fin 2) (s : Fin 15) (c : Dev nD) :
    yV A B d b s.val c = accV b (prodAt A B d s c)
      (if 10 ≤ s.val then gotLoV (up (hiMsg A B d b s.val (pv d c))) (up (loMsg A B d b s.val (pv d c))) else gotV (up (hiMsg A B d b s.val (pv d c)))) := by
  obtain ⟨s, hs⟩ := s
  cases s with
  | zero => rfl
  | succ s =>
    have h : (Fin.ofNat 15 (s + 1)) = (⟨s + 1, hs⟩ : Fin 15) := Fin.ext (Nat.mod_eq_of_lt hs)
    show yV A B d b (s + 1) c = _
    rw [yV, h]; rfl

/-- Two halves side by side. -/
def joinV {α : Type} (y : Fin 2 → S256x512.Idx → α) : S256x1024.Idx → α :=
  fun i => y ⟨(i 1).val / 512, by have : (i 1).val < 1024 := (i 1).isLt; omega⟩ (ix2 (i 0) ⟨(i 1).val % 512, Nat.mod_lt _ (by decide)⟩)
/-- A device's sum of a direction. -/
def finV (d : Bool) (c : Dev nD) : FVec F S256x1024 .f32 := joinV fun b => yV A B d b 14 c

/-- A device's maximum, and the table of all. -/
def amaxV (c : Dev nD) : FVec F S8x128 .f32 :=
  shapeCast S8x128 (k0_pay179 (k0_pay178 (finV A B false c)) (finV A B true c)) (by decide)
def tabV : FVec F S16x8x128 .f32 := fun i => amaxV A B (i 0) (ix2 (i 1) (i 2))
def maxV : Vec F S16x1x1 .f32 :=
  (mM.access (Rect.unit (s := S16x8x128) ![0, 0, 0] S16x1x1.size inb_S16x8x128_S16x1x1_0_0_0)).read (Elt F) (tabV A B)
/-- A device's quantised sum. -/
def qV (d : Bool) (c : Dev nD) : FVec F S1x256x1024 .fp8e4m3 := k0_pay182 (maxV A B) (finV A B d c)
abbrev flat {α : Type} (v : S1x256x1024.Idx → α) : S256x1024.Idx → α := shapeCast S256x1024 v (by decide)
def qMsg (d : Bool) (b : Fin 2) (t : Nat) (c : Dev nD) : FVec F S256x512 .fp8e4m3 := half b (flat (qV A B d (back d t c)))

/-- What a lane's message holds, sent by device `c`. -/
def msgV (c : Dev nD) : (i : Lm) → Vec F S256x512 (el i.1)
  | (.hi, d, m, b) => hiMsg A B d b m.val c
  | (.lo, d, m, b) => loMsg A B d b m.val c
  | (.q, d, m, b) => qMsg A B d b m.val c

end Cert.KernelIdeal.Pf

end
-- ==== Proof.KernelIdeal.Proto.lean ====
/- The protocol: what each semaphore counts and hands over, what a device still owes, and the state of its messages. -/
module

public import proofs.«01_k».proof.Proof.KernelIdeal.Vals
public import Idealize.ShloMosaic.Lib.MemrefSat

@[expose] public section

noncomputable section

namespace Cert.KernelIdeal.Pf

open Idealize.ShloMosaic Idealize.SL.Sem Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

/-- The ghost state: the pipeline's, and the protocol's. -/
abbrev UU : Type := UR sig nD τ × URounds (GSem nD τ sig) Bool

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR
abbrev 𝒱₀ : Variants := Variants.none

abbrev barS : Sem sig := sig.barrier 7 rfl
abbrev cel (c : Dev nD) (k : Ck) : GSem nD τ sig := ((c : Thread nD τ), .dma (semOf k))
abbrev barCell (c : Dev nD) : GSem nD τ sig := ((c : Thread nD τ), .reg barS)

/-! ## What is handed over -/

/-- A half of a slot, held at contents `X`; at some contents. -/
abbrev sl (c : Dev nD) {e : EltTy} (M : Memref sig .tc .vmem S16x256x1024 e) (k : Fin 16) (b : Fin 2) (q : PosShare TreeShare) (X : S256x512.Idx → Elt F e) : sProp 𝕄 :=
  owns (c : Thread nD τ) (slotM M k b) q X
abbrev anySl (c : Dev nD) (k : Kd) (d : Bool) (j : Fin 16) (b : Fin 2) : sProp 𝕄 := iprop(∃ X, sl c (chM k d) j b fullShare X)

def amtL (k : Kd) : ℕ := (slotM (chM k false) 0 0).view.dmaCredit
theorem amt_slot (k : Kd) (d : Bool) (m : Fin 16) (b : Fin 2) : (slotM (chM k d) m b).view.dmaCredit = amtL k := by cases k <;> cases d <;> rfl
theorem amtL_pos (k : Kd) : 0 < amtL k := by cases k <;> exact View.dmaCredit_pos _ (by decide)
def amtM : ℕ := (myM 0).view.dmaCredit
theorem amt_my (c : Dev nD) : (myM c).view.dmaCredit = amtM := rfl
theorem amtM_pos : 0 < amtM := View.dmaCredit_pos _ (by decide)
def amtK : Ck → ℕ | .inl (_, i) => amtL i.1 | .inr _ => amtM
theorem amtK_pos : ∀ k : Ck, 0 < amtK k | .inl (_, _) => amtL_pos _ | .inr _ => amtM_pos

/-- The share of a slot a message is sent from: a quantised slot is read while it is sent. -/
abbrev qS' : Kd → PosShare TreeShare | .q => fullShare.left | .hi => fullShare | .lo => fullShare

/-- The slot a message arrives in, and that its receiver is ready. -/
def slotGive (c : Dev nD) (i : Lm) : sProp 𝕄 := iprop(anySl c i.1 i.2.1 i.2.2.1.succ i.2.2.2 ∗ reached ER (cel c (.inl (true, i))) 0)
/-- Paid to the barrier of device `c` by the device after it. -/
def barPay (d : Bool) (c : Dev nD) : sProp 𝕄 := bigSep (Finset.univ.filter fun i : Lm => lmUsed i = true ∧ i.2.1 = d) (slotGive (nx d c))
/-- The entry of device `Y` in device `X`'s table, to write it. -/
def give (X Y : Dev nD) : sProp 𝕄 := iprop((∃ V, owns (X : Thread nD τ) (myM Y) fullShare V) ∗ reached ER (cel X (.inr (true, Y))) 0)
/-- The entries of device `X`'s table that the devices more than `s` after it write. -/
def bundle (s : ℕ) (X : Dev nD) : sProp 𝕄 := bigSep (Finset.Ico (s + 1) 16) fun j => give X (fwd false j X)
/-- What travels with a message besides. -/
def ex (i : Lm) (c : Dev nD) : sProp 𝕄 := if i.1 = .hi ∧ i.2.1 = false ∧ i.2.2.2 = 0 then bundle i.2.2.1.val (back false i.2.2.1.val c) else iprop(emp)

variable (A : Dev nD → Vec F S4096x256 .bf16) (B : Dev nD → Vec F S256x2048 .bf16)

def payK (c : Dev nD) : Ck → sProp 𝕄
  | .inl (false, i) => sl c (chM i.1 i.2.1) i.2.2.1.castSucc i.2.2.2 (qS' i.1) (msgV A B c i)
  | .inl (true, i) => iprop(sl c (chM i.1 i.2.1) i.2.2.1.succ i.2.2.2 fullShare (msgV A B (pv i.2.1 c) i) ∗ ex i (pv i.2.1 c))
  | .inr (false, o) => owns (c : Thread nD τ) (myM c) (ShareLeaves.leaf 4 fullShare o) (amaxV A B c)
  | .inr (true, i) => owns (c : Thread nD τ) (myM i) fullShare (amaxV A B i)

/-! ## The schedule -/

def usedK (c : Dev nD) : Ck → Bool | .inl (_, i) => lmUsed i | .inr (false, o) => o ≠ 0 | .inr (true, i) => i ≠ c

def sched : Schedule (GSem nD τ sig) Bool 𝕄 where
  duties g r := if r = 0 ∧ g.1.2 = .tc then (match g.2 with | .reg _ => {true, false} | .dma s => if usedK g.1.1 (keyAt s.val) then {false} else ∅) else ∅
  unitless _ := False
  amount g _ _ := match g.2 with | .reg _ => 1 | .dma s => amtK (keyAt s.val)
  payload g _ d := match g.2 with | .reg _ => barPay d g.1.1 | .dma s => payK A B g.1.1 (keyAt s.val)
  amount_pos g _ _ _ := by
    obtain ⟨t, s⟩ := g
    cases s with
    | reg s => exact Nat.one_pos
    | dma s => exact amtK_pos _

instance sched_storable (g : GSem nD τ sig) (r : ℕ) (d : Bool) : BI.Storable (upEmb : UEmb _ 𝕄) ((sched A B).payload g r d) := by
  obtain ⟨t, s⟩ := g
  cases s with
  | reg s => show BI.Storable upEmb (barPay d t.1); unfold barPay slotGive; infer_instance
  | dma s =>
    show BI.Storable upEmb (payK A B t.1 (keyAt s.val))
    generalize keyAt s.val = k
    rcases k with ⟨_ | _, i⟩ | ⟨_ | _, i⟩
    · show BI.Storable upEmb (sl _ _ _ _ _ _); infer_instance
    · show BI.Storable upEmb (iprop(_ ∗ ex _ _)); unfold ex bundle give; split <;> infer_instance
    · show BI.Storable upEmb (owns _ _ _ _); infer_instance
    · show BI.Storable upEmb (owns _ _ _ _); infer_instance

theorem duties_bar (c : Dev nD) : (sched A B).duties (barCell c) 0 = {true, false} := by dsimp only [sched]; exact if_pos ⟨rfl, rfl⟩
theorem duties_k (c : Dev nD) (k : Ck) (h : usedK c k = true) : (sched A B).duties (cel c k) 0 = {false} := by
  dsimp only [sched]; rw [if_pos ⟨rfl, rfl⟩, keyAt_semOf]; exact if_pos h
theorem duties_unused (c : Dev nD) (k : Ck) (h : usedK c k = false) : (sched A B).duties (cel c k) 0 = ∅ := by
  dsimp only [sched]; rw [if_pos ⟨rfl, rfl⟩, keyAt_semOf]; exact if_neg (by rw [h]; decide)
theorem duties_later (g : GSem nD τ sig) (r : ℕ) (h : 1 ≤ r) : (sched A B).duties g r = ∅ := by dsimp only [sched]; exact if_neg fun h' => by omega
theorem amount_bar (c : Dev nD) (d : Bool) : (sched A B).amount (barCell c) 0 d = 1 := rfl
theorem amount_k (c : Dev nD) (k : Ck) (d : Bool) : (sched A B).amount (cel c k) 0 d = amtK k := by dsimp only [sched]; rw [keyAt_semOf]
theorem payload_bar (c : Dev nD) (d : Bool) : (sched A B).payload (barCell c) 0 d = barPay d c := rfl
theorem payload_k (c : Dev nD) (k : Ck) (d : Bool) : (sched A B).payload (cel c k) 0 d = payK A B c k := by dsimp only [sched]; rw [keyAt_semOf]
theorem expect_bar (c : Dev nD) : (sched A B).expect (barCell c) 0 = 2 := by
  unfold Schedule.expect Schedule.amountOf; rw [duties_bar]; rfl
theorem expect_k (c : Dev nD) (k : Ck) (h : usedK c k = true) : (sched A B).expect (cel c k) 0 = amtK k := by
  unfold Schedule.expect Schedule.amountOf; rw [duties_k A B c k h, Finset.sum_singleton, amount_k]
theorem rest_bar (c : Dev nD) : bigSep ((sched A B).duties (barCell c) 0 \ ∅) (fun u => (sched A B).payload (barCell c) 0 u) = iprop(barPay true c ∗ barPay false c) := by
  rw [Finset.sdiff_empty, duties_bar, bigSep_insert (by decide), bigSep_singleton]; rfl
theorem rest_k (c : Dev nD) (k : Ck) (h : usedK c k = true) : bigSep ((sched A B).duties (cel c k) 0 \ ∅) (fun u => (sched A B).payload (cel c k) 0 u) = payK A B c k := by
  rw [Finset.sdiff_empty, duties_k A B c k h, bigSep_singleton, payload_k]

/-! ## What a device owes; the levels -/

def mTally (c : Dev nD) (g : Mg) : CellTallies nD τ sig Unit := tallyAt (cel (mTo c g) (mKeyR c g)) () (amtK (mKeyR c g))
/-- The messages from number `n` on. -/
def owed (c : Dev nD) (n : ℕ) : CellTallies nD τ sig Unit := ∑ g ∈ Finset.univ.filter (fun g : Mg => mUsed g = true ∧ n ≤ mOrd g), mTally c g
theorem owed_peel (c : Dev nD) (g : Mg) (n : ℕ) (hu : mUsed g = true) (h : mOrd g = n) : owed c n = owed c (n + 1) + mTally c g := by
  have e : Finset.univ.filter (fun g : Mg => mUsed g = true ∧ n ≤ mOrd g) = insert g (Finset.univ.filter (fun g : Mg => mUsed g = true ∧ n + 1 ≤ mOrd g)) := by
    ext g'
    simp only [Finset.mem_filter, Finset.mem_univ, true_and, Finset.mem_insert]
    constructor
    · rintro ⟨h1, h2⟩
      by_cases e : mOrd g' = n
      · exact .inl (mOrd_inj _ _ (e.trans h.symm))
      · exact .inr ⟨h1, by omega⟩
    · rintro (rfl | ⟨h1, h2⟩)
      · exact ⟨hu, by omega⟩
      · exact ⟨h1, by omega⟩
  unfold owed
  rw [e, Finset.sum_insert (by simp only [Finset.mem_filter, not_and]; intro _ _; omega), add_comm]
theorem owed_skip (c : Dev nD) (n n' : ℕ) (hn : n ≤ n') (h : ∀ g, mUsed g = true → n ≤ mOrd g → n' ≤ mOrd g) : owed c n = owed c n' := by
  unfold owed
  congr 1
  ext g
  simp only [Finset.mem_filter, Finset.mem_univ, true_and]
  exact ⟨fun ⟨a, b⟩ => ⟨a, h g a b⟩, fun ⟨a, b⟩ => ⟨a, by omega⟩⟩
theorem mOrd_lt (g : Mg) : mOrd g < 203 := by
  cases g with
  | inl i => have := lmOrd_range i; simp only [mOrd]; omega
  | inr r => have := r.isLt; simp only [mOrd]; omega
theorem owed_end (c : Dev nD) : owed c 203 = 0 := by
  unfold owed
  rw [Finset.filter_false_of_mem (fun g _ h => by have := mOrd_lt g; omega), Finset.sum_empty]

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl
def lvK : Ck → ℕ | .inl (false, _) => 0 | .inl (true, i) => lmOrd i + 2 | .inr (false, _) => 0 | .inr (true, _) => 130
def lv (g : GSem nD τ sig) (_ : Unit) : ℕ := match g.2 with | .reg _ => 1 | .dma s => lvK (keyAt s.val)
theorem lv_k (c : Dev nD) (k : Ck) : lv (cel c k) () = lvK k := by dsimp only [lv]; rw [keyAt_semOf]

/-- Everything owed from number `n` on is at a level above `b`. -/
theorem owed_level (c : Dev nD) (n b : ℕ) (h : ∀ g, mUsed g = true → n ≤ mOrd g → b < lvK (mKeyR c g)) :
    ∀ (g : GSem nD τ sig) (u : Unit), 0 < owed c n g u → u ∈ L g ∧ b < lv g u := by
  refine Finset.sum_induction (mTally c) (fun D : CellTallies nD τ sig Unit => ∀ (g : GSem nD τ sig) (u : Unit), 0 < D g u → u ∈ L g ∧ b < lv g u) ?_ ?_ ?_
  · intro D D' h1 h2 g u hp
    have hp' : 0 < D g u + D' g u := hp
    rcases Nat.eq_zero_or_pos (D g u) with e | e
    · exact h2 g u (by omega)
    · exact h1 g u e
  · intro g u hp; exact absurd hp (Nat.lt_irrefl 0)
  · intro g hg g' u hp
    obtain ⟨-, h1, h2⟩ := Finset.mem_filter.mp hg
    unfold mTally at hp
    rw [tallyAt_apply] at hp
    by_cases e : g' = cel (mTo c g) (mKeyR c g) ∧ u = ()
    · rw [e.1, L_tc]; exact ⟨Finset.mem_singleton_self _, by rw [lv_k]; exact h g h1 h2⟩
    · rw [if_neg e] at hp; exact absurd hp (Nat.lt_irrefl 0)
theorem mayWait (c : Dev nD) (s : SemLoc sig) (n b : ℕ) (hs : lv ((c : Thread nD τ), s) () ≤ b) (h : ∀ g, mUsed g = true → n ≤ mOrd g → b < lvK (mKeyR c g)) :
    (levAts L lv : sProp 𝕄) ⊢ MayWait (c : Thread nD τ) s () (owed c n) :=
  MayOwe.of_cut (L := L) (lev := lv) b (fun p hp => by rw [Finset.mem_singleton.mp hp, L_tc]; exact Finset.mem_singleton_self _)
    (fun g u hg => (owed_level c n b h g u hg).1) (fun p hp => by rw [Finset.mem_singleton.mp hp]; exact hs)
    (fun g u hg => (owed_level c n b h g u hg).2)

def ow (c : Dev nD) (n : ℕ) : sProp 𝕄 := iprop(∃ W, owes (c : Thread nD τ) (owed c n) W)
theorem ow_skip (c : Dev nD) (n n' : ℕ) (hn : n ≤ n') (h : ∀ g, mUsed g = true → n ≤ mOrd g → n' ≤ mOrd g) : (ow c n : sProp 𝕄) = ow c n' := by
  unfold ow; rw [owed_skip c n n' hn h]

/-! ## The state of a lane's messages -/

abbrev sc (c : Dev nD) (i : Lm) : GSem nD τ sig := cel c (.inl (false, i))
abbrev rc (c : Dev nD) (i : Lm) : GSem nD τ sig := cel c (.inl (true, i))
abbrev ownSl (c : Dev nD) (i : Lm) : sProp 𝕄 := anySl c i.1 i.2.1 i.2.2.1.castSucc i.2.2.2
def idleSt (c : Dev nD) (i : Lm) : sProp 𝕄 := iprop(atPos ER (sc c i) 0 ∅ 0 ∗ atPos ER (rc c i) 0 ∅ 0 ∗ ownSl c i)
def beforeSt (c : Dev nD) (i : Lm) : sProp 𝕄 := iprop(atPos ER (sc c i) 0 ∅ 0 ∗ atPos ER (rc c i) 0 ∅ 0 ∗ reached ER (sc c i) 0
  ∗ cred (tallyAt (rc c i) () (amtL i.1)) ∗ dutyTok ER (sc c i) 0 false ∗ dutyTok ER (rc (nx i.2.1 c) i) 0 false ∗ slotGive (nx i.2.1 c) i)
def midSt (c : Dev nD) (i : Lm) : sProp 𝕄 := iprop(atPos ER (sc c i) 0 ∅ 0 ∗ atPos ER (rc c i) 0 ∅ 0
  ∗ cred (tallyAt (sc c i) () (amtL i.1)) ∗ cred (tallyAt (rc c i) () (amtL i.1)))
def afterSt (c : Dev nD) (i : Lm) : sProp 𝕄 := iprop(atPos ER (sc c i) 1 ∅ 0 ∗ atPos ER (rc c i) 1 ∅ 0 ∗ ownSl c i)
/-- A message's state when the device has sent those before number `n` and waited for those before number `w`. -/
def St (c : Dev nD) (n w : ℕ) (i : Lm) : sProp 𝕄 :=
  if lmUsed i = true then (if lmOrd i < w then afterSt c i else if lmOrd i < n then midSt c i else beforeSt c i) else idleSt c i
def chSt (c : Dev nD) (n w : ℕ) : sProp 𝕄 := bigSep Finset.univ (St c n w)
def chRest (c : Dev nD) (i : Lm) (n w : ℕ) : sProp 𝕄 := bigSep (Finset.univ.erase i) (St c n w)
theorem chSt_split (c : Dev nD) (n w : ℕ) (i : Lm) : (chSt c n w : sProp 𝕄) = iprop(St c n w i ∗ chRest c i n w) := by
  exact bigSep_univ_split i
theorem chRest_send (c : Dev nD) (i : Lm) (n w : ℕ) (h : lmOrd i = n) : (chRest c i n w : sProp 𝕄) = chRest c i (n + 1) w := by
  refine bigSep_congr fun j hj => ?_
  have hne : lmOrd j ≠ n := fun e => Finset.ne_of_mem_erase hj (lmOrd_inj _ _ (e.trans h.symm))
  unfold St
  simp only [show (lmOrd j < n) ↔ (lmOrd j < n + 1) from by omega]
theorem chRest_wait (c : Dev nD) (i : Lm) (n w : ℕ) (h : lmOrd i = w) : (chRest c i n w : sProp 𝕄) = chRest c i n (w + 1) := by
  refine bigSep_congr fun j hj => ?_
  have hne : lmOrd j ≠ w := fun e => Finset.ne_of_mem_erase hj (lmOrd_inj _ _ (e.trans h.symm))
  unfold St
  simp only [show (lmOrd j < w) ↔ (lmOrd j < w + 1) from by omega]
theorem chSt_skip (c : Dev nD) (n w n' w' : ℕ) (hn : ∀ i, lmUsed i = true → (lmOrd i < n ↔ lmOrd i < n')) (hw : ∀ i, lmUsed i = true → (lmOrd i < w ↔ lmOrd i < w')) :
    (chSt c n w : sProp 𝕄) = chSt c n' w' := by
  refine bigSep_congr fun j _ => ?_
  unfold St
  by_cases h : lmUsed j = true
  · simp only [hn j h, hw j h]
  · rw [if_neg h, if_neg h]
theorem St_before (c : Dev nD) (n w : ℕ) (i : Lm) (hu : lmUsed i = true) (hn : n ≤ lmOrd i) (hw : w ≤ lmOrd i) : (St c n w i : sProp 𝕄) = beforeSt c i := by
  unfold St; rw [if_pos hu, if_neg (by omega), if_neg (by omega)]
theorem St_mid (c : Dev nD) (n w : ℕ) (i : Lm) (hu : lmUsed i = true) (hn : lmOrd i < n) (hw : w ≤ lmOrd i) : (St c n w i : sProp 𝕄) = midSt c i := by
  unfold St; rw [if_pos hu, if_neg (by omega), if_pos hn]
theorem St_after (c : Dev nD) (n w : ℕ) (i : Lm) (hu : lmUsed i = true) (hw : lmOrd i < w) : (St c n w i : sProp 𝕄) = afterSt c i := by
  unfold St; rw [if_pos hu, if_pos hw]

/-! ## What every device knows -/

theorem big_elim {I : Type} {s : Finset I} {i : I} (hi : i ∈ s) (Φ : I → sProp 𝕄) : (bigSep s Φ : sProp 𝕄) ⊢ Φ i := by
  classical exact bigSep_elim hi

def ctx (K : GSem nD τ sig → ℕ) : sProp 𝕄 :=
  iprop((bigSep Finset.univ fun p : Dev nD × Ck => cellInv ER (sched A B) (K (cel p.1 p.2)) (cel p.1 p.2))
    ∗ (bigSep Finset.univ fun c : Dev nD => cellInv ER (sched A B) (K (barCell c)) (barCell c))
    ∗ (bigSep Finset.univ fun c : Dev nD => reached ER (barCell c) 0) ∗ levAts L lv)
instance ctx_persistent (K : GSem nD τ sig → ℕ) : BI.Persistent (ctx A B K) := by unfold ctx; infer_instance
theorem ctx_cel (K : GSem nD τ sig → ℕ) (c : Dev nD) (k : Ck) : (ctx A B K : sProp 𝕄) ⊢ cellInv ER (sched A B) (K (cel c k)) (cel c k) := by
  unfold ctx
  iintro ⟨H, -⟩
  iapply (big_elim (Finset.mem_univ (c, k)) (fun p : Dev nD × Ck => cellInv ER (sched A B) (K (cel p.1 p.2)) (cel p.1 p.2)))
  iexact H
theorem ctx_bar (K : GSem nD τ sig → ℕ) (c : Dev nD) : (ctx A B K : sProp 𝕄) ⊢ cellInv ER (sched A B) (K (barCell c)) (barCell c) := by
  unfold ctx
  iintro ⟨-, H, -⟩
  iapply (big_elim (Finset.mem_univ c) (fun c : Dev nD => cellInv ER (sched A B) (K (barCell c)) (barCell c)))
  iexact H
theorem ctx_reached (K : GSem nD τ sig → ℕ) (c : Dev nD) : (ctx A B K : sProp 𝕄) ⊢ reached ER (barCell c) 0 := by
  unfold ctx
  iintro ⟨-, -, H, -⟩
  iapply (big_elim (Finset.mem_univ c) (fun c : Dev nD => (reached ER (barCell c) 0 : sProp 𝕄)))
  iexact H
theorem ctx_mayWait (K : GSem nD τ sig → ℕ) (c : Dev nD) (s : SemLoc sig) (n b : ℕ) (hs : lv ((c : Thread nD τ), s) () ≤ b) (h : ∀ g, mUsed g = true → n ≤ mOrd g → b < lvK (mKeyR c g)) :
    (ctx A B K : sProp 𝕄) ⊢ MayWait (c : Thread nD τ) s () (owed c n) := by
  unfold ctx
  iintro ⟨-, -, -, H⟩
  iapply (mayWait c s n b hs h)
  iexact H

end Cert.KernelIdeal.Pf

end
-- ==== Proof.KernelIdeal.Slots.lean ====
/- Loads and stores through parts of buffers that are held at named contents, and parts cut and joined. -/
module

public import proofs.«01_k».proof.Proof.KernelIdeal.Proto

@[expose] public section

noncomputable section

namespace Cert.KernelIdeal.Pf

open Idealize.ShloMosaic Idealize.SL.Sem Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

local notation "𝕄" => MT nD τ sig Unit (Elt F) ℕ UU ℕ

/-- The program `p` run by device `c`. -/
abbrev wpc (c : Dev nD) (p : Pg F PUnit.{1}) (Q : PUnit.{1} → sProp 𝕄) : sProp 𝕄 := wp frame (wpE (defs₀ (F := F)) 𝒱₀ (c : Thread nD τ) none) Set.univ p Q

section Gen

variable (c : Dev nD) {s : Shape} {e : EltTy} (M : Memref sig .tc .vmem s e) (r : Rect s) (q : PosShare TreeShare)

theorem wp_loadOwns (X : s.Idx → Elt F e) {hl : M.view.LoadsAt r.toLoadRect} {K : (r.shape.Idx → Elt F e) → Pg F PUnit} (Q : PUnit.{1} → sProp 𝕄) :
    (owns (c : Thread nD τ) M q X : sProp 𝕄) ⊢ iprop((owns (c : Thread nD τ) M q X -∗ wpc c (K fun j => X (r.emb j)) Q) -∗ wpc c (.op (.load M r.toLoadRect hl) K) Q) := by
  iintro H Hk
  ihave H := (show (owns (c : Thread nD τ) M q X : sProp 𝕄) ⊢ iprop(∃ f, ⌜M.view.read (Elt F) f = X⌝ ∗ (M.view.loc (c : Thread nD τ) ↦[M.view.set]{q} f)) from .rfl) $$ H
  icases H with ⟨%f, %hf, H⟩
  iapply (wp_load 𝒱₀ (c : Thread nD τ) none Set.univ (m := M) (S := M.view.set) (q := q) (f := f) (Finset.map_subset_map.mpr (Finset.subset_univ _))) $$ [H]
  · iexact H
  iintro H
  subst hf
  iapply Hk
  iapply (owns_intro (c : Thread nD τ) M q f)
  iexact H

theorem wp_loadSlice (hr : ∀ a, r.stride a = 1) (X : r.shape.Idx → Elt F e) {hl : M.view.LoadsAt r.toLoadRect} {K : (r.shape.Idx → Elt F e) → Pg F PUnit} (Q : PUnit.{1} → sProp 𝕄) :
    (owns (c : Thread nD τ) (M.slice r hr) q X : sProp 𝕄) ⊢ iprop((owns (c : Thread nD τ) (M.slice r hr) q X -∗ wpc c (K X) Q) -∗ wpc c (.op (.load M r.toLoadRect hl) K) Q) := by
  iintro H Hk
  ihave H := (show (owns (c : Thread nD τ) (M.slice r hr) q X : sProp 𝕄) ⊢ iprop(∃ f, ⌜(M.slice r hr).view.read (Elt F) f = X⌝ ∗ ((M.access r).loc (c : Thread nD τ) ↦[(M.access r).set]{q} f)) from .rfl) $$ H
  icases H with ⟨%f, %hf, H⟩
  iapply (wp_load_rect 𝒱₀ (c : Thread nD τ) none Set.univ (m := M) (r := r) (S := (M.access r).set) (q := q) (f := f) (Finset.Subset.refl _)) $$ [H]
  · iexact H
  iintro H
  subst hf
  iapply Hk
  iapply (owns_intro (c : Thread nD τ) (M.slice r hr) q f)
  iexact H

theorem wp_storeSlice (hr : ∀ a, r.stride a = 1) (X w : r.shape.Idx → Elt F e) {hx : (M.access r).Stores Finset.univ} {hm : Finset.univ = Finset.univ ∨ ∀ a, r.stride a = 1} {K : PUnit → Pg F PUnit} (Q : PUnit.{1} → sProp 𝕄) :
    (owns (c : Thread nD τ) (M.slice r hr) fullShare X : sProp 𝕄) ⊢ iprop((owns (c : Thread nD τ) (M.slice r hr) fullShare w -∗ wpc c (K ⟨⟩) Q) -∗ wpc c (.op (.store M r w Finset.univ hx hm) K) Q) := by
  iintro H Hk
  ihave H := (show (owns (c : Thread nD τ) (M.slice r hr) fullShare X : sProp 𝕄) ⊢ iprop(∃ f, ⌜(M.slice r hr).view.read (Elt F) f = X⌝ ∗ ((M.access r).loc (c : Thread nD τ) ↦[(M.access r).set]{fullShare} f)) from .rfl) $$ H
  icases H with ⟨%f, -, H⟩
  iapply (wp_store 𝒱₀ (c : Thread nD τ) none Set.univ (m := M) (r := r) (S := (M.access r).set) (f := f) (Finset.Subset.refl _)) $$ [H]
  · iexact H
  iintro H
  iapply Hk
  ihave H := (owns_intro (c : Thread nD τ) (M.slice r hr) fullShare ((M.access r).write (Elt F) f w Finset.univ)) $$ H
  rw [show (M.slice r hr).view.read (Elt F) ((M.access r).write (Elt F) f w Finset.univ) = w from View.read_write_univ _ _]
  iexact H

theorem wp_storeOwns (X : s.Idx → Elt F e) (w : r.shape.Idx → Elt F e) {hx : (M.access r).Stores Finset.univ} {hm : Finset.univ = Finset.univ ∨ ∀ a, r.stride a = 1} {K : PUnit → Pg F PUnit} (Q : PUnit.{1} → sProp 𝕄) :
    (owns (c : Thread nD τ) M fullShare X : sProp 𝕄) ⊢ iprop((owns (c : Thread nD τ) M fullShare (r.overlay X w) -∗ wpc c (K ⟨⟩) Q) -∗ wpc c (.op (.store M r w Finset.univ hx hm) K) Q) := by
  iintro H Hk
  ihave H := (show (owns (c : Thread nD τ) M fullShare X : sProp 𝕄) ⊢ iprop(∃ f, ⌜M.view.read (Elt F) f = X⌝ ∗ ((M.access r).loc (c : Thread nD τ) ↦[M.view.set]{fullShare} f)) from .rfl) $$ H
  icases H with ⟨%f, %hf, H⟩
  iapply (wp_store 𝒱₀ (c : Thread nD τ) none Set.univ (m := M) (r := r) (S := M.view.set) (f := f) (View.set_slice_subset _ _)) $$ [H]
  · iexact H
  iintro H
  iapply Hk
  ihave H := (owns_intro (c : Thread nD τ) M fullShare ((M.access r).write (Elt F) f w Finset.univ)) $$ H
  rw [show M.view.read (Elt F) ((M.access r).write (Elt F) f w Finset.univ) = r.overlay X w from by
    subst hf
    funext j
    by_cases h : j ∈ r.set
    · rw [← Rect.map_emb_univ, Finset.mem_map] at h
      obtain ⟨i, -, rfl⟩ := h
      rw [Rect.overlay_emb]
      exact View.read_slice_write_emb _ _ _ (Finset.mem_univ i)
    · rw [Rect.overlay_of_not_mem _ _ _ h]
      exact View.read_slice_write_of_not_mem _ _ _ _ (by rw [Rect.map_emb_univ]; exact h)]
  iexact H

theorem owns_squeeze {s' : Shape} (h : s.Squeezes s') (h' : s'.ShapeCasts s) (X : s'.Idx → Elt F e) :
    (owns (c : Thread nD τ) (M.squeeze s' h) q X : sProp 𝕄) = owns (c : Thread nD τ) M q (shapeCast s X h') := by
  unfold owns
  have e1 : ∀ f, (M.squeeze s' h).view.read (Elt F) f = X ↔ M.view.read (Elt F) f = shapeCast s X h' := by
    intro f
    have e0 : (M.squeeze s' h).view.read (Elt F) f = fun i => M.view.read (Elt F) f (Shape.reshapeEquiv h.numel_eq i) := rfl
    rw [e0]
    constructor
    · rintro rfl
      funext j
      show _ = M.view.read (Elt F) f (Shape.reshapeEquiv _ (Shape.reshapeEquiv _ j))
      rw [Shape.reshapeEquiv_reshapeEquiv, Shape.reshapeEquiv_self]
    · intro e2
      rw [e2]
      funext j
      show X (Shape.reshapeEquiv _ (Shape.reshapeEquiv _ j)) = _
      rw [Shape.reshapeEquiv_reshapeEquiv, Shape.reshapeEquiv_self]
  have e2 : (M.squeeze s' h).view.set = M.view.set := View.set_reshape ..
  simp only [e1, e2]

/-- Two parts of a part. -/
theorem owns_two_split (r₁ r₂ : Rect s) (hr hr₁ hr₂) (hd : Disjoint r₁.set r₂.set) (hu : r.set = r₁.set ∪ r₂.set)
    (X : r.shape.Idx → Elt F e) (X₁ : r₁.shape.Idx → Elt F e) (X₂ : r₂.shape.Idx → Elt F e)
    (h₁ : ∀ j, ∃ i, r.emb i = r₁.emb j ∧ X i = X₁ j) (h₂ : ∀ j, ∃ i, r.emb i = r₂.emb j ∧ X i = X₂ j) :
    (owns (c : Thread nD τ) (M.slice r hr) q X : sProp 𝕄) ⊢ iprop(owns (c : Thread nD τ) (M.slice r₁ hr₁) q X₁ ∗ owns (c : Thread nD τ) (M.slice r₂ hr₂) q X₂) := by
  iintro H
  ihave H := (show (owns (c : Thread nD τ) (M.slice r hr) q X : sProp 𝕄) ⊢ iprop(∃ f, ⌜(M.slice r hr).view.read (Elt F) f = X⌝ ∗ (M.view.loc (c : Thread nD τ) ↦[(M.view.slice r).set]{q} f)) from .rfl) $$ H
  icases H with ⟨%f, %hf, H⟩
  have e : (M.view.slice r).set = (M.view.slice r₁).set ∪ (M.view.slice r₂).set := by
    rw [View.set_slice, View.set_slice, View.set_slice, ← Finset.map_union, hu]
  have hX₁ : (M.slice r₁ hr₁).view.read (Elt F) f = X₁ := funext fun j => by
    obtain ⟨i, hi, hx⟩ := h₁ j
    rw [← hx, ← hf]
    show M.view.read (Elt F) f (r₁.emb j) = M.view.read (Elt F) f (r.emb i)
    rw [hi]
  have hX₂ : (M.slice r₂ hr₂).view.read (Elt F) f = X₂ := funext fun j => by
    obtain ⟨i, hi, hx⟩ := h₂ j
    rw [← hx, ← hf]
    show M.view.read (Elt F) f (r₂.emb j) = M.view.read (Elt F) f (r.emb i)
    rw [hi]
  rw [e]
  ihave H := (pointsTo_union (show Disjoint (M.view.slice r₁).set (M.view.slice r₂).set by
    rw [View.set_slice, View.set_slice]; exact (Finset.disjoint_map _).mpr hd)).1 $$ H
  icases H with ⟨H1, H2⟩
  isplitl [H1]
  · rw [← hX₁]; iapply (owns_intro (c : Thread nD τ) (M.slice r₁ hr₁) q f); iexact H1
  · rw [← hX₂]; iapply (owns_intro (c : Thread nD τ) (M.slice r₂ hr₂) q f); iexact H2

theorem owns_two_join (r₁ r₂ : Rect s) (hr hr₁ hr₂) (hd : Disjoint r₁.set r₂.set) (hu : r.set = r₁.set ∪ r₂.set)
    (X : r.shape.Idx → Elt F e) (X₁ : r₁.shape.Idx → Elt F e) (X₂ : r₂.shape.Idx → Elt F e)
    (h : ∀ i, (∃ j, r.emb i = r₁.emb j ∧ X i = X₁ j) ∨ (∃ j, r.emb i = r₂.emb j ∧ X i = X₂ j)) :
    (iprop(owns (c : Thread nD τ) (M.slice r₁ hr₁) q X₁ ∗ owns (c : Thread nD τ) (M.slice r₂ hr₂) q X₂) : sProp 𝕄) ⊢ owns (c : Thread nD τ) (M.slice r hr) q X := by
  iintro ⟨H1, H2⟩
  ihave H1 := (show (owns (c : Thread nD τ) (M.slice r₁ hr₁) q X₁ : sProp 𝕄) ⊢ iprop(∃ f, ⌜(M.slice r₁ hr₁).view.read (Elt F) f = X₁⌝ ∗ (M.view.loc (c : Thread nD τ) ↦[(M.view.slice r₁).set]{q} f)) from .rfl) $$ H1
  icases H1 with ⟨%f, %hf, H1⟩
  ihave H2 := (show (owns (c : Thread nD τ) (M.slice r₂ hr₂) q X₂ : sProp 𝕄) ⊢ iprop(∃ f, ⌜(M.slice r₂ hr₂).view.read (Elt F) f = X₂⌝ ∗ (M.view.loc (c : Thread nD τ) ↦[(M.view.slice r₂).set]{q} f)) from .rfl) $$ H2
  icases H2 with ⟨%g, %hg, H2⟩
  have e : (M.view.slice r).set = (M.view.slice r₁).set ∪ (M.view.slice r₂).set := by
    rw [View.set_slice, View.set_slice, View.set_slice, ← Finset.map_union, hu]
  have hd' : Disjoint (M.view.slice r₁).set (M.view.slice r₂).set := by
    rw [View.set_slice, View.set_slice]; exact (Finset.disjoint_map _).mpr hd
  ihave H := (show iprop((M.view.loc (c : Thread nD τ) ↦[(M.view.slice r₁).set]{q} f) ∗ (M.view.loc (c : Thread nD τ) ↦[(M.view.slice r₂).set]{q} g)) ⊢ (M.view.loc (c : Thread nD τ) ↦[(M.view.slice r₁).set ∪ (M.view.slice r₂).set]{q} ((M.view.slice r₂).set.piecewise g f) : sProp 𝕄) from pointsTo_join hd') $$ [H1 H2]
  · isplitl [H1]; · iexact H1
    iexact H2
  rw [← e]
  have hX : (M.slice r hr).view.read (Elt F) ((M.view.slice r₂).set.piecewise g f) = X := funext fun i => by
    rcases h i with ⟨j, hi, hx⟩ | ⟨j, hi, hx⟩
    · rw [hx, ← hf]
      show M.view.read (Elt F) _ (r.emb i) = M.view.read (Elt F) f (r₁.emb j)
      rw [hi, View.read_apply, View.read_apply, Finset.piecewise_eq_of_notMem]
      exact Finset.disjoint_left.mp hd' ((M.view.slice r₁).emb_mem_set j)
    · rw [hx, ← hg]
      show M.view.read (Elt F) _ (r.emb i) = M.view.read (Elt F) g (r₂.emb j)
      rw [hi, View.read_apply, View.read_apply, Finset.piecewise_eq_of_mem]
      exact (M.view.slice r₂).emb_mem_set j
  rw [← hX]
  iapply (owns_intro (c : Thread nD τ) (M.slice r hr) q)
  iexact H

end Gen

end Cert.KernelIdeal.Pf

end
-- ==== Proof.KernelIdeal.SlotsK.lean ====
/- The kernel's own buffers cut into what its messages carry, and the loads and stores of them. -/
module

public import proofs.«01_k».proof.Proof.KernelIdeal.Slots
public import Idealize.ShloMosaic.Lib.ValueLayout
public import Idealize.ShloMosaic.Lib.Pipeline.ValueKit.Geometry

@[expose] public section

noncomputable section

namespace Cert.KernelIdeal.Pf

open Idealize.ShloMosaic Idealize.SL.Sem Cert.KernelIdeal Cert.KernelIdeal.Gen
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

local notation "𝕄" => MT nD τ sig Unit (Elt F) ℕ UU ℕ

/-! ## Index facts -/

theorem emb_val {s : Shape} (off size : Fin s.rank → Nat) (inb : ∀ a, off a + size a ≤ s.size a) (j : (Rect.unit off size inb).shape.Idx) (a : Fin s.rank) :
    ((Rect.unit off size inb).emb j a : Nat) = off a + (j a).val := by
  rw [Rect.emb_apply]; show off a + 1 * (j a).val = _; omega
theorem big_mono {I : Type} {s : Finset I} {Φ Ψ : I → sProp 𝕄} (h : ∀ i ∈ s, Φ i ⊢ Ψ i) : (bigSep s Φ : sProp 𝕄) ⊢ bigSep s Ψ := bigSep_mono h
theorem big_exists {I Y : Type} [Nonempty Y] (s : Finset I) (Φ : I → Y → sProp 𝕄) : (bigSep s (fun i => iprop(∃ y, Φ i y)) : sProp 𝕄) ⊢ iprop(∃ y : I → Y, bigSep s fun i => Φ i (y i)) := by
  classical exact bigSep_exists_pi s Φ

theorem dn_up {α : Type} (v : S256x512.Idx → α) : dn (up v) = v := by
  funext j
  show v (Shape.reshapeEquiv _ (Shape.reshapeEquiv _ j)) = _
  rw [Shape.reshapeEquiv_reshapeEquiv, Shape.reshapeEquiv_self]
theorem up_dn {α : Type} (v : S1x256x512.Idx → α) : up (dn v) = v := by
  funext j
  show v (Shape.reshapeEquiv _ (Shape.reshapeEquiv _ j)) = _
  rw [Shape.reshapeEquiv_reshapeEquiv, Shape.reshapeEquiv_self]
/-- A whole slot's contents, from its rows and columns. -/
abbrev unflat {α : Type} (v : S256x1024.Idx → α) : S1x256x1024.Idx → α := shapeCast S1x256x1024 v (by decide)
theorem flat_unflat {α : Type} (v : S256x1024.Idx → α) : flat (unflat v) = v := by
  funext j
  show v (Shape.reshapeEquiv _ (Shape.reshapeEquiv _ j)) = _
  rw [Shape.reshapeEquiv_reshapeEquiv, Shape.reshapeEquiv_self]
theorem half_apply {α : Type} (b : Fin 2) (v : S256x1024.Idx → α) (i : Fin 256) (j : Fin 512) :
    half b v (ix2 i j) = v (ix2 i ⟨512 * b.val + j.val, by omega⟩) := by
  show v _ = v _
  congr 1
  funext a
  match a with
  | 0 => exact Fin.ext (Nat.zero_add _)
  | 1 => rfl
theorem half_joinV {α : Type} (y : Fin 2 → S256x512.Idx → α) (b : Fin 2) : half b (joinV y) = y b := by
  funext j
  refine (congrArg (half b (joinV y)) (eq_ix2 j)).trans ((half_apply b (joinV y) (j 0) (j 1)).trans ?_)
  unfold joinV
  have h1 : (512 * b.val + (j 1).val) / 512 = b.val := by have : (j 1).val < 512 := (j 1).isLt; omega
  have h2 : (512 * b.val + (j 1).val) % 512 = (j 1).val := by have : (j 1).val < 512 := (j 1).isLt; omega
  congr 1
  · exact Fin.ext h1
  · exact (congrArg (ix2 (j 0)) (Fin.ext h2)).trans (eq_ix2 j).symm
theorem up_apply {α : Type} (v : S256x512.Idx → α) (i : Fin 256) (j : Fin 512) : up v (ix3 (0 : Fin 1) i j) = v (ix2 i j) := by
  exact shapeCast_ab_1ab_apply ..
theorem flat_apply {α : Type} (v : S1x256x1024.Idx → α) (i : Fin 256) (j : Fin 1024) : flat v (ix2 i j) = v (ix3 (0 : Fin 1) i j) := by
  exact shapeCast_1ab_ab_apply ..

/-! ## Slots -/

theorem slotR_mem (k : Fin 16) (b : Fin 2) (i : S16x256x1024.Idx) : i ∈ (slotR k b).set ↔ (i 0).val = k.val ∧ (i 2).val / 512 = b.val := by
  rw [← Rect.map_emb_univ, Finset.mem_map]
  constructor
  · rintro ⟨j, -, rfl⟩
    have h0 : (j 0).val < 1 := (j 0).isLt
    have h2 : (j 2).val < 512 := (j 2).isLt
    have e0 := emb_val _ _ (slot_inb k b) j 0
    have e2 := emb_val _ _ (slot_inb k b) j 2
    simp only [Matrix.cons_val] at e0 e2
    refine ⟨?_, ?_⟩
    · exact e0.trans (by omega)
    · have : _ / 512 = _ := congrArg (· / 512) e2
      exact this.trans (by omega)
  · rintro ⟨h0, h2⟩
    have l1 : (i 1).val < 256 := (i 1).isLt
    refine ⟨(ix3 (0 : Fin 1) (⟨(i 1).val, l1⟩ : Fin 256) (⟨(i 2).val % 512, Nat.mod_lt _ (by decide)⟩ : Fin 512) : S1x256x512.Idx), Finset.mem_univ _, ?_⟩
    funext a
    apply Fin.ext
    refine (emb_val _ _ (slot_inb k b) _ a).trans ?_
    match a with
    | 0 => show k.val + 0 = _; omega
    | 1 => show 0 + (i 1).val = _; omega
    | 2 => show 512 * b.val + (i 2).val % 512 = _; omega
theorem fullR_mem (k : Fin 16) (i : S16x256x1024.Idx) : i ∈ (fullR k).set ↔ (i 0).val = k.val := by
  rw [← Rect.map_emb_univ, Finset.mem_map]
  constructor
  · rintro ⟨j, -, rfl⟩
    have h0 : (j 0).val < 1 := (j 0).isLt
    have e0 := emb_val _ _ (full_inb k) j 0
    simp only [Matrix.cons_val] at e0
    exact e0.trans (by omega)
  · intro h0
    have l1 : (i 1).val < 256 := (i 1).isLt
    have l2 : (i 2).val < 1024 := (i 2).isLt
    refine ⟨(ix3 (0 : Fin 1) (⟨(i 1).val, l1⟩ : Fin 256) (⟨(i 2).val, l2⟩ : Fin 1024) : S1x256x1024.Idx), Finset.mem_univ _, ?_⟩
    funext a
    apply Fin.ext
    refine (emb_val _ _ (full_inb k) _ a).trans ?_
    match a with
    | 0 => show k.val + 0 = _; omega
    | 1 => show 0 + (i 1).val = _; omega
    | 2 => show 0 + (i 2).val = _; omega
theorem slotR_disj (k k' : Fin 16) (b b' : Fin 2) (h : (k, b) ≠ (k', b')) : Disjoint (slotR k b).set (slotR k' b').set := by
  rw [Finset.disjoint_left]
  intro i h1 h2
  rw [slotR_mem] at h1 h2
  exact h (Prod.ext (Fin.ext (h1.1.symm.trans h2.1)) (Fin.ext (h1.2.symm.trans h2.2)))
theorem fullR_set (k : Fin 16) : (fullR k).set = (slotR k 0).set ∪ (slotR k 1).set := by
  ext i
  have l2 : (i 2).val < 1024 := (i 2).isLt
  rw [Finset.mem_union, slotR_mem, slotR_mem, fullR_mem]
  show _ ↔ ((i 0).val = _ ∧ _ = 0) ∨ ((i 0).val = _ ∧ _ = 1)
  omega

section Slot

variable (c : Dev nD) {e : EltTy} (M : Memref sig .tc .vmem S16x256x1024 e) (k : Fin 16) (b : Fin 2) (q : PosShare TreeShare)

theorem sl_eq (X : S256x512.Idx → Elt F e) : (sl c M k b q X : sProp 𝕄) = owns (c : Thread nD τ) (M.slice (slotR k b) (fun _ => rfl)) q (up X) :=
  owns_squeeze c (M.slice (slotR k b) (fun _ => rfl)) q squeezes_S1x256x512_S256x512 _ X

theorem wp_loadSlot (X : S256x512.Idx → Elt F e) {K : Vec F S1x256x512 e → Pg F PUnit} (Q : PUnit.{1} → sProp 𝕄) :
    (sl c M k b q X : sProp 𝕄) ⊢ iprop((sl c M k b q X -∗ wpc c (K (up X)) Q) -∗ wpc c (loadSlot M k b K) Q) := by
  rw [sl_eq]
  exact wp_loadSlice c M (slotR k b) q (fun _ => rfl) (up X) Q
theorem wp_storeSlot (hM : M.IsWhole) (hp : e.packing ∣ 256) (X w : S256x512.Idx → Elt F e) {K : Pg F PUnit} (Q : PUnit.{1} → sProp 𝕄) :
    (sl c M k b fullShare X : sProp 𝕄) ⊢ iprop((sl c M k b fullShare w -∗ wpc c K Q) -∗ wpc c (storeSlot M hM hp k b (up w) K) Q) := by
  rw [sl_eq, sl_eq]
  exact wp_storeSlice c M (slotR k b) (fun _ => rfl) (up X) (up w) (K := fun _ => K) Q

/-- A slot is its two halves. -/
theorem full_split (X : S1x256x1024.Idx → Elt F e) :
    (owns (c : Thread nD τ) (M.slice (fullR k) (fun _ => rfl)) q X : sProp 𝕄) ⊢ iprop(sl c M k 0 q (half 0 (flat X)) ∗ sl c M k 1 q (half 1 (flat X))) := by
  rw [sl_eq, sl_eq]
  have key : ∀ b : Fin 2, ∀ j : S1x256x512.Idx, ∃ i, (fullR k).emb i = (slotR k b).emb j ∧ X i = up (half b (flat X)) j := by
    intro b j
    have h0 : (j 0).val < 1 := (j 0).isLt
    have h1 : (j 1).val < 256 := (j 1).isLt
    have h2 : (j 2).val < 512 := (j 2).isLt
    have ej : j = ix3 (0 : Fin 1) (⟨(j 1).val, h1⟩ : Fin 256) (⟨(j 2).val, h2⟩ : Fin 512) := by
      funext a
      match a with
      | 0 => exact Fin.ext (by show (j 0).val = 0; omega)
      | 1 => rfl
      | 2 => rfl
    refine ⟨(ix3 (0 : Fin 1) (⟨(j 1).val, h1⟩ : Fin 256) (⟨512 * b.val + (j 2).val, by omega⟩ : Fin 1024) : S1x256x1024.Idx), ?_, ?_⟩
    · funext a
      apply Fin.ext
      refine (emb_val _ _ (full_inb k) _ a).trans (Eq.trans ?_ (emb_val _ _ (slot_inb k b) _ a).symm)
      match a with
      | 0 => show k.val + 0 = k.val + (j 0).val; omega
      | 1 => rfl
      | 2 => show 0 + (512 * b.val + (j 2).val) = 512 * b.val + (j 2).val; omega
    · conv_rhs => rw [ej]
      rw [up_apply, half_apply, flat_apply]
  exact owns_two_split c M (fullR k) q (slotR k 0) (slotR k 1) _ _ _ (slotR_disj k k 0 1 (by simp)) (fullR_set k) X _ _ (key 0) (key 1)
theorem full_join (X : S1x256x1024.Idx → Elt F e) :
    (iprop(sl c M k 0 q (half 0 (flat X)) ∗ sl c M k 1 q (half 1 (flat X))) : sProp 𝕄) ⊢ owns (c : Thread nD τ) (M.slice (fullR k) (fun _ => rfl)) q X := by
  rw [sl_eq, sl_eq]
  have key : ∀ b : Fin 2, ∀ i : S1x256x1024.Idx, (i 2).val / 512 = b.val → ∃ j, (fullR k).emb i = (slotR k b).emb j ∧ X i = up (half b (flat X)) j := by
    intro b i hb
    have h0 : (i 0).val < 1 := (i 0).isLt
    have h1 : (i 1).val < 256 := (i 1).isLt
    have h2 : (i 2).val < 1024 := (i 2).isLt
    refine ⟨(ix3 (0 : Fin 1) (⟨(i 1).val, h1⟩ : Fin 256) (⟨(i 2).val % 512, Nat.mod_lt _ (by decide)⟩ : Fin 512) : S1x256x512.Idx), ?_, ?_⟩
    · funext a
      apply Fin.ext
      refine (emb_val _ _ (full_inb k) _ a).trans (Eq.trans ?_ (emb_val _ _ (slot_inb k b) _ a).symm)
      match a with
      | 0 => show k.val + (i 0).val = k.val + 0; omega
      | 1 => rfl
      | 2 => show 0 + (i 2).val = 512 * b.val + (i 2).val % 512; omega
    · rw [up_apply, half_apply, flat_apply]
      congr 1
      funext a
      match a with
      | 0 => exact Fin.ext (by show (i 0).val = 0; omega)
      | 1 => rfl
      | 2 => exact Fin.ext (by show (i 2).val = 512 * b.val + (i 2).val % 512; omega)
  refine owns_two_join c M (fullR k) q (slotR k 0) (slotR k 1) _ _ _ (slotR_disj k k 0 1 (by simp)) (fullR_set k) X _ _ fun i => ?_
  have h2 : (i 2).val < 1024 := (i 2).isLt
  rcases (show (i 2).val / 512 = 0 ∨ (i 2).val / 512 = 1 by omega) with h | h
  · exact .inl (key 0 i h)
  · exact .inr (key 1 i h)
theorem full_any (X Y : S256x512.Idx → Elt F e) :
    (iprop(sl c M k 0 q X ∗ sl c M k 1 q Y) : sProp 𝕄) ⊢ iprop(∃ Z, owns (c : Thread nD τ) (M.slice (fullR k) (fun _ => rfl)) q Z) := by
  iintro H
  iexists (unflat (joinV fun b : Fin 2 => if b = 0 then X else Y))
  iapply (full_join c M k q _)
  rw [flat_unflat, half_joinV, half_joinV]
  iexact H

/-- A buffer is its thirty-two halves. -/
theorem slotR_cov : Finset.univ.biUnion (fun t : Fin 16 × Fin 2 => (slotR t.1 t.2).set) = (Finset.univ : Finset S16x256x1024.Idx) := by
  ext i
  have l0 : (i 0).val < 16 := (i 0).isLt
  have l2 : (i 2).val < 1024 := (i 2).isLt
  simp only [Finset.mem_biUnion, Finset.mem_univ, true_and, iff_true]
  exact ⟨(⟨(i 0).val, l0⟩, ⟨(i 2).val / 512, by omega⟩), (slotR_mem _ _ _).mpr ⟨rfl, rfl⟩⟩
theorem slots_of (X : S16x256x1024.Idx → Elt F e) : (owns (c : Thread nD τ) M fullShare X : sProp 𝕄) ⊢ bigSep Finset.univ fun t : Fin 16 × Fin 2 => iprop(∃ Y, sl c M t.1 t.2 fullShare Y) := by
  refine (owns_rects (c : Thread nD τ) M fullShare (fun t : Fin 16 × Fin 2 => slotR t.1 t.2) (fun _ _ => rfl) (fun t t' h => slotR_disj _ _ _ _ h) slotR_cov X).trans ?_
  refine big_mono fun t _ => ?_
  iintro H
  iexists (dn fun j => X ((slotR t.1 t.2).emb j))
  rw [sl_eq, up_dn]
  iexact H
theorem of_slots (Y : Fin 16 × Fin 2 → S256x512.Idx → Elt F e) : (bigSep Finset.univ (fun t : Fin 16 × Fin 2 => sl c M t.1 t.2 fullShare (Y t)) : sProp 𝕄) ⊢ iprop(∃ X, owns (c : Thread nD τ) M fullShare X) := by
  let X : S16x256x1024.Idx → Elt F e := fun i => Y (⟨(i 0).val, (i 0).isLt⟩, ⟨(i 2).val / 512, by have : (i 2).val < 1024 := (i 2).isLt; omega⟩) (ix2 (⟨(i 1).val, (i 1).isLt⟩ : Fin 256) (⟨(i 2).val % 512, Nat.mod_lt _ (by decide)⟩ : Fin 512))
  have h : ∀ t : Fin 16 × Fin 2, up (Y t) = fun j => X ((slotR t.1 t.2).emb j) := by
    rintro ⟨k, b⟩
    funext j
    have h0 : (j 0).val < 1 := (j 0).isLt
    have h1 : (j 1).val < 256 := (j 1).isLt
    have h2 : (j 2).val < 512 := (j 2).isLt
    have ej : j = ix3 (0 : Fin 1) (⟨(j 1).val, h1⟩ : Fin 256) (⟨(j 2).val, h2⟩ : Fin 512) := by
      funext a
      match a with
      | 0 => exact Fin.ext (by show (j 0).val = 0; omega)
      | 1 => rfl
      | 2 => rfl
    have e0 : ((slotR k b).emb j 0).val = k.val := (show ((slotR k b).emb j 0).val = k.val + (j 0).val from emb_val (s := S16x256x1024) ![k.val, 0, 512 * b.val] S1x256x512.size (slot_inb k b) j 0).trans (by omega)
    have e1 : ((slotR k b).emb j 1).val = (j 1).val := (show ((slotR k b).emb j 1).val = 0 + (j 1).val from emb_val (s := S16x256x1024) ![k.val, 0, 512 * b.val] S1x256x512.size (slot_inb k b) j 1).trans (by omega)
    have e2 : ((slotR k b).emb j 2).val = 512 * b.val + (j 2).val := (emb_val (s := S16x256x1024) ![k.val, 0, 512 * b.val] S1x256x512.size (slot_inb k b) j 2)
    conv_lhs => rw [ej]
    rw [up_apply]
    refine congr (congrArg Y (Prod.ext (Fin.ext ?_) (Fin.ext ?_))) (funext fun a => ?_)
    · exact e0.symm
    · show b.val = ((slotR k b).emb j 2).val / 512
      rw [e2]; omega
    · match a with
      | 0 => exact Fin.ext e1.symm
      | 1 => exact Fin.ext (by show (j 2).val = ((slotR k b).emb j 2).val % 512; rw [e2]; omega)
  iintro H
  iexists X
  iapply (owns_of_rects (c : Thread nD τ) M fullShare (fun t : Fin 16 × Fin 2 => slotR t.1 t.2) (fun _ _ => rfl) (fun t t' h => slotR_disj _ _ _ _ h) slotR_cov X)
  iapply (show (bigSep Finset.univ (fun t : Fin 16 × Fin 2 => sl c M t.1 t.2 fullShare (Y t)) : sProp 𝕄) ⊢ bigSep Finset.univ (fun t : Fin 16 × Fin 2 => owns (c : Thread nD τ) (M.slice (slotR t.1 t.2) (fun _ => rfl)) fullShare (fun j => X ((slotR t.1 t.2).emb j))) from big_mono fun t _ => by rw [sl_eq, h])
  iexact H

end Slot

end Cert.KernelIdeal.Pf

end
-- ==== Proof.KernelIdeal.SlotsF.lean ====
/- The sums, the table of maxima and the operands' buffers: loads, stores, parts. -/
module

public import proofs.«01_k».proof.Proof.KernelIdeal.SlotsK

@[expose] public section

noncomputable section

namespace Cert.KernelIdeal.Pf

open Idealize.ShloMosaic Idealize.SL.Sem Cert.KernelIdeal Cert.KernelIdeal.Gen
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

local notation "𝕄" => MT nD τ sig Unit (Elt F) ℕ UU ℕ

/-! ## Whole matrices -/

section Whole

variable {a b : ℕ} (inb : ∀ i, (![0, 0] : Fin 2 → Nat) i + (⟨2, ![a, b]⟩ : Shape).size i ≤ (⟨2, ![a, b]⟩ : Shape).size i)

theorem emb_whole (j : (⟨2, ![a, b]⟩ : Shape).Idx) : (Rect.unit (s := ⟨2, ![a, b]⟩) ![0, 0] (⟨2, ![a, b]⟩ : Shape).size inb).emb j = j := by
  funext i
  apply Fin.ext
  refine (emb_val (s := ⟨2, ![a, b]⟩) ![0, 0] (⟨2, ![a, b]⟩ : Shape).size inb j i).trans ?_
  match i with
  | 0 => exact Nat.zero_add _
  | 1 => exact Nat.zero_add _

variable (c : Dev nD) {e : EltTy} (M : Memref sig .tc .vmem ⟨2, ![a, b]⟩ e)

theorem wp_loadWhole (q : PosShare TreeShare) (X : (⟨2, ![a, b]⟩ : Shape).Idx → Elt F e) {hl : M.view.LoadsAt (Rect.unit (s := ⟨2, ![a, b]⟩) ![0, 0] (⟨2, ![a, b]⟩ : Shape).size inb).toLoadRect}
    {K : ((⟨2, ![a, b]⟩ : Shape).Idx → Elt F e) → Pg F PUnit} (Q : PUnit.{1} → sProp 𝕄) :
    (owns (c : Thread nD τ) M q X : sProp 𝕄) ⊢ iprop((owns (c : Thread nD τ) M q X -∗ wpc c (K X) Q) -∗ wpc c (.op (.load M (Rect.unit (s := ⟨2, ![a, b]⟩) ![0, 0] (⟨2, ![a, b]⟩ : Shape).size inb).toLoadRect hl) K) Q) := by
  have h := wp_loadOwns c M (Rect.unit (s := ⟨2, ![a, b]⟩) ![0, 0] (⟨2, ![a, b]⟩ : Shape).size inb) q X (hl := hl) (K := K) Q
  rw [show (fun j => X ((Rect.unit (s := ⟨2, ![a, b]⟩) ![0, 0] (⟨2, ![a, b]⟩ : Shape).size inb).emb j)) = X from funext fun j => congrArg X (emb_whole inb j)] at h
  exact h
theorem wp_storeWhole (X w : (⟨2, ![a, b]⟩ : Shape).Idx → Elt F e) {hx : (M.access (Rect.unit (s := ⟨2, ![a, b]⟩) ![0, 0] (⟨2, ![a, b]⟩ : Shape).size inb)).Stores Finset.univ}
    {hm : Finset.univ = Finset.univ ∨ ∀ i, (Rect.unit (s := ⟨2, ![a, b]⟩) ![0, 0] (⟨2, ![a, b]⟩ : Shape).size inb).stride i = 1}
    {K : Pg F PUnit} (Q : PUnit.{1} → sProp 𝕄) :
    (owns (c : Thread nD τ) M fullShare X : sProp 𝕄) ⊢ iprop((owns (c : Thread nD τ) M fullShare w -∗ wpc c K Q) -∗ wpc c (.op (.store M (Rect.unit (s := ⟨2, ![a, b]⟩) ![0, 0] (⟨2, ![a, b]⟩ : Shape).size inb) w Finset.univ hx hm) fun _ => K) Q) := by
  have h := wp_storeOwns c M (Rect.unit (s := ⟨2, ![a, b]⟩) ![0, 0] (⟨2, ![a, b]⟩ : Shape).size inb) X w (hx := hx) (hm := hm) (K := fun _ => K) Q
  rw [show (Rect.unit (s := ⟨2, ![a, b]⟩) ![0, 0] (⟨2, ![a, b]⟩ : Shape).size inb).overlay X w = w from funext fun j => by
    conv_lhs => rw [← emb_whole inb j]
    exact Rect.overlay_emb (Rect.unit (s := ⟨2, ![a, b]⟩) ![0, 0] (⟨2, ![a, b]⟩ : Shape).size inb) X w j] at h
  exact h

end Whole

/-! ## The sums -/

theorem big_two (Φ : Fin 2 → sProp 𝕄) : (bigSep Finset.univ Φ : sProp 𝕄) = iprop(Φ 0 ∗ Φ 1) := by exact bigSep_fin_two Φ

abbrev finH (c : Dev nD) (d : Bool) (b : Fin 2) (X : S256x512.Idx → Elt F .f32) : sProp 𝕄 := owns (c : Thread nD τ) ((finM d).slice (finR b) (fun _ => rfl)) fullShare X
theorem finR_mem (b : Fin 2) (i : S256x1024.Idx) : i ∈ (finR b).set ↔ (i 1).val / 512 = b.val := by
  rw [← Rect.map_emb_univ, Finset.mem_map]
  constructor
  · rintro ⟨j, -, rfl⟩
    have h1 : (j 1).val < 512 := (j 1).isLt
    have e1 : ((finR b).emb j 1).val = 512 * b.val + (j 1).val := emb_val (s := S256x1024) ![0, 512 * b.val] S256x512.size (fin_inb b) j 1
    show ((finR b).emb j 1).val / 512 = b.val
    rw [e1]; omega
  · intro h
    have l0 : (i 0).val < 256 := (i 0).isLt
    refine ⟨(ix2 (⟨(i 0).val, l0⟩ : Fin 256) (⟨(i 1).val % 512, Nat.mod_lt _ (by decide)⟩ : Fin 512) : S256x512.Idx), Finset.mem_univ _, ?_⟩
    funext a
    apply Fin.ext
    refine (emb_val _ _ (fin_inb b) _ a).trans ?_
    match a with
    | 0 => show 0 + (i 0).val = _; omega
    | 1 => show 512 * b.val + (i 1).val % 512 = _; omega
theorem finR_disj (b b' : Fin 2) (h : b ≠ b') : Disjoint (finR b).set (finR b').set := by
  rw [Finset.disjoint_left]
  intro i h1 h2
  rw [finR_mem] at h1 h2
  exact h (Fin.ext (h1.symm.trans h2))
theorem finR_cov : Finset.univ.biUnion (fun b : Fin 2 => (finR b).set) = (Finset.univ : Finset S256x1024.Idx) := by
  ext i
  have l1 : (i 1).val < 1024 := (i 1).isLt
  simp only [Finset.mem_biUnion, Finset.mem_univ, true_and, iff_true]
  exact ⟨⟨(i 1).val / 512, by omega⟩, (finR_mem _ _).mpr rfl⟩
theorem fin_split (c : Dev nD) (d : Bool) (X : S256x1024.Idx → Elt F .f32) : (owns (c : Thread nD τ) (finM d) fullShare X : sProp 𝕄) ⊢ iprop((∃ Y, finH c d 0 Y) ∗ (∃ Y, finH c d 1 Y)) := by
  refine (owns_rects (c : Thread nD τ) (finM d) fullShare finR (fun _ _ => rfl) finR_disj finR_cov X).trans ?_
  rw [big_two]
  iintro ⟨H0, H1⟩
  isplitl [H0]
  · iexists (fun j => X ((finR 0).emb j)); iexact H0
  · iexists (fun j => X ((finR 1).emb j)); iexact H1
theorem fin_join (c : Dev nD) (d : Bool) (y : Fin 2 → S256x512.Idx → Elt F .f32) : (iprop(finH c d 0 (y 0) ∗ finH c d 1 (y 1)) : sProp 𝕄) ⊢ owns (c : Thread nD τ) (finM d) fullShare (joinV y) := by
  refine BIBase.Entails.trans ?_ (owns_of_rects (c : Thread nD τ) (finM d) fullShare finR (fun _ _ => rfl) finR_disj finR_cov (joinV y))
  have h : ∀ b : Fin 2, (fun j => joinV y ((finR b).emb j)) = y b := by
    intro b
    rw [← half_joinV y b]
    funext j
    show joinV y _ = joinV y _
    congr 1
    funext a
    apply Fin.ext
    refine (emb_val _ _ (fin_inb b) _ a).trans ?_
    rfl
  rw [big_two, h 0, h 1]
theorem castSelf {α : Type} (y : S256x512.Idx → α) : shapeCast S256x512 y shapeCasts_S256x512_S256x512 = y := by
  funext j
  show y (Shape.reshapeEquiv _ j) = y j
  rw [Shape.reshapeEquiv_self]

/-! ## The table of maxima -/

theorem ent_inb (i : Dev nD) : ∀ a, (![i.val, 0, 0] : Fin 3 → Nat) a + S1x8x128.size a ≤ S16x8x128.size a := by decide +revert
abbrev entR (i : Dev nD) : Rect S16x8x128 := Rect.unit (s := S16x8x128) ![i.val, 0, 0] S1x8x128.size (ent_inb i)
theorem off7_eq (c : Dev nD) : k0_off7 c = ![c.val, 0, 0] := by revert c; decide +kernel
theorem off9_eq (c : Dev nD) : k0_off9 c = ![c.val, 0, 0] := by revert c; decide +kernel
abbrev upE {α : Type} (v : S8x128.Idx → α) : S1x8x128.Idx → α := shapeCast S1x8x128 v (by decide)
abbrev dnE {α : Type} (v : S1x8x128.Idx → α) : S8x128.Idx → α := shapeCast S8x128 v (by decide)
theorem upE_dnE {α : Type} (v : S1x8x128.Idx → α) : upE (dnE v) = v := by
  funext j
  show v (Shape.reshapeEquiv _ (Shape.reshapeEquiv _ j)) = _
  rw [Shape.reshapeEquiv_reshapeEquiv, Shape.reshapeEquiv_self]
theorem upE_apply {α : Type} (v : S8x128.Idx → α) (i : Fin 8) (j : Fin 128) : upE v (ix3 (0 : Fin 1) i j) = v (ix2 i j) := by
  exact shapeCast_ab_1ab_apply ..

abbrev ent (c i : Dev nD) (q : PosShare TreeShare) (X : S8x128.Idx → Elt F .f32) : sProp 𝕄 := owns (c : Thread nD τ) (myM i) q X
theorem ent_eq (c i : Dev nD) (q : PosShare TreeShare) (X : S8x128.Idx → Elt F .f32) :
    (ent c i q X : sProp 𝕄) = owns (c : Thread nD τ) (mM.slice (entR i) (fun _ => rfl)) q (upE X) := by
  rw [show (ent c i q X : sProp 𝕄) = _ from owns_squeeze c (mM.slice (Rect.unit (s := S16x8x128) (k0_off9 i) S1x8x128.size (k0_off9_inb i)) (fun _ => rfl)) q squeezes_S1x8x128_S8x128 (show S8x128.ShapeCasts S1x8x128 by decide) X,
    Memref.slice_unit_congr mM (off9_eq i) (k0_off9_inb i) (ent_inb i) (fun _ => rfl) (fun _ => rfl)]
  rfl
theorem mine_eq (c i : Dev nD) (q : PosShare TreeShare) (X : S8x128.Idx → Elt F .f32) :
    (ent c i q X : sProp 𝕄) = owns (c : Thread nD τ) (mM.slice (mineR i) (fun _ => rfl)) q (upE X) := by
  rw [ent_eq, Memref.slice_unit_congr mM (off7_eq i) (k0_off7_inb i) (ent_inb i) (fun _ => rfl) (fun _ => rfl)]
theorem entR_mem (k : Dev nD) (i : S16x8x128.Idx) : i ∈ (entR k).set ↔ (i 0).val = k.val := by
  rw [← Rect.map_emb_univ, Finset.mem_map]
  constructor
  · rintro ⟨j, -, rfl⟩
    have h0 : (j 0).val < 1 := (j 0).isLt
    have e0 : ((entR k).emb j 0).val = k.val + (j 0).val := emb_val (s := S16x8x128) ![k.val, 0, 0] S1x8x128.size (ent_inb k) j 0
    exact e0.trans (by omega)
  · intro h0
    have l1 : (i 1).val < 8 := (i 1).isLt
    have l2 : (i 2).val < 128 := (i 2).isLt
    refine ⟨(ix3 (0 : Fin 1) (⟨(i 1).val, l1⟩ : Fin 8) (⟨(i 2).val, l2⟩ : Fin 128) : S1x8x128.Idx), Finset.mem_univ _, ?_⟩
    funext a
    apply Fin.ext
    refine (emb_val _ _ (ent_inb k) _ a).trans ?_
    match a with
    | 0 => show k.val + 0 = _; omega
    | 1 => show 0 + (i 1).val = _; omega
    | 2 => show 0 + (i 2).val = _; omega
theorem entR_disj (b b' : Dev nD) (h : b ≠ b') : Disjoint (entR b).set (entR b').set := by
  rw [Finset.disjoint_left]
  intro i h1 h2
  rw [entR_mem] at h1 h2
  exact h (Fin.ext (h1.symm.trans h2))
theorem entR_cov : Finset.univ.biUnion (fun b : Dev nD => (entR b).set) = (Finset.univ : Finset S16x8x128.Idx) := by
  ext i
  simp only [Finset.mem_biUnion, Finset.mem_univ, true_and, iff_true]
  exact ⟨i 0, (entR_mem _ _).mpr rfl⟩
theorem ents_of (c : Dev nD) (X : S16x8x128.Idx → Elt F .f32) : (owns (c : Thread nD τ) mM fullShare X : sProp 𝕄) ⊢ bigSep Finset.univ fun i : Dev nD => iprop(∃ Y, ent c i fullShare Y) := by
  refine (owns_rects (c : Thread nD τ) mM fullShare entR (fun _ _ => rfl) entR_disj entR_cov X).trans ?_
  refine big_mono fun i _ => ?_
  iintro H
  iexists (dnE fun j => X ((entR i).emb j))
  rw [ent_eq, upE_dnE]
  iexact H
theorem of_ents (c : Dev nD) (Y : Dev nD → S8x128.Idx → Elt F .f32) : (bigSep Finset.univ (fun i : Dev nD => ent c i fullShare (Y i)) : sProp 𝕄) ⊢ owns (c : Thread nD τ) mM fullShare (fun i : S16x8x128.Idx => Y (i 0) (ix2 (i 1) (i 2))) := by
  refine BIBase.Entails.trans ?_ (owns_of_rects (c : Thread nD τ) mM fullShare entR (fun _ _ => rfl) entR_disj entR_cov _)
  refine big_mono fun k _ => ?_
  rw [ent_eq]
  have h : upE (Y k) = fun j => (fun i : S16x8x128.Idx => Y (i 0) (ix2 (i 1) (i 2))) ((entR k).emb j) := by
    funext j
    have h0 : (j 0).val < 1 := (j 0).isLt
    have h1 : (j 1).val < 8 := (j 1).isLt
    have h2 : (j 2).val < 128 := (j 2).isLt
    have ej : j = ix3 (0 : Fin 1) (⟨(j 1).val, h1⟩ : Fin 8) (⟨(j 2).val, h2⟩ : Fin 128) := by
      funext a
      match a with
      | 0 => exact Fin.ext (by show (j 0).val = 0; omega)
      | 1 => rfl
      | 2 => rfl
    have e (a : Fin 3) : ((entR k).emb j a).val = (![k.val, 0, 0] : Fin 3 → Nat) a + (j a).val := emb_val (s := S16x8x128) ![k.val, 0, 0] S1x8x128.size (ent_inb k) j a
    conv_lhs => rw [ej]
    rw [upE_apply]
    refine congr (congrArg Y (Fin.ext ?_)) (funext fun a => ?_)
    · refine Eq.trans ?_ (e 0).symm
      show k.val = k.val + (j 0).val
      omega
    · match a with
      | 0 => exact Fin.ext (Eq.trans (by show (j 1).val = 0 + (j 1).val; omega) (e 1).symm)
      | 1 => exact Fin.ext (Eq.trans (by show (j 2).val = 0 + (j 2).val; omega) (e 2).symm)
  rw [h]

/-- A share held at known contents, dealt out. -/
theorem owns_leaves (c : Dev nD) {s : Shape} {e : EltTy} (M : Memref sig .tc .vmem s e) (X : s.Idx → Elt F e) :
    ∀ (n : ℕ) (q : PosShare TreeShare), (owns (c : Thread nD τ) M q X : sProp 𝕄) = bigSep Finset.univ fun i : Fin (2 ^ n) => owns (c : Thread nD τ) M (ShareLeaves.leaf n q i) X
  | 0, q => (bigSep_univ_of_subsingleton (0 : Fin 1) (Φ := fun i : Fin (2 ^ 0) => (owns (c : Thread nD τ) M (ShareLeaves.leaf 0 q i) X : sProp 𝕄))).symm
  | n + 1, q => by
    rw [BI.Entails.antisymm (owns_halves (c : Thread nD τ) M q X).1 (owns_halves (c : Thread nD τ) M q X).2, owns_leaves c M X n q.left, owns_leaves c M X n q.right,
      bigSep_univ_equiv (ShareLeaves.sumEquiv n) (fun i : Fin (2 ^ (n + 1)) => (owns (c : Thread nD τ) M (ShareLeaves.leaf (n + 1) q i) X : sProp 𝕄)), bigSep_univ_sum]
    congr 1 <;> refine bigSep_congr fun i _ => ?_
    · rw [ShareLeaves.leaf_inl]
    · rw [ShareLeaves.leaf_inr]

end Cert.KernelIdeal.Pf

end
-- ==== Proof.KernelIdeal.Walk.lean ====
/- A message of a lane sent and waited for. -/
module

public import proofs.«01_k».proof.Proof.KernelIdeal.SlotsF

@[expose] public section

noncomputable section

namespace Cert.KernelIdeal.Pf

open Idealize.ShloMosaic Idealize.SL.Sem Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

local notation "𝕄" => MT nD τ sig Unit (Elt F) ℕ UU ℕ

/-- A message of a lane, sent by a device to device `t`. -/
abbrev sendC (i : Lm) (t : Dev nD) (K : Pg F PUnit) : Pg F PUnit :=
  .op (.enqueueDma (slotM (chM i.1 i.2.1) i.2.2.1.castSucc i.2.2.2) (.remote (Dev.tc t) (slotM (chM i.1 i.2.1) i.2.2.1.succ i.2.2.2) (.dma (semOf (.inl (false, i))))) (.dma (semOf (.inl (true, i))))
    (((chW i.1 i.2.1).wordExact_slice rfl _ (slot_words _ (chP i.1) _ _)).reshape _ _) (((chW i.1 i.2.1).wordExact_slice rfl _ (slot_words _ (chP i.1) _ _)).reshape _ _) ⟨⟨rfl, Or.inl rfl⟩, trivial⟩) fun _ => K
theorem sendHi_eq (d : Bool) (t : Dev nD) (m : Fin 15) (b : Fin 2) (K : Pg F PUnit) : sendHi d t m b K = sendC (.hi, d, m, b) t K := rfl
theorem sendLo_eq (d : Bool) (t : Dev nD) (m : Fin 15) (b : Fin 2) (K : Pg F PUnit) : sendLo d t m b K = sendC (.lo, d, m, b) t K := rfl
theorem sendQ_eq (d : Bool) (t : Dev nD) (m : Fin 15) (b : Fin 2) (K : Pg F PUnit) : sendQ d t m b K = sendC (.q, d, m, b) t K := rfl
/-- The wait for the send of a message to be done, and for its arrival. -/
abbrev waitSC (i : Lm) (K : Pg F PUnit) : Pg F PUnit :=
  .op (.waitDma2 (semOf (.inl (false, i))) (slotM (chM i.1 i.2.1) i.2.2.1.succ i.2.2.2) (slotM (chM i.1 i.2.1) i.2.2.1.castSucc i.2.2.2)
    (((chW i.1 i.2.1).wordExact_slice rfl _ (slot_words _ (chP i.1) _ _)).reshape _ _) (((chW i.1 i.2.1).wordExact_slice rfl _ (slot_words _ (chP i.1) _ _)).reshape _ _)) fun _ => K
abbrev waitRC (i : Lm) (K : Pg F PUnit) : Pg F PUnit :=
  .op (.waitDma2 (semOf (.inl (true, i))) (slotM (chM i.1 i.2.1) i.2.2.1.castSucc i.2.2.2) (slotM (chM i.1 i.2.1) i.2.2.1.succ i.2.2.2)
    (((chW i.1 i.2.1).wordExact_slice rfl _ (slot_words _ (chP i.1) _ _)).reshape _ _) (((chW i.1 i.2.1).wordExact_slice rfl _ (slot_words _ (chP i.1) _ _)).reshape _ _)) fun _ => K
theorem waitHi_eq (d : Bool) (m : Fin 15) (b : Fin 2) (K : Pg F PUnit) : waitHi d m b K = waitSC (.hi, d, m, b) (waitRC (.hi, d, m, b) K) := rfl
theorem waitLo_eq (d : Bool) (m : Fin 15) (b : Fin 2) (K : Pg F PUnit) : waitLo d m b K = waitSC (.lo, d, m, b) (waitRC (.lo, d, m, b) K) := rfl
theorem waitQ_eq (d : Bool) (m : Fin 15) (b : Fin 2) (K : Pg F PUnit) : waitQ d m b K = waitSC (.q, d, m, b) (waitRC (.q, d, m, b) K) := rfl

variable (A : Dev nD → Vec F S4096x256 .bf16) (B : Dev nD → Vec F S256x2048 .bf16) (K : GSem nD τ sig → ℕ) (c : Dev nD)

theorem wp_sendC (i : Lm) (n w : ℕ) (hu : lmUsed i = true) (hn : lmOrd i = n) (hw : w ≤ n) (P : Pg F PUnit) (Q : PUnit.{1} → sProp 𝕄) :
    (iprop(ctx A B K ∗ chSt c n w ∗ ow c n ∗ sl c (chM i.1 i.2.1) i.2.2.1.castSucc i.2.2.2 (qS' i.1) (msgV A B c i) ∗ ex i c) : sProp 𝕄)
      ⊢ iprop(((chSt c (n + 1) w ∗ ow c (n + 1)) -∗ wpc c P Q) -∗ wpc c (sendC i (nx i.2.1 c) P) Q) := by
  have hS : (reached ER (sc c i) 0 : sProp 𝕄) = reached ER (cel c (.inl (false, i))) 0 := rfl
  rw [chSt_split c n w i, chSt_split c (n + 1) w i, St_before c n w i hu (by omega) (by omega), St_mid c (n + 1) w i hu (by omega) (by omega), chRest_send c i n w hn]
  unfold beforeSt midSt slotGive anySl ow
  iintro ⟨#Hctx, ⟨⟨HaS, HaR, #HrS, HcR, HtS, HtR, ⟨%Y, Hd⟩, #HrR⟩, Hrest⟩, ⟨%W, Ho⟩, Hs, Hex⟩ Hk
  ihave Hs := (show (sl c (chM i.1 i.2.1) i.2.2.1.castSucc i.2.2.2 (qS' i.1) (msgV A B c i) : sProp 𝕄) ⊢ iprop(∃ f, ⌜(slotM (chM i.1 i.2.1) i.2.2.1.castSucc i.2.2.2).view.read (Elt F) f = msgV A B c i⌝ ∗ ((slotM (chM i.1 i.2.1) i.2.2.1.castSucc i.2.2.2).view.loc (c : Thread nD τ) ↦[(slotM (chM i.1 i.2.1) i.2.2.1.castSucc i.2.2.2).view.set]{qS' i.1} f)) from .rfl) $$ Hs
  icases Hs with ⟨%fs, %hfs, Hs⟩
  ihave Hd := (show (sl (nx i.2.1 c) (chM i.1 i.2.1) i.2.2.1.succ i.2.2.2 fullShare Y : sProp 𝕄) ⊢ iprop(∃ f, ⌜(slotM (chM i.1 i.2.1) i.2.2.1.succ i.2.2.2).view.read (Elt F) f = Y⌝ ∗ ((slotM (chM i.1 i.2.1) i.2.2.1.succ i.2.2.2).view.loc (nx i.2.1 c : Thread nD τ) ↦[(slotM (chM i.1 i.2.1) i.2.2.1.succ i.2.2.2).view.set]{fullShare} f)) from .rfl) $$ Hd
  icases Hd with ⟨%fd, -, Hd⟩
  ihave #HIS := (ctx_cel A B K c (.inl (false, i))) $$ Hctx
  ihave #HIR := (ctx_cel A B K (nx i.2.1 c) (.inl (true, i))) $$ Hctx
  iapply (Rounds.wp_send_pointsTo_with 𝒱₀ ER (sched A B) (c : Thread nD τ) none (c' := (nx i.2.1 c : Thread nD τ)) (src := slotM (chM i.1 i.2.1) i.2.2.1.castSucc i.2.2.2) (dst := slotM (chM i.1 i.2.1) i.2.2.1.succ i.2.2.2)
      (sS := .dma (semOf (.inl (false, i)))) (sem := .dma (semOf (.inl (true, i)))) (q := qS' i.1) (fs := fs) (fd := fd) (F := ex i c) (κ₁ := K (cel c (.inl (false, i)))) (κ₂ := K (cel (nx i.2.1 c) (.inl (true, i))))
      (r₁ := 0) (r₂ := 0) (d₁ := false) (d₂ := false)
      (by rw [duties_k A B c (.inl (false, i)) hu]; exact Finset.mem_singleton_self _) (by rw [duties_k A B (nx i.2.1 c) (.inl (true, i)) hu]; exact Finset.mem_singleton_self _)
      () () (amtL i.1) (amt_slot _ _ _ _) (amount_k A B c (.inl (false, i)) false) (amount_k A B (nx i.2.1 c) (.inl (true, i)) false) (owed c (n + 1)) (owed_peel c (.inl i) n hu hn) (W := W)
      (by
        rw [payload_k A B c (.inl (false, i)) false]
        show _ ⊢ (sl c (chM i.1 i.2.1) i.2.2.1.castSucc i.2.2.2 (qS' i.1) (msgV A B c i) : sProp 𝕄)
        rw [← hfs]
        exact owns_intro (c : Thread nD τ) (slotM (chM i.1 i.2.1) i.2.2.1.castSucc i.2.2.2) (qS' i.1) fs)
      (by
        rw [payload_k A B (nx i.2.1 c) (.inl (true, i)) false]
        show _ ⊢ (iprop(sl (nx i.2.1 c) (chM i.1 i.2.1) i.2.2.1.succ i.2.2.2 fullShare (msgV A B (pv i.2.1 (nx i.2.1 c)) i) ∗ ex i (pv i.2.1 (nx i.2.1 c))) : sProp 𝕄)
        rw [pv_nx, ← hfs]
        iintro ⟨H1, H2⟩
        isplitl [H1]
        · ihave H1 := (owns_intro (nx i.2.1 c : Thread nD τ) (slotM (chM i.1 i.2.1) i.2.2.1.succ i.2.2.2) fullShare _) $$ H1
          rw [View.read_write_univ]
          iexact H1
        · iexact H2)) $$ [Hs Hd Hex Ho HtS HtR]
  · isplitr; · iexact HIS
    isplitr; · iexact HIR
    isplitl [Hs]; · iexact Hs
    isplitl [Hd Hex]
    · isplitl [Hd]; · iexact Hd
      iexact Hex
    isplitl [Ho]; · iexact Ho
    isplitl [HtS]; · iexact HtS
    isplitr; · iexact HrS
    isplitl [HtR]; · iexact HtR
    iexact HrR
  iintro ⟨HcS, Ho⟩
  iapply Hk
  isplitr [Ho]
  · isplitr [Hrest]
    · isplitl [HaS]; · iexact HaS
      isplitl [HaR]; · iexact HaR
      isplitl [HcS]; · iexact HcS
      iexact HcR
    · iexact Hrest
  · iexists W; iexact Ho

/-- What a device keeps while a message is on its way. -/
def kept (i : Lm) : sProp 𝕄 := match i.1 with | .q => iprop(∃ X, sl c (chM i.1 i.2.1) i.2.2.1.castSucc i.2.2.2 fullShare.right X) | _ => iprop(emp)
theorem kept_join (i : Lm) (X : S256x512.Idx → Elt F (el i.1)) : (iprop(sl c (chM i.1 i.2.1) i.2.2.1.castSucc i.2.2.2 (qS' i.1) X ∗ kept c i) : sProp 𝕄) ⊢ ownSl c i := by
  obtain ⟨k, d, m, b⟩ := i
  unfold kept
  cases k
  · iintro ⟨H, -⟩; iexists X; iexact H
  · iintro ⟨H, -⟩; iexists X; iexact H
  · iintro ⟨H, ⟨%Y, H'⟩⟩
    iexists X
    iapply (owns_rejoin (c : Thread nD τ) (slotM (chM .q d) m.castSucc b) fullShare (Φ := (· = Y)) X)
    isplitl [H]; · iexact H
    rw [← owns_eq_ownsSat]; iexact H'

theorem wp_waitC (i : Lm) (n w : ℕ) (hu : lmUsed i = true) (hw : lmOrd i = w) (hn : w < n)
    (hcut : ∀ g, mUsed g = true → n ≤ mOrd g → w + 2 < lvK (mKeyR c g)) (P : Pg F PUnit) (Q : PUnit.{1} → sProp 𝕄) :
    (iprop(ctx A B K ∗ chSt c n w ∗ ow c n ∗ kept c i) : sProp 𝕄)
      ⊢ iprop(((chSt c n (w + 1) ∗ ow c n ∗ sl c (chM i.1 i.2.1) i.2.2.1.succ i.2.2.2 fullShare (msgV A B (pv i.2.1 c) i) ∗ ex i (pv i.2.1 c)) -∗ wpc c P Q) -∗ wpc c (waitSC i (waitRC i P)) Q) := by
  have h1 : lv (cel c (.inl (false, i))) () ≤ w + 2 := by rw [lv_k c (.inl (false, i))]; exact Nat.zero_le _
  have h2 : lv (cel c (.inl (true, i))) () ≤ w + 2 := by
    rw [lv_k c (.inl (true, i))]
    have e : lvK (.inl (true, i)) = lmOrd i + 2 := rfl
    omega
  have m1 := ctx_mayWait A B K c (.dma (semOf (.inl (false, i)))) n (w + 2) h1 hcut
  have m2 := ctx_mayWait A B K c (.dma (semOf (.inl (true, i)))) n (w + 2) h2 hcut
  rw [chSt_split c n w i, chSt_split c n (w + 1) i, St_mid c n w i hu (by omega) (by omega), St_after c n (w + 1) i hu (by omega), chRest_wait c i n w hw]
  unfold midSt afterSt ow
  iintro ⟨#Hctx, ⟨⟨HaS, HaR, HcS, HcR⟩, Hrest⟩, ⟨%W, Ho⟩, Hkept⟩ Hk
  ihave #HIS := (ctx_cel A B K c (.inl (false, i))) $$ Hctx
  ihave #HIR := (ctx_cel A B K c (.inl (true, i))) $$ Hctx
  iapply (Rounds.wp_wait_rest_token 𝒱₀ ER (sched A B) (c : Thread nD τ) none (κ := K (cel c (.inl (false, i))))
      (wpE_waitDma2_eq 𝒱₀ (c : Thread nD τ) none Set.univ) (Set.mem_univ _) () (O := owed c n) (W := W) (R := 0) (m := 0) (T := ∅)
      ((Nat.zero_add _).trans ((amt_slot _ _ _ _).trans (expect_k A B c (.inl (false, i)) hu).symm))) $$ [HcS Ho HaS]
  · isplitr; · iexact HIS
    isplitl [HcS]; · rw [amt_slot]; iexact HcS
    isplitl [Ho]; · iexact Ho
    isplitr
    · iapply m1
      iexact Hctx
    iexact HaS
  iintro ⟨Ho, HaS, -, Hpay⟩
  ihave Hs := (BIBase.Entails.of_eq (rest_k A B c (.inl (false, i)) hu)) $$ Hpay
  ihave Hs := (show (payK A B c (.inl (false, i)) : sProp 𝕄) ⊢ sl c (chM i.1 i.2.1) i.2.2.1.castSucc i.2.2.2 (qS' i.1) (msgV A B c i) from .rfl) $$ Hs
  ihave Hs := (kept_join c i (msgV A B c i)) $$ [Hs Hkept]
  · isplitl [Hs]; · iexact Hs
    iexact Hkept
  iapply (Rounds.wp_wait_rest_token 𝒱₀ ER (sched A B) (c : Thread nD τ) none (κ := K (cel c (.inl (true, i))))
      (wpE_waitDma2_eq 𝒱₀ (c : Thread nD τ) none Set.univ) (Set.mem_univ _) () (O := owed c n) (R := 0) (m := 0) (T := ∅)
      ((Nat.zero_add _).trans ((amt_slot _ _ _ _).trans (expect_k A B c (.inl (true, i)) hu).symm))) $$ [HcR Ho HaR]
  · isplitr; · iexact HIR
    isplitl [HcR]; · rw [amt_slot]; iexact HcR
    isplitl [Ho]; · iexact Ho
    isplitr
    · iapply m2
      iexact Hctx
    iexact HaR
  iintro ⟨Ho, HaR, -, Hpay⟩
  ihave Hp := (BIBase.Entails.of_eq (rest_k A B c (.inl (true, i)) hu)) $$ Hpay
  ihave Hp := (show (payK A B c (.inl (true, i)) : sProp 𝕄) ⊢ iprop(sl c (chM i.1 i.2.1) i.2.2.1.succ i.2.2.2 fullShare (msgV A B (pv i.2.1 c) i) ∗ ex i (pv i.2.1 c)) from .rfl) $$ Hp
  icases Hp with ⟨Hr, Hex⟩
  iapply Hk
  isplitl [HaS HaR Hs Hrest]
  · isplitr [Hrest]
    · isplitl [HaS]; · iexact HaS
      isplitl [HaR]; · iexact HaR
      iexact Hs
    · iexact Hrest
  isplitl [Ho]; · iexists _; iexact Ho
  isplitl [Hr]; · iexact Hr
  iexact Hex

end Cert.KernelIdeal.Pf

end
-- ==== Proof.KernelIdeal.Scatter.lean ====
/- The reduce-scatter: a lane's step, a step, the loop. -/
module

public import proofs.«01_k».proof.Proof.KernelIdeal.Walk
public import Idealize.SL.BI.BigOpNat

@[expose] public section

noncomputable section

namespace Cert.KernelIdeal.Pf

open Idealize.ShloMosaic Idealize.SL.Sem Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

local notation "𝕄" => MT nD τ sig Unit (Elt F) ℕ UU ℕ

/-! ## Numbers no message has -/

def gap (k : ℕ) : Prop := (k % 2 = 1 ∧ k < 80) ∨ (120 ≤ k ∧ k < 128)
theorem gap_lm (k : ℕ) (h : gap k) (i : Lm) (hu : lmUsed i = true) : lmOrd i ≠ k := by
  obtain ⟨kd, d, m, b⟩ := i
  have hm := m.isLt; have hb := b.isLt
  have hd : d.toNat ≤ 1 := by cases d <;> decide
  unfold gap at h
  cases kd
  · simp only [lmOrd]; omega
  · have hu : 10 ≤ m.val := of_decide_eq_true hu
    simp only [lmOrd]; omega
  · simp only [lmOrd]; omega
theorem gap_mg (k : ℕ) (h : gap k) (g : Mg) (hu : mUsed g = true) : mOrd g ≠ k := by
  cases g with
  | inl i => exact gap_lm k h i hu
  | inr r => unfold gap at h; simp only [mOrd]; omega
theorem chSt_gapn (c : Dev nD) (n w : ℕ) (h : gap n) : (chSt c n w : sProp 𝕄) = chSt c (n + 1) w :=
  chSt_skip c n w (n + 1) w (fun i hu => by have := gap_lm n h i hu; omega) (fun i hu => Iff.rfl)
theorem chSt_gapw (c : Dev nD) (n w : ℕ) (h : gap w) : (chSt c n w : sProp 𝕄) = chSt c n (w + 1) :=
  chSt_skip c n w n (w + 1) (fun i hu => Iff.rfl) (fun i hu => by have := gap_lm w h i hu; omega)
theorem ow_gap (c : Dev nD) (n : ℕ) (h : gap n) : (ow c n : sProp 𝕄) = ow c (n + 1) :=
  ow_skip c n (n + 1) (by omega) fun g hu hn => by have := gap_mg n h g hu; omega
theorem cut_ok (c : Dev nD) (n w : ℕ) (h : w < n) (h' : w < 128 ∨ 143 ≤ n) : ∀ g, mUsed g = true → n ≤ mOrd g → w + 2 < lvK (mKeyR c g) := by
  intro g hu hn
  cases g with
  | inl i =>
    have e : lvK (mKeyR c (.inl i)) = lmOrd i + 2 := rfl
    have e' : mOrd (.inl i) = lmOrd i := rfl
    omega
  | inr r =>
    have e : lvK (mKeyR c (.inr r)) = 130 := rfl
    have e' : mOrd (.inr r) = 128 + r.val := rfl
    have := r.isLt
    omega

/-! ## The entries that travel with the accumulator's messages -/

/-- What travels with the accumulator's message `m` of a lane. -/
def exN (d : Bool) (b : Fin 2) (m : ℕ) (c : Dev nD) : sProp 𝕄 := if d = false ∧ b = 0 then bundle m (back false m c) else iprop(emp)
/-- What a device takes of it. -/
def takeOf (d : Bool) (b : Fin 2) (m : ℕ) (c : Dev nD) : sProp 𝕄 := if d = false ∧ b = 0 then give (back false (m + 1) c) c else iprop(emp)
/-- What it has taken in the first `s` steps. -/
def keepL (s : ℕ) (d : Bool) (b : Fin 2) (c : Dev nD) : sProp 𝕄 := bigSep (Finset.range s) fun m => takeOf d b m c
theorem ex_hi (d : Bool) (m : Fin 15) (b : Fin 2) (c : Dev nD) : (ex (.hi, d, m, b) c : sProp 𝕄) = exN d b m.val c := by
  unfold ex exN
  simp only [true_and]
theorem ex_lo (d : Bool) (m : Fin 15) (b : Fin 2) (c : Dev nD) : (ex (.lo, d, m, b) c : sProp 𝕄) = iprop(emp) := by
  unfold ex; exact if_neg fun h => by cases h.1
theorem ex_q (d : Bool) (m : Fin 15) (b : Fin 2) (c : Dev nD) : (ex (.q, d, m, b) c : sProp 𝕄) = iprop(emp) := by
  unfold ex; exact if_neg fun h => by cases h.1
theorem big_Ico (a n : ℕ) (h : a < n) (Φ : ℕ → sProp 𝕄) : (bigSep (Finset.Ico a n) Φ : sProp 𝕄) = iprop(Φ a ∗ bigSep (Finset.Ico (a + 1) n) Φ) := by
  exact bigSep_Ico_succ_bot h Φ
theorem big_range (n : ℕ) (Φ : ℕ → sProp 𝕄) : (bigSep (Finset.range (n + 1)) Φ : sProp 𝕄) = iprop(Φ n ∗ bigSep (Finset.range n) Φ) := by
  exact bigSep_range_succ n Φ
theorem exN_step (d : Bool) (b : Fin 2) (m : ℕ) (hm : m < 15) (c : Dev nD) : (exN d b m (pv d c) : sProp 𝕄) ⊢ iprop(takeOf d b m c ∗ exN d b (m + 1) c) := by
  unfold exN takeOf
  by_cases h : d = false ∧ b = 0
  · rw [if_pos h, if_pos h, if_pos h, h.1]
    unfold bundle
    have e : back false m (pv false c) = back false (m + 1) c := rfl
    rw [e, big_Ico (m + 1) 16 (by omega), fwd_back]
  · rw [if_neg h, if_neg h, if_neg h]
    iintro H
    isplitl [H]; · iexact H
    iempintro
theorem keepL_succ (s : ℕ) (d : Bool) (b : Fin 2) (c : Dev nD) : (keepL (s + 1) d b c : sProp 𝕄) = iprop(takeOf d b s c ∗ keepL s d b c) := big_range s _

variable (A : Dev nD → Vec F S4096x256 .bf16) (B : Dev nD → Vec F S256x2048 .bf16) (K : GSem nD τ sig → ℕ) (c : Dev nD)

/-! ## A lane's step -/

/-- The lane's half of the sum, known after the last step. -/
def finSt (s : ℕ) (d : Bool) (b : Fin 2) : sProp 𝕄 := iprop(∃ X, ⌜s = 15 → X = yV A B d b 14 c⌝ ∗ finH c d b X)
/-- The slots a lane holds besides: the remainder's slot 10 until it is used, both last slots after the last step. -/
def tailSt (s : ℕ) (d : Bool) (b : Fin 2) : sProp 𝕄 :=
  if s ≤ 9 then anySl c .lo d 10 b else if s = 15 then iprop(anySl c .lo d 15 b ∗ anySl c .hi d 15 b) else iprop(emp)
def laneSt (s : ℕ) (d : Bool) (b : Fin 2) : sProp 𝕄 := iprop(finSt A B c s d b ∗ tailSt c s d b ∗ keepL s d b c)
abbrev lo2 (d : Bool) (b : Fin 2) : ℕ := 2 * (2 * b.val + d.toNat)

theorem rsOut_mid (d : Bool) (s : Fin 15) (b : Fin 2) (hs : s.val < 14) (w : ℕ) (hw : w ≤ 8 * (s.val + 1) + lo2 d b) (X : S256x512.Idx → Elt F .bf16) (P : Pg F PUnit) (Q : PUnit.{1} → sProp 𝕄) :
    (iprop(ctx A B K ∗ chSt c (8 * (s.val + 1) + lo2 d b) w ∗ ow c (8 * (s.val + 1) + lo2 d b) ∗ sl c (hiM d) s.succ b fullShare X
        ∗ (if 9 ≤ s.val then anySl c .lo d s.succ b else iprop(emp)) ∗ exN d b (s.val + 1) c) : sProp 𝕄)
      ⊢ iprop(((chSt c (8 * (s.val + 1) + lo2 d b + 2) w ∗ ow c (8 * (s.val + 1) + lo2 d b + 2)) -∗ wpc c P Q) -∗ wpc c (rsOut d (nx d c) s b (yV A B d b s.val c) P) Q) := by
  unfold rsOut
  rw [dif_pos hs]
  have hs1 : s.val + 1 < 15 := by omega
  have hd : d.toNat ≤ 1 := by cases d <;> decide
  have hb := b.isLt
  by_cases h9 : 9 ≤ s.val
  · rw [if_pos h9, if_pos h9]
    iintro ⟨#Hctx, Hch, Ho, Hhi, ⟨%Y, Hlo⟩, Hex⟩ Hk
    iapply (wp_loadSlot c (hiM d) s.succ b fullShare X Q) $$ [Hhi]; · iexact Hhi
    iintro Hhi
    iapply (wp_storeSlot c (hiM d) s.succ b (hiW d) (chP .hi) X (hiV (yV A B d b s.val c)) Q) $$ [Hhi]; · iexact Hhi
    iintro Hhi
    iapply (wp_loadSlot c (loM d) s.succ b fullShare Y Q) $$ [Hlo]; · iexact Hlo
    iintro Hlo
    iapply (wp_storeSlot c (loM d) s.succ b (loW d) (chP .lo) Y (loV (yV A B d b s.val c)) Q) $$ [Hlo]; · iexact Hlo
    iintro Hlo
    rw [sendHi_eq, sendLo_eq]
    iapply (wp_sendC A B K c (.hi, d, ⟨s.val + 1, hs1⟩, b) (8 * (s.val + 1) + lo2 d b) w rfl rfl hw _ Q) $$ [Hch Ho Hhi Hex]
    · isplitr; · iexact Hctx
      isplitl [Hch]; · iexact Hch
      isplitl [Ho]; · iexact Ho
      isplitl [Hhi]; · iexact Hhi
      rw [ex_hi]; iexact Hex
    iintro ⟨Hch, Ho⟩
    iapply (wp_sendC A B K c (.lo, d, ⟨s.val + 1, hs1⟩, b) (8 * (s.val + 1) + lo2 d b + 1) w (decide_eq_true (by show 10 ≤ s.val + 1; omega)) rfl (by omega) _ Q) $$ [Hch Ho Hlo]
    · isplitr; · iexact Hctx
      isplitl [Hch]; · iexact Hch
      isplitl [Ho]; · iexact Ho
      isplitl [Hlo]; · iexact Hlo
      rw [ex_lo]; iempintro
    iexact Hk
  · rw [if_neg h9, if_neg h9]
    have hg : gap (8 * (s.val + 1) + lo2 d b + 1) := .inl ⟨by unfold lo2; omega, by unfold lo2; omega⟩
    iintro ⟨#Hctx, Hch, Ho, Hhi, -, Hex⟩ Hk
    iapply (wp_loadSlot c (hiM d) s.succ b fullShare X Q) $$ [Hhi]; · iexact Hhi
    iintro Hhi
    iapply (wp_storeSlot c (hiM d) s.succ b (hiW d) (chP .hi) X (hiV (yV A B d b s.val c)) Q) $$ [Hhi]; · iexact Hhi
    iintro Hhi
    rw [sendHi_eq]
    iapply (wp_sendC A B K c (.hi, d, ⟨s.val + 1, hs1⟩, b) (8 * (s.val + 1) + lo2 d b) w rfl rfl hw _ Q) $$ [Hch Ho Hhi Hex]
    · isplitr; · iexact Hctx
      isplitl [Hch]; · iexact Hch
      isplitl [Ho]; · iexact Ho
      isplitl [Hhi]; · iexact Hhi
      rw [ex_hi]; iexact Hex
    rw [chSt_gapn c _ w hg, ow_gap c _ hg]
    iexact Hk

theorem rsOut_last (d : Bool) (s : Fin 15) (b : Fin 2) (hs : ¬ s.val < 14) (P : Pg F PUnit) (Q : PUnit.{1} → sProp 𝕄) :
    (finSt A B c s.val d b : sProp 𝕄) ⊢ iprop((finSt A B c (s.val + 1) d b -∗ wpc c P Q) -∗ wpc c (rsOut d (nx d c) s b (yV A B d b s.val c) P) Q) := by
  unfold rsOut finSt
  rw [dif_neg hs, castSelf]
  iintro ⟨%X, -, H⟩ Hk
  iapply (wp_loadSlice c (finM d) (finR b) fullShare (fun _ => rfl) X Q) $$ [H]; · iexact H
  iintro H
  iapply (wp_storeSlice c (finM d) (finR b) (fun _ => rfl) X (yV A B d b s.val c) (K := fun _ => P) Q) $$ [H]; · iexact H
  iintro H
  iapply Hk
  iexists (yV A B d b s.val c)
  isplitr
  · ipureintro; intro _; rw [show s.val = 14 by omega]
  · iexact H

theorem wp_rsLane (d : Bool) (s : Fin 15) (b : Fin 2) (P : Pg F PUnit) (Q : PUnit.{1} → sProp 𝕄) :
    (iprop(ctx A B K ∗ chSt c (8 * (s.val + 1) + lo2 d b) (8 * s.val + lo2 d b) ∗ ow c (8 * (s.val + 1) + lo2 d b) ∗ laneSt A B c s.val d b) : sProp 𝕄)
      ⊢ iprop(((chSt c (8 * (s.val + 1) + lo2 d b + 2) (8 * s.val + lo2 d b + 2) ∗ ow c (8 * (s.val + 1) + lo2 d b + 2) ∗ laneSt A B c (s.val + 1) d b) -∗ wpc c P Q)
        -∗ wpc c (rsLane d (nx d c) s b (prodAt A B d s c) P) Q) := by
  have hd : d.toNat ≤ 1 := by cases d <;> decide
  have hb := b.isLt
  have hs := s.isLt
  have hl : lo2 d b ≤ 6 := by unfold lo2; omega
  have hx : (ex (.hi, d, s, b) (pv d c) : sProp 𝕄) ⊢ iprop(takeOf d b s.val c ∗ exN d b (s.val + 1) c) := by rw [ex_hi]; exact exN_step d b s.val hs c
  have hy := yV_eq A B d b s c
  unfold rsLane laneSt
  rw [keepL_succ, waitHi_eq]
  by_cases h10 : 10 ≤ s.val
  · have hu : lmUsed (.lo, d, s, b) = true := decide_eq_true h10
    rw [if_pos h10, waitLo_eq]
    rw [if_pos h10] at hy
    have hrest : (finSt A B c s.val d b : sProp 𝕄) ⊢ iprop(finSt A B c s.val d b) := .rfl
    iintro ⟨#Hctx, Hch, Ho, Hfin, Htail, Hkeep⟩ Hk
    iapply (wp_waitC A B K c (.hi, d, s, b) (8 * (s.val + 1) + lo2 d b) (8 * s.val + lo2 d b) rfl rfl (by omega) (cut_ok c _ _ (by omega) (.inl (by omega))) _ Q) $$ [Hch Ho]
    · isplitr; · iexact Hctx
      isplitl [Hch]; · iexact Hch
      isplitl [Ho]; · iexact Ho
      unfold kept; iempintro
    iintro ⟨Hch, Ho, Hhi, Hex⟩
    ihave Hex := hx $$ Hex
    icases Hex with ⟨Htake, Hex⟩
    iapply (wp_waitC A B K c (.lo, d, s, b) (8 * (s.val + 1) + lo2 d b) (8 * s.val + lo2 d b + 1) hu rfl (by omega) (cut_ok c _ _ (by omega) (.inl (by omega))) _ Q) $$ [Hch Ho]
    · isplitr; · iexact Hctx
      isplitl [Hch]; · iexact Hch
      isplitl [Ho]; · iexact Ho
      unfold kept; iempintro
    iintro ⟨Hch, Ho, Hlo, -⟩
    iapply (wp_loadSlot c (hiM d) s.succ b fullShare (hiMsg A B d b s.val (pv d c)) Q) $$ [Hhi]; · iexact Hhi
    iintro Hhi
    iapply (wp_loadSlot c (loM d) s.succ b fullShare (loMsg A B d b s.val (pv d c)) Q) $$ [Hlo]; · iexact Hlo
    iintro Hlo
    have hout : ∀ P', (wpc c (rsOut d (nx d c) s b (yV A B d b s.val c) P') Q : sProp 𝕄) ⊢ wpc c (rsOut d (nx d c) s b (accV b (prodAt A B d s c) (gotLoV (up (hiMsg A B d b s.val (pv d c))) (up (loMsg A B d b s.val (pv d c))))) P') Q := fun P' => by
      rw [← hy]
    iapply (hout P)
    by_cases h14 : s.val < 14
    · iapply (rsOut_mid A B K c d s b h14 (8 * s.val + lo2 d b + 2) (by omega) (hiMsg A B d b s.val (pv d c)) P Q) $$ [Hch Ho Hhi Hlo Hex]
      · isplitr; · iexact Hctx
        isplitl [Hch]; · iexact Hch
        isplitl [Ho]; · iexact Ho
        isplitl [Hhi]; · iexact Hhi
        isplitl [Hlo]
        · have e : (anySl c .lo d s.succ b : sProp 𝕄) ⊢ (if 9 ≤ s.val then anySl c .lo d s.succ b else iprop(emp)) := by rw [if_pos (by omega)]
          iapply e; unfold anySl; iexists _; iexact Hlo
        · iexact Hex
      iintro ⟨Hch, Ho⟩
      iapply Hk
      isplitl [Hch]; · iexact Hch
      isplitl [Ho]; · iexact Ho
      isplitl [Hfin]
      · unfold finSt
        icases Hfin with ⟨%X, -, H⟩
        iexists X
        isplitr; · ipureintro; intro e; omega
        iexact H
      isplitr [Htake Hkeep]
      · have e : iprop(emp) ⊢ (tailSt c (s.val + 1) d b : sProp 𝕄) := by
          unfold tailSt
          rw [if_neg (by omega), if_neg (by omega)]
        iapply e
        iempintro
      · isplitl [Htake]; · iexact Htake
        iexact Hkeep
    · iapply (rsOut_last A B c d s b h14 P Q) $$ [Hfin]; · iexact Hfin
      iintro Hfin
      iapply Hk
      have e1 : gap (8 * (s.val + 1) + lo2 d b) := .inr ⟨by omega, by omega⟩
      have e2 : gap (8 * (s.val + 1) + lo2 d b + 1) := .inr ⟨by omega, by omega⟩
      have e3 : (chSt c (8 * (s.val + 1) + lo2 d b) (8 * s.val + lo2 d b + 2) : sProp 𝕄) ⊢ chSt c (8 * (s.val + 1) + lo2 d b + 2) (8 * s.val + lo2 d b + 2) := by
        rw [chSt_gapn c _ _ e1, chSt_gapn c _ _ e2]
      have e4 : (ow c (8 * (s.val + 1) + lo2 d b) : sProp 𝕄) ⊢ ow c (8 * (s.val + 1) + lo2 d b + 2) := by
        rw [ow_gap c _ e1, ow_gap c _ e2]
      isplitl [Hch]; · iapply e3; iexact Hch
      isplitl [Ho]; · iapply e4; iexact Ho
      isplitl [Hfin]; · iexact Hfin
      isplitl [Hhi Hlo]
      · have e3 : s.succ = 15 := Fin.ext (by show s.val + 1 = 15; omega)
        have e : iprop(anySl c .lo d s.succ b ∗ anySl c .hi d s.succ b) ⊢ (tailSt c (s.val + 1) d b : sProp 𝕄) := by
          unfold tailSt
          rw [if_neg (by omega), if_pos (by omega), e3]
        iapply e
        unfold anySl
        isplitl [Hlo]; · iexists _; iexact Hlo
        · iexists _; iexact Hhi
      · isplitl [Htake]; · iexact Htake
        iexact Hkeep
  · have hg : gap (8 * s.val + lo2 d b + 1) := .inl ⟨by unfold lo2; omega, by omega⟩
    rw [if_neg h10]
    rw [if_neg h10] at hy
    iintro ⟨#Hctx, Hch, Ho, Hfin, Htail, Hkeep⟩ Hk
    iapply (wp_waitC A B K c (.hi, d, s, b) (8 * (s.val + 1) + lo2 d b) (8 * s.val + lo2 d b) rfl rfl (by omega) (cut_ok c _ _ (by omega) (.inl (by omega))) _ Q) $$ [Hch Ho]
    · isplitr; · iexact Hctx
      isplitl [Hch]; · iexact Hch
      isplitl [Ho]; · iexact Ho
      unfold kept; iempintro
    iintro ⟨Hch, Ho, Hhi, Hex⟩
    ihave Hex := hx $$ Hex
    icases Hex with ⟨Htake, Hex⟩
    iapply (wp_loadSlot c (hiM d) s.succ b fullShare (hiMsg A B d b s.val (pv d c)) Q) $$ [Hhi]; · iexact Hhi
    iintro Hhi
    have hout : ∀ P', (wpc c (rsOut d (nx d c) s b (yV A B d b s.val c) P') Q : sProp 𝕄) ⊢ wpc c (rsOut d (nx d c) s b (accV b (prodAt A B d s c) (gotV (up (hiMsg A B d b s.val (pv d c))))) P') Q := fun P' => by
      rw [← hy]
    iapply (hout P)
    have e3 : (chSt c (8 * (s.val + 1) + lo2 d b) (8 * s.val + lo2 d b + 1) : sProp 𝕄) ⊢ chSt c (8 * (s.val + 1) + lo2 d b) (8 * s.val + lo2 d b + 2) := by
      rw [chSt_gapw c _ _ hg]
    have e5 : (tailSt c s.val d b : sProp 𝕄) ⊢ iprop((if 9 ≤ s.val then anySl c .lo d s.succ b else iprop(emp)) ∗ tailSt c (s.val + 1) d b) := by
      unfold tailSt
      rw [if_pos (by omega)]
      by_cases h9 : 9 ≤ s.val
      · have e3 : s.succ = 10 := Fin.ext (by show s.val + 1 = 10; omega)
        rw [if_pos h9, if_neg (by omega), if_neg (by omega), e3]
        iintro H
        isplitl [H]; · iexact H
        iempintro
      · rw [if_neg h9, if_pos (by omega)]
        iintro H
        isplitr; · iempintro
        iexact H
    ihave Htail := e5 $$ Htail
    icases Htail with ⟨Hlo, Htail⟩
    iapply (rsOut_mid A B K c d s b (by omega) (8 * s.val + lo2 d b + 2) (by omega) (hiMsg A B d b s.val (pv d c)) P Q) $$ [Hch Ho Hhi Hlo Hex]
    · isplitr; · iexact Hctx
      isplitl [Hch]; · iapply e3; iexact Hch
      isplitl [Ho]; · iexact Ho
      isplitl [Hhi]; · iexact Hhi
      isplitl [Hlo]; · iexact Hlo
      iexact Hex
    iintro ⟨Hch, Ho⟩
    iapply Hk
    isplitl [Hch]; · iexact Hch
    isplitl [Ho]; · iexact Ho
    isplitl [Hfin]
    · unfold finSt
      icases Hfin with ⟨%X, -, H⟩
      iexists X
      isplitr; · ipureintro; intro e; omega
      iexact H
    isplitl [Htail]; · iexact Htail
    isplitl [Htake]; · iexact Htake
    iexact Hkeep

end Cert.KernelIdeal.Pf

end
-- ==== Proof.KernelIdeal.Ring.lean ====
/- The reduce-scatter: its first messages and its steps. -/
module

public import proofs.«01_k».proof.Proof.KernelIdeal.Scatter

@[expose] public section

noncomputable section

namespace Cert.KernelIdeal.Pf

open Idealize.ShloMosaic Idealize.SL.Sem Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]
local notation "𝕄" => MT nD τ sig Unit (Elt F) ℕ UU ℕ

variable (A : Dev nD → Vec F S4096x256 .bf16) (B : Dev nD → Vec F S256x2048 .bf16) (K : GSem nD τ sig → ℕ) (c : Dev nD)

/-- One thing per lane, in the order the lanes are served. -/
def lanes (Φ : Bool → Fin 2 → sProp 𝕄) : sProp 𝕄 := iprop(Φ false 0 ∗ Φ true 0 ∗ Φ false 1 ∗ Φ true 1)

/-- The operands in the buffers the loops read. -/
def opSt : sProp 𝕄 := iprop(owns (c : Thread nD τ) aM fullShare (k0_pay2 (A c)) ∗ owns (c : Thread nD τ) wM fullShare (k0_pay3 (B c)))

theorem wp_loadA (d : Bool) (s : Fin 15) (P : Vec F S256x256 .bf16 → Pg F PUnit) (Q : PUnit.{1} → sProp 𝕄) :
    (opSt A B c : sProp 𝕄) ⊢ iprop((opSt A B c -∗ wpc c (P (xV A d s c)) Q) -∗ wpc c (loadA (posW c) (chk3_ok c) d s P) Q) := by
  unfold opSt
  iintro ⟨Ha, Hw⟩ Hk
  iapply (wp_loadOwns c aM _ fullShare (k0_pay2 (A c)) (K := P) Q) $$ [Ha]; · iexact Ha
  iintro Ha
  iapply Hk
  isplitl [Ha]; · iexact Ha
  iexact Hw

theorem wp_loadA0 (P : Vec F S256x256 .bf16 → Pg F PUnit) (Q : PUnit.{1} → sProp 𝕄) {hl} :
    (opSt A B c : sProp 𝕄) ⊢ iprop((opSt A B c -∗ wpc c (P (x0V A c)) Q) -∗ wpc c (.op (.load aM (Rect.unit (s := S4096x256) (k0_off4 (posW c)) S256x256.size (k0_off4_inb (posW c) (chk3_ok c))).toLoadRect hl) P) Q) := by
  unfold opSt
  iintro ⟨Ha, Hw⟩ Hk
  iapply (wp_loadOwns c aM _ fullShare (k0_pay2 (A c)) (K := P) Q) $$ [Ha]; · iexact Ha
  iintro Ha
  iapply Hk
  isplitl [Ha]; · iexact Ha
  iexact Hw

theorem wp_loadW (d : Bool) (P : Vec F S256x1024 .bf16 → Pg F PUnit) (Q : PUnit.{1} → sProp 𝕄) :
    (opSt A B c : sProp 𝕄) ⊢ iprop((opSt A B c -∗ wpc c (P (wV B d c)) Q) -∗ wpc c (loadW d P) Q) := by
  unfold opSt
  iintro ⟨Ha, Hw⟩ Hk
  iapply (wp_loadOwns c wM _ fullShare (k0_pay3 (B c)) (K := P) Q) $$ [Hw]; · iexact Hw
  iintro Hw
  iapply Hk
  isplitl [Ha]; · iexact Ha
  iexact Hw

theorem wp_rsLaneAt (d : Bool) (s : Fin 15) (b : Fin 2) (n w n' w' : ℕ) (hn : n = 8 * (s.val + 1) + lo2 d b) (hw : w = 8 * s.val + lo2 d b) (hn' : n' = n + 2) (hw' : w' = w + 2)
    (P : Pg F PUnit) (Q : PUnit.{1} → sProp 𝕄) :
    (iprop(ctx A B K ∗ chSt c n w ∗ ow c n ∗ laneSt A B c s.val d b) : sProp 𝕄)
      ⊢ iprop(((chSt c n' w' ∗ ow c n' ∗ laneSt A B c (s.val + 1) d b) -∗ wpc c P Q)
        -∗ wpc c (rsLane d (nbr (nxW false c) (nxW true c) (chk2_ok c) (chk1_ok c) d) s b (prodAt A B d s c) P) Q) := by
  subst hn hw hn' hw'
  rw [nbr_eq]
  exact wp_rsLane A B K c d s b P Q

theorem wp_rsStep (s : Fin 15) (P : Pg F PUnit) (Q : PUnit.{1} → sProp 𝕄) :
    (iprop(ctx A B K ∗ chSt c (8 * (s.val + 1)) (8 * s.val) ∗ ow c (8 * (s.val + 1)) ∗ opSt A B c ∗ lanes (laneSt A B c s.val)) : sProp 𝕄)
      ⊢ iprop(((chSt c (8 * (s.val + 2)) (8 * (s.val + 1)) ∗ ow c (8 * (s.val + 2)) ∗ opSt A B c ∗ lanes (laneSt A B c (s.val + 1))) -∗ wpc c P Q)
        -∗ wpc c (rsStep (nxW false c) (nxW true c) (posW c) (chk2_ok c) (chk1_ok c) (chk3_ok c) s P) Q) := by
  unfold rsStep lanes
  iintro ⟨#Hctx, Hch, Ho, Hop, H0, H1, H2, H3⟩ Hk
  iapply (wp_loadA A B c false s _ Q) $$ [Hop]; · iexact Hop
  iintro Hop
  iapply (wp_loadW A B c false _ Q) $$ [Hop]; · iexact Hop
  iintro Hop
  iapply (wp_loadA A B c true s _ Q) $$ [Hop]; · iexact Hop
  iintro Hop
  iapply (wp_loadW A B c true _ Q) $$ [Hop]; · iexact Hop
  iintro Hop
  iapply (wp_rsLaneAt A B K c false s 0 _ _ (8 * (s.val + 1) + 2) (8 * s.val + 2) rfl rfl rfl rfl _ Q) $$ [Hch Ho H0]
  · isplitr; · iexact Hctx
    isplitl [Hch]; · iexact Hch
    isplitl [Ho]; · iexact Ho
    iexact H0
  iintro ⟨Hch, Ho, H0⟩
  iapply (wp_rsLaneAt A B K c true s 0 _ _ (8 * (s.val + 1) + 4) (8 * s.val + 4) rfl rfl rfl rfl _ Q) $$ [Hch Ho H1]
  · isplitr; · iexact Hctx
    isplitl [Hch]; · iexact Hch
    isplitl [Ho]; · iexact Ho
    iexact H1
  iintro ⟨Hch, Ho, H1⟩
  iapply (wp_rsLaneAt A B K c false s 1 _ _ (8 * (s.val + 1) + 6) (8 * s.val + 6) rfl rfl rfl rfl _ Q) $$ [Hch Ho H2]
  · isplitr; · iexact Hctx
    isplitl [Hch]; · iexact Hch
    isplitl [Ho]; · iexact Ho
    iexact H2
  iintro ⟨Hch, Ho, H2⟩
  iapply (wp_rsLaneAt A B K c true s 1 _ _ (8 * (s.val + 2)) (8 * (s.val + 1)) rfl rfl rfl rfl _ Q) $$ [Hch Ho H3]
  · isplitr; · iexact Hctx
    isplitl [Hch]; · iexact Hch
    isplitl [Ho]; · iexact Ho
    iexact H3
  iintro ⟨Hch, Ho, H3⟩
  iapply Hk
  isplitl [Hch]; · iexact Hch
  isplitl [Ho]; · iexact Ho
  isplitl [Hop]; · iexact Hop
  isplitl [H0]; · iexact H0
  isplitl [H1]; · iexact H1
  isplitl [H2]; · iexact H2
  iexact H3

theorem wp_rsFrom (P : Pg F PUnit) (Q : PUnit.{1} → sProp 𝕄) : ∀ (n : ℕ) (hn : n ≤ 15),
    (iprop(ctx A B K ∗ chSt c (8 * (15 - n + 1)) (8 * (15 - n)) ∗ ow c (8 * (15 - n + 1)) ∗ opSt A B c ∗ lanes (laneSt A B c (15 - n))) : sProp 𝕄)
      ⊢ iprop(((chSt c 128 120 ∗ ow c 128 ∗ opSt A B c ∗ lanes (laneSt A B c 15)) -∗ wpc c P Q)
        -∗ wpc c (rsFrom (nxW false c) (nxW true c) (posW c) (chk2_ok c) (chk1_ok c) (chk3_ok c) P n hn) Q)
  | 0, _ => by
    unfold rsFrom
    iintro ⟨-, H⟩ Hk
    iapply Hk
    iexact H
  | n + 1, hn => by
    have hstep := wp_rsStep A B K c ⟨14 - n, by omega⟩ (rsFrom (nxW false c) (nxW true c) (posW c) (chk2_ok c) (chk1_ok c) (chk3_ok c) P n (by omega)) Q
    have hrec := wp_rsFrom P Q n (by omega)
    have e : 15 - n = 14 - n + 1 := by omega
    have e' : 15 - (n + 1) = 14 - n := by omega
    rw [e] at hrec
    rw [e']
    unfold rsFrom
    iintro ⟨#Hctx, H⟩ Hk
    iapply hstep $$ [H]
    · isplitr; · iexact Hctx
      iexact H
    iintro H
    iapply hrec $$ [H]
    · isplitr; · iexact Hctx
      iexact H
    iexact Hk

/-! ## The first messages -/

theorem firstV_half (d : Bool) (b : Fin 2) : half b (flat (firstV (x0V A c) (wV B d c))) = hi0 A B d b c := by
  unfold firstV
  rw [flat_unflat]

theorem wp_firstStore (d : Bool) (P : Pg F PUnit) (Q : PUnit.{1} → sProp 𝕄) :
    (iprop(opSt A B c ∗ anySl c .hi d 0 0 ∗ anySl c .hi d 0 1) : sProp 𝕄)
      ⊢ iprop(((opSt A B c ∗ sl c (chM .hi d) 0 0 fullShare (hi0 A B d 0 c) ∗ sl c (chM .hi d) 0 1 fullShare (hi0 A B d 1 c)) -∗ wpc c P Q)
        -∗ wpc c (firstStore (posW c) (chk3_ok c) d P) Q) := by
  unfold firstStore
  have h0 : (sl c (chM .hi d) 0 0 fullShare (half 0 (flat (firstV (x0V A c) (wV B d c)))) : sProp 𝕄) ⊢ sl c (chM .hi d) 0 0 fullShare (hi0 A B d 0 c) := by rw [firstV_half]
  have h1 : (sl c (chM .hi d) 0 1 fullShare (half 1 (flat (firstV (x0V A c) (wV B d c)))) : sProp 𝕄) ⊢ sl c (chM .hi d) 0 1 fullShare (hi0 A B d 1 c) := by rw [firstV_half]
  unfold anySl
  iintro ⟨Hop, ⟨%X, H0⟩, ⟨%Y, H1⟩⟩ Hk
  ihave Hf := (full_any c (chM .hi d) 0 fullShare X Y) $$ [H0 H1]
  · isplitl [H0]; · iexact H0
    iexact H1
  icases Hf with ⟨%Z, Hf⟩
  iapply (wp_loadA0 A B c _ Q) $$ [Hop]; · iexact Hop
  iintro Hop
  iapply (wp_loadW A B c d _ Q) $$ [Hop]; · iexact Hop
  iintro Hop
  iapply (wp_loadSlice c (hiM d) (fullR 0) fullShare (fun _ => rfl) Z Q) $$ [Hf]; · iexact Hf
  iintro Hf
  iapply (wp_storeSlice c (hiM d) (fullR 0) (fun _ => rfl) Z (firstV (x0V A c) (wV B d c)) (K := fun _ => P) Q) $$ [Hf]; · iexact Hf
  iintro Hf
  ihave Hf := (full_split c (hiM d) 0 fullShare (firstV (x0V A c) (wV B d c))) $$ Hf
  icases Hf with ⟨H0, H1⟩
  iapply Hk
  isplitl [Hop]; · iexact Hop
  isplitl [H0]; · iapply h0; iexact H0
  iapply h1; iexact H1

/-- The four lanes' first messages of a ring, the numbers of which follow each other. -/
theorem wp_firstSends (k : Kd) (hk : k = .hi ∨ k = .q) (send : Bool → Dev nD → Fin 15 → Fin 2 → Pg F PUnit → Pg F PUnit)
    (hsend : ∀ d b P, send d (nx d c) 0 b P = sendC (k, d, 0, b) (nx d c) P) (f : ℕ → ℕ) (w : ℕ)
    (ho : ∀ d b, lmOrd (k, d, 0, b) = f (2 * b.val + d.toNat)) (hw : ∀ t, w ≤ f t)
    (hnext : ∀ t < 4, (chSt c (f t + 1) w : sProp 𝕄) ⊢ chSt c (f (t + 1)) w) (hnext' : ∀ t < 4, (ow c (f t + 1) : sProp 𝕄) ⊢ ow c (f (t + 1)))
    (P : Pg F PUnit) (Q : PUnit.{1} → sProp 𝕄) :
    (iprop(ctx A B K ∗ chSt c (f 0) w ∗ ow c (f 0) ∗ lanes (fun d b => iprop(sl c (chM k d) 0 b (qS' k) (msgV A B c (k, d, 0, b)) ∗ ex (k, d, 0, b) c))) : sProp 𝕄)
      ⊢ iprop(((chSt c (f 4) w ∗ ow c (f 4)) -∗ wpc c P Q) -∗ wpc c (firstSends (nxW false c) (nxW true c) (chk2_ok c) (chk1_ok c) send P) Q) := by
  have hone : ∀ (d : Bool) (b : Fin 2) (P' : Pg F PUnit), (iprop(ctx A B K ∗ chSt c (f (2 * b.val + d.toNat)) w ∗ ow c (f (2 * b.val + d.toNat)) ∗ sl c (chM k d) 0 b (qS' k) (msgV A B c (k, d, 0, b)) ∗ ex (k, d, 0, b) c) : sProp 𝕄)
      ⊢ iprop(((chSt c (f (2 * b.val + d.toNat + 1)) w ∗ ow c (f (2 * b.val + d.toNat + 1))) -∗ wpc c P' Q) -∗ wpc c (send d (nx d c) 0 b P') Q) := by
    intro d b P'
    have hd : d.toNat ≤ 1 := by cases d <;> decide
    have hb := b.isLt
    have hu : lmUsed (k, d, 0, b) = true := by rcases hk with rfl | rfl <;> rfl
    rw [hsend]
    iintro ⟨#Hctx, Hch, Ho, H⟩ Hk
    iapply (wp_sendC A B K c (k, d, 0, b) (f (2 * b.val + d.toNat)) w hu (ho d b) (hw _) P' Q) $$ [Hch Ho H]
    · isplitr; · iexact Hctx
      isplitl [Hch]; · iexact Hch
      isplitl [Ho]; · iexact Ho
      iexact H
    iintro ⟨Hch, Ho⟩
    iapply Hk
    isplitl [Hch]; · iapply (hnext _ (by omega)); iexact Hch
    iapply (hnext' _ (by omega)); iexact Ho
  unfold firstSends lanes
  rw [nbr_eq, nbr_eq]
  iintro ⟨#Hctx, Hch, Ho, H0, H1, H2, H3⟩ Hk
  iapply (hone false 0 _) $$ [Hch Ho H0]
  · isplitr; · iexact Hctx
    isplitl [Hch]; · iexact Hch
    isplitl [Ho]; · iexact Ho
    iexact H0
  iintro ⟨Hch, Ho⟩
  iapply (hone true 0 _) $$ [Hch Ho H1]
  · isplitr; · iexact Hctx
    isplitl [Hch]; · iexact Hch
    isplitl [Ho]; · iexact Ho
    iexact H1
  iintro ⟨Hch, Ho⟩
  iapply (hone false 1 _) $$ [Hch Ho H2]
  · isplitr; · iexact Hctx
    isplitl [Hch]; · iexact Hch
    isplitl [Ho]; · iexact Ho
    iexact H2
  iintro ⟨Hch, Ho⟩
  iapply (hone true 1 _) $$ [Hch Ho H3]
  · isplitr; · iexact Hctx
    isplitl [Hch]; · iexact Hch
    isplitl [Ho]; · iexact Ho
    iexact H3
  iintro ⟨Hch, Ho⟩
  iapply Hk
  isplitl [Hch]; · iexact Hch
  iexact Ho

theorem wp_firstHi (P : Pg F PUnit) (Q : PUnit.{1} → sProp 𝕄) :
    (iprop(ctx A B K ∗ chSt c 0 0 ∗ ow c 0 ∗ lanes (fun d b => sl c (chM .hi d) 0 b fullShare (hi0 A B d b c)) ∗ bundle 0 c) : sProp 𝕄)
      ⊢ iprop(((chSt c 8 0 ∗ ow c 8) -∗ wpc c P Q) -∗ wpc c (firstSends (nxW false c) (nxW true c) (chk2_ok c) (chk1_ok c) sendHi P) Q) := by
  have hg : ∀ t < 4, gap (2 * t + 1) := fun t ht => .inl ⟨by omega, by omega⟩
  have hx : ∀ d b, (d = false ∧ b = 0 → False) → iprop(emp) ⊢ (ex (.hi, d, 0, b) c : sProp 𝕄) := by
    intro d b h
    rw [ex_hi]; unfold exN; rw [if_neg h]
  have hx0 : (bundle 0 c : sProp 𝕄) ⊢ ex (.hi, false, 0, 0) c := by
    rw [ex_hi]; unfold exN; rw [if_pos ⟨rfl, rfl⟩]; exact .rfl
  have main := wp_firstSends A B K c .hi (.inl rfl) sendHi (fun d b P => sendHi_eq d (nx d c) 0 b P) (fun t => 2 * t) 0 (fun d b => by cases d <;> revert b <;> decide) (fun t => Nat.zero_le _)
    (fun t ht => by rw [chSt_gapn c _ _ (hg t ht)]; exact .rfl) (fun t ht => by rw [ow_gap c _ (hg t ht)]; exact .rfl) P Q
  refine BIBase.Entails.trans ?_ main
  unfold lanes
  iintro ⟨#Hctx, Hch, Ho, ⟨H0, H1, H2, H3⟩, Hb⟩
  isplitr; · iexact Hctx
  isplitl [Hch]; · iexact Hch
  isplitl [Ho]; · iexact Ho
  isplitl [H0 Hb]
  · isplitl [H0]; · iexact H0
    iapply hx0; iexact Hb
  isplitl [H1]
  · isplitl [H1]; · iexact H1
    iapply (hx true 0 (by decide)); iempintro
  isplitl [H2]
  · isplitl [H2]; · iexact H2
    iapply (hx false 1 (by decide)); iempintro
  isplitl [H3]; · iexact H3
  iapply (hx true 1 (by decide)); iempintro

end Cert.KernelIdeal.Pf

end
-- ==== Proof.KernelIdeal.Maxs.lean ====
/- The exchange of the maxima. -/
module

public import proofs.«01_k».proof.Proof.KernelIdeal.Ring

@[expose] public section

noncomputable section

namespace Cert.KernelIdeal.Pf

open Idealize.ShloMosaic Idealize.SL.Sem Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]
local notation "𝕄" => MT nD τ sig Unit (Elt F) ℕ UU ℕ

variable (A : Dev nD → Vec F S4096x256 .bf16) (B : Dev nD → Vec F S256x2048 .bf16) (K : GSem nD τ sig → ℕ) (c : Dev nD)

/-! ## A loop over the others -/

theorem big_from (m : ℕ) (hm : m < 15) (Φ : Fin 15 → sProp 𝕄) : (bigSep (Finset.univ.filter fun r : Fin 15 => m ≤ r.val) Φ : sProp 𝕄)
    = iprop(Φ ⟨m, hm⟩ ∗ bigSep (Finset.univ.filter fun r : Fin 15 => m + 1 ≤ r.val) Φ) := by
  have e : (Finset.univ.filter fun r : Fin 15 => m ≤ r.val) = insert ⟨m, hm⟩ (Finset.univ.filter fun r : Fin 15 => m + 1 ≤ r.val) := by
    ext r
    simp only [Finset.mem_filter, Finset.mem_univ, true_and, Finset.mem_insert, Fin.ext_iff]
    omega
  rw [e, bigSep_insert (by simp)]; rfl
theorem big_from_zero (Φ : Fin 15 → sProp 𝕄) : (bigSep (Finset.univ.filter fun r : Fin 15 => 15 - 15 ≤ r.val) Φ : sProp 𝕄) = bigSep Finset.univ Φ := by
  rw [Finset.filter_true_of_mem (fun r _ => Nat.zero_le _)]

theorem wp_overPeersFrom (g : Fin 15 → Pg F PUnit → Pg F PUnit) (I : ℕ → sProp 𝕄) (Φ Ψ : Fin 15 → sProp 𝕄) (Q : PUnit.{1} → sProp 𝕄)
    (hg : ∀ (r : Fin 15) (P : Pg F PUnit), (iprop(ctx A B K ∗ I r.val ∗ Φ r) : sProp 𝕄) ⊢ iprop(((I (r.val + 1) ∗ Ψ r) -∗ wpc c P Q) -∗ wpc c (g r P) Q)) (P : Pg F PUnit) : ∀ (n : ℕ) (hn : n ≤ 15),
    (iprop(ctx A B K ∗ I (15 - n) ∗ bigSep (Finset.univ.filter fun r : Fin 15 => 15 - n ≤ r.val) Φ) : sProp 𝕄)
      ⊢ iprop(((I 15 ∗ bigSep (Finset.univ.filter fun r : Fin 15 => 15 - n ≤ r.val) Ψ) -∗ wpc c P Q) -∗ wpc c (overPeers g P n hn) Q)
  | 0, _ => by
    have e : (Finset.univ.filter fun r : Fin 15 => 15 - 0 ≤ r.val) = ∅ := Finset.filter_false_of_mem fun r _ h => by have := r.isLt; omega
    rw [e, bigSep_empty, bigSep_empty]
    unfold overPeers
    iintro ⟨-, H⟩ Hk
    iapply Hk
    iexact H
  | n + 1, hn => by
    have hstep := hg ⟨14 - n, by omega⟩ (overPeers g P n (by omega))
    have hrec := wp_overPeersFrom g I Φ Ψ Q hg P n (by omega)
    have e : 15 - n = 14 - n + 1 := by omega
    have e' : 15 - (n + 1) = 14 - n := by omega
    rw [e] at hrec
    rw [e', big_from (14 - n) (by omega) Φ, big_from (14 - n) (by omega) Ψ]
    unfold overPeers
    iintro ⟨#Hctx, HI, HΦ, Hrest⟩ Hk
    iapply hstep $$ [HI HΦ]
    · isplitr; · iexact Hctx
      isplitl [HI]; · iexact HI
      iexact HΦ
    iintro ⟨HI, HΨ⟩
    iapply hrec $$ [HI Hrest]
    · isplitr; · iexact Hctx
      isplitl [HI]; · iexact HI
      iexact Hrest
    iintro ⟨HI, Hrest⟩
    iapply Hk
    isplitl [HI]; · iexact HI
    isplitl [HΨ]; · iexact HΨ
    iexact Hrest

theorem wp_overPeers (g : Fin 15 → Pg F PUnit → Pg F PUnit) (I : ℕ → sProp 𝕄) (Φ Ψ : Fin 15 → sProp 𝕄) (Q : PUnit.{1} → sProp 𝕄)
    (hg : ∀ (r : Fin 15) (P : Pg F PUnit), (iprop(ctx A B K ∗ I r.val ∗ Φ r) : sProp 𝕄) ⊢ iprop(((I (r.val + 1) ∗ Ψ r) -∗ wpc c P Q) -∗ wpc c (g r P) Q)) (P : Pg F PUnit) :
    (iprop(ctx A B K ∗ I 0 ∗ bigSep Finset.univ Φ) : sProp 𝕄)
      ⊢ iprop(((I 15 ∗ bigSep Finset.univ Ψ) -∗ wpc c P Q) -∗ wpc c (overPeers g P 15 (Nat.le_refl _)) Q) := by
  have h := wp_overPeersFrom A B K c g I Φ Ψ Q hg P 15 (Nat.le_refl _)
  rw [big_from_zero, big_from_zero] at h
  exact h

/-! ## A maximum sent and waited for -/

abbrev msc (r : Fin 15) : GSem nD τ sig := cel c (.inr (false, r.succ))
abbrev mrc (i : Dev nD) : GSem nD τ sig := cel c (.inr (true, i))

abbrev mSendC (r : Fin 15) (P : Pg F PUnit) : Pg F PUnit :=
  .op (.enqueueDma (myM c) (.remote (Dev.tc (peerD c r)) (myM c) (.dma (semOf (.inr (false, r.succ))))) (.dma (semOf (.inr (true, c))))
    ((mW.wordExact_slice rfl _ (m_words _ _)).reshape _ _) ((mW.wordExact_slice rfl _ (m_words _ _)).reshape _ _) ⟨⟨rfl, Or.inl rfl⟩, trivial⟩) fun _ => P
theorem mSend_eq (r : Fin 15) (P : Pg F PUnit) : mSend c r P = mSendC c r P := by
  unfold mSend
  simp only [mSendS_eq, mRecvS_eq]
abbrev mWaitRC (r : Fin 15) (P : Pg F PUnit) : Pg F PUnit :=
  .op (.waitDma2 (semOf (.inr (true, peerD c r))) (peerM c r) (peerM c r)
    ((mW.wordExact_slice rfl _ (m_words _ _)).reshape _ _) ((mW.wordExact_slice rfl _ (m_words _ _)).reshape _ _)) fun _ => P
theorem mWaitR_eq (r : Fin 15) (P : Pg F PUnit) : mWaitR c r P = mWaitRC c r P := by
  unfold mWaitR
  simp only [mFromS_eq]
abbrev mWaitSC (r : Fin 15) (P : Pg F PUnit) : Pg F PUnit :=
  .op (.waitDma2 (semOf (.inr (false, r.succ))) (myM c) (myM c)
    ((mW.wordExact_slice rfl _ (m_words _ _)).reshape _ _) ((mW.wordExact_slice rfl _ (m_words _ _)).reshape _ _)) fun _ => P
theorem mWaitS_eq (r : Fin 15) (P : Pg F PUnit) : mWaitS c r P = mWaitSC c r P := by
  unfold mWaitS
  simp only [mSendS_eq]
theorem amt_peer (r : Fin 15) : (peerM c r).view.dmaCredit = amtM := rfl

/-- What the send of the maximum to the device `1 + r` after takes. -/
abbrev mLeaf (r : Fin 15) : sProp 𝕄 := owns (c : Thread nD τ) (myM c) (ShareLeaves.leaf 4 fullShare r.succ) (amaxV A B c)
def mxBefore (r : Fin 15) : sProp 𝕄 := iprop(reached ER (msc c r) 0 ∗ dutyTok ER (msc c r) 0 false ∗ dutyTok ER (mrc (peerD c r) c) 0 false)

theorem wp_mSend (r : Fin 15) (P : Pg F PUnit) (Q : PUnit.{1} → sProp 𝕄) :
    (iprop(ctx A B K ∗ ow c (128 + r.val) ∗ (mLeaf A B c r ∗ give (peerD c r) c ∗ mxBefore c r)) : sProp 𝕄)
      ⊢ iprop(((ow c (128 + (r.val + 1)) ∗ cred (tallyAt (msc c r) () amtM)) -∗ wpc c P Q) -∗ wpc c (mSend c r P) Q) := by
  have hu : usedK c (.inr (false, r.succ)) = true := decide_eq_true (Fin.succ_ne_zero r)
  have hu' : usedK (peerD c r) (.inr (true, c)) = true := decide_eq_true (peerD_ne c r).symm
  rw [mSend_eq]
  unfold mxBefore give ow
  iintro ⟨#Hctx, ⟨%W, Ho⟩, Hs, ⟨⟨%V, Hd⟩, #HrR⟩, #HrS, HtS, HtR⟩ Hk
  ihave Hs := (show (mLeaf A B c r : sProp 𝕄) ⊢ iprop(∃ f, ⌜(myM c).view.read (Elt F) f = amaxV A B c⌝ ∗ ((myM c).view.loc (c : Thread nD τ) ↦[(myM c).view.set]{ShareLeaves.leaf 4 fullShare r.succ} f)) from .rfl) $$ Hs
  icases Hs with ⟨%fs, %hfs, Hs⟩
  ihave Hd := (show (owns (peerD c r : Thread nD τ) (myM c) fullShare V : sProp 𝕄) ⊢ iprop(∃ f, ⌜(myM c).view.read (Elt F) f = V⌝ ∗ ((myM c).view.loc (peerD c r : Thread nD τ) ↦[(myM c).view.set]{fullShare} f)) from .rfl) $$ Hd
  icases Hd with ⟨%fd, -, Hd⟩
  ihave #HIS := (ctx_cel A B K c (.inr (false, r.succ))) $$ Hctx
  ihave #HIR := (ctx_cel A B K (peerD c r) (.inr (true, c))) $$ Hctx
  iapply (Rounds.wp_send_pointsTo_with 𝒱₀ ER (sched A B) (c : Thread nD τ) none (c' := (peerD c r : Thread nD τ)) (src := myM c) (dst := myM c)
      (sS := .dma (semOf (.inr (false, r.succ)))) (sem := .dma (semOf (.inr (true, c)))) (q := ShareLeaves.leaf 4 fullShare r.succ) (fs := fs) (fd := fd) (F := iprop(emp)) (κ₁ := K (msc c r)) (κ₂ := K (mrc (peerD c r) c))
      (r₁ := 0) (r₂ := 0) (d₁ := false) (d₂ := false)
      (by rw [duties_k A B c (.inr (false, r.succ)) hu]; exact Finset.mem_singleton_self _) (by rw [duties_k A B (peerD c r) (.inr (true, c)) hu']; exact Finset.mem_singleton_self _)
      () () amtM (amt_my c) (amount_k A B c (.inr (false, r.succ)) false) (amount_k A B (peerD c r) (.inr (true, c)) false) (owed c (128 + (r.val + 1))) (owed_peel c (.inr r) (128 + r.val) rfl rfl) (W := W)
      (by
        rw [payload_k A B c (.inr (false, r.succ)) false]
        show _ ⊢ (mLeaf A B c r : sProp 𝕄)
        unfold mLeaf
        rw [← hfs]
        exact owns_intro (c : Thread nD τ) (myM c) _ fs)
      (by
        rw [payload_k A B (peerD c r) (.inr (true, c)) false]
        show _ ⊢ (owns (peerD c r : Thread nD τ) (myM c) fullShare (amaxV A B c) : sProp 𝕄)
        rw [← hfs]
        iintro ⟨H1, -⟩
        ihave H1 := (owns_intro (peerD c r : Thread nD τ) (myM c) fullShare _) $$ H1
        rw [View.read_write_univ]
        iexact H1)) $$ [Hs Hd Ho HtS HtR]
  · isplitr; · iexact HIS
    isplitr; · iexact HIR
    isplitl [Hs]; · iexact Hs
    isplitl [Hd]
    · isplitl [Hd]; · iexact Hd
      iempintro
    isplitl [Ho]; · iexact Ho
    isplitl [HtS]; · iexact HtS
    isplitr; · iexact HrS
    isplitl [HtR]; · iexact HtR
    iexact HrR
  iintro ⟨HcS, Ho⟩
  iapply Hk
  isplitr [HcS]
  · iexists W; iexact Ho
  · iexact HcS

/-- A wait for one of the kernel's own semaphores the maxima use. -/
theorem wp_mWait (k : Ck) (hk : usedK c k = true) (hlv : lvK k ≤ 130) (n : ℕ) (hn : 143 ≤ n) {e e' : EltTy} {s s' : Shape} (src : Memref sig .tc .vmem s e) (dst : Memref sig .tc .vmem s' e') {h1 h2}
    (hamt : dst.view.dmaCredit = amtK k) (P : Pg F PUnit) (Q : PUnit.{1} → sProp 𝕄) :
    (iprop(ctx A B K ∗ ow c n ∗ (atPos ER (cel c k) 0 ∅ 0 ∗ cred (tallyAt (cel c k) () (amtK k)))) : sProp 𝕄)
      ⊢ iprop(((ow c n ∗ (atPos ER (cel c k) 1 ∅ 0 ∗ payK A B c k)) -∗ wpc c P Q) -∗ wpc c (.op (.waitDma2 (semOf k) src dst h1 h2) fun _ => P) Q) := by
  have m1 := ctx_mayWait A B K c (.dma (semOf k)) n 130 (by have := lv_k c k; unfold cel at this; omega) (fun g hg hng => by
    cases g with
    | inl i => have e : lvK (mKeyR c (.inl i)) = lmOrd i + 2 := rfl
               have e' : mOrd (.inl i) = lmOrd i := rfl
               omega
    | inr r => have e' : mOrd (.inr r) = 128 + r.val := rfl
               have := r.isLt; omega)
  unfold ow
  iintro ⟨#Hctx, ⟨%W, Ho⟩, Hat, Hc⟩ Hk
  ihave #HI := (ctx_cel A B K c k) $$ Hctx
  iapply (Rounds.wp_wait_rest_token 𝒱₀ ER (sched A B) (c : Thread nD τ) none (κ := K (cel c k))
      (wpE_waitDma2_eq 𝒱₀ (c : Thread nD τ) none Set.univ) (Set.mem_univ _) () (O := owed c n) (W := W) (R := 0) (m := 0) (T := ∅)
      ((Nat.zero_add _).trans (hamt.trans (expect_k A B c k hk).symm))) $$ [Hc Ho Hat]
  · isplitr; · iexact HI
    isplitl [Hc]; · rw [hamt]; iexact Hc
    isplitl [Ho]; · iexact Ho
    isplitr
    · iapply m1
      iexact Hctx
    iexact Hat
  iintro ⟨Ho, Hat, -, Hpay⟩
  ihave Hp := (BIBase.Entails.of_eq (rest_k A B c k hk)) $$ Hpay
  iapply Hk
  isplitl [Ho]; · iexists _; iexact Ho
  isplitl [Hat]; · iexact Hat
  iexact Hp

theorem wp_mWaitR (r : Fin 15) (P : Pg F PUnit) (Q : PUnit.{1} → sProp 𝕄) :
    (iprop(ctx A B K ∗ ow c 143 ∗ (atPos ER (mrc c (peerD c r)) 0 ∅ 0 ∗ cred (tallyAt (mrc c (peerD c r)) () amtM))) : sProp 𝕄)
      ⊢ iprop(((ow c 143 ∗ (atPos ER (mrc c (peerD c r)) 1 ∅ 0 ∗ ent c (peerD c r) fullShare (amaxV A B (peerD c r)))) -∗ wpc c P Q) -∗ wpc c (mWaitR c r P) Q) := by
  rw [mWaitR_eq]
  exact wp_mWait A B K c (.inr (true, peerD c r)) (decide_eq_true (peerD_ne c r)) (Nat.le_refl _) 143 (Nat.le_refl _) (peerM c r) (peerM c r) (amt_peer c r) P Q
theorem wp_mWaitS (r : Fin 15) (P : Pg F PUnit) (Q : PUnit.{1} → sProp 𝕄) :
    (iprop(ctx A B K ∗ ow c 143 ∗ (atPos ER (msc c r) 0 ∅ 0 ∗ cred (tallyAt (msc c r) () amtM))) : sProp 𝕄)
      ⊢ iprop(((ow c 143 ∗ (atPos ER (msc c r) 1 ∅ 0 ∗ mLeaf A B c r)) -∗ wpc c P Q) -∗ wpc c (mWaitS c r P) Q) := by
  rw [mWaitS_eq]
  exact wp_mWait A B K c (.inr (false, r.succ)) (decide_eq_true (Fin.succ_ne_zero r)) (Nat.zero_le _) 143 (Nat.le_refl _) (myM c) (myM c) (amt_my c) P Q

end Cert.KernelIdeal.Pf

end
-- ==== Proof.KernelIdeal.Mid.lean ====
/- From the reduce-scatter's sums to the table of the maxima. -/
module

public import proofs.«01_k».proof.Proof.KernelIdeal.Maxs

@[expose] public section

noncomputable section

namespace Cert.KernelIdeal.Pf

open Idealize.ShloMosaic Idealize.SL.Sem Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]
local notation "𝕄" => MT nD τ sig Unit (Elt F) ℕ UU ℕ

variable (A : Dev nD → Vec F S4096x256 .bf16) (B : Dev nD → Vec F S256x2048 .bf16) (K : GSem nD τ sig → ℕ) (c : Dev nD)

theorem big_image {I J : Type} [DecidableEq J] (s : Finset I) (f : I → J) (hf : ∀ x ∈ s, ∀ y ∈ s, f x = f y → x = y) (Φ : J → sProp 𝕄) :
    (bigSep (s.image f) Φ : sProp 𝕄) = bigSep s fun i => Φ (f i) := Finset.fold_image hf
theorem big_sep {I : Type} (s : Finset I) (Φ Ψ : I → sProp 𝕄) : (bigSep s (fun i => iprop(Φ i ∗ Ψ i)) : sProp 𝕄) = iprop(bigSep s Φ ∗ bigSep s Ψ) := by
  exact bigSep_sep ..

theorem back_others (c : Dev nD) : (Finset.range 15).image (fun m => back false (m + 1) c) = Finset.univ.erase c ∧ (∀ x ∈ Finset.range 15, ∀ y ∈ Finset.range 15, back false (x + 1) c = back false (y + 1) c → x = y) := by
  revert c; decide +kernel
theorem peer_others (c : Dev nD) : Finset.univ.image (peerD c) = Finset.univ.erase c := by revert c; decide +kernel
theorem peer_inj (c : Dev nD) : ∀ x ∈ (Finset.univ : Finset (Fin 15)), ∀ y ∈ (Finset.univ : Finset (Fin 15)), peerD c x = peerD c y → x = y := by revert c; decide +kernel
theorem big_peers (Φ : Dev nD → sProp 𝕄) : (bigSep (Finset.univ.erase c) Φ : sProp 𝕄) = bigSep Finset.univ fun r : Fin 15 => Φ (peerD c r) := by
  rw [← peer_others c, big_image _ _ (peer_inj c)]
/-- After the last step the first lane has taken an entry of every other device's table. -/
theorem keepL_peers : (keepL 15 false 0 c : sProp 𝕄) = bigSep Finset.univ fun r : Fin 15 => give (peerD c r) c := by
  rw [← big_peers c (fun X => give X c), ← (back_others c).1, big_image _ _ (back_others c).2]
  unfold keepL takeOf
  exact bigSep_congr fun m _ => if_pos ⟨rfl, rfl⟩

/-- What the exchange starts from and what it leaves. -/
def mxSt : sProp 𝕄 := iprop((∃ V, ent c c fullShare V) ∗ bigSep Finset.univ (mxBefore c)
  ∗ (bigSep Finset.univ (fun r : Fin 15 => atPos ER (mrc c (peerD c r)) 0 ∅ 0) ∗ bigSep Finset.univ (fun r : Fin 15 => cred (tallyAt (mrc c (peerD c r)) () amtM)))
  ∗ bigSep Finset.univ (fun r : Fin 15 => atPos ER (msc c r) 0 ∅ 0))
def mxEnd : sProp 𝕄 := iprop(bigSep Finset.univ (fun r : Fin 15 => atPos ER (mrc c (peerD c r)) 1 ∅ 0) ∗ bigSep Finset.univ (fun r : Fin 15 => atPos ER (msc c r) 1 ∅ 0))

/-- The device's sums. -/
def finFull : sProp 𝕄 := iprop(owns (c : Thread nD τ) (finM false) fullShare (finV A B false c) ∗ owns (c : Thread nD τ) (finM true) fullShare (finV A B true c))

theorem wp_loadFin (d : Bool) (P : Vec F S256x1024 .f32 → Pg F PUnit) (Q : PUnit.{1} → sProp 𝕄) :
    (finFull A B c : sProp 𝕄) ⊢ iprop((finFull A B c -∗ wpc c (P (finV A B d c)) Q) -∗ wpc c (loadFin d P) Q) := by
  unfold finFull
  cases d
  · iintro ⟨Ha, Hw⟩ Hk
    iapply (wp_loadWhole inb_S256x1024_S256x1024_0_0 c (finM false) fullShare (finV A B false c) Q) $$ [Ha]; · iexact Ha
    iintro Ha
    iapply Hk
    isplitl [Ha]; · iexact Ha
    iexact Hw
  · iintro ⟨Ha, Hw⟩ Hk
    iapply (wp_loadWhole inb_S256x1024_S256x1024_0_0 c (finM true) fullShare (finV A B true c) Q) $$ [Hw]; · iexact Hw
    iintro Hw
    iapply Hk
    isplitl [Ha]; · iexact Ha
    iexact Hw

theorem wp_maxStore (P : Pg F PUnit) (Q : PUnit.{1} → sProp 𝕄) :
    (iprop(finFull A B c ∗ ∃ V, ent c c fullShare V) : sProp 𝕄) ⊢ iprop(((finFull A B c ∗ ent c c fullShare (amaxV A B c)) -∗ wpc c P Q) -∗ wpc c (maxStore c P) Q) := by
  have h1 : ∀ V, (ent c c fullShare V : sProp 𝕄) ⊢ owns (c : Thread nD τ) (mM.slice (mineR c) (fun _ => rfl)) fullShare (upE V) := fun V => by rw [mine_eq]
  have h2 : (owns (c : Thread nD τ) (mM.slice (mineR c) (fun _ => rfl)) fullShare (k0_pay179 (k0_pay178 (finV A B false c)) (finV A B true c)) : sProp 𝕄) ⊢ ent c c fullShare (amaxV A B c) := by
    rw [mine_eq]; unfold amaxV; rw [upE_dnE]
  unfold maxStore
  iintro ⟨Hf, ⟨%V, He⟩⟩ Hk
  iapply (wp_loadFin A B c false _ Q) $$ [Hf]; · iexact Hf
  iintro Hf
  iapply (wp_loadFin A B c true _ Q) $$ [Hf]; · iexact Hf
  iintro Hf
  ihave He := (h1 V) $$ He
  iapply (wp_loadSlice c mM (mineR c) fullShare (fun _ => rfl) (upE V) Q) $$ [He]; · iexact He
  iintro He
  iapply (wp_storeSlice c mM (mineR c) (fun _ => rfl) (upE V) (k0_pay179 (k0_pay178 (finV A B false c)) (finV A B true c)) (K := fun _ => P) Q) $$ [He]; · iexact He
  iintro He
  iapply Hk
  isplitl [Hf]; · iexact Hf
  iapply h2; iexact He

/-- The shares of an entry: one for every send and one besides. -/
theorem leaf_split (X : S8x128.Idx → Elt F .f32) : (ent c c fullShare X : sProp 𝕄)
    = iprop(owns (c : Thread nD τ) (myM c) (ShareLeaves.leaf 4 fullShare 0) X ∗ bigSep Finset.univ fun r : Fin 15 => owns (c : Thread nD τ) (myM c) (ShareLeaves.leaf 4 fullShare r.succ) X) := by
  have e : (Finset.univ.erase (0 : Fin (2 ^ 4))) = Finset.univ.image (fun r : Fin 15 => (r.succ : Fin (2 ^ 4))) := by decide
  rw [show (ent c c fullShare X : sProp 𝕄) = _ from owns_leaves c (myM c) X 4 fullShare, bigSep_univ_split (0 : Fin (2 ^ 4)), e, big_image _ _ (by decide)]
  rfl

theorem tab_join : (iprop(ent c c fullShare (amaxV A B c) ∗ bigSep Finset.univ (fun r : Fin 15 => ent c (peerD c r) fullShare (amaxV A B (peerD c r)))) : sProp 𝕄)
    ⊢ owns (c : Thread nD τ) mM fullShare (tabV A B) := by
  refine BIBase.Entails.trans ?_ (of_ents c (amaxV A B))
  rw [show (bigSep Finset.univ (fun i : Dev nD => ent c i fullShare (amaxV A B i)) : sProp 𝕄) = _ from bigSep_univ_split c, big_peers c]
  exact .rfl

theorem wp_loadMax (P : Vec F S16x1x1 .f32 → Pg F PUnit) (Q : PUnit.{1} → sProp 𝕄) :
    (owns (c : Thread nD τ) mM fullShare (tabV A B) : sProp 𝕄) ⊢ iprop((owns (c : Thread nD τ) mM fullShare (tabV A B) -∗ wpc c (P (maxV A B)) Q) -∗ wpc c (loadMax P) Q) := by
  exact wp_loadOwns c mM (Rect.unit (s := S16x8x128) ![0, 0, 0] S16x1x1.size inb_S16x8x128_S16x1x1_0_0_0) fullShare (tabV A B) (K := P) Q

theorem wp_mid (P : Vec F S16x1x1 .f32 → Pg F PUnit) (Q : PUnit.{1} → sProp 𝕄) :
    (iprop(ctx A B K ∗ ow c 128 ∗ finFull A B c ∗ keepL 15 false 0 c ∗ mxSt c) : sProp 𝕄)
      ⊢ iprop(((ow c 143 ∗ finFull A B c ∗ mxEnd c ∗ owns (c : Thread nD τ) mM fullShare (tabV A B)) -∗ wpc c (P (maxV A B)) Q)
        -∗ wpc c (maxStore c (overPeers (mSend c) (overPeers (mWaitR c) (overPeers (mWaitS c) (loadMax P) 15 (Nat.le_refl _)) 15 (Nat.le_refl _)) 15 (Nat.le_refl _))) Q) := by
  have s1 := fun P' => wp_overPeers A B K c (mSend c) (fun n => ow c (128 + n)) (fun r => iprop(mLeaf A B c r ∗ give (peerD c r) c ∗ mxBefore c r)) (fun r => cred (tallyAt (msc c r) () amtM)) Q (fun r P => wp_mSend A B K c r P Q) P'
  have s2 := fun P' => wp_overPeers A B K c (mWaitR c) (fun _ => ow c 143) (fun r => iprop(atPos ER (mrc c (peerD c r)) 0 ∅ 0 ∗ cred (tallyAt (mrc c (peerD c r)) () amtM)))
    (fun r => iprop(atPos ER (mrc c (peerD c r)) 1 ∅ 0 ∗ ent c (peerD c r) fullShare (amaxV A B (peerD c r)))) Q (fun r P => wp_mWaitR A B K c r P Q) P'
  have s3 := fun P' => wp_overPeers A B K c (mWaitS c) (fun _ => ow c 143) (fun r => iprop(atPos ER (msc c r) 0 ∅ 0 ∗ cred (tallyAt (msc c r) () amtM)))
    (fun r => iprop(atPos ER (msc c r) 1 ∅ 0 ∗ mLeaf A B c r)) Q (fun r P => wp_mWaitS A B K c r P Q) P'
  simp only [big_sep] at s1 s2 s3
  have l1 : (ent c c fullShare (amaxV A B c) : sProp 𝕄) ⊢ iprop(owns (c : Thread nD τ) (myM c) (ShareLeaves.leaf 4 fullShare 0) (amaxV A B c) ∗ bigSep Finset.univ (mLeaf A B c)) := by rw [leaf_split]
  have l2 : (iprop(owns (c : Thread nD τ) (myM c) (ShareLeaves.leaf 4 fullShare 0) (amaxV A B c) ∗ bigSep Finset.univ (mLeaf A B c)) : sProp 𝕄) ⊢ ent c c fullShare (amaxV A B c) := by rw [leaf_split]
  have k1 : (keepL 15 false 0 c : sProp 𝕄) ⊢ bigSep Finset.univ fun r : Fin 15 => give (peerD c r) c := by rw [keepL_peers]
  unfold mxSt mxEnd
  iintro ⟨#Hctx, Ho, Hf, Hkeep, He, Hb, ⟨HaR, HcR⟩, HaS⟩ Hk
  iapply (wp_maxStore A B c _ Q) $$ [Hf He]
  · isplitl [Hf]; · iexact Hf
    iexact He
  iintro ⟨Hf, He⟩
  ihave He := l1 $$ He
  icases He with ⟨He0, Hl⟩
  ihave Hkeep := k1 $$ Hkeep
  iapply (s1 _) $$ [Ho Hl Hkeep Hb]
  · isplitr; · iexact Hctx
    isplitl [Ho]; · iexact Ho
    isplitl [Hl]; · iexact Hl
    isplitl [Hkeep]; · iexact Hkeep
    iexact Hb
  iintro ⟨Ho, HcS⟩
  iapply (s2 _) $$ [Ho HaR HcR]
  · isplitr; · iexact Hctx
    isplitl [Ho]; · iexact Ho
    isplitl [HaR]; · iexact HaR
    iexact HcR
  iintro ⟨Ho, HaR, Hents⟩
  iapply (s3 _) $$ [Ho HaS HcS]
  · isplitr; · iexact Hctx
    isplitl [Ho]; · iexact Ho
    isplitl [HaS]; · iexact HaS
    iexact HcS
  iintro ⟨Ho, HaS, Hl⟩
  ihave He := l2 $$ [He0 Hl]
  · isplitl [He0]; · iexact He0
    iexact Hl
  ihave Ht := (tab_join A B c) $$ [He Hents]
  · isplitl [He]; · iexact He
    iexact Hents
  iapply (wp_loadMax A B c P Q) $$ [Ht]; · iexact Ht
  iintro Ht
  iapply Hk
  isplitl [Ho]; · iexact Ho
  isplitl [Hf]; · iexact Hf
  isplitl [HaR HaS]
  · isplitl [HaR]; · iexact HaR
    iexact HaS
  iexact Ht

end Cert.KernelIdeal.Pf

end
-- ==== Proof.KernelIdeal.Outs.lean ====
/- The result: which device's block lies where, and what it holds. -/
module

public import proofs.«01_k».proof.Proof.KernelIdeal.Mid

@[expose] public section

noncomputable section

namespace Cert.KernelIdeal.Pf

open Idealize.ShloMosaic Idealize.SL.Sem Cert.KernelIdeal Cert.KernelIdeal.Gen
open Idealize.ShloMosaic.ValueIdx (ix2)

variable {F : FTy → Type} [FloatOps F]
variable (A : Dev nD → Vec F S4096x256 .bf16) (B : Dev nD → Vec F S256x2048 .bf16)

/-- The block of rows a device sums, in a direction. -/
def blk (d : Bool) (u : Dev nD) : ℕ := offO (posW u) d 0 / 256
/-- The device which sums a block. -/
def devOf (d : Bool) (k : ℕ) : Dev nD := (List.finRange 16).foldl (fun a u => if blk d u = k then u else a) 0
theorem blk_lt (d : Bool) (u : Dev nD) : blk d u < 16 := by revert d u; decide +kernel
theorem devOf_blk (d : Bool) (u : Dev nD) : devOf d (blk d u) = u := by revert d u; decide +kernel
theorem blk_devOf (d : Bool) : ∀ k < 16, blk d (devOf d k) = k := by revert d; decide +kernel
theorem offO_eq (d : Bool) (c : Dev nD) : offO (posW c) d = ![256 * blk d c, 1024 * d.toNat] := by revert d c; decide +kernel
theorem offQ_eq (d : Bool) (b : Fin 2) (s : Fin 15) (c : Dev nD) :
    offQ (posW c) d b (BitVec.ofNat 32 s.val) = ![256 * blk d (back d (s.val + 1) c), 1024 * d.toNat + 512 * b.val] := by revert d b s c; decide +kernel
theorem blk_cover (d : Bool) (c : Dev nD) : ∀ k < 16, k = blk d c ∨ ∃ s : Fin 15, k = blk d (back d (s.val + 1) c) := by revert d c; decide +kernel

/-- What the result holds in the rows and columns device `u` sums in direction `d`. -/
def oV (d : Bool) (u : Dev nD) : FVec F S256x1024 .bf16 := k0_pay184 (k0_pay180 (maxV A B)) (qV A B d u)
def dirOf (j : Fin 2048) : Bool := decide (1024 ≤ j.val)
/-- The result. -/
def outT : Vec F S4096x2048 .bf16 := fun i =>
  oV A B (dirOf (i 1)) (devOf (dirOf (i 1)) ((i 0).val / 256))
    (ix2 (⟨(i 0).val % 256, Nat.mod_lt _ (by decide)⟩ : Fin 256) (⟨(i 1).val % 1024, Nat.mod_lt _ (by decide)⟩ : Fin 1024))
theorem outT_at (i : S4096x2048.Idx) (d : Bool) (u : Dev nD) (r : Fin 256) (k : Fin 1024) (h0 : (i 0).val = 256 * blk d u + r.val) (h1 : (i 1).val = 1024 * d.toNat + k.val) :
    outT A B i = oV A B d u (ix2 r k) := by
  have hd : dirOf (i 1) = d := by
    have hk := k.isLt
    unfold dirOf
    cases d
    · exact decide_eq_false (by simp only [Bool.toNat_false] at h1; omega)
    · exact decide_eq_true (by simp only [Bool.toNat_true] at h1; omega)
  have hr := r.isLt
  have hk := k.isLt
  have e0 : (i 0).val / 256 = blk d u := by omega
  have e1 : (⟨(i 0).val % 256, Nat.mod_lt _ (by decide)⟩ : Fin 256) = r := Fin.ext (by show (i 0).val % 256 = r.val; omega)
  have e2 : (⟨(i 1).val % 1024, Nat.mod_lt _ (by decide)⟩ : Fin 1024) = k := Fin.ext (by
    show (i 1).val % 1024 = k.val
    cases d <;> simp only [Bool.toNat_true, Bool.toNat_false] at h1 <;> omega)
  unfold outT
  rw [hd, e0, devOf_blk, e1, e2]

/-- The rectangles written, and what is written there. -/
theorem ownR_val (d : Bool) (c : Dev nD) (j : S256x1024.Idx) : outT A B ((ownR (posW c) (chk3_ok c) d).emb j) = oV A B d c j := by
  have e := offO_eq d c
  have e0 := emb_val (s := S4096x2048) (offO (posW c) d) S256x1024.size (offO_inb (posW c) (chk3_ok c) d) j 0
  have e1 := emb_val (s := S4096x2048) (offO (posW c) d) S256x1024.size (offO_inb (posW c) (chk3_ok c) d) j 1
  have e0 := e0.trans (congrArg (· + (j 0).val) (congrFun e 0))
  have e1 := e1.trans (congrArg (· + (j 1).val) (congrFun e 1))
  refine (outT_at A B _ d c (j 0) (j 1) e0 e1).trans (congrArg _ ?_)
  exact (Idealize.ShloMosaic.ValueIdx.eq_ix2 j).symm

theorem outV_half (sc : F .f32) (Q : Vec F S1x256x1024 .fp8e4m3) (b : Fin 2) (i : Fin 256) (j : Fin 512) :
    outV sc (up (half b (flat Q))) (ix2 i j) = k0_pay184 sc Q (ix2 i ⟨512 * b.val + j.val, by omega⟩) := by
  have e : shapeCast S256x512 (up (half b (flat Q))) shapeCasts_S1x256x512_S256x512 = half b (flat Q) := dn_up _
  have h : half b (flat Q) (ix2 i j) = shapeCast S256x1024 Q shapeCasts_S1x256x1024_S256x1024 (ix2 i ⟨512 * b.val + j.val, by omega⟩) := half_apply b (flat Q) i j
  unfold outV
  rw [e]
  unfold k0_pay184
  simp only [truncf, mulf, extf, broadcast]
  rw [h]

theorem outR_val (d : Bool) (b : Fin 2) (s : Fin 15) (c : Dev nD) (j : S256x512.Idx) :
    outT A B ((outR (posW c) (chk3_ok c) d b s).emb j) = outV (k0_pay180 (maxV A B)) (up (half b (flat (qV A B d (back d (s.val + 1) c))))) j := by
  have e := offQ_eq d b s c
  have e0 := emb_val (s := S4096x2048) (offQ (posW c) d b (BitVec.ofNat 32 s.val)) S256x512.size (offQ_inb (posW c) (chk3_ok c) d b s) j 0
  have e1 := emb_val (s := S4096x2048) (offQ (posW c) d b (BitVec.ofNat 32 s.val)) S256x512.size (offQ_inb (posW c) (chk3_ok c) d b s) j 1
  have e0 := e0.trans (congrArg (· + (j 0).val) (congrFun e 0))
  have e1 := e1.trans (congrArg (· + (j 1).val) (congrFun e 1))
  have l1 : (j 1).val < 512 := (j 1).isLt
  have hj : j = ix2 (j 0) (j 1) := Idealize.ShloMosaic.ValueIdx.eq_ix2 j
  refine (outT_at A B _ d (back d (s.val + 1) c) (j 0) ⟨512 * b.val + (j 1).val, by omega⟩ e0 (e1.trans (Nat.add_assoc _ _ _))).trans ?_
  refine (outV_half (k0_pay180 (maxV A B)) (qV A B d (back d (s.val + 1) c)) b (j 0) (j 1)).symm.trans ?_
  exact congrArg (outV (k0_pay180 (maxV A B)) (up (half b (flat (qV A B d (back d (s.val + 1) c)))))) hj.symm

/-! ## Which entries are written -/

theorem mem_unit (off size : Fin 2 → ℕ) (inb : ∀ a, off a + size a ≤ S4096x2048.size a) (i : S4096x2048.Idx) (h0 : off 0 ≤ (i 0).val ∧ (i 0).val < off 0 + size 0) (h1 : off 1 ≤ (i 1).val ∧ (i 1).val < off 1 + size 1) :
    i ∈ (Rect.unit (s := S4096x2048) off size inb).set := by
  rw [← Rect.map_emb_univ, Finset.mem_map]
  refine ⟨fun a => match a with | 0 => ⟨(i 0).val - off 0, by show _ < size 0; omega⟩ | 1 => ⟨(i 1).val - off 1, by show _ < size 1; omega⟩, Finset.mem_univ _, ?_⟩
  funext a
  apply Fin.ext
  refine (emb_val off size inb _ a).trans ?_
  match a with
  | 0 => show off 0 + ((i 0).val - off 0) = _; omega
  | 1 => show off 1 + ((i 1).val - off 1) = _; omega

/-- The entries written before step `n` of the all-gather. -/
def cov (c : Dev nD) (n : ℕ) (i : S4096x2048.Idx) : Prop :=
  (∃ d, i ∈ (ownR (posW c) (chk3_ok c) d).set) ∨ ∃ (s : Fin 15) (d : Bool) (b : Fin 2), s.val < n ∧ i ∈ (outR (posW c) (chk3_ok c) d b s).set
theorem cov_all (c : Dev nD) (i : S4096x2048.Idx) : cov c 15 i := by
  have l0 : (i 0).val < 4096 := (i 0).isLt
  have l1 : (i 1).val < 2048 := (i 1).isLt
  have hd : 1024 * (dirOf (i 1)).toNat ≤ (i 1).val ∧ (i 1).val < 1024 * (dirOf (i 1)).toNat + 1024 := by
    unfold dirOf
    by_cases h : 1024 ≤ (i 1).val
    · rw [decide_eq_true h]; simp only [Bool.toNat_true]; omega
    · rw [decide_eq_false h]; simp only [Bool.toNat_false]; omega
  rcases blk_cover (dirOf (i 1)) c ((i 0).val / 256) (by omega) with h | ⟨s, h⟩
  · refine .inl ⟨dirOf (i 1), mem_unit _ _ _ i ?_ ?_⟩
    · rw [offO_eq]; show 256 * _ ≤ _ ∧ _ < 256 * _ + 256; omega
    · rw [offO_eq]; exact hd
  · refine .inr ⟨s, dirOf (i 1), ⟨(i 1).val % 1024 / 512, by omega⟩, s.isLt, mem_unit _ _ _ i ?_ ?_⟩
    · rw [offQ_eq]; show 256 * _ ≤ _ ∧ _ < 256 * _ + 256; omega
    · rw [offQ_eq]; show 1024 * _ + 512 * ((i 1).val % 1024 / 512) ≤ _ ∧ _ < 1024 * _ + 512 * ((i 1).val % 1024 / 512) + 512; omega

/-- The result holds what it should in the entries of `S`. -/
def agree (S : S4096x2048.Idx → Prop) (X : Vec F S4096x2048 .bf16) : Prop := ∀ i, S i → X i = outT A B i
theorem agree_overlay (S : S4096x2048.Idx → Prop) (X : Vec F S4096x2048 .bf16) (r : Rect S4096x2048) (w : r.shape.Idx → Elt F .bf16) (hX : agree A B S X) (hw : ∀ j, outT A B (r.emb j) = w j) :
    agree A B (fun i => S i ∨ i ∈ r.set) (r.overlay X w) := by
  intro i hi
  by_cases h : i ∈ r.set
  · rw [← Rect.map_emb_univ, Finset.mem_map] at h
    obtain ⟨j, -, rfl⟩ := h
    rw [Rect.overlay_emb, hw]
  · rw [Rect.overlay_of_not_mem _ _ _ h]
    exact hX i (hi.resolve_right h)

end Cert.KernelIdeal.Pf

end
-- ==== Proof.KernelIdeal.Gather.lean ====
/- The all-gather: the sums quantised, sent round, and written to the result. -/
module

public import proofs.«01_k».proof.Proof.KernelIdeal.Outs

@[expose] public section

noncomputable section

namespace Cert.KernelIdeal.Pf

open Idealize.ShloMosaic Idealize.SL.Sem Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]
local notation "𝕄" => MT nD τ sig Unit (Elt F) ℕ UU ℕ

variable (A : Dev nD → Vec F S4096x256 .bf16) (B : Dev nD → Vec F S256x2048 .bf16) (K : GSem nD τ sig → ℕ) (c : Dev nD)
variable (arg3 : Memref sig .tc .vmem S4096x2048 .bf16) (harg3 : arg3.IsWhole)

/-- The result, right in the entries of `S`. -/
def outSt (S : S4096x2048.Idx → Prop) : sProp 𝕄 := iprop(∃ X, ⌜agree A B S X⌝ ∗ owns (c : Thread nD τ) arg3 fullShare X)
theorem outSt_mono (S S' : S4096x2048.Idx → Prop) (h : ∀ i, S' i → S i) : (outSt A B c arg3 S : sProp 𝕄) ⊢ outSt A B c arg3 S' := by
  unfold outSt
  iintro ⟨%X, %hX, H⟩
  iexists X
  isplitr; · ipureintro; exact fun i hi => hX i (h i hi)
  iexact H

theorem wp_putOut (S : S4096x2048.Idx → Prop) (r : Rect S4096x2048) (w : r.shape.Idx → Elt F .bf16) (hw : ∀ j, outT A B (r.emb j) = w j) {hl : arg3.view.LoadsAt r.toLoadRect}
    {hx : (arg3.access r).Stores Finset.univ} {hm : Finset.univ = Finset.univ ∨ ∀ a, r.stride a = 1} (P : Pg F PUnit) (Q : PUnit.{1} → sProp 𝕄) :
    (outSt A B c arg3 S : sProp 𝕄) ⊢ iprop((outSt A B c arg3 (fun i => S i ∨ i ∈ r.set) -∗ wpc c P Q)
      -∗ wpc c (.op (.load arg3 r.toLoadRect hl) fun _ => .op (.store arg3 r w Finset.univ hx hm) fun _ => P) Q) := by
  unfold outSt
  iintro ⟨%X, %hX, H⟩ Hk
  iapply (wp_loadOwns c arg3 r fullShare X (K := fun _ => .op (.store arg3 r w Finset.univ hx hm) fun _ => P) Q) $$ [H]; · iexact H
  iintro H
  iapply (wp_storeOwns c arg3 r X w (K := fun _ => P) Q) $$ [H]; · iexact H
  iintro H
  iapply Hk
  iexists (r.overlay X w)
  isplitr; · ipureintro; exact agree_overlay A B S X r w hX hw
  iexact H

/-! ## A lane -/

/-- A device's quantised sum's half as it lies in slot `k`. -/
abbrev qSl (d : Bool) (k : Fin 16) (b : Fin 2) (q : PosShare TreeShare) (u : Dev nD) : sProp 𝕄 := sl c (chM .q d) k b q (half b (flat (qV A B d u)))
/-- What a lane holds of the slot it sent last. -/
def agTail (s : ℕ) (d : Bool) (b : Fin 2) : sProp 𝕄 := if h : s < 15 then kept c (.q, d, ⟨s, h⟩, b) else anySl c .q d 15 b

theorem wp_agOut (d : Bool) (s : Fin 15) (b : Fin 2) (q : PosShare TreeShare) (S : S4096x2048.Idx → Prop) (P : Pg F PUnit) (Q : PUnit.{1} → sProp 𝕄) :
    (iprop(qSl A B c d s.succ b q (back d (s.val + 1) c) ∗ outSt A B c arg3 S) : sProp 𝕄)
      ⊢ iprop(((qSl A B c d s.succ b q (back d (s.val + 1) c) ∗ outSt A B c arg3 (fun i => S i ∨ i ∈ (outR (posW c) (chk3_ok c) d b s).set)) -∗ wpc c P Q)
        -∗ wpc c (agOut (posW c) (chk3_ok c) arg3 harg3 d s b (k0_pay180 (maxV A B)) P) Q) := by
  unfold agOut
  iintro ⟨Hq, Ho⟩ Hk
  iapply (wp_loadSlot c (qM d) s.succ b q (half b (flat (qV A B d (back d (s.val + 1) c)))) Q) $$ [Hq]; · iexact Hq
  iintro Hq
  iapply (wp_putOut A B c arg3 S (outR (posW c) (chk3_ok c) d b s) _ (outR_val A B d b s c) P Q) $$ [Ho]; · iexact Ho
  iintro Ho
  iapply Hk
  isplitl [Hq]; · iexact Hq
  iexact Ho

theorem wp_agLane (d : Bool) (s : Fin 15) (b : Fin 2) (n w : ℕ) (hn : n = 143 + 4 * (s.val + 1) + (2 * b.val + d.toNat)) (hw : w = 143 + 4 * s.val + (2 * b.val + d.toNat))
    (S : S4096x2048.Idx → Prop) (P : Pg F PUnit) (Q : PUnit.{1} → sProp 𝕄) :
    (iprop(ctx A B K ∗ chSt c n w ∗ ow c n ∗ agTail c s.val d b ∗ outSt A B c arg3 S) : sProp 𝕄)
      ⊢ iprop(((chSt c (n + 1) (w + 1) ∗ ow c (n + 1) ∗ agTail c (s.val + 1) d b ∗ outSt A B c arg3 (fun i => S i ∨ i ∈ (outR (posW c) (chk3_ok c) d b s).set)) -∗ wpc c P Q)
        -∗ wpc c (agLane (posW c) (chk3_ok c) arg3 harg3 d (nbr (nxW false c) (nxW true c) (chk2_ok c) (chk1_ok c) d) s b (k0_pay180 (maxV A B)) P) Q) := by
  have hd : d.toNat ≤ 1 := by cases d <;> decide
  have hb := b.isLt
  have hs := s.isLt
  have ht : (agTail c s.val d b : sProp 𝕄) ⊢ kept c (.q, d, s, b) := by unfold agTail; rw [dif_pos hs]
  rw [nbr_eq]
  unfold agLane
  rw [waitQ_eq]
  by_cases h14 : s.val < 14
  · have hs1 : s.val + 1 < 15 := by omega
    have ht' : (kept c (.q, d, ⟨s.val + 1, hs1⟩, b) : sProp 𝕄) ⊢ agTail c (s.val + 1) d b := by unfold agTail; rw [dif_pos hs1]
    have hsp : (sl c (chM .q d) s.succ b fullShare (msgV A B (pv d c) (.q, d, s, b)) : sProp 𝕄)
        ⊢ iprop(qSl A B c d s.succ b fullShare.left (back d (s.val + 1) c) ∗ qSl A B c d s.succ b fullShare.right (back d (s.val + 1) c)) :=
      (owns_halves (c : Thread nD τ) (slotM (chM .q d) s.succ b) fullShare _).1
    rw [dif_pos h14, sendQ_eq]
    iintro ⟨#Hctx, Hch, Ho, Ht, Hout⟩ Hk
    ihave Ht := ht $$ Ht
    iapply (wp_waitC A B K c (.q, d, s, b) n w rfl hw.symm (by omega) (cut_ok c _ _ (by omega) (.inr (by omega))) _ Q) $$ [Hch Ho Ht]
    · isplitr; · iexact Hctx
      isplitl [Hch]; · iexact Hch
      isplitl [Ho]; · iexact Ho
      iexact Ht
    iintro ⟨Hch, Ho, Hq, -⟩
    ihave Hq := hsp $$ Hq
    icases Hq with ⟨Hl, Hr⟩
    iapply (wp_sendC A B K c (.q, d, ⟨s.val + 1, hs1⟩, b) n (w + 1) rfl hn.symm (by omega) _ Q) $$ [Hch Ho Hl]
    · isplitr; · iexact Hctx
      isplitl [Hch]; · iexact Hch
      isplitl [Ho]; · iexact Ho
      isplitl [Hl]; · iexact Hl
      rw [ex_q]; iempintro
    iintro ⟨Hch, Ho⟩
    iapply (wp_agOut A B c arg3 harg3 d s b fullShare.right S P Q) $$ [Hr Hout]
    · isplitl [Hr]; · iexact Hr
      iexact Hout
    iintro ⟨Hr, Hout⟩
    iapply Hk
    isplitl [Hch]; · iexact Hch
    isplitl [Ho]; · iexact Ho
    isplitl [Hr]
    · iapply ht'
      unfold kept
      iexists (half b (flat (qV A B d (back d (s.val + 1) c))))
      iexact Hr
    iexact Hout
  · have ht' : (anySl c .q d s.succ b : sProp 𝕄) ⊢ agTail c (s.val + 1) d b := by
      have e : s.succ = 15 := Fin.ext (by show s.val + 1 = 15; omega)
      unfold agTail; rw [dif_neg (by omega), e]
    have hg : ∀ i, lmUsed i = true → (lmOrd i < n ↔ lmOrd i < n + 1) := fun i _ => by have := lmOrd_range i; omega
    have e1 : (chSt c n (w + 1) : sProp 𝕄) ⊢ chSt c (n + 1) (w + 1) := by rw [chSt_skip c n (w + 1) (n + 1) (w + 1) hg (fun _ _ => Iff.rfl)]
    have e2 : (ow c n : sProp 𝕄) ⊢ ow c (n + 1) := by rw [ow_skip c n (n + 1) (by omega) (fun g _ h => by have := mOrd_lt g; omega)]
    rw [dif_neg h14]
    iintro ⟨#Hctx, Hch, Ho, Ht, Hout⟩ Hk
    ihave Ht := ht $$ Ht
    iapply (wp_waitC A B K c (.q, d, s, b) n w rfl hw.symm (by omega) (cut_ok c _ _ (by omega) (.inr (by omega))) _ Q) $$ [Hch Ho Ht]
    · isplitr; · iexact Hctx
      isplitl [Hch]; · iexact Hch
      isplitl [Ho]; · iexact Ho
      iexact Ht
    iintro ⟨Hch, Ho, Hq, -⟩
    iapply (wp_agOut A B c arg3 harg3 d s b fullShare S P Q) $$ [Hq Hout]
    · isplitl [Hq]; · iexact Hq
      iexact Hout
    iintro ⟨Hr, Hout⟩
    iapply Hk
    isplitl [Hch]; · iapply e1; iexact Hch
    isplitl [Ho]; · iapply e2; iexact Ho
    isplitl [Hr]
    · iapply ht'
      unfold anySl
      iexists (half b (flat (qV A B d (back d (s.val + 1) c))))
      iexact Hr
    iexact Hout

/-! ## A step, the loop -/

theorem wp_agStep (s : Fin 15) (P : Pg F PUnit) (Q : PUnit.{1} → sProp 𝕄) :
    (iprop(ctx A B K ∗ chSt c (143 + 4 * (s.val + 1)) (143 + 4 * s.val) ∗ ow c (143 + 4 * (s.val + 1)) ∗ lanes (agTail c s.val) ∗ outSt A B c arg3 (cov c s.val)) : sProp 𝕄)
      ⊢ iprop(((chSt c (143 + 4 * (s.val + 2)) (143 + 4 * (s.val + 1)) ∗ ow c (143 + 4 * (s.val + 2)) ∗ lanes (agTail c (s.val + 1)) ∗ outSt A B c arg3 (cov c (s.val + 1))) -∗ wpc c P Q)
        -∗ wpc c (agStep (nxW false c) (nxW true c) (posW c) (chk2_ok c) (chk1_ok c) (chk3_ok c) arg3 harg3 s (k0_pay180 (maxV A B)) P) Q) := by
  have hcov : ∀ i, cov c (s.val + 1) i → ((((cov c s.val i ∨ i ∈ (outR (posW c) (chk3_ok c) false 0 s).set) ∨ i ∈ (outR (posW c) (chk3_ok c) true 0 s).set) ∨ i ∈ (outR (posW c) (chk3_ok c) false 1 s).set) ∨ i ∈ (outR (posW c) (chk3_ok c) true 1 s).set) := by
    rintro i (h | ⟨t, d, b, ht, h⟩)
    · exact .inl (.inl (.inl (.inl (.inl h))))
    · by_cases e : t.val < s.val
      · exact .inl (.inl (.inl (.inl (.inr ⟨t, d, b, e, h⟩))))
      · have e : t = s := Fin.ext (by omega)
        subst e
        rcases d with _ | _
        · match b, h with
          | 0, h => exact .inl (.inl (.inl (.inr h)))
          | 1, h => exact .inl (.inr h)
        · match b, h with
          | 0, h => exact .inl (.inl (.inr h))
          | 1, h => exact .inr h
  unfold agStep lanes
  iintro ⟨#Hctx, Hch, Ho, ⟨H0, H1, H2, H3⟩, Hout⟩ Hk
  iapply (wp_agLane A B K c arg3 harg3 false s 0 _ _ rfl rfl (cov c s.val) _ Q) $$ [Hch Ho H0 Hout]
  · isplitr; · iexact Hctx
    isplitl [Hch]; · iexact Hch
    isplitl [Ho]; · iexact Ho
    isplitl [H0]; · iexact H0
    iexact Hout
  iintro ⟨Hch, Ho, H0, Hout⟩
  iapply (wp_agLane A B K c arg3 harg3 true s 0 _ _ rfl rfl _ _ Q) $$ [Hch Ho H1 Hout]
  · isplitr; · iexact Hctx
    isplitl [Hch]; · iexact Hch
    isplitl [Ho]; · iexact Ho
    isplitl [H1]; · iexact H1
    iexact Hout
  iintro ⟨Hch, Ho, H1, Hout⟩
  iapply (wp_agLane A B K c arg3 harg3 false s 1 _ _ rfl rfl _ _ Q) $$ [Hch Ho H2 Hout]
  · isplitr; · iexact Hctx
    isplitl [Hch]; · iexact Hch
    isplitl [Ho]; · iexact Ho
    isplitl [H2]; · iexact H2
    iexact Hout
  iintro ⟨Hch, Ho, H2, Hout⟩
  iapply (wp_agLane A B K c arg3 harg3 true s 1 _ _ rfl rfl _ _ Q) $$ [Hch Ho H3 Hout]
  · isplitr; · iexact Hctx
    isplitl [Hch]; · iexact Hch
    isplitl [Ho]; · iexact Ho
    isplitl [H3]; · iexact H3
    iexact Hout
  iintro ⟨Hch, Ho, H3, Hout⟩
  iapply Hk
  isplitl [Hch]; · iexact Hch
  isplitl [Ho]; · iexact Ho
  isplitl [H0 H1 H2 H3]
  · isplitl [H0]; · iexact H0
    isplitl [H1]; · iexact H1
    isplitl [H2]; · iexact H2
    iexact H3
  iapply (outSt_mono A B c arg3 _ _ hcov)
  iexact Hout

theorem wp_agFrom (P : Pg F PUnit) (Q : PUnit.{1} → sProp 𝕄) : ∀ (n : ℕ) (hn : n ≤ 15),
    (iprop(ctx A B K ∗ chSt c (143 + 4 * (15 - n + 1)) (143 + 4 * (15 - n)) ∗ ow c (143 + 4 * (15 - n + 1)) ∗ lanes (agTail c (15 - n)) ∗ outSt A B c arg3 (cov c (15 - n))) : sProp 𝕄)
      ⊢ iprop(((chSt c 207 203 ∗ ow c 207 ∗ lanes (agTail c 15) ∗ outSt A B c arg3 (cov c 15)) -∗ wpc c P Q)
        -∗ wpc c (agFrom (nxW false c) (nxW true c) (posW c) (chk2_ok c) (chk1_ok c) (chk3_ok c) arg3 harg3 (k0_pay180 (maxV A B)) P n hn) Q)
  | 0, _ => by
    unfold agFrom
    iintro ⟨-, H⟩ Hk
    iapply Hk
    iexact H
  | n + 1, hn => by
    have hstep := wp_agStep A B K c arg3 harg3 ⟨14 - n, by omega⟩ (agFrom (nxW false c) (nxW true c) (posW c) (chk2_ok c) (chk1_ok c) (chk3_ok c) arg3 harg3 (k0_pay180 (maxV A B)) P n (by omega)) Q
    have hrec := wp_agFrom P Q n (by omega)
    have e : 15 - n = 14 - n + 1 := by omega
    have e' : 15 - (n + 1) = 14 - n := by omega
    rw [e] at hrec
    rw [e']
    unfold agFrom
    iintro ⟨#Hctx, H⟩ Hk
    iapply hstep $$ [H]
    · isplitr; · iexact Hctx
      iexact H
    iintro H
    iapply hrec $$ [H]
    · isplitr; · iexact Hctx
      iexact H
    iexact Hk

/-! ## The sums quantised -/

theorem wp_quant (d : Bool) (P : Pg F PUnit) (Q : PUnit.{1} → sProp 𝕄) :
    (iprop(finFull A B c ∗ anySl c .q d 0 0 ∗ anySl c .q d 0 1) : sProp 𝕄)
      ⊢ iprop(((finFull A B c ∗ qSl A B c d 0 0 fullShare c ∗ qSl A B c d 0 1 fullShare c) -∗ wpc c P Q) -∗ wpc c (quant d (maxV A B) P) Q) := by
  unfold quant anySl
  iintro ⟨Hf, ⟨%X, H0⟩, ⟨%Y, H1⟩⟩ Hk
  ihave Hq := (full_any c (chM .q d) 0 fullShare X Y) $$ [H0 H1]
  · isplitl [H0]; · iexact H0
    iexact H1
  icases Hq with ⟨%Z, Hq⟩
  iapply (wp_loadFin A B c d _ Q) $$ [Hf]; · iexact Hf
  iintro Hf
  iapply (wp_loadSlice c (qM d) (fullR 0) fullShare (fun _ => rfl) Z Q) $$ [Hq]; · iexact Hq
  iintro Hq
  iapply (wp_storeSlice c (qM d) (fullR 0) (fun _ => rfl) Z (k0_pay182 (maxV A B) (finV A B d c)) (K := fun _ => P) Q) $$ [Hq]; · iexact Hq
  iintro Hq
  ihave Hq := (show (owns (c : Thread nD τ) ((qM d).slice (fullR 0) (fun _ => rfl)) fullShare (k0_pay182 (maxV A B) (finV A B d c)) : sProp 𝕄)
    ⊢ iprop(qSl A B c d 0 0 fullShare c ∗ qSl A B c d 0 1 fullShare c) from full_split c (qM d) 0 fullShare (qV A B d c)) $$ Hq
  icases Hq with ⟨H0, H1⟩
  iapply Hk
  isplitl [Hf]; · iexact Hf
  isplitl [H0]; · iexact H0
  iexact H1

theorem wp_ownOut (d : Bool) (S : S4096x2048.Idx → Prop) (P : Pg F PUnit) (Q : PUnit.{1} → sProp 𝕄) :
    (iprop(qSl A B c d 0 0 fullShare.right c ∗ qSl A B c d 0 1 fullShare.right c ∗ outSt A B c arg3 S) : sProp 𝕄)
      ⊢ iprop(((qSl A B c d 0 0 fullShare.right c ∗ qSl A B c d 0 1 fullShare.right c ∗ outSt A B c arg3 (fun i => S i ∨ i ∈ (ownR (posW c) (chk3_ok c) d).set)) -∗ wpc c P Q)
        -∗ wpc c (ownOut (posW c) (chk3_ok c) arg3 harg3 d (k0_pay180 (maxV A B)) P) Q) := by
  unfold ownOut
  iintro ⟨H0, H1, Ho⟩ Hk
  ihave Hq := (full_join c (qM d) 0 fullShare.right (qV A B d c)) $$ [H0 H1]
  · isplitl [H0]; · iexact H0
    iexact H1
  iapply (wp_loadSlice c (qM d) (fullR 0) fullShare.right (fun _ => rfl) (qV A B d c) Q) $$ [Hq]; · iexact Hq
  iintro Hq
  iapply (wp_putOut A B c arg3 S (ownR (posW c) (chk3_ok c) d) _ (ownR_val A B d c) P Q) $$ [Ho]; · iexact Ho
  iintro Ho
  ihave Hq := (full_split c (qM d) 0 fullShare.right (qV A B d c)) $$ Hq
  icases Hq with ⟨H0, H1⟩
  iapply Hk
  isplitl [H0]; · iexact H0
  isplitl [H1]; · iexact H1
  iexact Ho

theorem wp_firstQ (P : Pg F PUnit) (Q : PUnit.{1} → sProp 𝕄) :
    (iprop(ctx A B K ∗ chSt c 143 143 ∗ ow c 143 ∗ lanes (fun d b => qSl A B c d 0 b fullShare.left c)) : sProp 𝕄)
      ⊢ iprop(((chSt c 147 143 ∗ ow c 147) -∗ wpc c P Q) -∗ wpc c (firstSends (nxW false c) (nxW true c) (chk2_ok c) (chk1_ok c) sendQ P) Q) := by
  have main := wp_firstSends A B K c .q (.inr rfl) sendQ (fun d b P => sendQ_eq d (nx d c) 0 b P) (fun t => 143 + t) 143 (fun d b => by cases d <;> revert b <;> decide) (fun t => Nat.le_add_right _ _)
    (fun t ht => .rfl) (fun t ht => .rfl) P Q
  have hx : ∀ d b, iprop(emp) ⊢ (ex (.q, d, 0, b) c : sProp 𝕄) := fun d b => by rw [ex_q]
  refine BIBase.Entails.trans ?_ main
  unfold lanes
  iintro ⟨#Hctx, Hch, Ho, H0, H1, H2, H3⟩
  isplitr; · iexact Hctx
  isplitl [Hch]; · iexact Hch
  isplitl [Ho]; · iexact Ho
  isplitl [H0]
  · isplitl [H0]; · iexact H0
    iapply (hx false 0); iempintro
  isplitl [H1]
  · isplitl [H1]; · iexact H1
    iapply (hx true 0); iempintro
  isplitl [H2]
  · isplitl [H2]; · iexact H2
    iapply (hx false 1); iempintro
  isplitl [H3]; · iexact H3
  iapply (hx true 1); iempintro

theorem q_halves (d : Bool) (b : Fin 2) : (qSl A B c d 0 b fullShare c : sProp 𝕄) ⊢ iprop(qSl A B c d 0 b fullShare.left c ∗ qSl A B c d 0 b fullShare.right c) :=
  (owns_halves (c : Thread nD τ) (slotM (chM .q d) 0 b) fullShare _).1
theorem q_tail (d : Bool) (b : Fin 2) : (qSl A B c d 0 b fullShare.right c : sProp 𝕄) ⊢ agTail c 0 d b := by
  unfold agTail kept
  rw [dif_pos (by decide)]
  iintro H
  iexists (half b (flat (qV A B d c)))
  iexact H

theorem wp_rest2 (Q : PUnit.{1} → sProp 𝕄) :
    (iprop(ctx A B K ∗ chSt c 143 143 ∗ ow c 143 ∗ finFull A B c ∗ lanes (fun d b => anySl c .q d 0 b) ∗ (∃ X, owns (c : Thread nD τ) arg3 fullShare X)) : sProp 𝕄)
      ⊢ iprop(((chSt c 203 203 ∗ ow c 203 ∗ finFull A B c ∗ lanes (fun d b => anySl c .q d 15 b) ∗ owns (c : Thread nD τ) arg3 fullShare (outT A B)) -∗ wpc c (.ret ⟨⟩) Q)
        -∗ wpc c (rest2 arg3 harg3 (nxW false c) (nxW true c) (posW c) (chk2_ok c) (chk1_ok c) (chk3_ok c) (maxV A B) (.ret ⟨⟩)) Q) := by
  have e1 : (chSt c 207 203 : sProp 𝕄) ⊢ chSt c 203 203 := by
    rw [chSt_skip c 207 203 203 203 (fun i _ => by have := lmOrd_range i; omega) (fun _ _ => Iff.rfl)]
  have e2 : (ow c 207 : sProp 𝕄) ⊢ ow c 203 := by rw [ow_skip c 203 207 (by omega) (fun g _ h => by have := mOrd_lt g; omega)]
  have e3 : (lanes (agTail c 15) : sProp 𝕄) ⊢ lanes (fun d b => anySl c .q d 15 b) := by
    unfold lanes agTail
    simp only [show ¬ (15 < 15) from by decide, dif_neg, not_false_eq_true]
    exact .rfl
  have e4 : ∀ i, cov c 0 i → (False ∨ i ∈ (ownR (posW c) (chk3_ok c) false).set) ∨ i ∈ (ownR (posW c) (chk3_ok c) true).set := by
    rintro i (⟨d, h⟩ | ⟨s, d, b, hs, -⟩)
    · cases d
      · exact .inl (.inr h)
      · exact .inr h
    · exact absurd hs (Nat.not_lt_zero _)
  have e5 : (outSt A B c arg3 (cov c 15) : sProp 𝕄) ⊢ owns (c : Thread nD τ) arg3 fullShare (outT A B) := by
    unfold outSt
    iintro ⟨%X, %hX, H⟩
    have e : X = outT A B := funext fun i => hX i (cov_all c i)
    subst e
    iexact H
  have hloop := wp_agFrom A B K c arg3 harg3 (.ret ⟨⟩) Q 15 (Nat.le_refl _)
  unfold rest2
  iintro ⟨#Hctx, Hch, Ho, Hf, Hq, ⟨%X, Hout⟩⟩ Hk
  ihave Hq := (show (lanes (fun d b => anySl c .q d 0 b) : sProp 𝕄) ⊢ iprop(anySl c .q false 0 0 ∗ anySl c .q true 0 0 ∗ anySl c .q false 0 1 ∗ anySl c .q true 0 1) from .rfl) $$ Hq
  icases Hq with ⟨H0, H1, H2, H3⟩
  iapply (wp_quant A B c false _ Q) $$ [Hf H0 H2]
  · isplitl [Hf]; · iexact Hf
    isplitl [H0]; · iexact H0
    iexact H2
  iintro ⟨Hf, H0, H2⟩
  iapply (wp_quant A B c true _ Q) $$ [Hf H1 H3]
  · isplitl [Hf]; · iexact Hf
    isplitl [H1]; · iexact H1
    iexact H3
  iintro ⟨Hf, H1, H3⟩
  ihave H0 := (q_halves A B c false 0) $$ H0
  ihave H1 := (q_halves A B c true 0) $$ H1
  ihave H2 := (q_halves A B c false 1) $$ H2
  ihave H3 := (q_halves A B c true 1) $$ H3
  icases H0 with ⟨L0, H0⟩
  icases H1 with ⟨L1, H1⟩
  icases H2 with ⟨L2, H2⟩
  icases H3 with ⟨L3, H3⟩
  iapply (wp_firstQ A B K c _ Q) $$ [Hch Ho L0 L1 L2 L3]
  · isplitr; · iexact Hctx
    isplitl [Hch]; · iexact Hch
    isplitl [Ho]; · iexact Ho
    unfold lanes
    isplitl [L0]; · iexact L0
    isplitl [L1]; · iexact L1
    isplitl [L2]; · iexact L2
    iexact L3
  iintro ⟨Hch, Ho⟩
  iapply (wp_ownOut A B c arg3 harg3 false (fun _ => False) _ Q) $$ [H0 H2 Hout]
  · isplitl [H0]; · iexact H0
    isplitl [H2]; · iexact H2
    unfold outSt
    iexists X
    isplitr; · ipureintro; exact fun i h => h.elim
    iexact Hout
  iintro ⟨H0, H2, Hout⟩
  iapply (wp_ownOut A B c arg3 harg3 true _ _ Q) $$ [H1 H3 Hout]
  · isplitl [H1]; · iexact H1
    isplitl [H3]; · iexact H3
    iexact Hout
  iintro ⟨H1, H3, Hout⟩
  iapply hloop $$ [Hch Ho H0 H1 H2 H3 Hout]
  · isplitr; · iexact Hctx
    isplitl [Hch]; · iexact Hch
    isplitl [Ho]; · iexact Ho
    isplitl [H0 H1 H2 H3]
    · unfold lanes
      isplitl [H0]; · iapply (q_tail A B c false 0); iexact H0
      isplitl [H1]; · iapply (q_tail A B c true 0); iexact H1
      isplitl [H2]; · iapply (q_tail A B c false 1); iexact H2
      iapply (q_tail A B c true 1); iexact H3
    iapply (outSt_mono A B c arg3 _ _ e4)
    iexact Hout
  iintro ⟨Hch, Ho, Ht, Hout⟩
  iapply Hk
  isplitl [Hch]; · iapply e1; iexact Hch
  isplitl [Ho]; · iapply e2; iexact Ho
  isplitl [Hf]; · iexact Hf
  isplitl [Ht]; · iapply e3; iexact Ht
  iapply e5; iexact Hout

end Cert.KernelIdeal.Pf

end
-- ==== Proof.KernelIdeal.Coll.lean ====
/- A device's buffers cut into what the protocol moves and put together again. -/
module

public import proofs.«01_k».proof.Proof.KernelIdeal.Gather

@[expose] public section

noncomputable section

namespace Cert.KernelIdeal.Pf

open Idealize.ShloMosaic Idealize.SL.Sem Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]
local notation "𝕄" => MT nD τ sig Unit (Elt F) ℕ UU ℕ

/-! ## Families cut up -/

theorem big_bool (Φ : Bool → sProp 𝕄) : (bigSep Finset.univ Φ : sProp 𝕄) = iprop(Φ false ∗ Φ true) := by
  rw [show (bigSep Finset.univ Φ : sProp 𝕄) = _ from bigSep_univ_split false, show Finset.univ.erase false = {true} by decide, bigSep_singleton]
  rfl
theorem big_kd (Φ : Kd → sProp 𝕄) : (bigSep Finset.univ Φ : sProp 𝕄) = iprop(Φ .hi ∗ Φ .lo ∗ Φ .q) := by
  rw [show (Finset.univ : Finset Kd) = insert .hi (insert .lo {.q}) by decide, bigSep_insert (by decide), bigSep_insert (by decide), bigSep_singleton]
  rfl
theorem big_prod {α β : Type} [Fintype α] [Fintype β] (Φ : α × β → sProp 𝕄) :
    (bigSep Finset.univ Φ : sProp 𝕄) = bigSep Finset.univ fun a => bigSep Finset.univ fun b => Φ (a, b) := by
  exact bigSep_univ_prod Φ
theorem big_sum {α β : Type} [Fintype α] [Fintype β] (Φ : α ⊕ β → sProp 𝕄) :
    (bigSep Finset.univ Φ : sProp 𝕄) = iprop(bigSep Finset.univ (fun a => Φ (.inl a)) ∗ bigSep Finset.univ fun b => Φ (.inr b)) := by
  exact bigSep_univ_sum Φ
theorem big_split {α : Type} (s : Finset α) (p : α → Prop) [DecidablePred p] (Φ : α → sProp 𝕄) :
    (bigSep s Φ : sProp 𝕄) = iprop(bigSep (s.filter p) Φ ∗ bigSep (s.filter fun i => ¬ p i) Φ) := by
  classical exact bigSep_filter_split s p
theorem big_one {α : Type} [Fintype α] [DecidableEq α] (i : α) (Φ : α → sProp 𝕄) :
    (bigSep Finset.univ Φ : sProp 𝕄) = iprop(Φ i ∗ bigSep (Finset.univ.erase i) Φ) := by
  exact bigSep_univ_split i

theorem lanes_of (Φ : Bool → Fin 2 → sProp 𝕄) : (bigSep Finset.univ (fun d => bigSep Finset.univ fun b => Φ d b) : sProp 𝕄) ⊢ lanes Φ := by
  unfold lanes
  rw [big_bool, big_two, big_two]
  iintro ⟨⟨H0, H1⟩, H2, H3⟩
  isplitl [H0]; · iexact H0
  isplitl [H2]; · iexact H2
  isplitl [H1]; · iexact H1
  iexact H3
theorem of_lanes (Φ : Bool → Fin 2 → sProp 𝕄) : lanes Φ ⊢ (bigSep Finset.univ (fun d => bigSep Finset.univ fun b => Φ d b) : sProp 𝕄) := by
  unfold lanes
  rw [big_bool, big_two, big_two]
  iintro ⟨H0, H2, H1, H3⟩
  isplitl [H0 H1]
  · isplitl [H0]; · iexact H0
    iexact H1
  isplitl [H2]; · iexact H2
  iexact H3
theorem lanes_mono {Φ Ψ : Bool → Fin 2 → sProp 𝕄} (h : ∀ d b, Φ d b ⊢ Ψ d b) : (lanes Φ : sProp 𝕄) ⊢ lanes Ψ := by
  refine (of_lanes Φ).trans (BIBase.Entails.trans ?_ (lanes_of Ψ))
  exact big_mono fun d _ => big_mono fun b _ => h d b

/-- A family over the slots of every buffer, with one slot of each kind apart. -/
theorem slots_split (Ψ : Kd → Bool → Fin 16 → Fin 2 → sProp 𝕄) (j0 : Kd → Fin 16) (g : Kd → Fin 15 → Fin 16)
    (hg : ∀ k, Finset.univ.erase (j0 k) = Finset.univ.image (g k)) (hi : ∀ k, ∀ x ∈ (Finset.univ : Finset (Fin 15)), ∀ y ∈ (Finset.univ : Finset (Fin 15)), g k x = g k y → x = y) :
    (bigSep Finset.univ (fun k => bigSep Finset.univ fun d => bigSep Finset.univ fun t : Fin 16 × Fin 2 => Ψ k d t.1 t.2) : sProp 𝕄)
      = iprop(bigSep Finset.univ (fun k => bigSep Finset.univ fun d => bigSep Finset.univ fun b => Ψ k d (j0 k) b)
        ∗ bigSep Finset.univ fun i : Lm => Ψ i.1 i.2.1 (g i.1 i.2.2.1) i.2.2.2) := by
  have e : ∀ k d, (bigSep Finset.univ (fun t : Fin 16 × Fin 2 => Ψ k d t.1 t.2) : sProp 𝕄)
      = iprop(bigSep Finset.univ (fun b => Ψ k d (j0 k) b) ∗ bigSep Finset.univ fun m => bigSep Finset.univ fun b => Ψ k d (g k m) b) := by
    intro k d
    rw [big_prod, big_one (j0 k), hg k, big_image _ _ (hi k)]
  rw [big_prod (fun i : Lm => Ψ i.1 i.2.1 (g i.1 i.2.2.1) i.2.2.2), ← big_sep]
  refine bigSep_congr fun k _ => ?_
  rw [big_prod, ← big_sep]
  refine bigSep_congr fun d _ => ?_
  rw [e k d, big_prod]

variable (A : Dev nD → Vec F S4096x256 .bf16) (B : Dev nD → Vec F S256x2048 .bf16) (K : GSem nD τ sig → ℕ) (c : Dev nD)

/-! ## The slots -/

/-- The buffers of the messages. -/
def bufs : sProp 𝕄 := bigSep Finset.univ fun k => bigSep Finset.univ fun d => iprop(∃ X, owns (c : Thread nD τ) (chM k d) fullShare X)

/-- The slot of each kind a device uses itself, and the slot the others: that a message arrives in if it is sent. -/
def firstSl : Kd → Fin 16 | .lo => 10 | _ => 0
def slotG (k : Kd) (m : Fin 15) : Fin 16 := if lmUsed (k, false, m, 0) = true then m.succ else m.castSucc
theorem slotG_erase (k : Kd) : Finset.univ.erase (firstSl k) = Finset.univ.image (slotG k) := by cases k <;> decide
theorem slotG_inj (k : Kd) : ∀ x ∈ (Finset.univ : Finset (Fin 15)), ∀ y ∈ (Finset.univ : Finset (Fin 15)), slotG k x = slotG k y → x = y := by cases k <;> decide

theorem bufs_open : (bufs c : sProp 𝕄) ⊢ iprop((lanes (fun d b => anySl c .hi d 0 b) ∗ lanes (fun d b => anySl c .lo d 10 b) ∗ lanes fun d b => anySl c .q d 0 b)
    ∗ bigSep Finset.univ fun i : Lm => anySl c i.1 i.2.1 (slotG i.1 i.2.2.1) i.2.2.2) := by
  have h : (bufs c : sProp 𝕄) ⊢ bigSep Finset.univ (fun k => bigSep Finset.univ fun d => bigSep Finset.univ fun t : Fin 16 × Fin 2 => anySl c k d t.1 t.2) := by
    refine big_mono fun k _ => big_mono fun d _ => ?_
    iintro ⟨%X, H⟩
    iapply (slots_of c (chM k d) X)
    iexact H
  refine h.trans ?_
  rw [slots_split (fun k d j b => anySl c k d j b) firstSl slotG slotG_erase slotG_inj, big_kd]
  iintro ⟨⟨H0, H1, H2⟩, Hs⟩
  isplitr [Hs]
  · isplitl [H0]; · iapply (lanes_of fun d b => anySl c .hi d 0 b); iexact H0
    isplitl [H1]; · iapply (lanes_of fun d b => anySl c .lo d 10 b); iexact H1
    iapply (lanes_of fun d b => anySl c .q d 0 b); iexact H2
  iexact Hs

theorem bufs_close : (iprop(lanes (fun d b => anySl c .hi d 15 b) ∗ lanes (fun d b => anySl c .lo d 15 b) ∗ lanes (fun d b => anySl c .q d 15 b)
    ∗ bigSep Finset.univ fun i : Lm => ownSl c i) : sProp 𝕄) ⊢ bufs c := by
  have h : bigSep Finset.univ (fun k => bigSep Finset.univ fun d => bigSep Finset.univ fun t : Fin 16 × Fin 2 => anySl c k d t.1 t.2) ⊢ (bufs c : sProp 𝕄) := by
    refine big_mono fun k _ => big_mono fun d _ => ?_
    refine BIBase.Entails.trans (big_exists _ (fun (t : Fin 16 × Fin 2) Y => sl c (chM k d) t.1 t.2 fullShare Y)) ?_
    iintro ⟨%Y, H⟩
    iapply (of_slots c (chM k d) Y)
    iexact H
  refine BIBase.Entails.trans ?_ h
  rw [slots_split (fun k d j b => anySl c k d j b) (fun _ => 15) (fun _ m => m.castSucc) (fun _ => by decide) (fun _ => by decide), big_kd]
  iintro ⟨H0, H1, H2, Hs⟩
  isplitr [Hs]
  · isplitl [H0]; · iapply (of_lanes fun d b => anySl c .hi d 15 b); iexact H0
    isplitl [H1]; · iapply (of_lanes fun d b => anySl c .lo d 15 b); iexact H1
    iapply (of_lanes fun d b => anySl c .q d 15 b); iexact H2
  iexact Hs

/-! ## What is handed over at the barrier -/

abbrev usedF : Finset Lm := Finset.univ.filter fun i : Lm => lmUsed i = true
abbrev idleF : Finset Lm := Finset.univ.filter fun i : Lm => ¬ lmUsed i = true

theorem dirs_split (Φ : Lm → sProp 𝕄) : (bigSep usedF Φ : sProp 𝕄)
    = iprop(bigSep (Finset.univ.filter fun i : Lm => lmUsed i = true ∧ i.2.1 = true) Φ ∗ bigSep (Finset.univ.filter fun i : Lm => lmUsed i = true ∧ i.2.1 = false) Φ) := by
  rw [big_split usedF (fun i => i.2.1 = true), Finset.filter_filter, Finset.filter_filter]
  simp only [Bool.not_eq_true]

theorem gives_of : (iprop((bigSep Finset.univ fun i : Lm => anySl c i.1 i.2.1 (slotG i.1 i.2.2.1) i.2.2.2) ∗ bigSep Finset.univ fun i : Lm => reached ER (rc c i) 0) : sProp 𝕄)
    ⊢ iprop((barPay true (pv true c) ∗ barPay false (pv false c)) ∗ bigSep idleF fun i : Lm => ownSl c i) := by
  have e : ∀ d, (barPay d (pv d c) : sProp 𝕄) = bigSep (Finset.univ.filter fun i : Lm => lmUsed i = true ∧ i.2.1 = d) (slotGive c) := by
    intro d; unfold barPay; rw [nx_pv]
  rw [e, e, ← dirs_split (slotGive c), ← big_sep, big_split Finset.univ (fun i : Lm => lmUsed i = true)]
  have h1 : (bigSep usedF fun i : Lm => iprop(anySl c i.1 i.2.1 (slotG i.1 i.2.2.1) i.2.2.2 ∗ reached ER (rc c i) 0) : sProp 𝕄) ⊢ bigSep usedF (slotGive c) := by
    refine big_mono fun i hi => ?_
    have hu : lmUsed (i.1, false, i.2.2.1, 0) = true := (Finset.mem_filter.mp hi).2
    unfold slotGive slotG
    rw [if_pos hu]
  have h2 : (bigSep idleF fun i : Lm => iprop(anySl c i.1 i.2.1 (slotG i.1 i.2.2.1) i.2.2.2 ∗ reached ER (rc c i) 0) : sProp 𝕄) ⊢ bigSep idleF fun i : Lm => ownSl c i := by
    refine big_mono fun i hi => ?_
    have hu : ¬ lmUsed (i.1, false, i.2.2.1, 0) = true := (Finset.mem_filter.mp hi).2
    unfold slotG
    rw [if_neg hu]
    iintro ⟨H, -⟩
    iexact H
  iintro ⟨H1, H2⟩
  isplitl [H1]; · iapply h1; iexact H1
  iapply h2; iexact H2

/-- What a device holds besides to send a message and wait for it. -/
def bTok (i : Lm) : sProp 𝕄 := iprop(reached ER (sc c i) 0
  ∗ cred (tallyAt (rc c i) () (amtL i.1)) ∗ dutyTok ER (sc c i) 0 false ∗ dutyTok ER (rc (nx i.2.1 c) i) 0 false)

theorem chSt_open : (iprop((bigSep Finset.univ fun i : Lm => iprop(atPos ER (sc c i) 0 ∅ 0 ∗ atPos ER (rc c i) 0 ∅ 0)) ∗ bigSep usedF (bTok c)
    ∗ (barPay true c ∗ barPay false c) ∗ bigSep idleF fun i : Lm => ownSl c i) : sProp 𝕄) ⊢ chSt c 0 0 := by
  have e : (iprop(barPay true c ∗ barPay false c) : sProp 𝕄) = bigSep usedF fun i : Lm => slotGive (nx i.2.1 c) i := by
    rw [dirs_split]
    unfold barPay
    rw [show (bigSep (Finset.univ.filter fun i : Lm => lmUsed i = true ∧ i.2.1 = true) fun i => slotGive (nx i.2.1 c) i : sProp 𝕄) = bigSep (Finset.univ.filter fun i : Lm => lmUsed i = true ∧ i.2.1 = true) (slotGive (nx true c)) from
        bigSep_congr fun i hi => by rw [(Finset.mem_filter.mp hi).2.2],
      show (bigSep (Finset.univ.filter fun i : Lm => lmUsed i = true ∧ i.2.1 = false) fun i => slotGive (nx i.2.1 c) i : sProp 𝕄) = bigSep (Finset.univ.filter fun i : Lm => lmUsed i = true ∧ i.2.1 = false) (slotGive (nx false c)) from
        bigSep_congr fun i hi => by rw [(Finset.mem_filter.mp hi).2.2]]
  unfold chSt
  rw [e, big_split Finset.univ (fun i : Lm => lmUsed i = true) (fun i => iprop(atPos ER (sc c i) 0 ∅ 0 ∗ atPos ER (rc c i) 0 ∅ 0)), big_split Finset.univ (fun i : Lm => lmUsed i = true) (St c 0 0)]
  have h1 : (iprop((bigSep usedF fun i : Lm => iprop(atPos ER (sc c i) 0 ∅ 0 ∗ atPos ER (rc c i) 0 ∅ 0)) ∗ bigSep usedF (bTok c) ∗ bigSep usedF fun i : Lm => slotGive (nx i.2.1 c) i) : sProp 𝕄) ⊢ bigSep usedF (St c 0 0) := by
    rw [← big_sep, ← big_sep]
    refine big_mono fun i hi => ?_
    rw [St_before c 0 0 i (Finset.mem_filter.mp hi).2 (Nat.zero_le _) (Nat.zero_le _)]
    unfold beforeSt bTok
    iintro ⟨⟨H1, H2⟩, ⟨H3, H4, H5, H6⟩, H7⟩
    isplitl [H1]; · iexact H1
    isplitl [H2]; · iexact H2
    isplitl [H3]; · iexact H3
    isplitl [H4]; · iexact H4
    isplitl [H5]; · iexact H5
    isplitl [H6]; · iexact H6
    iexact H7
  have h2 : (iprop((bigSep idleF fun i : Lm => iprop(atPos ER (sc c i) 0 ∅ 0 ∗ atPos ER (rc c i) 0 ∅ 0)) ∗ bigSep idleF fun i : Lm => ownSl c i) : sProp 𝕄) ⊢ bigSep idleF (St c 0 0) := by
    rw [← big_sep]
    refine big_mono fun i hi => ?_
    unfold St
    rw [if_neg (Finset.mem_filter.mp hi).2]
    unfold idleSt
    iintro ⟨⟨H1, H2⟩, H3⟩
    isplitl [H1]; · iexact H1
    isplitl [H2]; · iexact H2
    iexact H3
  iintro ⟨⟨Ha, Hb⟩, Ht, Hg, Ho⟩
  isplitl [Ha Ht Hg]
  · iapply h1
    isplitl [Ha]; · iexact Ha
    isplitl [Ht]; · iexact Ht
    iexact Hg
  iapply h2
  isplitl [Hb]; · iexact Hb
  iexact Ho

theorem chSt_close : (chSt c 203 203 : sProp 𝕄) ⊢ iprop((bigSep Finset.univ fun i : Lm => iprop(atPos ER (sc c i) (if lmUsed i = true then 1 else 0) ∅ 0 ∗ atPos ER (rc c i) (if lmUsed i = true then 1 else 0) ∅ 0))
    ∗ bigSep Finset.univ fun i : Lm => ownSl c i) := by
  rw [← big_sep]
  unfold chSt
  refine big_mono fun i _ => ?_
  by_cases hu : lmUsed i = true
  · rw [St_after c 203 203 i hu (by have := lmOrd_range i; omega), if_pos hu]
    unfold afterSt
    iintro ⟨H1, H2, H3⟩
    isplitr [H3]
    · isplitl [H1]; · iexact H1
      iexact H2
    iexact H3
  · unfold St
    rw [if_neg hu, if_neg hu]
    unfold idleSt
    iintro ⟨H1, H2, H3⟩
    isplitr [H3]
    · isplitl [H1]; · iexact H1
      iexact H2
    iexact H3

/-! ## The table, and the positions -/

theorem fwd_others (c : Dev nD) : Finset.univ.erase c = (Finset.Ico 1 16).image (fun j => fwd false j c) ∧ (∀ x ∈ Finset.Ico 1 16, ∀ y ∈ Finset.Ico 1 16, fwd false x c = fwd false y c → x = y) := by
  revert c; decide +kernel
theorem tab_open : (iprop((∃ X, owns (c : Thread nD τ) mM fullShare X) ∗ bigSep Finset.univ fun i : Dev nD => reached ER (mrc c i) 0) : sProp 𝕄) ⊢ iprop((∃ V, ent c c fullShare V) ∗ bundle 0 c) := by
  have h : (∃ X, owns (c : Thread nD τ) mM fullShare X : sProp 𝕄) ⊢ bigSep Finset.univ fun i : Dev nD => iprop(∃ Y, ent c i fullShare Y) := by
    iintro ⟨%X, H⟩
    iapply (ents_of c X)
    iexact H
  have h2 : (iprop((bigSep (Finset.univ.erase c) fun i : Dev nD => iprop(∃ Y, ent c i fullShare Y)) ∗ bigSep (Finset.univ.erase c) fun i : Dev nD => reached ER (mrc c i) 0) : sProp 𝕄) ⊢ bundle 0 c := by
    rw [← big_sep, (fwd_others c).1, big_image _ _ (fwd_others c).2]
    unfold bundle give
    exact .rfl
  iintro ⟨H, Hr⟩
  ihave H := h $$ H
  ihave H := (BIBase.Entails.of_eq (big_one c fun i : Dev nD => iprop(∃ Y, ent c i fullShare Y))) $$ H
  ihave Hr := (BIBase.Entails.of_eq (big_one c fun i : Dev nD => (reached ER (mrc c i) 0 : sProp 𝕄))) $$ Hr
  icases H with ⟨H0, H⟩
  icases Hr with ⟨-, Hr⟩
  isplitl [H0]; · iexact H0
  iapply h2
  isplitl [H]; · iexact H
  iexact Hr

/-- A family over a device's own semaphores, by what they serve. -/
theorem keys_split (Φ : Ck → sProp 𝕄) : (bigSep Finset.univ Φ : sProp 𝕄)
    = iprop((bigSep Finset.univ (fun i : Lm => Φ (.inl (false, i))) ∗ bigSep Finset.univ fun i : Lm => Φ (.inl (true, i)))
      ∗ (Φ (.inr (false, 0)) ∗ bigSep Finset.univ fun r : Fin 15 => Φ (.inr (false, r.succ)))
      ∗ (Φ (.inr (true, c)) ∗ bigSep Finset.univ fun r : Fin 15 => Φ (.inr (true, peerD c r)))) := by
  have e0 : (Finset.univ : Finset (Fin 16)).erase 0 = Finset.univ.image (fun r : Fin 15 => r.succ) := by decide
  have e1 : (bigSep Finset.univ (fun b : Fin 16 => Φ (.inr (false, b))) : sProp 𝕄) = iprop(Φ (.inr (false, 0)) ∗ bigSep Finset.univ fun r : Fin 15 => Φ (.inr (false, r.succ))) := by
    rw [big_one (0 : Fin 16) (fun b => Φ (.inr (false, b))), e0, big_image _ _ (by decide)]
  have e2 : (bigSep Finset.univ (fun b : Fin 16 => Φ (.inr (true, b))) : sProp 𝕄) = iprop(Φ (.inr (true, c)) ∗ bigSep Finset.univ fun r : Fin 15 => Φ (.inr (true, peerD c r))) := by
    rw [← big_peers c (fun i => Φ (.inr (true, i)))]
    exact big_one (α := Fin 16) c (fun i => Φ (.inr (true, i)))
  rw [big_sum, big_prod (fun a : Bool × Lm => Φ (.inl a)), big_bool, big_prod (fun a : Bool × Fin 16 => Φ (.inr a)), big_bool, e1, e2]

end Cert.KernelIdeal.Pf

end
-- ==== Proof.KernelIdeal.Main.lean ====
/- The body of the kernel after the barrier, up to the table of the maxima. -/
module

public import proofs.«01_k».proof.Proof.KernelIdeal.Coll

@[expose] public section

noncomputable section

namespace Cert.KernelIdeal.Pf

open Idealize.ShloMosaic Idealize.SL.Sem Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]
local notation "𝕄" => MT nD τ sig Unit (Elt F) ℕ UU ℕ

variable (A : Dev nD → Vec F S4096x256 .bf16) (B : Dev nD → Vec F S256x2048 .bf16) (K : GSem nD τ sig → ℕ) (c : Dev nD)

theorem wp_copyIn (arg0 : Memref sig .tc .vmem S4096x256 .bf16) (arg1 : Memref sig .tc .vmem S256x2048 .bf16) (P : Pg F PUnit) (Q : PUnit.{1} → sProp 𝕄) :
    (iprop((owns (c : Thread nD τ) arg0 fullShare (A c) ∗ owns (c : Thread nD τ) arg1 fullShare (B c)) ∗ (∃ X, owns (c : Thread nD τ) aM fullShare X) ∗ ∃ X, owns (c : Thread nD τ) wM fullShare X) : sProp 𝕄)
      ⊢ iprop((((owns (c : Thread nD τ) arg0 fullShare (A c) ∗ owns (c : Thread nD τ) arg1 fullShare (B c)) ∗ opSt A B c) -∗ wpc c P Q) -∗ wpc c (copyIn arg0 arg1 P) Q) := by
  unfold copyIn opSt
  iintro ⟨⟨H0, H1⟩, ⟨%X, Ha⟩, ⟨%Y, Hw⟩⟩ Hk
  iapply (wp_loadWhole inb_S4096x256_S4096x256_0_0 c arg0 fullShare (A c) Q) $$ [H0]; · iexact H0
  iintro H0
  iapply (wp_loadWhole inb_S4096x256_S4096x256_0_0 c aM fullShare X Q) $$ [Ha]; · iexact Ha
  iintro Ha
  iapply (wp_storeWhole inb_S4096x256_S4096x256_0_0 c aM X (k0_pay2 (A c)) Q) $$ [Ha]; · iexact Ha
  iintro Ha
  iapply (wp_loadWhole inb_S256x2048_S256x2048_0_0 c arg1 fullShare (B c) Q) $$ [H1]; · iexact H1
  iintro H1
  iapply (wp_loadWhole inb_S256x2048_S256x2048_0_0 c wM fullShare Y Q) $$ [Hw]; · iexact Hw
  iintro Hw
  iapply (wp_storeWhole inb_S256x2048_S256x2048_0_0 c wM Y (k0_pay3 (B c)) Q) $$ [Hw]; · iexact Hw
  iintro Hw
  iapply Hk
  isplitl [H0 H1]
  · isplitl [H0]; · iexact H0
    iexact H1
  isplitl [Ha]; · iexact Ha
  iexact Hw

/-- The sums' buffers, as the lanes hold them. -/
theorem fin_lanes : (iprop((∃ X, owns (c : Thread nD τ) (finM false) fullShare X) ∗ ∃ X, owns (c : Thread nD τ) (finM true) fullShare X) : sProp 𝕄)
    ⊢ lanes fun d b => iprop(∃ X, finH c d b X) := by
  unfold lanes
  iintro ⟨⟨%X, H⟩, ⟨%Y, H'⟩⟩
  ihave H := (fin_split c false X) $$ H
  ihave H' := (fin_split c true Y) $$ H'
  icases H with ⟨H0, H2⟩
  icases H' with ⟨H1, H3⟩
  isplitl [H0]; · iexact H0
  isplitl [H1]; · iexact H1
  isplitl [H2]; · iexact H2
  iexact H3

theorem lane_first (d : Bool) (b : Fin 2) : (iprop((∃ X, finH c d b X) ∗ anySl c .lo d 10 b) : sProp 𝕄) ⊢ laneSt A B c 0 d b := by
  unfold laneSt finSt tailSt keepL
  rw [if_pos (by decide), Finset.range_zero]
  iintro ⟨⟨%X, H⟩, Hl⟩
  isplitl [H]
  · iexists X
    isplitr; · ipureintro; intro h; exact absurd h (by decide)
    iexact H
  isplitl [Hl]; · iexact Hl
  iempintro

theorem lane_last (d : Bool) (b : Fin 2) : (laneSt A B c 15 d b : sProp 𝕄) ⊢ iprop(finH c d b (yV A B d b 14 c) ∗ (anySl c .lo d 15 b ∗ anySl c .hi d 15 b) ∗ keepL 15 d b c) := by
  have e : (tailSt c 15 d b : sProp 𝕄) ⊢ iprop(anySl c .lo d 15 b ∗ anySl c .hi d 15 b) := by
    unfold tailSt
    rw [if_neg (by decide), if_pos rfl]
  unfold laneSt finSt
  iintro ⟨⟨%X, %h, H⟩, Ht, Hk⟩
  ihave Ht := e $$ Ht
  have h' := h rfl
  subst h'
  isplitl [H]; · iexact H
  isplitl [Ht]; · iexact Ht
  iexact Hk

theorem lanes_last : (lanes (laneSt A B c 15) : sProp 𝕄) ⊢ iprop(finFull A B c ∗ keepL 15 false 0 c ∗ lanes (fun d b => anySl c .lo d 15 b) ∗ lanes fun d b => anySl c .hi d 15 b) := by
  refine (lanes_mono (lane_last A B c)).trans ?_
  unfold lanes finFull finV
  iintro ⟨⟨F0, ⟨L0, H0⟩, Hk⟩, ⟨F1, ⟨L1, H1⟩, -⟩, ⟨F2, ⟨L2, H2⟩, -⟩, ⟨F3, ⟨L3, H3⟩, -⟩⟩
  isplitl [F0 F1 F2 F3]
  · isplitl [F0 F2]
    · iapply (fin_join c false fun b => yV A B false b 14 c)
      isplitl [F0]; · iexact F0
      iexact F2
    · iapply (fin_join c true fun b => yV A B true b 14 c)
      isplitl [F1]; · iexact F1
      iexact F3
  isplitl [Hk]; · iexact Hk
  isplitl [L0 L1 L2 L3]
  · isplitl [L0]; · iexact L0
    isplitl [L1]; · iexact L1
    isplitl [L2]; · iexact L2
    iexact L3
  isplitl [H0]; · iexact H0
  isplitl [H1]; · iexact H1
  isplitl [H2]; · iexact H2
  iexact H3

theorem chSt_gap128 : (chSt c 128 120 : sProp 𝕄) = chSt c 143 143 :=
  chSt_skip c 128 120 143 143 (fun i _ => by have := lmOrd_range i; omega) (fun i _ => by have := lmOrd_range i; omega)

/-- What `rest1` starts from and leaves. -/
def pre1 : sProp 𝕄 := iprop(chSt c 0 0 ∗ ow c 0 ∗ ((∃ X, owns (c : Thread nD τ) aM fullShare X) ∗ ∃ X, owns (c : Thread nD τ) wM fullShare X)
  ∗ lanes (fun d b => anySl c .hi d 0 b) ∗ lanes (fun d b => anySl c .lo d 10 b) ∗ ((∃ X, owns (c : Thread nD τ) (finM false) fullShare X) ∗ ∃ X, owns (c : Thread nD τ) (finM true) fullShare X)
  ∗ bundle 0 c ∗ mxSt c)
def post1 : sProp 𝕄 := iprop(chSt c 143 143 ∗ ow c 143 ∗ opSt A B c ∗ (lanes (fun d b => anySl c .lo d 15 b) ∗ lanes fun d b => anySl c .hi d 15 b)
  ∗ finFull A B c ∗ mxEnd c ∗ owns (c : Thread nD τ) mM fullShare (tabV A B))

theorem wp_rest1 (arg0 : Memref sig .tc .vmem S4096x256 .bf16) (arg1 : Memref sig .tc .vmem S256x2048 .bf16) (P : Vec F S16x1x1 .f32 → Pg F PUnit) (Q : PUnit.{1} → sProp 𝕄) :
    (iprop(ctx A B K ∗ (owns (c : Thread nD τ) arg0 fullShare (A c) ∗ owns (c : Thread nD τ) arg1 fullShare (B c)) ∗ pre1 c) : sProp 𝕄)
      ⊢ iprop((((owns (c : Thread nD τ) arg0 fullShare (A c) ∗ owns (c : Thread nD τ) arg1 fullShare (B c)) ∗ post1 A B c) -∗ wpc c (P (maxV A B)) Q)
        -∗ wpc c (rest1 arg0 arg1 c (nxW false c) (nxW true c) (posW c) (chk2_ok c) (chk1_ok c) (chk3_ok c) P) Q) := by
  have hl : (iprop((lanes fun d b => iprop(∃ X, finH c d b X)) ∗ lanes fun d b => anySl c .lo d 10 b) : sProp 𝕄) ⊢ lanes (laneSt A B c (15 - 15)) := by
    refine BIBase.Entails.trans ?_ (lanes_mono (lane_first A B c))
    unfold lanes
    iintro ⟨⟨F0, F1, F2, F3⟩, L0, L1, L2, L3⟩
    isplitl [F0 L0]; · isplitl [F0]; · iexact F0
                       iexact L0
    isplitl [F1 L1]; · isplitl [F1]; · iexact F1
                       iexact L1
    isplitl [F2 L2]; · isplitl [F2]; · iexact F2
                       iexact L2
    isplitl [F3]; · iexact F3
    iexact L3
  have hch : (chSt c 128 120 : sProp 𝕄) ⊢ chSt c 143 143 := by rw [chSt_gap128]
  have hrs := fun P' => wp_rsFrom A B K c P' Q 15 (Nat.le_refl _)
  unfold rest1 pre1 post1
  iintro ⟨#Hctx, Hargs, Hch, Ho, Hop, Hhi, Hlo, Hfin, Hb, Hmx⟩ Hk
  iapply (wp_copyIn A B c arg0 arg1 _ Q) $$ [Hargs Hop]
  · isplitl [Hargs]; · iexact Hargs
    iexact Hop
  iintro ⟨Hargs, Hop⟩
  ihave Hhi := (show (lanes (fun d b => anySl c .hi d 0 b) : sProp 𝕄) ⊢ iprop(anySl c .hi false 0 0 ∗ anySl c .hi true 0 0 ∗ anySl c .hi false 0 1 ∗ anySl c .hi true 0 1) from .rfl) $$ Hhi
  icases Hhi with ⟨H0, H1, H2, H3⟩
  iapply (wp_firstStore A B c false _ Q) $$ [Hop H0 H2]
  · isplitl [Hop]; · iexact Hop
    isplitl [H0]; · iexact H0
    iexact H2
  iintro ⟨Hop, H0, H2⟩
  iapply (wp_firstStore A B c true _ Q) $$ [Hop H1 H3]
  · isplitl [Hop]; · iexact Hop
    isplitl [H1]; · iexact H1
    iexact H3
  iintro ⟨Hop, H1, H3⟩
  iapply (wp_firstHi A B K c _ Q) $$ [Hch Ho H0 H1 H2 H3 Hb]
  · isplitr; · iexact Hctx
    isplitl [Hch]; · iexact Hch
    isplitl [Ho]; · iexact Ho
    isplitr [Hb]
    · unfold lanes
      isplitl [H0]; · iexact H0
      isplitl [H1]; · iexact H1
      isplitl [H2]; · iexact H2
      iexact H3
    iexact Hb
  iintro ⟨Hch, Ho⟩
  ihave Hfin := (fin_lanes c) $$ Hfin
  iapply hrs $$ [Hch Ho Hop Hfin Hlo]
  · isplitr; · iexact Hctx
    isplitl [Hch]; · iexact Hch
    isplitl [Ho]; · iexact Ho
    isplitl [Hop]; · iexact Hop
    iapply hl
    isplitl [Hfin]; · iexact Hfin
    iexact Hlo
  iintro ⟨Hch, Ho, Hop, Hl⟩
  ihave Hl := (lanes_last A B c) $$ Hl
  icases Hl with ⟨Hfin, Hkeep, Hlo, Hhi⟩
  iapply (wp_mid A B K c P Q) $$ [Ho Hfin Hkeep Hmx]
  · isplitr; · iexact Hctx
    isplitl [Ho]; · iexact Ho
    isplitl [Hfin]; · iexact Hfin
    isplitl [Hkeep]; · iexact Hkeep
    iexact Hmx
  iintro ⟨Ho, Hfin, Hmx, Ht⟩
  iapply Hk
  isplitl [Hargs]; · iexact Hargs
  isplitl [Hch]; · iapply hch; iexact Hch
  isplitl [Ho]; · iexact Ho
  isplitl [Hop]; · iexact Hop
  isplitl [Hlo Hhi]
  · isplitl [Hlo]; · iexact Hlo
    iexact Hhi
  isplitl [Hfin]; · iexact Hfin
  isplitl [Hmx]; · iexact Hmx
  iexact Ht

end Cert.KernelIdeal.Pf

end
-- ==== Proof.KernelIdeal.Start.lean ====
/- The beginning of the kernel's body: the words of the table of neighbours, and the barrier. -/
module

public import proofs.«01_k».proof.Proof.KernelIdeal.Main

@[expose] public section

noncomputable section

namespace Cert.KernelIdeal.Pf

open Idealize.ShloMosaic Idealize.SL.Sem Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]
local notation "𝕄" => MT nD τ sig Unit (Elt F) ℕ UU ℕ

variable (A : Dev nD → Vec F S4096x256 .bf16) (B : Dev nD → Vec F S256x2048 .bf16) (K : GSem nD τ sig → ℕ) (c : Dev nD)

theorem word1 (c : Dev nD) : metaV ((Rect.unit (s := S3x16) (k0_off1 c) S1x1.size (k0_off1_inb c)).emb (Shape.Idx.first (numel1_S1x1.symm ▸ Nat.one_pos))) = nxW false c := by
  revert c; decide +kernel
theorem word2 (c : Dev nD) : metaV ((Rect.unit (s := S3x16) (k0_off2 c) S1x1.size (k0_off2_inb c)).emb (Shape.Idx.first (numel1_S1x1.symm ▸ Nat.one_pos))) = nxW true c := by
  revert c; decide +kernel
theorem word3 (c : Dev nD) : metaV ((Rect.unit (s := S3x16) (k0_off3 c) S1x1.size (k0_off3_inb c)).emb (Shape.Idx.first (numel1_S1x1.symm ▸ Nat.one_pos))) = posW c := by
  revert c; decide +kernel

theorem wp_loadWord (arg2 : Memref sig .tc .smem S3x16 .i32) (off : Fin 2 → Nat) (inb : ∀ a, off a + S1x1.size a ≤ S3x16.size a) (w : BitVec 32)
    (hw : metaV ((Rect.unit (s := S3x16) off S1x1.size inb).emb (Shape.Idx.first (numel1_S1x1.symm ▸ Nat.one_pos))) = w) (P : BitVec 32 → Pg F PUnit) (Q : PUnit.{1} → sProp 𝕄) :
    (owns (c : Thread nD τ) arg2 fullShare metaV : sProp 𝕄) ⊢ iprop((owns (c : Thread nD τ) arg2 fullShare metaV -∗ wpc c (P w) Q) -∗ wpc c (loadWord arg2 off inb P) Q) := by
  subst hw
  unfold loadWord smemLoadElt
  iintro H Hk
  ihave H := (show (owns (c : Thread nD τ) arg2 fullShare metaV : sProp 𝕄) ⊢ iprop(∃ f, ⌜arg2.view.read (Elt F) f = metaV⌝ ∗ (arg2.view.loc (c : Thread nD τ) ↦[arg2.view.set]{fullShare} f)) from .rfl) $$ H
  icases H with ⟨%f, %hf, H⟩
  iapply (wp_load 𝒱₀ (c : Thread nD τ) none Set.univ (m := arg2) (S := arg2.view.set) (q := fullShare) (f := f) (Finset.map_subset_map.mpr (Finset.subset_univ _))) $$ [H]
  · iexact H
  iintro H
  rw [← hf]
  iapply Hk
  iapply (owns_intro (c : Thread nD τ) arg2 fullShare f)
  iexact H

/-- What a device brings to the barrier. -/
def barSt : sProp 𝕄 := iprop(atPos ER (barCell c) 0 ∅ 0 ∗ cred (tallyAt (barCell c) () 2)
  ∗ (dutyTok ER (barCell (pv true c)) 0 true ∗ dutyTok ER (barCell (pv false c)) 0 false)
  ∗ ∃ W, owes (c : Thread nD τ) (owed c 0 + tallyAt (barCell (pv true c)) () 1 + tallyAt (barCell (pv false c)) () 1) W)

theorem wp_barrier (P : Pg F PUnit) (Q : PUnit.{1} → sProp 𝕄) :
    (iprop(ctx A B K ∗ barSt c ∗ (barPay true (pv true c) ∗ barPay false (pv false c))) : sProp 𝕄)
      ⊢ iprop(((ow c 0 ∗ atPos ER (barCell c) 1 ∅ 0 ∗ (barPay true c ∗ barPay false c)) -∗ wpc c P Q)
        -∗ wpc c (.op (.semSignal (Dev.tc (pv false c)) (sig.barrier 7 rfl) 1) fun _ => .op (.semSignal (Dev.tc (pv true c)) (sig.barrier 7 rfl) 1) fun _ =>
          .op (.semWait (sig.barrier 7 rfl) 2) fun _ => P) Q) := by
  have m1 : (ctx A B K : sProp 𝕄) ⊢ MayWait (c : Thread nD τ) (.reg barS) () (owed c 0) := ctx_mayWait A B K c (.reg barS) 0 1 (Nat.le_refl _) (by
    intro g hu _
    cases g with
    | inl i => show 1 < lmOrd i + 2; omega
    | inr r => show 1 < 130; decide)
  have hr := rest_bar A B c
  unfold barSt ow
  iintro ⟨#Hctx, ⟨Hat, Hc, ⟨Ht1, Ht2⟩, ⟨%W, Ho⟩⟩, Hp1, Hp2⟩ Hk
  iapply (Rounds.wp_signal 𝒱₀ ER (sched A B) (c : Thread nD τ) none (dst := (pv false c : Thread nD τ)) (sem := barS) (r := 0) (d := false) (κ := K (barCell (pv false c)))
      (by rw [duties_bar]; decide) (amount_bar A B (pv false c) false) () (owed c 0 + tallyAt (barCell (pv true c)) () 1) rfl) $$ [Ho Ht2 Hp2]
  · isplitr; · iapply (ctx_bar A B K (pv false c)); iexact Hctx
    isplitl [Ho]; · iexact Ho
    isplitl [Ht2]; · iexact Ht2
    isplitl [Hp2]; · rw [payload_bar]; iexact Hp2
    iapply (ctx_reached A B K (pv false c)); iexact Hctx
  iintro Ho
  iapply (Rounds.wp_signal 𝒱₀ ER (sched A B) (c : Thread nD τ) none (dst := (pv true c : Thread nD τ)) (sem := barS) (r := 0) (d := true) (κ := K (barCell (pv true c)))
      (by rw [duties_bar]; decide) (amount_bar A B (pv true c) true) () (owed c 0) rfl) $$ [Ho Ht1 Hp1]
  · isplitr; · iapply (ctx_bar A B K (pv true c)); iexact Hctx
    isplitl [Ho]; · iexact Ho
    isplitl [Ht1]; · iexact Ht1
    isplitl [Hp1]; · rw [payload_bar]; iexact Hp1
    iapply (ctx_reached A B K (pv true c)); iexact Hctx
  iintro Ho
  iapply (Rounds.wp_wait_rest_token 𝒱₀ ER (sched A B) (c : Thread nD τ) none (κ := K (barCell c))
      (wpE_semWait_eq 𝒱₀ (c : Thread nD τ) none Set.univ) (Set.mem_univ _) () (O := owed c 0) (W := W) (R := 0) (m := 0) (T := ∅)
      ((Nat.zero_add 2).trans (expect_bar A B c).symm)) $$ [Hc Ho Hat]
  · isplitr; · iapply (ctx_bar A B K c); iexact Hctx
    isplitl [Hc]; · iexact Hc
    isplitl [Ho]; · iexact Ho
    isplitr; · iapply m1; iexact Hctx
    iexact Hat
  iintro ⟨Ho, Hat, -, Hpay⟩
  ihave Hp := (BIBase.Entails.of_eq hr) $$ Hpay
  iapply Hk
  isplitl [Ho]; · iexists _; iexact Ho
  isplitl [Hat]; · iexact Hat
  iexact Hp

theorem wp_start (arg2 : Memref sig .tc .smem S3x16 .i32) (P : (d0 : Dev nD) → (v4 v6 v8 : BitVec 32) → k0_chk2 v4 → k0_chk1 v6 → k0_chk3 v8 → Pg F PUnit) (Q : PUnit.{1} → sProp 𝕄) :
    (iprop(ctx A B K ∗ owns (c : Thread nD τ) arg2 fullShare metaV ∗ barSt c ∗ (barPay true (pv true c) ∗ barPay false (pv false c))) : sProp 𝕄)
      ⊢ iprop(((owns (c : Thread nD τ) arg2 fullShare metaV ∗ ow c 0 ∗ atPos ER (barCell c) 1 ∅ 0 ∗ (barPay true c ∗ barPay false c))
          -∗ wpc c (P c (nxW false c) (nxW true c) (posW c) (chk2_ok c) (chk1_ok c) (chk3_ok c)) Q)
        -∗ wpc c (start arg2 P) Q) := by
  have el : leftD (nxW true c) (chk1_ok c) = pv false c := nbr_eq true c
  have er : rightD (nxW false c) (chk2_ok c) = pv true c := nbr_eq false c
  have hb := wp_barrier A B K c (P c (nxW false c) (nxW true c) (posW c) (chk2_ok c) (chk1_ok c) (chk3_ok c)) Q
  rw [← el, ← er] at hb
  unfold start
  simp only [wp_deviceId]
  rw [← el, ← er]
  iintro ⟨#Hctx, Hm, Hb⟩ Hk
  iapply (wp_loadWord c arg2 (k0_off1 c) (k0_off1_inb c) _ (word1 c) _ Q) $$ [Hm]; · iexact Hm
  iintro Hm
  iapply (wp_assume 𝒱₀ (c : Thread nD τ) none Set.univ (chk2_ok c))
  iapply (wp_loadWord c arg2 (k0_off2 c) (k0_off2_inb c) _ (word2 c) _ Q) $$ [Hm]; · iexact Hm
  iintro Hm
  iapply (wp_assume 𝒱₀ (c : Thread nD τ) none Set.univ (chk1_ok c))
  iapply (wp_loadWord c arg2 (k0_off3 c) (k0_off3_inb c) _ (word3 c) _ Q) $$ [Hm]; · iexact Hm
  iintro Hm
  iapply (wp_assume 𝒱₀ (c : Thread nD τ) none Set.univ (chk3_ok c))
  iapply hb $$ [Hb]
  · isplitr; · iexact Hctx
    iexact Hb
  iintro H
  iapply Hk
  isplitl [Hm]; · iexact Hm
  iexact H

end Cert.KernelIdeal.Pf

end
-- ==== Proof.KernelIdeal.StepsEq.lean ====
/- The printed body is the body written as steps: by definitional unfolding. -/
module

public import proofs.«01_k».proof.Proof.KernelIdeal.Steps

@[expose] public section

noncomputable section

namespace Cert.KernelIdeal.Pf

open Idealize.ShloMosaic Idealize.SL.Sem Cert.KernelIdeal Cert.KernelIdeal.Gen

variable {F : FTy → Type} [FloatOps F]

set_option maxRecDepth 1000000 in
set_option maxHeartbeats 0 in
theorem body_eq (arg0 : Memref sig .tc .vmem S4096x256 .bf16) (harg0 : arg0.IsWhole) (arg1 : Memref sig .tc .vmem S256x2048 .bf16) (harg1 : arg1.IsWhole)
  (arg2 : Memref sig .tc .smem S3x16 .i32) (harg2 : arg2.IsWhole) (arg3 : Memref sig .tc .vmem S4096x2048 .bf16) (harg3 : arg3.IsWhole) :
  cc0_body (F := F) arg0 harg0 arg1 harg1 arg2 harg2 arg3 harg3 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 (Memref.whole cc0_scratch16) (Memref.isWhole_whole _) (Memref.whole cc0_scratch17) (Memref.isWhole_whole _) cc0_scratch18 cc0_scratch19 cc0_scratch20 cc0_scratch21 (Memref.whole cc0_scratch22) (Memref.isWhole_whole _) cc0_scratch23 cc0_scratch24
  = body arg0 arg1 arg2 arg3 harg3 := rfl

end Cert.KernelIdeal.Pf

end
-- ==== Proof.KernelIdeal.Body.lean ====
/- The kernel's body: what it starts from and what it leaves. -/
module

public import proofs.«01_k».proof.Proof.KernelIdeal.Start
public import proofs.«01_k».proof.Proof.KernelIdeal.StepsEq

@[expose] public section

noncomputable section

namespace Cert.KernelIdeal.Pf

open Idealize.ShloMosaic Idealize.SL.Sem Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]
local notation "𝕄" => MT nD τ sig Unit (Elt F) ℕ UU ℕ

variable (A : Dev nD → Vec F S4096x256 .bf16) (B : Dev nD → Vec F S256x2048 .bf16) (K : GSem nD τ sig → ℕ) (c : Dev nD)

/-- The tokens and credits of the messages of the lanes, and of the exchange of maxima. -/
def laneTok (i : Lm) : sProp 𝕄 := iprop(cred (tallyAt (rc c i) () (amtL i.1)) ∗ dutyTok ER (sc c i) 0 false ∗ dutyTok ER (rc (nx i.2.1 c) i) 0 false)
def maxTok (r : Fin 15) : sProp 𝕄 := iprop(cred (tallyAt (mrc c (peerD c r)) () amtM) ∗ dutyTok ER (msc c r) 0 false ∗ dutyTok ER (mrc (peerD c r) c) 0 false)
def toks : sProp 𝕄 := iprop(bigSep usedF (laneTok c) ∗ bigSep Finset.univ (maxTok c))
/-- The buffers of the kernel's own, at any contents. -/
def scr : sProp 𝕄 := iprop(bufs c ∗ ((∃ X, owns (c : Thread nD τ) aM fullShare X) ∗ ∃ X, owns (c : Thread nD τ) wM fullShare X)
  ∗ ((∃ X, owns (c : Thread nD τ) (finM false) fullShare X) ∗ ∃ X, owns (c : Thread nD τ) (finM true) fullShare X) ∗ ∃ X, owns (c : Thread nD τ) mM fullShare X)
/-- The positions at the end: past round 0 where the semaphore is used. -/
def endR (k : Ck) : ℕ := if usedK c k = true then 1 else 0

theorem lanes_pre : (iprop((bigSep Finset.univ (fun i : Lm => atPos ER (sc c i) 0 ∅ 0) ∗ bigSep Finset.univ fun i : Lm => atPos ER (rc c i) 0 ∅ 0)
      ∗ bigSep Finset.univ (fun i : Lm => reached ER (sc c i) 0) ∗ bigSep usedF (laneTok c) ∗ (barPay true c ∗ barPay false c) ∗ bigSep idleF fun i : Lm => ownSl c i) : sProp 𝕄) ⊢ chSt c 0 0 := by
  refine BIBase.Entails.trans ?_ (chSt_open c)
  rw [← big_sep]
  have h : (iprop(bigSep Finset.univ (fun i : Lm => reached ER (sc c i) 0) ∗ bigSep usedF (laneTok c)) : sProp 𝕄) ⊢ bigSep usedF (bTok c) := by
    rw [big_split Finset.univ (fun i : Lm => lmUsed i = true) (fun i : Lm => (reached ER (sc c i) 0 : sProp 𝕄))]
    have h' : (iprop(bigSep usedF (fun i : Lm => reached ER (sc c i) 0) ∗ bigSep usedF (laneTok c)) : sProp 𝕄) ⊢ bigSep usedF (bTok c) := by
      rw [← big_sep]
      exact .rfl
    iintro ⟨⟨H, -⟩, Ht⟩
    iapply h'
    isplitl [H]; · iexact H
    iexact Ht
  iintro ⟨Hp, Hr, Ht, Hg, Ho⟩
  isplitl [Hp]; · iexact Hp
  isplitl [Hr Ht]
  · iapply h
    isplitl [Hr]; · iexact Hr
    iexact Ht
  isplitl [Hg]; · iexact Hg
  iexact Ho

theorem max_pre : (iprop((∃ V, ent c c fullShare V) ∗ (bigSep Finset.univ (fun r : Fin 15 => atPos ER (msc c r) 0 ∅ 0) ∗ bigSep Finset.univ fun r : Fin 15 => atPos ER (mrc c (peerD c r)) 0 ∅ 0)
      ∗ bigSep Finset.univ (fun r : Fin 15 => reached ER (msc c r) 0) ∗ bigSep Finset.univ (maxTok c)) : sProp 𝕄) ⊢ mxSt c := by
  have e : (bigSep Finset.univ (maxTok c) : sProp 𝕄) ⊢ iprop(bigSep Finset.univ (fun r : Fin 15 => cred (tallyAt (mrc c (peerD c r)) () amtM))
      ∗ bigSep Finset.univ fun r : Fin 15 => iprop(dutyTok ER (msc c r) 0 false ∗ dutyTok ER (mrc (peerD c r) c) 0 false)) := by
    rw [← big_sep]
    exact .rfl
  have h : (iprop(bigSep Finset.univ (fun r : Fin 15 => reached ER (msc c r) 0) ∗ bigSep Finset.univ fun r : Fin 15 => iprop(dutyTok ER (msc c r) 0 false ∗ dutyTok ER (mrc (peerD c r) c) 0 false)) : sProp 𝕄)
      ⊢ bigSep Finset.univ (mxBefore c) := by
    rw [← big_sep]
    exact .rfl
  unfold mxSt
  iintro ⟨He, ⟨Hs, Hr⟩, Hm, Ht⟩
  ihave Ht := e $$ Ht
  icases Ht with ⟨Hc, Hd⟩
  isplitl [He]; · iexact He
  isplitl [Hm Hd]
  · iapply h
    isplitl [Hm]; · iexact Hm
    iexact Hd
  isplitl [Hr Hc]
  · isplitl [Hr]; · iexact Hr
    iexact Hc
  iexact Hs

/-- The positions at the end, from what the lanes and the exchange leave. -/
theorem keys_end : (iprop((bigSep Finset.univ fun i : Lm => iprop(atPos ER (sc c i) (if lmUsed i = true then 1 else 0) ∅ 0 ∗ atPos ER (rc c i) (if lmUsed i = true then 1 else 0) ∅ 0))
      ∗ mxEnd c ∗ atPos ER (cel c (.inr (false, 0))) 0 ∅ 0 ∗ atPos ER (cel c (.inr (true, c))) 0 ∅ 0) : sProp 𝕄)
    ⊢ bigSep Finset.univ fun k : Ck => atPos ER (cel c k) (endR c k) ∅ 0 := by
  rw [keys_split c, big_sep]
  have e1 : endR c (.inr (false, 0)) = 0 := rfl
  have e2 : endR c (.inr (true, c)) = 0 := if_neg (by show ¬ decide (c ≠ c) = true; simp)
  have e3 : ∀ r : Fin 15, endR c (.inr (false, r.succ)) = 1 := fun r => if_pos (by show decide (r.succ ≠ 0) = true; simp [Fin.succ_ne_zero])
  have e4 : ∀ r : Fin 15, endR c (.inr (true, peerD c r)) = 1 := fun r => if_pos (by show decide (peerD c r ≠ c) = true; simp [peerD_ne])
  simp only [e1, e2, e3, e4]
  unfold mxEnd
  iintro ⟨⟨Hs, Hr⟩, ⟨Hmr, Hms⟩, H0, Hc⟩
  isplitl [Hs Hr]
  · isplitl [Hs]; · iexact Hs
    iexact Hr
  isplitl [H0 Hms]
  · isplitl [H0]; · iexact H0
    iexact Hms
  isplitl [Hc]; · iexact Hc
  iexact Hmr

theorem keys_split2 (Φ Ψ : Ck → sProp 𝕄) : (bigSep Finset.univ (fun k => iprop(Φ k ∗ Ψ k)) : sProp 𝕄)
    = iprop(((bigSep Finset.univ (fun i : Lm => Φ (.inl (false, i))) ∗ bigSep Finset.univ fun i : Lm => Φ (.inl (true, i)))
      ∗ (Φ (.inr (false, 0)) ∗ bigSep Finset.univ fun r : Fin 15 => Φ (.inr (false, r.succ)))
      ∗ (Φ (.inr (true, c)) ∗ bigSep Finset.univ fun r : Fin 15 => Φ (.inr (true, peerD c r))))
      ∗ ((bigSep Finset.univ (fun i : Lm => Ψ (.inl (false, i))) ∗ bigSep Finset.univ fun i : Lm => Ψ (.inl (true, i)))
      ∗ (Ψ (.inr (false, 0)) ∗ bigSep Finset.univ fun r : Fin 15 => Ψ (.inr (false, r.succ)))
      ∗ (Ψ (.inr (true, c)) ∗ bigSep Finset.univ fun r : Fin 15 => Ψ (.inr (true, peerD c r))))) := by
  rw [big_sep, keys_split c Φ, keys_split c Ψ]

theorem wp_body (arg0 : Memref sig .tc .vmem S4096x256 .bf16) (harg0 : arg0.IsWhole) (arg1 : Memref sig .tc .vmem S256x2048 .bf16) (harg1 : arg1.IsWhole)
    (arg2 : Memref sig .tc .smem S3x16 .i32) (harg2 : arg2.IsWhole) (arg3 : Memref sig .tc .vmem S4096x2048 .bf16) (harg3 : arg3.IsWhole) (Q : PUnit.{1} → sProp 𝕄) :
    (iprop(ctx A B K ∗ ((owns (c : Thread nD τ) arg0 fullShare (A c) ∗ owns (c : Thread nD τ) arg1 fullShare (B c)) ∗ owns (c : Thread nD τ) arg2 fullShare metaV ∗ (∃ X, owns (c : Thread nD τ) arg3 fullShare X))
        ∗ barSt c ∗ toks c ∗ (bigSep Finset.univ fun k : Ck => iprop(atPos ER (cel c k) 0 ∅ 0 ∗ reached ER (cel c k) 0)) ∗ scr c) : sProp 𝕄)
      ⊢ iprop(((((owns (c : Thread nD τ) arg0 fullShare (A c) ∗ owns (c : Thread nD τ) arg1 fullShare (B c)) ∗ owns (c : Thread nD τ) arg2 fullShare metaV ∗ owns (c : Thread nD τ) arg3 fullShare (outT A B))
          ∗ ow c 203 ∗ atPos ER (barCell c) 1 ∅ 0 ∗ (bigSep Finset.univ fun k : Ck => atPos ER (cel c k) (endR c k) ∅ 0) ∗ scr c) -∗ Q ⟨⟩)
        -∗ wpc c (body arg0 arg1 arg2 arg3 harg3) Q) := by
  have hk := keys_split2 c (fun k : Ck => (atPos ER (cel c k) 0 ∅ 0 : sProp 𝕄)) (fun k : Ck => (reached ER (cel c k) 0 : sProp 𝕄))
  have hmr : (iprop(reached ER (cel c (.inr (true, c))) 0 ∗ bigSep Finset.univ fun r : Fin 15 => reached ER (cel c (.inr (true, peerD c r))) 0) : sProp 𝕄) ⊢ bigSep Finset.univ fun i : Dev nD => reached ER (mrc c i) 0 := by
    rw [← big_peers c (fun i => (reached ER (mrc c i) 0 : sProp 𝕄)), ← big_one c (fun i : Dev nD => (reached ER (mrc c i) 0 : sProp 𝕄))]
  have hr1 := fun P => wp_rest1 A B K c arg0 arg1 P Q
  have hr2 := wp_rest2 A B K c arg3 harg3 Q
  have hret : Q ⟨⟩ ⊢ wpc c (.ret ⟨⟩) Q := by
    unfold wpc
    rw [wp_ret]
    iintro H
    imodintro
    iexact H
  unfold body
  unfold toks scr
  iintro ⟨#Hctx, ⟨Hargs, H2, Hout⟩, Hbar, ⟨Htl, Htm⟩, Hkeys, Hbufs, Hop, Hfin, Hm⟩ Hk
  ihave Hkeys := (BIBase.Entails.of_eq hk) $$ Hkeys
  icases Hkeys with ⟨⟨⟨Ps, Pr⟩, ⟨P0, Pms⟩, Pc, Pmr⟩, ⟨Rs, Rr⟩, ⟨-, Rms⟩, Rc, Rmr⟩
  ihave Hbufs := (bufs_open c) $$ Hbufs
  icases Hbufs with ⟨⟨Lh, Ll, Lq⟩, Hsl⟩
  ihave Hg := (gives_of c) $$ [Hsl Rr]
  · isplitl [Hsl]; · iexact Hsl
    iexact Rr
  icases Hg with ⟨Hg, Hidle⟩
  ihave Hm := (tab_open c) $$ [Hm Rc Rmr]
  · isplitl [Hm]; · iexact Hm
    iapply hmr
    isplitl [Rc]; · iexact Rc
    iexact Rmr
  icases Hm with ⟨He, Hb⟩
  iapply (wp_start A B K c arg2 _ Q) $$ [H2 Hbar Hg]
  · isplitr; · iexact Hctx
    isplitl [H2]; · iexact H2
    isplitl [Hbar]; · iexact Hbar
    iexact Hg
  iintro ⟨H2, Ho, Hpos, Hg⟩
  ihave Hch := (lanes_pre c) $$ [Ps Pr Rs Htl Hg Hidle]
  · isplitl [Ps Pr]
    · isplitl [Ps]; · iexact Ps
      iexact Pr
    isplitl [Rs]; · iexact Rs
    isplitl [Htl]; · iexact Htl
    isplitl [Hg]; · iexact Hg
    iexact Hidle
  ihave Hmx := (max_pre c) $$ [He Pms Pmr Rms Htm]
  · isplitl [He]; · iexact He
    isplitl [Pms Pmr]
    · isplitl [Pms]; · iexact Pms
      iexact Pmr
    isplitl [Rms]; · iexact Rms
    iexact Htm
  iapply hr1 $$ [Hargs Hch Ho Hop Lh Ll Hfin Hb Hmx]
  · isplitr; · iexact Hctx
    isplitl [Hargs]; · iexact Hargs
    unfold pre1
    isplitl [Hch]; · iexact Hch
    isplitl [Ho]; · iexact Ho
    isplitl [Hop]; · iexact Hop
    isplitl [Lh]; · iexact Lh
    isplitl [Ll]; · iexact Ll
    isplitl [Hfin]; · iexact Hfin
    isplitl [Hb]; · iexact Hb
    iexact Hmx
  unfold post1 opSt
  iintro ⟨Hargs, Hch, Ho, ⟨Ha, Hw⟩, ⟨Ll, Lh⟩, Hfin, Hmx, Hm⟩
  iapply hr2 $$ [Hch Ho Hfin Lq Hout]
  · isplitr; · iexact Hctx
    isplitl [Hch]; · iexact Hch
    isplitl [Ho]; · iexact Ho
    isplitl [Hfin]; · iexact Hfin
    isplitl [Lq]; · iexact Lq
    iexact Hout
  iintro ⟨Hch, Ho, Hfin, Lq, Hout⟩
  ihave Hch := (chSt_close c) $$ Hch
  icases Hch with ⟨Hpl, Hsl⟩
  ihave Hfin := (show (finFull A B c : sProp 𝕄) ⊢ iprop(owns (c : Thread nD τ) (finM false) fullShare (finV A B false c) ∗ owns (c : Thread nD τ) (finM true) fullShare (finV A B true c)) from .rfl) $$ Hfin
  icases Hfin with ⟨F0, F1⟩
  iapply hret
  iapply Hk
  isplitl [Hargs H2 Hout]
  · isplitl [Hargs]; · iexact Hargs
    isplitl [H2]; · iexact H2
    iexact Hout
  isplitl [Ho]; · iexact Ho
  isplitl [Hpos]; · iexact Hpos
  isplitl [Hpl Hmx P0 Pc]
  · iapply (keys_end c)
    isplitl [Hpl]; · iexact Hpl
    isplitl [Hmx]; · iexact Hmx
    isplitl [P0]; · iexact P0
    iexact Pc
  isplitl [Lh Ll Lq Hsl]
  · iapply (bufs_close c)
    isplitl [Lh]; · iexact Lh
    isplitl [Ll]; · iexact Ll
    isplitl [Lq]; · iexact Lq
    iexact Hsl
  isplitl [Ha Hw]
  · isplitl [Ha]; · iexists _; iexact Ha
    iexists _; iexact Hw
  isplitl [F0 F1]
  · isplitl [F0]; · iexists _; iexact F0
    iexists _; iexact F1
  iexists _; iexact Hm

end Cert.KernelIdeal.Pf

end
-- ==== Proof.KernelIdeal.Dat.lean ====
/- The kernel's run on a device: what its windows hold, and the body at its one point. -/
module

public import proofs.«01_k».proof.Proof.KernelIdeal.Body
public import proofs.«01_k».proof.Proof.Gen.KernelIdeal.Frame
public import Idealize.ShloMosaic.Lib.Pipeline.ValueKit
public import Idealize.ShloMosaic.Lib.Pipeline.RegionTalk

@[expose] public section

noncomputable section

namespace Cert.KernelIdeal.Pf

open Idealize.ShloMosaic Idealize.SL.Sem Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation)

variable {F : FTy → Type} [FloatOps F]
local notation "𝕄" => MT nD τ sig Unit (Elt F) ℕ UU ℕ

variable (m : (ℓ : Loc nD τ sig) → Buf (Elt F) ℓ) (K : GSem nD τ sig → ℕ) (c : Dev nD)

/-- The operands as launched. -/
def argA (c : Dev nD) : Vec F S4096x256 .bf16 := m ((c : Thread nD τ).loc main_arg0)
def argB (c : Dev nD) : Vec F S256x2048 .bf16 := m ((c : Thread nD τ).loc main_arg1)
/-- The result. -/
abbrev resT : Vec F S4096x2048 .bf16 := outT (argA m) (argB m)

/-- A device's buffers as launched, when the kernel begins, and at the end. -/
abbrev V₀ (c : Dev nD) : Valuation τ sig (Elt F) := fun b => m (c, b)
abbrev V₁ (c : Dev nD) : Valuation τ sig (Elt F) := StableHlo.after hostOps0 (V₀ m c)
abbrev V₂ (c : Dev nD) : Valuation τ sig (Elt F) := Function.update (V₁ m c) (Proc.devRef .tc main_v1) (resT m)

theorem V₁_arg0 : V₁ m c (Proc.devRef .tc main_arg0) = argA m c := V_main_arg0 m c
theorem V₁_arg1 : V₁ m c (Proc.devRef .tc main_arg1) = argB m c := V_main_arg1 m c
theorem V₁_c : V₁ m c (Proc.devRef .tc main_c) = metaV := by
  show StableHlo.after [StableHlo.nullary main_c (fun i => lit0 (S3x16.rowMajor i))] (V₀ m c) (Proc.devRef .tc main_c) = _
  rw [StableHlo.after_cons, StableHlo.after_nil]
  exact StableHlo.nullary_result ..

/-- What the core owes as the kernel begins. -/
def O₀ (c : Dev nD) : CellTallies nD τ sig Unit := owed c 0 + tallyAt (barCell (pv true c)) () 1 + tallyAt (barCell (pv false c)) () 1

/-- What the protocol's launch leaves with a device, before and after its own semaphores are taken up. -/
def Tk (c : Dev nD) : sProp 𝕄 := iprop((∃ K, ctx (argA m) (argB m) K) ∗ (atPos ER (barCell c) 0 ∅ 0 ∗ cred (tallyAt (barCell c) () 2) ∗ dutyTok ER (barCell (pv true c)) 0 true ∗ dutyTok ER (barCell (pv false c)) 0 false)
  ∗ toks c ∗ bigSep Finset.univ fun k : Ck => openTok ER (cel c k))
def Xk (c : Dev nD) : sProp 𝕄 := iprop((∃ K, ctx (argA m) (argB m) K) ∗ (atPos ER (barCell c) 0 ∅ 0 ∗ cred (tallyAt (barCell c) () 2) ∗ dutyTok ER (barCell (pv true c)) 0 true ∗ dutyTok ER (barCell (pv false c)) 0 false)
  ∗ toks c ∗ bigSep Finset.univ fun k : Ck => iprop(atPos ER (cel c k) 0 ∅ 0 ∗ reached ER (cel c k) 0))
/-- And at the end: every semaphore at zero. -/
def Yk (c : Dev nD) : sProp 𝕄 := semVal (barCell c) 0
def ownZ (c : Dev nD) : sProp 𝕄 := bigSep Finset.univ fun k : Ck => semVal (cel c k) 0

def dat0 (c : Dev nD) : Dat τ (Elt F) Unit ℕ UU ℕ cfg0 c where
  A w := V₁ m c (Proc.devRef .tc (Pipeline.arrRef spec0 w))
  after w _ := match w with
    | ⟨0, _⟩ => argA m c
    | ⟨1, _⟩ => argB m c
    | ⟨2, _⟩ => metaV
    | ⟨3, _⟩ => resT m
  Φ t := if t.val = 0 then iprop(Xk m c ∗ scr c ∗ ∃ r, prngReg c r) else iprop(Yk c ∗ ownZ c ∗ scr c ∗ ∃ r, prngReg c r)
  q _ := fullShare
  owed t := if t.val = 0 then O₀ c else 0

set_option maxRecDepth 10000
/-! ## The windows: each is its whole array -/

theorem emb_0 (y : S4096x256.Idx) : ((cfg0.win 0).blk t0_0).view.emb y = y := by
  refine funext fun a => Fin.ext ?_
  have h : (((cfg0.win 0).blk t0_0).view.emb y a).val = (win0_0.index t0_0 a * win0_0.size a) + 1 * (y a).val := by rfl
  have z : win0_0.index t0_0 a = 0 := rfl
  rw [h, z]; omega
theorem emb_1 (y : S256x2048.Idx) : ((cfg0.win 1).blk t0_0).view.emb y = y := by
  refine funext fun a => Fin.ext ?_
  have h : (((cfg0.win 1).blk t0_0).view.emb y a).val = (win0_1.index t0_0 a * win0_1.size a) + 1 * (y a).val := by rfl
  have z : win0_1.index t0_0 a = 0 := rfl
  rw [h, z]; omega
theorem emb_2 (y : S3x16.Idx) : ((cfg0.win 2).blk t0_0).view.emb y = y := by
  refine funext fun a => Fin.ext ?_
  have h : (((cfg0.win 2).blk t0_0).view.emb y a).val = (win0_2.index t0_0 a * win0_2.size a) + 1 * (y a).val := by rfl
  have z : win0_2.index t0_0 a = 0 := rfl
  rw [h, z]; omega
theorem emb_3 (y : S4096x2048.Idx) : ((cfg0.win 3).blk t0_0).view.emb y = y := by
  refine funext fun a => Fin.ext ?_
  have h : (((cfg0.win 3).blk t0_0).view.emb y a).val = (win0_3.index t0_0 a * win0_3.size a) + 1 * (y a).val := by rfl
  have z : win0_3.index t0_0 a = 0 := rfl
  rw [h, z]; omega

theorem before_0 (d) : (dat0 m c).before 0 t0_0 d = argA m c := by
  unfold Pipeline.Dat.before; rw [if_pos (fetch0_0 t0_0)]
  rw [← V₁_arg0 m c]
  funext y
  exact congrArg (V₁ m c (Proc.devRef .tc (Pipeline.arrRef spec0 0))) (emb_0 y)
theorem before_1 (d) : (dat0 m c).before 1 t0_0 d = argB m c := by
  unfold Pipeline.Dat.before; rw [if_pos (fetch0_1 t0_0)]
  rw [← V₁_arg1 m c]
  funext y
  exact congrArg (V₁ m c (Proc.devRef .tc (Pipeline.arrRef spec0 1))) (emb_1 y)
theorem before_2 (d) : (dat0 m c).before 2 t0_0 d = metaV := by
  unfold Pipeline.Dat.before; rw [if_pos (fetch0_2 t0_0)]
  rw [← V₁_c m c]
  funext y
  exact congrArg (V₁ m c (Proc.devRef .tc (Pipeline.arrRef spec0 2))) (emb_2 y)

theorem arrAt_3 : (dat0 m c).arrAt 3 cfg0.N = (resT m : Buf (Elt F) ((cfg0.win 3).arr.view.loc (c : Thread nD τ))) := by
  refine (dat0 m c).arrAt_eq_of_covers 3 _ (by decide +kernel) fun t _ y => ?_
  obtain rfl := fin_N0 t
  exact congrArg (resT m) (emb_3 y).symm

theorem owesAt_intro (t : Fin (cfg0.N + 1)) (O : CellTallies nD τ sig Unit) (h0 : (dat0 m c).owed t = O) (W : Waits sig Unit) :
    (owes (c : Thread nD τ) O W : sProp 𝕄) ⊢ ((dat0 m c).owesAt () t : sProp 𝕄) := by
  unfold Dat.owesAt Pipeline.owesWithin Dat.bound; rw [h0, show (dat0 m c).recorded t = Set.univ from rfl]
  iintro HO; iexists W; isplitr; · ipureintro; exact fun _ _ => Or.inl trivial
  iexact HO
theorem owesAt_elim (t : Fin (cfg0.N + 1)) (O : CellTallies nD τ sig Unit) (h0 : (dat0 m c).owed t = O) :
    ((dat0 m c).owesAt () t : sProp 𝕄) ⊢ iprop(∃ W, owes (c : Thread nD τ) O W) := by
  unfold Dat.owesAt Pipeline.owesWithin; rw [h0]
  iintro ⟨%W, -, HO⟩; iexists W; iexact HO

theorem owed_zero : (dat0 m c).owed 0 = O₀ c := by
  show (if (0 : Fin (cfg0.N + 1)).val = 0 then O₀ c else 0) = O₀ c
  exact if_pos rfl
theorem owed_first : (dat0 m c).owed t0_0.castSucc = O₀ c := by
  show (if (t0_0.castSucc : Fin (cfg0.N + 1)).val = 0 then O₀ c else 0) = O₀ c
  exact if_pos rfl
theorem owed_last : (dat0 m c).owed (Fin.last cfg0.N) = 0 := by
  show (if (Fin.last cfg0.N).val = 0 then O₀ c else 0) = 0
  rw [Fin.val_last, if_neg (by rw [show cfg0.N = 1 from N_0]; decide)]

def PhiA (c : Dev nD) : sProp 𝕄 := iprop(Xk m c ∗ scr c ∗ ∃ r, prngReg c r)
def PhiB (c : Dev nD) : sProp 𝕄 := iprop(Yk c ∗ ownZ c ∗ scr c ∗ ∃ r, prngReg c r)
theorem phi_zero : (dat0 m c).Φ 0 = PhiA m c := by
  show (if (0 : Fin (cfg0.N + 1)).val = 0 then PhiA m c else PhiB c) = _
  exact if_pos rfl
theorem phi_first : (dat0 m c).Φ t0_0.castSucc = PhiA m c := by
  show (if (t0_0.castSucc : Fin (cfg0.N + 1)).val = 0 then PhiA m c else PhiB c) = _
  exact if_pos rfl
theorem phi_last : (dat0 m c).Φ (Fin.last cfg0.N) = PhiB c := by
  show (if (Fin.last cfg0.N).val = 0 then PhiA m c else PhiB c) = _
  rw [Fin.val_last, if_neg (by rw [show cfg0.N = 1 from N_0]; decide)]
theorem t_last : (t0_0.succ : Fin (cfg0.N + 1)) = Fin.last cfg0.N := rfl

/-- Every semaphore of the device's own, closed at the end. -/
theorem close_own (A : Dev nD → Vec F S4096x256 .bf16) (B : Dev nD → Vec F S256x2048 .bf16) :
    (iprop(ctx A B K ∗ atPos ER (barCell c) 1 ∅ 0 ∗ bigSep Finset.univ fun k : Ck => atPos ER (cel c k) (endR c k) ∅ 0) : sProp 𝕄)
      ⊢ |={Set.univ}=> iprop(Yk c ∗ ownZ c) := by
  have hd : ∀ k ∈ (Finset.univ : Finset Ck), ∀ r, endR c k ≤ r → (sched A B).duties (cel c k) r = ∅ := by
    intro k _ r hr
    unfold endR at hr
    split at hr
    · exact duties_later A B _ r hr
    · rename_i h
      rcases Nat.eq_zero_or_pos r with rfl | h'
      · exact duties_unused A B c k (by simpa using h)
      · exact duties_later A B _ r h'
  have hc := Rounds.cells_close (Es := Set.univ) ER (sched A B) (Finset.univ : Finset Ck) (fun k => cel c k) (fun k => K (cel c k)) (fun _ _ => Set.mem_univ _) (fun _ _ h => h) (endR c) hd
  have hi : (iprop(ctx A B K ∗ bigSep Finset.univ fun k : Ck => atPos ER (cel c k) (endR c k) ∅ 0) : sProp 𝕄)
      ⊢ bigSep Finset.univ fun k : Ck => iprop(cellInv ER (sched A B) (K (cel c k)) (cel c k) ∗ atPos ER (cel c k) (endR c k) ∅ 0) := by
    refine BIBase.Entails.trans (sep_mono_left (BI.bigSep_of_persistent (Finset.univ : Finset Ck) (ctx A B K))) ?_
    rw [← bigSep_sep']
    refine big_mono fun k _ => ?_
    iintro ⟨#H, Ha⟩
    isplitr; · iapply (ctx_cel A B K c k); iexact H
    iexact Ha
  iintro ⟨#H, Hb, Hk⟩
  ihave Hk := hi $$ [Hk]
  · isplitr; · iexact H
    iexact Hk
  imod hc $$ Hk with Hz
  imod (Rounds.cell_close ER (sched A B) (Set.mem_univ (K (barCell c))) (fun h => h) (R := 1) (duties_later A B (barCell c))) $$ [Hb] with Hy
  · isplitr; · iapply (ctx_bar A B K c); iexact H
    iexact Hb
  imodintro
  unfold Yk ownZ
  isplitl [Hy]; · iexact Hy
  iexact Hz

theorem after_0 : (dat0 m c).after 0 t0_0 = argA m c := rfl
theorem after_1 : (dat0 m c).after 1 t0_0 = argB m c := rfl
theorem after_2 : (dat0 m c).after 2 t0_0 = metaV := rfl
theorem after_3 : (dat0 m c).after 3 t0_0 = resT m := rfl

theorem ow_end : (ow c 203 : sProp 𝕄) ⊢ iprop(∃ W, owes (c : Thread nD τ) (0 : CellTallies nD τ sig Unit) W) := by
  unfold ow
  rw [owed_end]

theorem body_at : (defs₀ (F := F)) .tc cfg0.body (cfg0.bodyArgs t0_0 (cfg0.slots t0_0)) = body (st0_0 t0_0) (st0_1 t0_0) (st0_2 t0_0) (st0_3 t0_0) (hstage0_3 0) :=
  (show _ = bodyAt0 t0_0 from rfl).trans (body_eq _ _ _ _ _ _ _ _)

theorem body_obl : BodyObligation (dat0 m c) (defs₀ (F := F)) 𝒱₀ () Set.univ := fun t => by
  obtain rfl := fin_N0 t
  rw [bigSep_W0, bigSep_W0]
  rw [t_last, phi_first, phi_last, body_at]
  simp only [before_0, before_1, before_2]
  simp only [after_0, after_1, after_2, after_3]
  refine BIBase.Entails.trans ?_ (wp_fupd _ _ _ _ _)
  unfold PhiA PhiB Xk
  iintro ⟨⟨⟨⟨%K, #HC⟩, ⟨Ha, Hc, Ht, Hf⟩, Htok, Hk⟩, Hs, Hp⟩, HO, ⟨%_, H0⟩, ⟨%_, H1⟩, ⟨%_, H2⟩, ⟨%d3, H3⟩⟩
  ihave HO := (owesAt_elim m c _ (O₀ c) (owed_first m c)) $$ HO
  iapply (wp_body (argA m) (argB m) K c (st0_0 t0_0) (hstage0_0 0) (st0_1 t0_0) (hstage0_1 0) (st0_2 t0_0) (hstage0_2 0) (st0_3 t0_0) (hstage0_3 0) _) $$ [Ha Hc Ht Hf Htok Hk Hs HO H0 H1 H2 H3]
  · isplitr; · iexact HC
    isplitl [H0 H1 H2 H3]
    · isplitl [H0 H1]
      · isplitl [H0]; · iexact H0
        iexact H1
      isplitl [H2]; · iexact H2
      iexists _; iexact H3
    isplitl [Ha Hc Ht Hf HO]
    · unfold barSt
      isplitl [Ha]; · iexact Ha
      isplitl [Hc]; · iexact Hc
      isplitl [Ht Hf]
      · isplitl [Ht]; · iexact Ht
        iexact Hf
      unfold O₀
      iexact HO
    isplitl [Htok]; · iexact Htok
    isplitl [Hk]; · iexact Hk
    iexact Hs
  iintro ⟨⟨⟨H0, H1⟩, H2, H3⟩, HO, Hb, Hk, Hs⟩
  ihave Hz := (close_own K c (argA m) (argB m)) $$ [Hb Hk]
  · isplitr; · iexact HC
    isplitl [Hb]; · iexact Hb
    iexact Hk
  imod Hz with ⟨Hy, Hz⟩
  imodintro
  isplitl [Hy Hz Hs Hp]
  · isplitl [Hy]; · iexact Hy
    isplitl [Hz]; · iexact Hz
    isplitl [Hs]; · iexact Hs
    iexact Hp
  isplitl [HO]
  · ihave HO := (ow_end c) $$ HO
    icases HO with ⟨%W, HO⟩
    iapply (owesAt_intro m c (Fin.last cfg0.N) 0 (owed_last m c) W)
    iexact HO
  isplitl [H0]; · iexact H0
  isplitl [H1]; · iexact H1
  isplitl [H2]; · iexact H2
  iexact H3

end Cert.KernelIdeal.Pf

end
-- ==== Proof.KernelIdeal.Deal.lean ====
/- What the launch deals: the tokens of the messages to their senders, the credit of what is owed to its receivers. -/
module

public import proofs.«01_k».proof.Proof.KernelIdeal.Dat

@[expose] public section

noncomputable section

namespace Cert.KernelIdeal.Pf

open Idealize.ShloMosaic Idealize.SL.Sem Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation)

variable {F : FTy → Type} [FloatOps F]
local notation "𝕄" => MT nD τ sig Unit (Elt F) ℕ UU ℕ

variable (c : Dev nD)

/-! ## The tokens, each dealt to the device that pays with it -/

/-- What a device pays: the two semaphores of each message, and the barriers of its neighbours. -/
abbrev Ti : Type := Mg × Bool ⊕ Bool
def tokOf (x : Dev nD × Ti) : GSem nD τ sig × ℕ × Bool := match x.2 with
  | .inl (g, false) => (cel x.1 (mKeyS g), 0, false)
  | .inl (g, true) => (cel (mTo x.1 g) (mKeyR x.1 g), 0, false)
  | .inr d => (barCell (pv d x.1), 0, d)
/-- Whose a token is. -/
def tokInv (y : GSem nD τ sig × ℕ × Bool) : Dev nD × Ti := match y.1.2 with
  | .reg _ => (nx y.2.2 y.1.1.1, .inr y.2.2)
  | .dma s => match keyAt s.val with
    | .inl (false, i) => (y.1.1.1, .inl (.inl i, false))
    | .inl (true, i) => (pv i.2.1 y.1.1.1, .inl (.inl i, true))
    | .inr (false, o) => (y.1.1.1, .inl (.inr (Fin.ofNat 15 (o.val - 1)), false))
    | .inr (true, x) => (x, .inl (.inr (peerIx x y.1.1.1), true))
theorem tokInv_tokOf (x : Dev nD × Ti) : tokInv (tokOf x) = x := by
  obtain ⟨c, ⟨g, b⟩ | d⟩ := x
  · cases b
    · cases g with
      | inl i => simp only [tokOf, tokInv, mKeyS, keyAt_semOf]
      | inr r =>
        have e : Fin.ofNat 15 (r.succ.val - 1) = r := Fin.ext (by simp [Fin.ofNat, Nat.mod_eq_of_lt r.isLt])
        simp only [tokOf, tokInv, mKeyS, keyAt_semOf, e]
    · cases g with
      | inl i => simp only [tokOf, tokInv, mKeyR, mTo, keyAt_semOf, pv_nx]
      | inr r => simp only [tokOf, tokInv, mKeyR, mTo, keyAt_semOf, peerIx_peerD]
  · simp only [tokOf, tokInv, nx_pv]
theorem tokOf_inj : Function.Injective tokOf := Function.LeftInverse.injective tokInv_tokOf
def tokSet : Finset (GSem nD τ sig × ℕ × Bool) := Finset.univ.map ⟨tokOf, tokOf_inj⟩
/-- The cell a message is received at is no other message's. -/
theorem recv_inj (d d' : Dev nD) (g g' : Mg) (h : cel (mTo d g) (mKeyR d g) = cel (mTo d' g') (mKeyR d' g')) : d = d' ∧ g = g' := by
  have e : tokOf (d, .inl (g, true)) = tokOf (d', .inl (g', true)) := congrArg (fun x => (x, 0, false)) h
  have e' := tokOf_inj e
  simp only [Prod.mk.injEq, Sum.inl.injEq] at e'
  exact ⟨e'.1, e'.2.1⟩

/-- A token of a device's. -/
abbrev tk (c : Dev nD) (x : Ti) : sProp 𝕄 := dutyTok ER (tokOf (c, x)).1 (tokOf (c, x)).2.1 (tokOf (c, x)).2.2
theorem toks_eq : (bigSep tokSet (fun x => dutyTok ER x.1 x.2.1 x.2.2) : sProp 𝕄) = bigSep Finset.univ fun c : Dev nD => bigSep Finset.univ (tk c) := by
  unfold tokSet
  rw [bigSep_map, bigSep_univ_prod]
  rfl

/-- The duty tokens of the lanes' messages, of the exchange's. -/
def laneDt (i : Lm) : sProp 𝕄 := iprop(dutyTok ER (sc c i) 0 false ∗ dutyTok ER (rc (nx i.2.1 c) i) 0 false)
def maxDt (r : Fin 15) : sProp 𝕄 := iprop(dutyTok ER (msc c r) 0 false ∗ dutyTok ER (mrc (peerD c r) c) 0 false)
theorem toks_dev : (bigSep Finset.univ (tk c) : sProp 𝕄)
    ⊢ iprop((bigSep usedF (laneDt c) ∗ bigSep Finset.univ (maxDt c)) ∗ dutyTok ER (barCell (pv true c)) 0 true ∗ dutyTok ER (barCell (pv false c)) 0 false) := by
  rw [big_sum, big_prod (fun x : Mg × Bool => (tk c (.inl x) : sProp 𝕄)), big_sum]
  simp only [big_bool]
  rw [big_split Finset.univ (fun i : Lm => lmUsed i = true)]
  iintro ⟨⟨⟨Hl, -⟩, Hm⟩, Hf, Ht⟩
  isplitl [Hl Hm]
  · isplitl [Hl]; · iexact Hl
    iexact Hm
  isplitl [Ht]; · iexact Ht
  iexact Hf

/-! ## The credit -/

theorem owed_apply (d : Dev nD) (n : ℕ) (g : GSem nD τ sig) :
    owed d n g () = ∑ x ∈ Finset.univ.filter (fun x : Mg => mUsed x = true ∧ n ≤ mOrd x), mTally d x g () := by
  unfold owed
  rw [Finset.sum_apply, Finsupp.finset_sum_apply]
theorem O₀_apply (d : Dev nD) (g : GSem nD τ sig) :
    O₀ d g () = owed d 0 g () + tallyAt (barCell (pv true d)) () 1 g () + tallyAt (barCell (pv false d)) () 1 g () := rfl
theorem tally_bar_cel (x : Dev nD) (k : Ck) : (tallyAt (barCell x) () 1 : CellTallies nD τ sig Unit) (cel c k) () = 0 := by
  rw [tallyAt_apply, if_neg (fun h => by have := congrArg Prod.snd h.1; exact absurd this (by simp))]
theorem mTally_bar (d : Dev nD) (g : Mg) : mTally d g (barCell c) () = 0 := by
  unfold mTally
  rw [tallyAt_apply, if_neg (fun h => by have := congrArg Prod.snd h.1; exact absurd this (by simp))]

/-- A message is owed by its sender. -/
theorem owed_sum (d : Dev nD) (g : Mg) (hu : mUsed g = true) : ∑ x, O₀ x (cel (mTo d g) (mKeyR d g)) () = amtK (mKeyR d g) := by
  have hm : g ∈ Finset.univ.filter (fun x : Mg => mUsed x = true ∧ 0 ≤ mOrd x) := Finset.mem_filter.mpr ⟨Finset.mem_univ _, hu, Nat.zero_le _⟩
  rw [Finset.sum_eq_single d]
  · rw [O₀_apply, tally_bar_cel, tally_bar_cel, Nat.add_zero, owed_apply, Finset.sum_eq_single g]
    · unfold mTally; rw [tallyAt_apply, if_pos ⟨rfl, rfl⟩]
    · intro g' _ hg
      unfold mTally; rw [tallyAt_apply, if_neg (fun h => hg (recv_inj _ _ _ _ h.1).2.symm)]
    · exact fun h => absurd hm h
  · intro d' _ hd
    rw [O₀_apply, tally_bar_cel, tally_bar_cel, Nat.add_zero, owed_apply]
    refine Finset.sum_eq_zero fun g' _ => ?_
    unfold mTally; rw [tallyAt_apply, if_neg (fun h => hd (recv_inj _ _ _ _ h.1).1.symm)]
  · exact fun h => absurd (Finset.mem_univ _) h
theorem bar_inj (x : Dev nD) : (barCell c : GSem nD τ sig) = barCell x ↔ c = x :=
  ⟨fun h => congrArg (fun g : GSem nD τ sig => g.1.1) h, fun h => by rw [h]⟩
theorem bar_sum : ∑ x, O₀ x (barCell c) () = 2 := by
  have e : ∀ x, O₀ x (barCell c) () = (if c = pv true x then 1 else 0) + (if c = pv false x then 1 else 0) := by
    intro x
    rw [O₀_apply, owed_apply, Finset.sum_eq_zero (fun g _ => mTally_bar c x g), tallyAt_apply, tallyAt_apply, Nat.zero_add]
    simp only [bar_inj, and_true]
  rw [Finset.sum_congr rfl fun x _ => e x]
  clear e
  revert c; decide +kernel

theorem launch_at (g : GSem nD τ sig) (n : ℕ) (h : ∑ x, O₀ x g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]
theorem peer_back (r : Fin 15) : peerD (peerD c r) (peerIx (peerD c r) c) = c := by revert c r; decide +kernel
theorem sum_lane (i : Lm) (h : lmUsed i = true) : ∑ x, O₀ x (rc c i) () = amtL i.1 := by
  have e := owed_sum (pv i.2.1 c) (.inl i) h
  rw [show mTo (pv i.2.1 c) (.inl i) = c from nx_pv _ _] at e
  exact e
theorem sum_max (r : Fin 15) : ∑ x, O₀ x (mrc c (peerD c r)) () = amtM := by
  have e := owed_sum (peerD c r) (.inr (peerIx (peerD c r) c)) rfl
  rw [show mTo (peerD c r) (.inr (peerIx (peerD c r) c)) = c from peer_back c r] at e
  exact e

def semIx : Ck ⊕ Unit → SemLoc sig | .inl k => .dma (semOf k) | .inr _ => .reg barS
theorem semIx_inj : Function.Injective semIx
  | .inl k, .inl k', h => congrArg Sum.inl (semOf_inj (by simpa [semIx] using h))
  | .inl _, .inr _, h => absurd h (by simp [semIx])
  | .inr _, .inl _, h => absurd h (by simp [semIx])
  | .inr _, .inr _, _ => rfl

theorem creds : (Pipeline.launchCred O₀ c : sProp 𝕄) ⊢ iprop(cred (tallyAt (barCell c) () 2)
    ∗ bigSep usedF (fun i => cred (tallyAt (rc c i) () (amtL i.1))) ∗ bigSep Finset.univ fun r : Fin 15 => cred (tallyAt (mrc c (peerD c r)) () amtM)) := by
  unfold Pipeline.launchCred
  refine BIBase.Entails.trans (bigSep_subset (Finset.subset_univ (Finset.univ.image semIx))) ?_
  rw [big_image _ _ (fun _ _ _ _ h => semIx_inj h), big_sum, keys_split c]
  have h1 : (bigSep Finset.univ (fun i : Lm => cred (tallyOn (rc c i) (launchCredit (Pipeline.owing O₀) 0 (rc c i)))) : sProp 𝕄) ⊢ bigSep usedF fun i => cred (tallyAt (rc c i) () (amtL i.1)) :=
    (bigSep_subset (Finset.filter_subset _ _)).trans <| big_mono fun i hi => by rw [launch_at _ _ (sum_lane c i (Finset.mem_filter.mp hi).2)]
  have h2 : (bigSep Finset.univ (fun r : Fin 15 => cred (tallyOn (mrc c (peerD c r)) (launchCredit (Pipeline.owing O₀) 0 (mrc c (peerD c r))))) : sProp 𝕄)
      ⊢ bigSep Finset.univ fun r : Fin 15 => cred (tallyAt (mrc c (peerD c r)) () amtM) :=
    big_mono fun r _ => by rw [launch_at _ _ (sum_max c r)]
  have h3 : (bigSep Finset.univ (fun _ : Unit => cred (tallyOn (barCell c) (launchCredit (Pipeline.owing O₀) 0 (barCell c)))) : sProp 𝕄) ⊢ cred (tallyAt (barCell c) () 2) := by
    rw [launch_at _ _ (bar_sum c)]
    exact big_elim (Finset.mem_univ ()) _
  iintro ⟨⟨⟨-, Hl⟩, -, -, Hm⟩, Hb⟩
  isplitl [Hb]; · iapply h3; iexact Hb
  isplitl [Hl]; · iapply h1; iexact Hl
  iapply h2; iexact Hm

/-- The tokens and the credit together. -/
theorem toks_intro : (iprop((bigSep usedF (laneDt c) ∗ bigSep Finset.univ (maxDt c))
      ∗ bigSep usedF (fun i => cred (tallyAt (rc c i) () (amtL i.1))) ∗ bigSep Finset.univ fun r : Fin 15 => cred (tallyAt (mrc c (peerD c r)) () amtM)) : sProp 𝕄) ⊢ toks c := by
  have h1 : (iprop(bigSep usedF (fun i : Lm => cred (tallyAt (rc c i) () (amtL i.1))) ∗ bigSep usedF (laneDt c)) : sProp 𝕄) ⊢ bigSep usedF (laneTok c) := by
    rw [← big_sep]; exact .rfl
  have h2 : (iprop(bigSep Finset.univ (fun r : Fin 15 => cred (tallyAt (mrc c (peerD c r)) () amtM)) ∗ bigSep Finset.univ (maxDt c)) : sProp 𝕄) ⊢ bigSep Finset.univ (maxTok c) := by
    rw [← big_sep]; exact .rfl
  unfold toks
  iintro ⟨⟨Hl, Hm⟩, Hcl, Hcm⟩
  isplitl [Hl Hcl]
  · iapply h1
    isplitl [Hcl]; · iexact Hcl
    iexact Hl
  iapply h2
  isplitl [Hcm]; · iexact Hcm
  iexact Hm

end Cert.KernelIdeal.Pf

end
-- ==== Proof.KernelIdeal.Launch.lean ====
/- The run of the whole program: the kernel's region, the launch, and what every execution ends with. -/
module

public import proofs.«01_k».proof.Proof.KernelIdeal.Deal
public import Idealize.ShloMosaic.Lib.Quiescent

@[expose] public section

noncomputable section

namespace Cert.KernelIdeal.Pf

open Idealize.ShloMosaic Idealize.SL.Sem Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation)

variable {F : FTy → Type} [FloatOps F]
local notation "𝕄" => MT nD τ sig Unit (Elt F) ℕ UU ℕ

variable (m : (ℓ : Loc nD τ sig) → Buf (Elt F) ℓ) (ρ : Dev nD → PrngReg) (c : Dev nD)

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c | 0 => dat0 m

/-! ## The kernel's own buffers and semaphores -/

theorem any_whole (b : Ref sig .tc) : (iprop(∃ X, owns (c : Thread nD τ) (Memref.whole b) fullShare X) : sProp 𝕄)
    = iprop(∃ f : Buf (Elt F) ((c : Thread nD τ).loc b), ((c : Thread nD τ).loc b) ↦{fullShare} f) := by
  simp only [owns_whole]
theorem scr_eq : (scr c : sProp 𝕄) = iprop((((∃ X, owns (c : Thread nD τ) (hiM false) fullShare X) ∗ ∃ X, owns (c : Thread nD τ) (hiM true) fullShare X)
      ∗ ((∃ X, owns (c : Thread nD τ) (loM false) fullShare X) ∗ ∃ X, owns (c : Thread nD τ) (loM true) fullShare X)
      ∗ ((∃ X, owns (c : Thread nD τ) (qM false) fullShare X) ∗ ∃ X, owns (c : Thread nD τ) (qM true) fullShare X))
    ∗ ((∃ X, owns (c : Thread nD τ) aM fullShare X) ∗ ∃ X, owns (c : Thread nD τ) wM fullShare X)
    ∗ ((∃ X, owns (c : Thread nD τ) (finM false) fullShare X) ∗ ∃ X, owns (c : Thread nD τ) (finM true) fullShare X) ∗ ∃ X, owns (c : Thread nD τ) mM fullShare X) := by
  unfold scr bufs
  rw [big_kd, big_bool, big_bool, big_bool]
theorem scr_rest : (Pipeline.scopedRest (Ix := Unit) (Name := ℕ) (U := UU) (Lvl := ℕ) (Val := Elt F) spec0 c : sProp 𝕄)
    = iprop((∃ X, owns (c : Thread nD τ) aM fullShare X) ∗ (∃ X, owns (c : Thread nD τ) wM fullShare X)
      ∗ (∃ X, owns (c : Thread nD τ) (finM false) fullShare X) ∗ (∃ X, owns (c : Thread nD τ) (finM true) fullShare X)
      ∗ (∃ X, owns (c : Thread nD τ) (hiM false) fullShare X) ∗ (∃ X, owns (c : Thread nD τ) (hiM true) fullShare X)
      ∗ (∃ X, owns (c : Thread nD τ) (loM false) fullShare X) ∗ (∃ X, owns (c : Thread nD τ) (loM true) fullShare X)
      ∗ (∃ X, owns (c : Thread nD τ) (qM false) fullShare X) ∗ (∃ X, owns (c : Thread nD τ) (qM true) fullShare X)
      ∗ ∃ X, owns (c : Thread nD τ) mM fullShare X) := by
  rw [scopedRest0_eq]
  simp only [← any_whole c cc0_scratch0, ← any_whole c cc0_scratch1, ← any_whole c cc0_scratch2, ← any_whole c cc0_scratch3, ← any_whole c cc0_scratch4,
    ← any_whole c cc0_scratch5, ← any_whole c cc0_scratch6, ← any_whole c cc0_scratch7, ← any_whole c cc0_scratch16, ← any_whole c cc0_scratch17, ← any_whole c cc0_scratch22]
  rfl
theorem scr_in : (Pipeline.scopedRest (Ix := Unit) (Name := ℕ) (U := UU) (Lvl := ℕ) (Val := Elt F) spec0 c : sProp 𝕄) ⊢ scr c := by
  rw [scr_rest, scr_eq]
  iintro ⟨Ha, Hw, Hf, Hf', Hh, Hh', Hl, Hl', Hq, Hq', Hm⟩
  isplitl [Hh Hh' Hl Hl' Hq Hq']
  · isplitl [Hh Hh']; · isplitl [Hh] <;> iassumption
    isplitl [Hl Hl']; · isplitl [Hl] <;> iassumption
    isplitl [Hq] <;> iassumption
  isplitl [Ha Hw]; · isplitl [Ha] <;> iassumption
  isplitl [Hf Hf']; · isplitl [Hf] <;> iassumption
  iexact Hm
theorem scr_out : (scr c : sProp 𝕄) ⊢ Pipeline.scopedRest (Ix := Unit) (Name := ℕ) (U := UU) (Lvl := ℕ) (Val := Elt F) spec0 c := by
  rw [scr_rest, scr_eq]
  iintro ⟨⟨⟨Hh, Hh'⟩, ⟨Hl, Hl'⟩, Hq, Hq'⟩, ⟨Ha, Hw⟩, ⟨Hf, Hf'⟩, Hm⟩
  isplitl [Ha]; · iexact Ha
  isplitl [Hw]; · iexact Hw
  isplitl [Hf]; · iexact Hf
  isplitl [Hf']; · iexact Hf'
  isplitl [Hh]; · iexact Hh
  isplitl [Hh']; · iexact Hh'
  isplitl [Hl]; · iexact Hl
  isplitl [Hl']; · iexact Hl'
  isplitl [Hq]; · iexact Hq
  isplitl [Hq']; · iexact Hq'
  iexact Hm

abbrev osem (k : Ck) : SemLoc sig := .dma (semOf k)
theorem osem_scoped : ∀ k ∈ (Finset.univ : Finset Ck), (osem k).isScoped .tc = true := by decide +kernel
theorem osem_stage : ∀ k ∈ (Finset.univ : Finset Ck), 4 ≤ (semOf k).val := by decide +kernel
theorem stage_lt : ∀ (w : Fin 4) (s : Fin (spec0 w).nbuf), ((spec0 w).sem s).val < 4 := by decide +kernel
theorem ownFacts : Pipeline.OwnSemFacts spec0 osem where
  isScoped k := osem_scoped k (Finset.mem_univ k)
  inj _ _ h := semOf_inj (by simpa using h)
  disj k w s h := by
    have h1 := osem_stage k (Finset.mem_univ k)
    have h2 := stage_lt w s
    have e : semOf k = (spec0 w).sem s := by simpa using h
    rw [e] at h1; omega
theorem ownSems_eq : (Pipeline.ownSems0 osem c : sProp 𝕄) = ownZ c := rfl

/-! ## The kernel's region -/

theorem hopen : iprop(Tk m c ∗ Pipeline.ownSems0 osem c ∗ levAts L lv) ⊢ (|={Set.univ}=> Xk m c : sProp 𝕄) := by
  rw [ownSems_eq]
  unfold Tk Xk ownZ
  iintro ⟨⟨⟨%K, #HC⟩, Hb, Ht, Hk⟩, Hz, -⟩
  have hi : (iprop(ctx (argA m) (argB m) K ∗ bigSep Finset.univ fun k : Ck => openTok ER (cel c k)) : sProp 𝕄)
      ⊢ bigSep Finset.univ fun k : Ck => iprop(cellInv ER (sched (argA m) (argB m)) (K (cel c k)) (cel c k) ∗ openTok ER (cel c k)) := by
    refine BIBase.Entails.trans (sep_mono_left (BI.bigSep_of_persistent (Finset.univ : Finset Ck) (ctx (argA m) (argB m) K))) ?_
    rw [← bigSep_sep']
    refine big_mono fun k _ => ?_
    iintro ⟨#H, Ha⟩
    isplitr; · iapply (ctx_cel (argA m) (argB m) K c k); iexact H
    iexact Ha
  ihave Hk := hi $$ [Hk]
  · isplitr; · iexact HC
    iexact Hk
  imod (Rounds.cells_open (Es := Set.univ) ER (sched (argA m) (argB m)) (Finset.univ : Finset Ck) (fun k => cel c k) (fun k => K (cel c k)) (fun _ _ => Set.mem_univ _)) $$ [Hk Hz] with Ho
  · isplitl [Hk]; · iexact Hk
    iexact Hz
  imodintro
  isplitr; · iexists K; iexact HC
  isplitl [Hb]; · iexact Hb
  isplitl [Ht]; · iexact Ht
  iexact Ho

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem held_none (W : Valuation τ sig (Elt F)) : (StableHlo.held (c.tc : Thread nD τ) ∅ W : sProp 𝕄) = BI.emp := by
  unfold StableHlo.held
  exact BI.bigSep_empty
theorem hin : iprop(Pipeline.scopedRest (Pipeline.pin (pcfgs (F := F)) adm 0).spec c ∗ (∃ r, prngReg c r) ∗ StableHlo.held (c.tc : Thread nD τ) ∅ (V₁ m c) ∗ Xk m c)
    ⊢ (pdats m 0 c).Φ 0 := by
  rw [show (pdats m 0 c).Φ 0 = PhiA m c from phi_zero m c]
  unfold PhiA
  iintro ⟨Hs, Hp, -, HX⟩
  isplitl [HX]; · iexact HX
  isplitl [Hs]; · iapply (scr_in c); iexact Hs
  iexact Hp
theorem hout : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (V₂ m c) ∗ Pipeline.ownSems0 osem c ∗ Yk c) := by
  rw [show (pdats m 0 c).Φ (Fin.last (Pipeline.pin (pcfgs (F := F)) adm 0).N) = PhiB c from phi_last m c, ownSems_eq, held_none]
  unfold PhiB
  iintro ⟨Hy, Hz, Hs, Hp⟩
  isplitl [Hs]; · iapply (scr_out c); iexact Hs
  isplitl [Hp]; · iexact Hp
  isplitr; · iempintro
  isplitl [Hz]; · iexact Hz
  iexact Hy

theorem O₀_level (g : GSem nD τ sig) (u : Unit) (h : 0 < O₀ c g u) : u ∈ L g ∧ 0 < lv g u := by
  have hb : ∀ x, 0 < (tallyAt (barCell x) () 1 : CellTallies nD τ sig Unit) g u → u ∈ L g ∧ 0 < lv g u := by
    intro x hx
    rw [tallyAt_apply] at hx
    split at hx
    · rename_i e
      rw [e.1, e.2, L_tc]
      exact ⟨Finset.mem_singleton_self _, Nat.one_pos⟩
    · exact absurd hx (Nat.lt_irrefl 0)
  have e : O₀ c g u = owed c 0 g u + (tallyAt (barCell (pv true c)) () 1 : CellTallies nD τ sig Unit) g u + (tallyAt (barCell (pv false c)) () 1 : CellTallies nD τ sig Unit) g u := rfl
  rw [e] at h
  rcases Nat.add_pos_iff_pos_or_pos.mp h with h | h
  · rcases Nat.add_pos_iff_pos_or_pos.mp h with h | h
    · exact owed_level c 0 0 (fun g _ _ => by cases g <;> simp [mKeyR, lvK]) g u h
    · exact hb _ h
  · exact hb _ h
theorem cut : Pipeline.LevelCutOwed (pcfgs (F := F)) adm (pdats m) () L lv 0 (fun _ => 0) where
  hι c w s := by rw [L_tc]; exact Finset.mem_singleton_self _
  hιb c w s := by
    have h := stage_lt w s
    show lvK (keyAt ((spec0 w).sem s).val) ≤ 0
    unfold keyAt
    rw [if_pos h]
    exact le_rfl
  hD c t g i h := by
    have e : (pdats (F := F) m 0 c).owed t = if t.val = 0 then O₀ c else 0 := rfl
    rw [e] at h
    split at h
    · exact O₀_level c g i h
    · exact absurd h (Nat.lt_irrefl 0)

theorem hW (w : Fin 4) : (dat0 m c).arrAt w 0 = V₁ m c (Proc.devRef .tc (Pipeline.arrRef spec0 w)) := rfl
theorem V₂_ne (b : Ref sig .tc) (h : b ≠ main_v1) : V₂ m c (Proc.devRef .tc b) = V₁ m c (Proc.devRef .tc b) :=
  Function.update_of_ne (StableHlo.devRef_ne_of_ne h) _ _
theorem V₂_res : V₂ m c (Proc.devRef .tc main_v1) = resT m := Function.update_self _ _ _
theorem hW' : ∀ w : Fin 4, (dat0 m c).arrAt w cfg0.N = V₂ m c (Proc.devRef .tc (Pipeline.arrRef spec0 w))
  | 0 => ((dat0 m c).arrAt_in 0 rfl _).trans (V₂_ne m c main_arg0 (by decide)).symm
  | 1 => ((dat0 m c).arrAt_in 1 rfl _).trans (V₂_ne m c main_arg1 (by decide)).symm
  | 2 => ((dat0 m c).arrAt_in 2 rfl _).trans (V₂_ne m c main_c (by decide)).symm
  | 3 => (arrAt_3 m c).trans (V₂_res m c).symm

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 osem ownFacts
    ∅ ∅ (Finset.Subset.refl _) kitP rfl (fun c => (body_obl m c).loose)
    (fun _ => 0) O₀ (fun c => (owed_zero m c).trans (zero_add _).symm) (owed_last m) (fun _ => rfl)
    (fun c w => by unfold Dat.share; split <;> rfl)
    (V₁ m) (V₂ m) (fun _ b hb => absurd hb (by rw [Finset.sdiff_self]; exact Finset.notMem_empty b))
    (Tk m) Yk (Xk m) Yk (hopen m) (hin m) (hout m)
    (fun c => by iintro H; imodintro; iexact H)
    (fun _ => 0) (cut m)
    (fun _ => iprop(emp))
    (hW m) (hW' m)

/-- What rides beside the buffers up to the kernel. -/
def R (c : Dev nD) : sProp 𝕄 := iprop(Tk m c ∗ (∃ r, prngReg c r) ∗ ∃ W, owes (c : Thread nD τ) (O₀ c) W)
abbrev hb : Finset (DevRef τ sig) := Pipeline.ucRefs τ sig
theorem hb_arr : Pipeline.arrRefs (τ := τ) spec0 = hb := by decide +kernel
theorem ops_sub : ∀ op ∈ (hostOps0 : List (HloOp τ sig (Elt F))), op.bufs ⊆ hb := fun op h => by
  simp only [List.mem_singleton] at h; subst h
  show ({Proc.devRef .tc main_c} : Finset (DevRef τ sig)) ⊆ hb
  decide +kernel
theorem ops_fresh : ∀ op ∈ (hostOps0 : List (HloOp τ sig (Elt F))), op.fresh = ∅ := List.forall_iff_forall_mem.mp hostOps0_fresh

def seg0 : Pipeline.HostSeg (Ix := Unit) (Name := ℕ) (U := UU) (Lvl := ℕ) (pcfgs (F := F)) defs₀ 𝒱₀ L lv :=
  Pipeline.HostSeg.ofOps _ _ _ _ _ hb hostOps0 ops_sub ops_fresh (V₀ m) (R m)

theorem reg0_pre : iprop(StableHlo.held (c : Thread nD τ) hb (V₁ m c) ∗ R m c) ⊢ (reg0 m).pre c := by
  show _ ⊢ iprop(StableHlo.held (c.tc : Thread nD τ) (Pipeline.arrRefs (τ := τ) spec0) (V₁ m c) ∗ (∃ r, prngReg c r)
    ∗ (StableHlo.held (c.tc : Thread nD τ) ∅ (V₁ m c) ∗ emp) ∗ Tk m c ∗ ∃ Wd, owes (c : Thread nD τ) (0 + O₀ c) Wd)
  rw [held_none, zero_add, hb_arr]
  unfold R
  iintro ⟨Hh, HT, Hp, HO⟩
  isplitl [Hh]; · iexact Hh
  isplitl [Hp]; · iexact Hp
  isplitr
  · isplitr; · iempintro
    iempintro
  isplitl [HT]; · iexact HT
  iexact HO
theorem reg0_post : (reg0 m).post c ⊢ iprop(StableHlo.held (c : Thread nD τ) hb (V₂ m c) ∗ (semVal (barCell c) 0 ∗ ∃ W, owes (c : Thread nD τ) (0 : CellTallies nD τ sig Unit) W)) := by
  show iprop(StableHlo.held (c.tc : Thread nD τ) (Pipeline.arrRefs (τ := τ) spec0) (V₂ m c) ∗ (∃ r, prngReg c r)
    ∗ (StableHlo.held (c.tc : Thread nD τ) ∅ (V₂ m c) ∗ emp) ∗ Yk c ∗ ∃ Wd, owes (c : Thread nD τ) (0 : CellTallies nD τ sig Unit) Wd) ⊢ _
  rw [hb_arr]
  unfold Yk
  iintro ⟨Hh, -, -, Hb, HO⟩
  isplitl [Hh]; · iexact Hh
  isplitl [Hb]; · iexact Hb
  iexact HO

def segs : List (Pipeline.Seg (pcfgs (F := F)) adm (pdats m) () defs₀ 𝒱₀ L lv) := [.host (seg0 m), .region (reg0 m)]
theorem main_eq : main (F := F) c = Pipeline.Seg.run (segs m) := main_segs adm (pdats m) () 𝒱₀ L lv (seg0 m) (reg0 m) rfl c

/-! ## The launch -/

def barEmb : Dev nD ↪ GSem nD τ sig := ⟨fun c => barCell c, fun _ _ h => congrArg (fun g : GSem nD τ sig => g.1.1) h⟩
def celEmb : Dev nD × Ck ↪ GSem nD τ sig :=
  ⟨fun p => cel p.1 p.2, fun _ _ h => Prod.ext (congrArg (fun g : GSem nD τ sig => g.1.1) h) (semOf_inj (by simpa using congrArg Prod.snd h))⟩
abbrev barCells : Finset (GSem nD τ sig) := Finset.univ.map barEmb
abbrev ownCells : Finset (GSem nD τ sig) := Finset.univ.map celEmb
theorem cells_disj : Disjoint (barCells : Finset (GSem nD τ sig)) ownCells := by
  rw [Finset.disjoint_left]
  rintro g h₁ h₂
  obtain ⟨c, -, rfl⟩ := Finset.mem_map.mp h₁
  obtain ⟨p, -, h⟩ := Finset.mem_map.mp h₂
  exact absurd (congrArg Prod.snd h) (by simp [celEmb, barEmb])

/-- The launch's ghost state: the pipeline's, and the protocol's. -/
def u₀ : UU := (initOf (Pipeline.cells (Pipeline.pin (pcfgs (F := F)) adm) cellOf_inj) (Pipeline.launchToks (Pipeline.pin (pcfgs (F := F)) adm) cellOf_inj),
  launchOf barCells ownCells tokSet)
/-- The protocol's part, all of it with device 0 until it is dealt. -/
def G (c : Dev nD) : sProp 𝕄 := if c = 0 then BI.own (ER (launchOf barCells ownCells tokSet)) else iprop(emp)
theorem G_all : (bigSep Finset.univ (G (F := F)) : sProp 𝕄) = BI.own (ER (launchOf barCells ownCells tokSet)) := by
  rw [bigSep_univ_at _ (0 : Dev nD), bigSep_congr (s := Finset.univ.erase 0) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- What stays with a device of what the launch deals; of the rest. -/
def linear (c : Dev nD) : sProp 𝕄 := iprop(atPos ER (barCell c) 0 ∅ 0 ∗ (bigSep Finset.univ fun k : Ck => openTok ER (cel c k)) ∗ bigSep Finset.univ (tk c))
def rest (c : Dev nD) : sProp 𝕄 := iprop(StableHlo.held (c : Thread nD τ) hb (V₀ m c) ∗ Pipeline.launchCred O₀ c ∗ owes (c : Thread nD τ) (O₀ c) ∅ ∗ ∃ r, prngReg c r)
abbrev T₀ (c : Dev nD) : sProp 𝕄 := iprop(StableHlo.held (c : Thread nD τ) hb (V₀ m c) ∗ R m c)
abbrev Tₙ (c : Dev nD) : sProp 𝕄 := iprop(StableHlo.held (c : Thread nD τ) hb (V₂ m c) ∗ semVal (barCell c) 0)

theorem T₀_intro (K : GSem nD τ sig → ℕ) : iprop(ctx (argA m) (argB m) K ∗ (linear c ∗ rest m c)) ⊢ T₀ m c := by
  unfold linear rest T₀ R Tk
  iintro ⟨#HC, ⟨Ha, Ho, Ht⟩, Hh, Hc, HO, Hp⟩
  ihave Hc := (creds c) $$ Hc
  icases Hc with ⟨Hcb, Hcl⟩
  ihave Ht := (toks_dev c) $$ Ht
  icases Ht with ⟨Ht, Htt, Htf⟩
  isplitl [Hh]; · iexact Hh
  isplitr [HO Hp]
  · isplitr; · iexists K; iexact HC
    isplitl [Ha Hcb Htt Htf]
    · isplitl [Ha]; · iexact Ha
      isplitl [Hcb]; · iexact Hcb
      isplitl [Htt]; · iexact Htt
      iexact Htf
    isplitl [Ht Hcl]
    · iapply (toks_intro c)
      isplitl [Ht]; · iexact Ht
      iexact Hcl
    iexact Ho
  isplitl [Hp]; · iexact Hp
  iexists ∅; iexact HO

theorem unscopedSems_eq : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]

theorem ctx_intro (K : GSem nD τ sig → ℕ) : iprop((bigSep (barCells ∪ ownCells) fun g => cellInv ER (sched (argA m) (argB m)) (K g) g) ∗ (bigSep barCells fun g => reached ER g 0) ∗ levAts L lv)
    ⊢ (ctx (argA m) (argB m) K : sProp 𝕄) := by
  have e (Φ : GSem nD τ sig → sProp 𝕄) : (bigSep (barCells ∪ ownCells) Φ : sProp 𝕄)
      = iprop((bigSep Finset.univ fun c : Dev nD => Φ (barCell c)) ∗ bigSep Finset.univ fun p : Dev nD × Ck => Φ (cel p.1 p.2)) := by
    rw [bigSep_union cells_disj, bigSep_map, bigSep_map]
    rfl
  unfold ctx
  rw [e, bigSep_map]
  iintro ⟨⟨Hb, Hk⟩, Hr, Hl⟩
  isplitl [Hk]; · iexact Hk
  isplitl [Hb]; · iexact Hb
  isplitl [Hr]; · iexact Hr
  iexact Hl

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(rest m c ∗ (semVal (barCell c) 0 ∗ G c)) : sProp 𝕄) := by
    rw [show unscopedBufs c (fun b => m ((c : Thread nD τ).loc b)) = StableHlo.held (c : Thread nD τ) hb (V₀ m c) from Pipeline.unscopedBufs_held c (V₀ m c),
      unscopedSems_eq]
    unfold rest
    iintro ⟨Hh, Hus, HO, Hcr, Hp, HG⟩
    isplitl [Hh HO Hcr Hp]
    · isplitl [Hh]; · iexact Hh
      isplitl [Hcr]; · iexact Hcr
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    BIBase.Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    BIBase.Entails.of_eq (bigSep_map (s := Finset.univ) barEmb (Φ := fun g : GSem nD τ sig => (atPos ER g 0 ∅ 0 : sProp 𝕄)))
  have hop : bigSep ownCells (fun g => (openTok ER g : sProp 𝕄)) ⊢ bigSep Finset.univ (fun c : Dev nD => bigSep Finset.univ fun k : Ck => openTok ER (cel c k)) :=
    BIBase.Entails.of_eq (by rw [bigSep_map, bigSep_univ_prod]; rfl)
  iintro ⟨H, #HL⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(rest m c ∗ (semVal (barCell c) 0 ∗ G c)) : sProp 𝕄) from bigSep_mono fun c _ => hcore c) $$ H
  ihave H2 := (BIBase.Entails.of_eq (big_sep _ _ _)) $$ H'; icases H2 with ⟨HB, H3⟩
  ihave H4 := (BIBase.Entails.of_eq (big_sep _ _ _)) $$ H3; icases H4 with ⟨Hv, HG⟩
  ihave Hu := (BIBase.Entails.of_eq (G_all (F := F))) $$ HG
  imod (Rounds.fund_launch ER (sched (argA m) (argB m)) cells_disj (fun g _ h => h) tokSet) $$ [Hv Hu] with ⟨%K, -, #Hinv, #Hr, Hat, Hopen, Htok⟩
  · isplitl [Hv]
    · iapply hv; iexact Hv
    · iexact Hu
  imodintro
  iapply (bigSep_with_persistent (R := ctx (argA m) (argB m) K) (Φ := fun c => iprop(linear c ∗ rest m c)) fun c _ => T₀_intro m c K)
  isplitr
  · iapply (ctx_intro m K)
    isplitr; · iexact Hinv
    isplitr; · iexact Hr
    iexact HL
  iapply (BIBase.Entails.of_eq (big_sep _ _ _).symm)
  isplitr [HB]
  · unfold linear
    iapply (BIBase.Entails.of_eq (big_sep _ _ _).symm); isplitl [Hat]; · iapply hat; iexact Hat
    iapply (BIBase.Entails.of_eq (big_sep _ _ _).symm); isplitl [Hopen]; · iapply hop; iexact Hopen
    iapply (BIBase.Entails.of_eq (toks_eq (F := F))); iexact Htok
  · iexact HB

theorem unscoped_eq : ∀ sm ∈ (Finset.univ : Finset (SemLoc sig)), sm.isScoped .tc = false → sm = .reg barS := by decide +kernel

theorem hb_held (W : Valuation τ sig (Elt F)) : (StableHlo.held (c : Thread nD τ) hb W : sProp 𝕄)
    ⊢ iprop((((c : Thread nD τ).loc main_arg0) ↦{fullShare} W (Proc.devRef .tc main_arg0)) ∗ (((c : Thread nD τ).loc main_arg1) ↦{fullShare} W (Proc.devRef .tc main_arg1))
      ∗ (((c : Thread nD τ).loc main_v1) ↦{fullShare} W (Proc.devRef .tc main_v1))) := by
  have e : (StableHlo.held (c : Thread nD τ) hb W : sProp 𝕄)
      = iprop((((c : Thread nD τ).loc main_arg0) ↦{fullShare} W (Proc.devRef .tc main_arg0)) ∗ (((c : Thread nD τ).loc main_arg1) ↦{fullShare} W (Proc.devRef .tc main_arg1))
        ∗ (((c : Thread nD τ).loc main_v1) ↦{fullShare} W (Proc.devRef .tc main_v1)) ∗ (((c : Thread nD τ).loc main_c) ↦{fullShare} W (Proc.devRef .tc main_c))) := by
    unfold StableHlo.held
    rw [show hb = ({Proc.devRef .tc main_arg0, Proc.devRef .tc main_arg1, Proc.devRef .tc main_v1, Proc.devRef .tc main_c} : Finset (DevRef τ sig)) from by decide +kernel,
      bigSep_insert (by decide +kernel), bigSep_insert (by decide +kernel), bigSep_insert (by decide +kernel), bigSep_singleton]
    rfl
  rw [e]
  iintro ⟨H0, H1, H2, -⟩
  isplitl [H0]; · iexact H0
  isplitl [H1]; · iexact H1
  iexact H2

set_option backward.isDefEq.respectTransparency.types false in
/-- Every execution ends, with the operands as they were, the result on every device and every semaphore at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v1) = resT m) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := by
      refine ⟨fun c => .rfl, fun c => reg0_pre m c, fun c => (reg0_post m c).trans ?_⟩
      iintro ⟨Hh, Hb0, HO⟩
      isplitr [HO]
      · isplitl [Hh] <;> iassumption
      · iexact HO)
    (hinit := init m ρ)
    (QY := fun c s => (s.mem ((c : Thread nD τ).loc main_arg0) = V₂ m c (Proc.devRef .tc main_arg0) ∧ s.mem ((c : Thread nD τ).loc main_arg1) = V₂ m c (Proc.devRef .tc main_arg1)
        ∧ s.mem ((c : Thread nD τ).loc main_v1) = V₂ m c (Proc.devRef .tc main_v1))
      ∧ s.sem (barCell c) = 0)
    (hfin := fun c s' => by
      dsimp only [Tₙ]
      iintro ⟨⟨Hh, Hb0⟩, HSI⟩
      ihave Hh := (hb_held c (V₂ m c)) $$ Hh
      icases Hh with ⟨H0, H1, H2⟩
      icombine HSI H0 gives %h0
      icombine HSI H1 gives %h1
      icombine HSI H2 gives %h2
      icombine HSI Hb0 gives %hb
      imodintro
      isplitr
      · ipureintro
        exact ⟨⟨Buf.eq_of_forall_mem_univ h0, Buf.eq_of_forall_mem_univ h1, Buf.eq_of_forall_mem_univ h2⟩, by simpa using hb⟩
      iexact HSI)
    (hQ := fun s h hs => ⟨fun c => by
        obtain ⟨⟨h0, h1, h2⟩, -⟩ := h c
        rw [V₂_ne m c main_arg0 (by decide), V₁_arg0] at h0
        rw [V₂_ne m c main_arg1 (by decide), V₁_arg1] at h1
        rw [V₂_res] at h2
        exact ⟨h0, h1, h2⟩,
      sem_eq_zero hs fun c sm hsm => by
        obtain rfl := unscoped_eq sm (Finset.mem_univ _) hsm
        exact (h c).2⟩)

end Cert.KernelIdeal.Pf

end
-- ==== Proof.Bits.lean ====
/- The kernel as printed and its idealization are the same text, so a run of the one over the bits is a run of the other. -/
module

public import proofs.«01_k».proof.Proof.KernelIdeal.Launch
public import proofs.«01_k».proof.Proof.Gen.Kernel
public import proofs.«01_k».proof.Proof.Gen.Kernel.Frame
public import Idealize.ShloMosaic.PureOps.BitExact

@[expose] public section

noncomputable section

namespace Cert.Pf

open Idealize.ShloMosaic Idealize.SL.Sem Idealize.ShloMosaic.TcCoe

theorem same_run : (∀ (m : (ℓ : Loc Cert.KernelIdeal.nD Cert.KernelIdeal.τ Cert.KernelIdeal.sig) → Buf (Elt Bits) ℓ) (g : Dev Cert.KernelIdeal.nD → PrngReg),
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0))
  = (∀ (m : (ℓ : Loc Cert.Kernel.nD Cert.Kernel.τ Cert.Kernel.sig) → Buf (Elt Bits) ℓ) (g : Dev Cert.Kernel.nD → PrngReg),
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)) := by
  chain_rfl

theorem run_bits (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) :=
  Eq.mp same_run (fun m g => (θ_run _ _ _).mono (fun r h => ⟨fun c => ⟨(h.1 c).1, (h.1 c).2.1⟩, h.2⟩) (Cert.KernelIdeal.Pf.run_main (F := Bits) m g)) m g

end Cert.Pf

end
-- ==== Proof.Value.Scalar.lean ====
/- One entry: sums with carried remainders, and the quantiser, over the extended reals. -/
module

public import Idealize.ShloMosaic.PureOps.Ideal
public import Idealize.ShloMosaic.PureOps.Ideal.Laws

@[expose] public section

noncomputable section

namespace Cert.Pf

open Idealize.ShloMosaic

/-! ## The constants -/

theorem c448 : Ideal.ofBits .f32 0x43E00000#32 = ((448 : ℝ) : EReal) := by
  simp [Ideal.ofBits, Ideal.ieee]; rw [← EReal.coe_mul]; norm_num
theorem cm448 : Ideal.ofBits .f32 0xC3E00000#32 = ((-448 : ℝ) : EReal) := by
  simp [Ideal.ofBits, Ideal.ieee]; rw [← EReal.coe_mul]; norm_num
theorem c1 : Ideal.ofBits .f32 0x3F800000#32 = ((1 : ℝ) : EReal) := by
  simp [Ideal.ofBits, Ideal.ieee]; rw [← EReal.coe_mul]; norm_num
theorem cbot : Ideal.ofBits .f32 0xFF800000#32 = (⊥ : EReal) := by
  simp [Ideal.ofBits, Ideal.ieee]

theorem coe_max' (a b : ℝ) : ((max a b : ℝ) : EReal) = max (a : EReal) b := EReal.coe_strictMono.monotone.map_max
theorem coe_min' (a b : ℝ) : ((min a b : ℝ) : EReal) = min (a : EReal) b := EReal.coe_strictMono.monotone.map_min

/-! ## Two values which agree unless both are infinite -/

/-- The absolute value. -/
def mag (x : EReal) : EReal := max x (-x)
def Infin (x : EReal) : Prop := x = ⊤ ∨ x = ⊥
/-- Equal, or both infinite. -/
def Same (x y : EReal) : Prop := x = y ∨ (Infin x ∧ Infin y)

theorem Infin.add_left {x : EReal} (h : Infin x) (y : EReal) : Infin (x + y) := by
  rcases h with rfl | rfl
  · induction y with
    | bot => exact .inr rfl
    | top => exact .inl rfl
    | coe r => exact .inl (EReal.top_add_coe r)
  · exact .inr (EReal.bot_add y)
theorem Infin.add_right {y : EReal} (h : Infin y) (x : EReal) : Infin (x + y) := add_comm y x ▸ h.add_left x

theorem Same.refl (x : EReal) : Same x x := .inl rfl
theorem Same.trans {x y z : EReal} (h : Same x y) (h' : Same y z) : Same x z := by
  rcases h with rfl | ⟨hx, hy⟩
  · exact h'
  · rcases h' with rfl | ⟨-, hz⟩
    · exact .inr ⟨hx, hy⟩
    · exact .inr ⟨hx, hz⟩
theorem Same.add {x y x' y' : EReal} (h : Same x x') (h' : Same y y') : Same (x + y) (x' + y') := by
  rcases h with rfl | ⟨hx, hy⟩
  · rcases h' with rfl | ⟨hx, hy⟩
    · exact .refl _
    · exact .inr ⟨hx.add_right _, hy.add_right _⟩
  · exact .inr ⟨hx.add_left _, hy.add_left _⟩

/-- A sum to which its own remainder is added: nothing is left of a finite one. -/
theorem same_carry (x a b : EReal) : Same (x + (x - x) * a * b) x := by
  induction x with
  | bot => exact .inr ⟨.add_left (.inr rfl) _, .inr rfl⟩
  | top => exact .inr ⟨.add_left (.inl rfl) _, .inl rfl⟩
  | coe r => left; rw [← EReal.coe_sub, sub_self, EReal.coe_zero, zero_mul, zero_mul, add_zero]

theorem mag_infin {x : EReal} (h : Infin x) : mag x = ⊤ := by
  rcases h with rfl | rfl <;> simp [mag]
theorem Same.mag {x y : EReal} (h : Same x y) : mag x = mag y := by
  rcases h with rfl | ⟨hx, hy⟩
  · rfl
  · rw [mag_infin hx, mag_infin hy]
theorem mag_nonneg (x : EReal) : 0 ≤ mag x := by
  unfold Cert.Pf.mag
  rcases le_total 0 x with h | h
  · exact le_max_of_le_left h
  · exact le_max_of_le_right (EReal.neg_nonneg.2 h)

/-! ## The quantiser -/

/-- A product with the reciprocal of the scale, and the scale again, is the clipped quotient times the scale: no entry
    is beyond the maximum, and the scale is zero or infinite only if both are zero. -/
theorem quant (x y M : EReal) (h : Same x y) (hm : mag y ≤ M) :
    x * Ideal.div ((1 : ℝ) : EReal) (Ideal.div M ((448 : ℝ) : EReal)) * Ideal.div M ((448 : ℝ) : EReal)
      = min ((448 : ℝ) : EReal) (max ((-448 : ℝ) : EReal) (Ideal.div y (Ideal.div M ((448 : ℝ) : EReal)))) * Ideal.div M ((448 : ℝ) : EReal) := by
  have h0 : (0 : EReal) ≤ M := (mag_nonneg y).trans hm
  have hc : ((448 : ℝ) : EReal) ≠ 0 := by rw [← EReal.coe_zero, Ne, EReal.coe_eq_coe_iff]; norm_num
  have hs : Ideal.div M ((448 : ℝ) : EReal) = M * (((448 : ℝ)⁻¹ : ℝ) : EReal) := by
    unfold Ideal.div; rw [if_neg hc, EReal.coe_inv]
  rw [hs]
  induction M with
  | bot => exact absurd h0 (by simp)
  | top =>
    have e : (⊤ : EReal) * (((448 : ℝ)⁻¹ : ℝ) : EReal) = ⊤ := EReal.top_mul_coe_of_pos (by norm_num)
    have d (z : EReal) : Ideal.div z ⊤ = 0 := by unfold Ideal.div; rw [if_neg (by simp), EReal.inv_top, mul_zero]
    have c : min ((448 : ℝ) : EReal) (max ((-448 : ℝ) : EReal) 0) = 0 := by
      rw [← EReal.coe_zero, ← coe_max', ← coe_min']; norm_num
    rw [e, d, d, c, mul_zero]
  | coe M =>
    have hyt : ¬ Infin y := fun hi => by rw [mag_infin hi] at hm; exact absurd hm (by simp)
    obtain rfl : x = y := h.resolve_right fun hi => hyt hi.2
    induction x with
    | bot => exact absurd (.inr rfl) hyt
    | top => exact absurd (.inl rfl) hyt
    | coe y =>
      rw [← EReal.coe_mul]
      have hy : |y| ≤ M := by
        have : mag (y : EReal) = ((|y| : ℝ) : EReal) := by unfold Cert.Pf.mag; rw [← EReal.coe_neg, ← coe_max']; rfl
        rw [this] at hm; exact EReal.coe_le_coe_iff.1 hm
      have hM : 0 ≤ M := EReal.coe_nonneg.1 h0
      rcases hM.eq_or_lt with rfl | hM
      · rw [zero_mul, EReal.coe_zero, mul_zero, mul_zero]
      · have hp : 0 < M * (448 : ℝ)⁻¹ := by positivity
        have hne : ((M * (448 : ℝ)⁻¹ : ℝ) : EReal) ≠ 0 := by rw [← EReal.coe_zero, Ne, EReal.coe_eq_coe_iff]; exact hp.ne'
        have d (z : ℝ) : Ideal.div (z : EReal) ((M * (448 : ℝ)⁻¹ : ℝ) : EReal) = ((z * (M * (448 : ℝ)⁻¹)⁻¹ : ℝ) : EReal) := by
          unfold Ideal.div; rw [if_neg hne, ← EReal.coe_inv, ← EReal.coe_mul]
        rw [d, d, ← EReal.coe_mul, ← EReal.coe_mul, ← coe_max', ← coe_min', ← EReal.coe_mul, EReal.coe_eq_coe_iff]
        have hb := abs_le.1 hy
        have hu : y * (M * (448 : ℝ)⁻¹)⁻¹ ≤ 448 := by
          rw [← div_eq_mul_inv, div_le_iff₀ hp]; nlinarith [hb.2]
        have hl : -448 ≤ y * (M * (448 : ℝ)⁻¹)⁻¹ := by
          rw [← div_eq_mul_inv, le_div_iff₀ hp]; nlinarith [hb.1]
        rw [max_eq_right hl, min_eq_right hu, one_mul]

/-- The scalar maximum of a list of magnitudes does not see which infinity an entry is. -/
theorem fold_max_bot {ι : Type} (s : Finset ι) (f : ι → EReal) : s.fold max ⊥ f = s.sup f := rfl

end Cert.Pf

end
-- ==== Proof.Value.Sums.lean ====
/- A device's sum of a block is, infinities apart, the sum of all devices' parts of it. -/
module

public import proofs.«01_k».proof.Proof.KernelIdeal.Outs
public import proofs.«01_k».proof.Proof.Value.Scalar
public import Idealize.ShloMosaic.Lib.MatmulPlain

@[expose] public section

noncomputable section

namespace Cert.KernelIdeal.Pf

open Idealize.ShloMosaic Idealize.SL.Sem Cert.KernelIdeal Cert.KernelIdeal.Gen
open Idealize.ShloMosaic.ValueIdx (ix2 eq_ix2)
open Cert.Pf

variable (A : Dev nD → Vec Ideal S4096x256 .bf16) (B : Dev nD → Vec Ideal S256x2048 .bf16)

/-- What a device adds to an entry of the product. -/
def part (u : Dev nD) (i : S4096x2048.Idx) : EReal := ∑ q : Fin 256, A u (ix2 (i 0) q) * B u (ix2 q (i 1))

/-! ## The operands' blocks -/

theorem pay2_eq (v : Vec Ideal S4096x256 .bf16) : k0_pay2 v = v := by
  unfold k0_pay2; simp only [shapeCast_self]
theorem pay3_eq (v : Vec Ideal S256x2048 .bf16) : k0_pay3 v = v := by
  unfold k0_pay3; simp only [shapeCast_self]

theorem wV_apply (d : Bool) (c : Dev nD) (q : Fin 256) (j : Fin 1024) (y : Fin 2048) (h : y.val = 1024 * d.toNat + j.val) :
    wV B d c (ix2 q j) = B c (ix2 q y) := by
  have e : wV B d c (ix2 q j) = k0_pay3 (B c) ((Rect.unit (s := S256x2048) ![0, 1024 * d.toNat] S256x1024.size (cols_inb d)).emb (ix2 q j)) := rfl
  rw [e, pay3_eq]
  refine congrArg (B c) (funext fun a => Fin.ext ((emb_val _ _ _ _ a).trans ?_))
  match a with
  | 0 => exact Nat.zero_add _
  | 1 => exact h.symm

theorem x_apply (c : Dev nD) (off : Fin 2 → ℕ) (inb : ∀ a, off a + S256x256.size a ≤ S4096x256.size a) (k : ℕ) (hoff : off = ![256 * k, 0])
    (r q : Fin 256) (x : Fin 4096) (h : x.val = 256 * k + r.val) :
    (aM.access (Rect.unit (s := S4096x256) off S256x256.size inb)).read (Elt Ideal) (k0_pay2 (A c)) (ix2 r q) = A c (ix2 x q) := by
  subst hoff
  have e : (aM.access (Rect.unit (s := S4096x256) ![256 * k, 0] S256x256.size inb)).read (Elt Ideal) (k0_pay2 (A c)) (ix2 r q)
      = k0_pay2 (A c) ((Rect.unit (s := S4096x256) ![256 * k, 0] S256x256.size inb).emb (ix2 r q)) := rfl
  rw [e, pay2_eq]
  refine congrArg (A c) (funext fun a => Fin.ext ((emb_val _ _ _ _ a).trans ?_))
  match a with
  | 0 => exact h.symm
  | 1 => exact Nat.zero_add _

theorem dot_plain : dot_S256x256_S256x1024_S256x1024_1_0_0_1_n_n = DotDims.plain 256 256 1024 := rfl
theorem prodV_apply (x : Vec Ideal S256x256 .bf16) (w : Vec Ideal S256x1024 .bf16) (r : Fin 256) (j : Fin 1024) :
    prodV x w (ix2 r j) = ∑ q : Fin 256, x (ix2 r q) * w (ix2 q j) := by
  have e := Ideal.matmul_plain_apply (M := 256) (K := 256) (N := 1024) (φ₁ := .bf16) (φ₂ := .bf16) none x w (constant S256x1024 .f32 0x00000000#32) r j
  have z : (constant (F := Ideal) S256x1024 .f32 0x00000000#32) (ix2 r j) = (0 : EReal) := Ideal.ofBits_zero_f32
  rw [z, zero_add] at e
  exact e

theorem prod_apply (d : Bool) (c : Dev nD) (off : Fin 2 → ℕ) (inb : ∀ a, off a + S256x256.size a ≤ S4096x256.size a) (k : ℕ) (hoff : off = ![256 * k, 0])
    (r : Fin 256) (j : Fin 1024) (i : S4096x2048.Idx) (h0 : (i 0).val = 256 * k + r.val) (h1 : (i 1).val = 1024 * d.toNat + j.val) :
    prodV ((aM.access (Rect.unit (s := S4096x256) off S256x256.size inb)).read (Elt Ideal) (k0_pay2 (A c))) (wV B d c) (ix2 r j) = part A B c i := by
  rw [prodV_apply]
  unfold part
  refine Finset.sum_congr rfl fun q _ => ?_
  rw [x_apply A c off inb k hoff r q (i 0) h0, wV_apply B d c q j (i 1) h1]

/-! ## The schedule of the blocks -/

theorem off_zero (d : Bool) (c : Dev nD) : k0_off4 (posW (pv d c)) = offA (posW c) d (BitVec.ofNat 32 0) := by
  revert d c; decide +kernel
theorem off_succ (d : Bool) (c : Dev nD) (s : Fin 14) : offA (posW (pv d c)) d (BitVec.ofNat 32 s.val) = offA (posW c) d (BitVec.ofNat 32 (s.val + 1)) := by
  revert d c s; decide +kernel
theorem off_last (d : Bool) (c : Dev nD) : offA (posW c) d (BitVec.ofNat 32 14) = ![256 * blk d c, 0] := by
  revert d c; decide +kernel
theorem back_inj (d : Bool) (c : Dev nD) : Function.Injective fun t : Fin 16 => back d t.val c := by
  revert d c; decide +kernel
theorem sum_back (d : Bool) (c : Dev nD) (f : Dev nD → EReal) : ∑ t ∈ Finset.range 16, f (back d t c) = ∑ u, f u := by
  rw [← Fin.sum_univ_eq_sum_range (fun t => f (back d t c)) 16]
  exact (Finite.injective_iff_bijective.1 (back_inj d c)).sum_comp f

/-! ## The sum along the ring -/

theorem half_val (b : Fin 2) (v : FVec Ideal S256x1024 .f32) (r : Fin 256) (j : Fin 512) :
    half b v (ix2 r j) = v (ix2 r ⟨512 * b.val + j.val, by omega⟩) := half_apply b v r j

theorem yV_zero_at (d : Bool) (b : Fin 2) (c : Dev nD) (x : S256x512.Idx) :
    yV A B d b 0 c x = (hi0 A B d b (pv d c) x + half b (prodAt A B d 0 c) x : EReal) := by
  have e : yV A B d b 0 c = accV b (prodAt A B d 0 c) (gotV (up (hi0 A B d b (pv d c)))) := rfl
  have h : dn (up (hi0 A B d b (pv d c))) = hi0 A B d b (pv d c) := dn_up _
  rw [e]
  show (dn (up (hi0 A B d b (pv d c))) x + _ : EReal) = _
  rw [h]
theorem gotV_same (y : FVec Ideal S256x512 .f32) (x : S256x512.Idx) : gotV (up (hiV y)) x = y x := by
  have h : dn (up (hiV y)) = hiV y := dn_up _
  show dn (up (hiV y)) x = _
  rw [h]; rfl
theorem gotLoV_same (y : FVec Ideal S256x512 .f32) (x : S256x512.Idx) : Same (gotLoV (up (hiV y)) (up (loV y)) x) (y x) := by
  have h : dn (up (loV y)) = loV y := dn_up _
  have e : gotLoV (up (hiV y)) (up (loV y)) x = (gotV (up (hiV y)) x + dn (up (loV y)) x * (Ideal.ofBits .f32 0x3B000000#32) : EReal) := rfl
  rw [e, gotV_same, h]
  exact same_carry (y x) (Ideal.ofBits .f32 0x44000000#32) (Ideal.ofBits .f32 0x3B000000#32)
theorem yV_succ_at (d : Bool) (b : Fin 2) (s : ℕ) (c : Dev nD) (x : S256x512.Idx) :
    Same (yV A B d b (s + 1) c x) (yV A B d b s (pv d c) x + half b (prodAt A B d (Fin.ofNat 15 (s + 1)) c) x : EReal) := by
  rw [yV]
  refine Same.add ?_ (.refl _)
  split
  · exact gotLoV_same _ x
  · rw [gotV_same]; exact .refl _

/-- What the induction along the ring says of step `s`. -/
def SumAt (d : Bool) (b : Fin 2) (r : Fin 256) (j : Fin 512) (k : ℕ) (i : S4096x2048.Idx) (s : ℕ) : Prop :=
  ∀ c : Dev nD, offA (posW c) d (BitVec.ofNat 32 s) = ![256 * k, 0] →
    Same (yV A B d b s c (ix2 r j)) (∑ t ∈ Finset.range (s + 2), part A B (back d t c) i)

section
variable (d : Bool) (b : Fin 2) (r : Fin 256) (j : Fin 512) (k : ℕ) (i : S4096x2048.Idx) (h0 : (i 0).val = 256 * k + r.val)
  (h1 : (i 1).val = 1024 * d.toNat + (512 * b.val + j.val))
include h0 h1
theorem half_part (s : Fin 15) (c : Dev nD) (ho : offA (posW c) d (BitVec.ofNat 32 s.val) = ![256 * k, 0]) :
    half b (prodAt A B d s c) (ix2 r j) = part A B c i :=
  (half_val b _ r j).trans (prod_apply A B d c _ (offA_inb (posW c) (chk3_ok c) d s) k ho r _ i h0 h1)
theorem hi0_part (c : Dev nD) (ho : k0_off4 (posW c) = ![256 * k, 0]) : hi0 A B d b c (ix2 r j) = part A B c i :=
  (half_val b _ r j).trans (prod_apply A B d c _ (k0_off4_inb (posW c) (chk3_ok c)) k ho r _ i h0 h1)
theorem sumAt_zero : SumAt A B d b r j k i 0 := by
  intro c ho
  rw [yV_zero_at, hi0_part A B d b r j k i h0 h1 (pv d c) ((off_zero d c).trans ho), half_part A B d b r j k i h0 h1 0 c ho,
    Finset.sum_range_succ', Finset.sum_range_one]
  exact .refl _
theorem sumAt_succ (s : ℕ) (hs : s < 14) (ih : SumAt A B d b r j k i s) : SumAt A B d b r j k i (s + 1) := by
  intro c ho
  have ih := ih (pv d c) ((off_succ d c ⟨s, hs⟩).trans ho)
  have hf : (Fin.ofNat 15 (s + 1)).val = s + 1 := Nat.mod_eq_of_lt (by omega)
  have e2 := half_part A B d b r j k i h0 h1 (Fin.ofNat 15 (s + 1)) c (by rw [hf]; exact ho)
  have h := yV_succ_at A B d b s c (ix2 r j)
  rw [e2] at h
  rw [Finset.sum_range_succ']
  exact h.trans (.add ih (.refl _))
theorem sumAt : ∀ s : ℕ, s < 15 → SumAt A B d b r j k i s
  | 0, _ => sumAt_zero A B d b r j k i h0 h1
  | s + 1, hs => sumAt_succ A B d b r j k i h0 h1 s (by omega) (sumAt s (by omega))
end

/-- A device's sum of a block. -/
theorem finV_same (d : Bool) (c : Dev nD) (r : Fin 256) (j : Fin 1024) (i : S4096x2048.Idx) (h0 : (i 0).val = 256 * blk d c + r.val)
    (h1 : (i 1).val = 1024 * d.toNat + j.val) : Same (finV A B d c (ix2 r j)) (∑ u, part A B u i) := by
  rw [← sum_back d c fun u => part A B u i]
  exact sumAt A B d ⟨j.val / 512, by omega⟩ r ⟨j.val % 512, Nat.mod_lt _ (by decide)⟩ (blk d c) i h0
    (by show (i 1).val = 1024 * d.toNat + (512 * (j.val / 512) + j.val % 512); omega) 14 (by decide) c (off_last d c)

end Cert.KernelIdeal.Pf

end
-- ==== Proof.Value.Quant.lean ====
/- The maximum of all devices' sums is that of the whole product, and the result is the whole product quantised. -/
module

public import proofs.«01_k».proof.Proof.Value.Sums
public import Idealize.ShloMosaic.PureOps.Reduce

@[expose] public section

noncomputable section

namespace Cert.Pf

open Idealize.ShloMosaic

/-- The maximum of all entries, through a change of shape. -/
theorem max_all {s s' t : Shape} {axes : List (Fin s'.rank)} (v : FVec Ideal s .f32) (hc : s.ShapeCasts s') (h : s'.Reduces axes t)
    (ht : ∀ b, t.size b = 1) (hφ : FKind.Formats .f32) (hacc : (0xFF800000#32 : BitVec 32) = FKind.maximumf.neutral .f32 hφ) (j : t.Idx) (z : EReal) :
    multiReduction .maximumf axes t (shapeCast s' v hc) 0xFF800000#32 h hφ hacc j ≤ z ↔ ∀ x, v x ≤ z := by
  rw [multiReduction_maximumf_eq_fold, Finset.filter_true_of_mem fun i _ => funext fun b => Fin.ext (by
    have := (h.drop i b).isLt; have := (j b).isLt; have := ht b; omega)]
  have e : (Finset.univ : Finset s'.Idx).fold (FloatOps.maximumf (F := Ideal) (φ := .f32)) (FloatOps.ofBits .f32 0xFF800000#32) (shapeCast s' v hc)
      = Finset.univ.sup (shapeCast s' v hc) := by
    rw [show (FloatOps.ofBits (F := Ideal) .f32 0xFF800000#32) = (⊥ : EReal) from cbot]; rfl
  rw [e, Finset.sup_le_iff]
  constructor
  · intro H x
    have hx := H ((Shape.reshapeEquiv hc).symm x) (Finset.mem_univ _)
    unfold shapeCast at hx
    rwa [Equiv.apply_symm_apply] at hx
  · exact fun H x _ => H _

/-- The same, of the one entry taken out. -/
theorem max_out {s s' t r : Shape} {axes : List (Fin s'.rank)} (v : FVec Ideal s .f32) (hc : s.ShapeCasts s') (h : s'.Reduces axes t)
    (ht : ∀ b, t.size b = 1) (hφ : FKind.Formats .f32) (hacc : (0xFF800000#32 : BitVec 32) = FKind.maximumf.neutral .f32 hφ)
    (hr : t.ShapeCasts r) (pos : Fin r.rank → ℕ) (hp : ∀ a, pos a < r.size a) (z : EReal) :
    extractAt pos (shapeCast r (multiReduction .maximumf axes t (shapeCast s' v hc) 0xFF800000#32 h hφ hacc) hr) hp ≤ z ↔ ∀ x, v x ≤ z :=
  max_all v hc h ht hφ hacc _ z
theorem absf_apply {s : Shape} (v : FVec Ideal s .f32) (x : s.Idx) : absf v x = mag (v x) := rfl
theorem size_one (b : Fin 1) : (⟨1, ![1]⟩ : Shape).size b = 1 := match b with | 0 => rfl

end Cert.Pf

namespace Cert.KernelIdeal.Pf

open Idealize.ShloMosaic Idealize.SL.Sem Cert.KernelIdeal Cert.KernelIdeal.Gen
open Idealize.ShloMosaic.ValueIdx (ix2 eq_ix2)
open Cert.Pf

/-! ## The maximum -/

theorem pay178_le (v : Vec Ideal S256x1024 .f32) (z : EReal) : k0_pay178 v ≤ z ↔ ∀ x, mag (v x) ≤ z :=
  max_out (absf v) shapeCasts_S256x1024_S1x256x1024 reduces_S1x256x1024_S1 size_one (.inl rfl) rfl shapeCasts_S1_S1x1x1 ![0, 0, 0] inpos_S1x1x1_p0_0_0 z
theorem pay179_eq (w : EReal) (v : Vec Ideal S256x1024 .f32) :
    k0_pay179 (F := Ideal) w v = shapeCast S1x8x128 (broadcast S8x128 (Scalar.maximumf (F := Ideal) (φ := .f32) w (k0_pay178 v))) shapeCasts_S8x128_S1x8x128 := by
  unfold k0_pay179 k0_pay178; rfl
theorem spread_apply (y : EReal) (x : S1x8x128.Idx) : shapeCast S1x8x128 (broadcast S8x128 y) shapeCasts_S8x128_S1x8x128 x = y := rfl
theorem two_le (w y z : EReal) : Scalar.maximumf (F := Ideal) (φ := .f32) w y ≤ z ↔ w ≤ z ∧ y ≤ z := max_le_iff
theorem pay179_le (w : EReal) (v : Vec Ideal S256x1024 .f32) (x : S1x8x128.Idx) (z : EReal) : k0_pay179 (F := Ideal) w v x ≤ z ↔ w ≤ z ∧ ∀ x, mag (v x) ≤ z := by
  rw [← pay178_le, ← two_le, pay179_eq]
  exact Eq.to_iff (congrArg (· ≤ z) (spread_apply _ x))

variable (A : Dev nD → Vec Ideal S4096x256 .bf16) (B : Dev nD → Vec Ideal S256x2048 .bf16)

theorem amaxV_le (c : Dev nD) (x : S8x128.Idx) (z : EReal) : amaxV A B c x ≤ z ↔ ∀ d x, mag (finV A B d c x) ≤ z := by
  have h : amaxV A B c x ≤ z ↔ k0_pay178 (finV A B false c) ≤ z ∧ ∀ x, mag (finV A B true c x) ≤ z := by
    unfold amaxV shapeCast
    exact pay179_le _ _ _ z
  rw [h, pay178_le]
  exact ⟨fun h d => match d with | false => h.1 | true => h.2, fun h => ⟨h false, h true⟩⟩
/-- The slice of the table of maxima that the scale is taken of. -/
abbrev tabR : Rect S16x8x128 := Rect.unit (s := S16x8x128) ![0, 0, 0] S16x1x1.size inb_S16x8x128_S16x1x1_0_0_0
theorem tab_read (T : FVec Ideal S16x8x128 .f32) (x : S16x1x1.Idx) : (mM.access tabR).read (Elt Ideal) T x = T (tabR.emb x) := rfl
theorem tabV_apply (i : S16x8x128.Idx) : tabV A B i = amaxV A B (i 0) (ix2 (i 1) (i 2)) := by unfold tabV; rfl
theorem maxV_apply (x : S16x1x1.Idx) : ∃ y, maxV A B x = amaxV A B (tabR.emb x 0) y := by
  refine ⟨ix2 (tabR.emb x 1) (tabR.emb x 2), ?_⟩
  rw [← tabV_apply]
  unfold maxV
  exact tab_read _ x
theorem maxV_row (x : S16x1x1.Idx) (c : Dev nD) (h : (x 0).val = c.val) : ∃ y, maxV A B x = amaxV A B c y := by
  have hc : tabR.emb x 0 = c :=
    Fin.ext ((emb_val _ _ _ _ _).trans ((Nat.zero_add _).trans h))
  have := maxV_apply A B x
  rwa [hc] at this
theorem maxV_le (z : EReal) : (∀ x, maxV A B x ≤ z) ↔ ∀ c d x, mag (finV A B d c x) ≤ z := by
  constructor
  · intro h c
    have l (a : Fin 3) : (![c.val, 0, 0] : Fin 3 → ℕ) a < S16x1x1.size a :=
      match a with | 0 => c.isLt | 1 => Nat.one_pos | 2 => Nat.one_pos
    obtain ⟨y, hy⟩ := maxV_row A B (fun a => ⟨(![c.val, 0, 0] : Fin 3 → ℕ) a, l a⟩) c rfl
    exact (amaxV_le A B c y z).1 (hy ▸ h _)
  · intro h x
    obtain ⟨y, hy⟩ := maxV_row A B x (x 0) rfl
    rw [hy]
    exact (amaxV_le A B (x 0) y z).2 (h _)

/-- The maximum of the product's magnitudes. -/
def top : EReal := Finset.univ.sup fun i : S4096x2048.Idx => mag (∑ u, part A B u i)
theorem mag_le_top (i : S4096x2048.Idx) : mag (∑ u, part A B u i) ≤ top A B := Finset.le_sup (f := fun i : S4096x2048.Idx => mag (∑ u, part A B u i)) (Finset.mem_univ i)
theorem fin_le (z : EReal) : (∀ c d x, mag (finV A B d c x) ≤ z) ↔ top A B ≤ z := by
  unfold top
  rw [Finset.sup_le_iff]
  constructor
  · intro h i _
    have l0 : (i 0).val < 4096 := (i 0).isLt
    have l1 : (i 1).val < 2048 := (i 1).isLt
    have hb := blk_devOf (dirOf (i 1)) ((i 0).val / 256) (by omega)
    have hd : (i 1).val = 1024 * (dirOf (i 1)).toNat + (i 1).val % 1024 := by
      unfold dirOf
      by_cases h : 1024 ≤ (i 1).val
      · rw [decide_eq_true h]; simp only [Bool.toNat_true]; omega
      · rw [decide_eq_false h]; simp only [Bool.toNat_false]; omega
    have hs := finV_same A B (dirOf (i 1)) (devOf (dirOf (i 1)) ((i 0).val / 256)) ⟨(i 0).val % 256, Nat.mod_lt _ (by decide)⟩
      ⟨(i 1).val % 1024, Nat.mod_lt _ (by decide)⟩ i (by rw [hb]; exact (Nat.div_add_mod _ _).symm) hd
    rw [← hs.mag]
    exact h _ _ _
  · intro h c d x
    have l0 : (x 0).val < 256 := (x 0).isLt
    have l1 : (x 1).val < 1024 := (x 1).isLt
    have hb := blk_lt d c
    have hd := d.toNat_lt
    have hs := finV_same A B d c (x 0) (x 1) (ix2 ⟨256 * blk d c + (x 0).val, by omega⟩ ⟨1024 * d.toNat + (x 1).val, by omega⟩) rfl rfl
    rw [eq_ix2 x]
    exact hs.mag.trans_le (h _ (Finset.mem_univ _))

/-- The scale. -/
theorem pay180_eq : k0_pay180 (maxV A B) = Ideal.div (top A B) ((448 : ℝ) : EReal) := by
  rw [← c448]
  refine congrArg (fun t => Ideal.div t (Ideal.ofBits .f32 0x43E00000#32)) ?_
  refine eq_of_forall_ge_iff fun z => ?_
  rw [← fin_le, ← maxV_le]
  refine (max_out (shapeCast S16 (maxV A B) shapeCasts_S16x1x1_S16) shapeCasts_S16_S1x16 reduces_S1x16_S1 size_one (.inl rfl) rfl _ _ _ z).trans ?_
  constructor
  · intro h x
    have hx := h ((Shape.reshapeEquiv shapeCasts_S16x1x1_S16).symm x)
    unfold shapeCast at hx
    rwa [Equiv.apply_symm_apply] at hx
  · exact fun h x => h _

/-! ## The result -/

theorem flat_back {α : Type} (v : S256x1024.Idx → α) :
    shapeCast S256x1024 (shapeCast S1x256x1024 v shapeCasts_S256x1024_S1x256x1024) shapeCasts_S1x256x1024_S256x1024 = v := by
  funext j
  show v (Shape.reshapeEquiv _ (Shape.reshapeEquiv _ j)) = _
  rw [Shape.reshapeEquiv_reshapeEquiv, Shape.reshapeEquiv_self]

theorem oV_apply (d : Bool) (u : Dev nD) (x : S256x1024.Idx) :
    oV A B d u x = (finV A B d u x * Ideal.div ((1 : ℝ) : EReal) (k0_pay180 (maxV A B)) * k0_pay180 (maxV A B) : EReal) := by
  have e : oV A B d u x = (shapeCast S256x1024 (qV A B d u) shapeCasts_S1x256x1024_S256x1024 x * k0_pay180 (maxV A B) : EReal) := rfl
  have e2 : shapeCast S256x1024 (qV A B d u) shapeCasts_S1x256x1024_S256x1024
      = truncf .fp8e4m3 (mulf (finV A B d u) (broadcast S256x1024 (k0_pay181 (maxV A B)))) bitsLt_fp8e4m3_f32 := by
    unfold qV k0_pay182; exact flat_back _
  rw [e, e2, ← c1]
  rfl

/-- The quantised product. -/
def quantised (i : S4096x2048.Idx) : EReal :=
  min ((448 : ℝ) : EReal) (max ((-448 : ℝ) : EReal) (Ideal.div (∑ u, part A B u i) (Ideal.div (top A B) ((448 : ℝ) : EReal)))) * Ideal.div (top A B) ((448 : ℝ) : EReal)

theorem outT_eq (i : S4096x2048.Idx) : outT A B i = quantised A B i := by
  have l0 : (i 0).val < 4096 := (i 0).isLt
  have hb := blk_devOf (dirOf (i 1)) ((i 0).val / 256) (by omega)
  have hd : (i 1).val = 1024 * (dirOf (i 1)).toNat + (i 1).val % 1024 := by
    have l1 : (i 1).val < 2048 := (i 1).isLt
    unfold dirOf
    by_cases h : 1024 ≤ (i 1).val
    · rw [decide_eq_true h]; simp only [Bool.toNat_true]; omega
    · rw [decide_eq_false h]; simp only [Bool.toNat_false]; omega
  have hs := finV_same A B (dirOf (i 1)) (devOf (dirOf (i 1)) ((i 0).val / 256)) ⟨(i 0).val % 256, Nat.mod_lt _ (by decide)⟩
    ⟨(i 1).val % 1024, Nat.mod_lt _ (by decide)⟩ i (by rw [hb]; exact (Nat.div_add_mod _ _).symm) hd
  unfold outT quantised
  rw [oV_apply, pay180_eq]
  exact Cert.Pf.quant _ _ _ hs (mag_le_top A B i)

end Cert.KernelIdeal.Pf

end
-- ==== Proof.Value.Ref.lean ====
/- The reference's result, and the equation of the two. -/
module

public import proofs.«01_k».proof.Proof.Value.Quant
public import proofs.«01_k».proof.Proof.Gen.ReferenceIdeal.Value
public import Idealize.ShloMosaic.Lib.Layout
public import Idealize.ShloMosaic.Lib.Pointwise.Sums

@[expose] public section

noncomputable section

namespace Cert.ReferenceIdeal.Pf

open Idealize.ShloMosaic hiding ix2 eq_ix2
open Idealize.SL.Sem Cert.ReferenceIdeal Cert.ReferenceIdeal.Gen
open Idealize.ShloMosaic.ValueIdx (ix2 eq_ix2)
open Cert.Pf

variable (X : Vec Ideal S4096x4096 .bf16) (W : Vec Ideal S4096x2048 .bf16)

/-- The product. -/
def prod : FVec Ideal S4096x2048 .f32 := matmul (φ₁ := .bf16) (φ₂ := .bf16) dot_S4096x4096_S4096x2048_S4096x2048_1_0_0_1_n_n none X W (constant S4096x2048 .f32 0x00000000#32)
theorem prod_apply (i : S4096x2048.Idx) : prod X W i = (∑ k : Fin 4096, (X (ix2 (i 0) k) * W (ix2 k (i 1)) : EReal) : EReal) := by
  have e := Ideal.matmul_plain_apply (M := 4096) (K := 4096) (N := 2048) (φ₁ := .bf16) (φ₂ := .bf16) none X W (constant S4096x2048 .f32 0x00000000#32) (i 0) (i 1)
  have z : (constant (F := Ideal) S4096x2048 .f32 0x00000000#32) (ix2 (i 0) (i 1)) = (0 : EReal) := Ideal.ofBits_zero_f32
  rw [z, zero_add] at e
  rw [eq_ix2 i]
  exact e

/-- The maximum of its magnitudes. -/
def top : EReal := extractAt ![0, 0, 0] (shapeCast S1x1x1 (multiReduction (F := Ideal) .maximumf [1, 2] S1
  (shapeCast S1x4096x2048 (absf (prod X W)) shapeCasts_S4096x2048_S1x4096x2048) 0xFF800000#32 reduces_S1x4096x2048_S1 (.inl rfl) rfl) shapeCasts_S1_S1x1x1) inpos_S1x1x1_p0_0_0
theorem top_le (z : EReal) : top X W ≤ z ↔ ∀ i, mag (prod X W i) ≤ z :=
  max_out (absf (prod X W)) shapeCasts_S4096x2048_S1x4096x2048 reduces_S1x4096x2048_S1 size_one (.inl rfl) rfl shapeCasts_S1_S1x1x1 ![0, 0, 0] inpos_S1x1x1_p0_0_0 z

/-- What is done with a product and that maximum. -/
def stage (P : FVec Ideal S4096x2048 .f32) (t : EReal) : FVec Ideal S4096x2048 .bf16 :=
  truncf .bf16 (mulf (extf .f32 (truncf .fp8e4m3 (minimumf (broadcast S4096x2048 (Scalar.ofBits (F := Ideal) .f32 0x43E00000#32))
    (maximumf (broadcast S4096x2048 (Scalar.ofBits (F := Ideal) .f32 0xC3E00000#32))
      (divf P (broadcast S4096x2048 (Scalar.divf (F := Ideal) (φ := .f32) t (Scalar.ofBits .f32 0x43E00000#32)))))) bitsLt_fp8e4m3_f32) bitsLt_fp8e4m3_f32)
    (broadcast S4096x2048 (Scalar.divf (F := Ideal) (φ := .f32) t (Scalar.ofBits .f32 0x43E00000#32)))) bitsLt_bf16_f32
theorem stage_apply (P : FVec Ideal S4096x2048 .f32) (t : EReal) (i : S4096x2048.Idx) : stage P t i
    = (min ((448 : ℝ) : EReal) (max ((-448 : ℝ) : EReal) (Ideal.div (P i) (Ideal.div t ((448 : ℝ) : EReal)))) * Ideal.div t ((448 : ℝ) : EReal) : EReal) := by
  rw [← c448, ← cm448]
  rfl
theorem pay1_eq : k0_pay1 (F := Ideal) X W = stage (prod X W) (top X W) := by
  unfold k0_pay1 stage top prod
  rfl

end Cert.ReferenceIdeal.Pf

namespace Cert.Pf

open Idealize.ShloMosaic hiding ix2 eq_ix2
open Idealize.SL.Sem
open Idealize.ShloMosaic.ValueIdx (ix2 eq_ix2)
open Cert.ReferenceIdeal (S4096x4096 S4096x2048)

variable (X : Vec Ideal S4096x4096 .bf16) (W : Vec Ideal S4096x2048 .bf16)
  (A : Dev Cert.KernelIdeal.nD → Vec Ideal Cert.KernelIdeal.S4096x256 .bf16) (B : Dev Cert.KernelIdeal.nD → Vec Ideal Cert.KernelIdeal.S256x2048 .bf16)
  (tA : Layout.Tiles ⟨2, ![4096, 256]⟩ ⟨2, ![4096, 4096]⟩ 1 16) (tB : Layout.Tiles ⟨2, ![256, 2048]⟩ ⟨2, ![4096, 2048]⟩ 0 16)
  (hA : ∀ c, A c = Layout.block ⟨2, ![4096, 256]⟩ ⟨2, ![4096, 4096]⟩ 1 16 c X tA)
  (hB : ∀ c, B c = Layout.block ⟨2, ![256, 2048]⟩ ⟨2, ![4096, 2048]⟩ 0 16 c W tB)

include hA in
/-- A device's columns of the first argument and rows of the second. -/
theorem cols_apply (u : Fin 16) (x : Fin 4096) (q : Fin 256) (l : u.val * 256 + q.val < 4096) : A u (ix2 x q) = X (ix2 x ⟨u.val * 256 + q.val, l⟩) := by
  rw [hA, Layout.block_apply]
  refine congrArg X (funext fun a => Fin.ext ?_)
  match a with
  | 0 => rfl
  | 1 => rfl
include hB in
theorem rows_apply (u : Fin 16) (q : Fin 256) (y : Fin 2048) (l : u.val * 256 + q.val < 4096) : B u (ix2 q y) = W (ix2 ⟨u.val * 256 + q.val, l⟩ y) := by
  rw [hB, Layout.block_apply]
  refine congrArg W (funext fun a => Fin.ext ?_)
  match a with
  | 0 => rfl
  | 1 => rfl

include hA hB in
/-- The devices' parts make up the product. -/
theorem parts_eq (i : S4096x2048.Idx) : ∑ u, Cert.KernelIdeal.Pf.part A B u i = Cert.ReferenceIdeal.Pf.prod X W i := by
  rw [Cert.ReferenceIdeal.Pf.prod_apply]
  refine Eq.trans ?_ (Idealize.ShloMosaic.Fin.sum_univ_tiles 16 256 (rfl : 16 * 256 = 4096) _).symm
  refine Finset.sum_congr rfl fun u _ => ?_
  unfold Cert.KernelIdeal.Pf.part
  refine Finset.sum_congr rfl fun q _ => ?_
  have l : u.val * 256 + q.val < 4096 := by have := u.isLt; have := q.isLt; have : Cert.KernelIdeal.nD = 16 := rfl; omega
  rw [cols_apply X A tA hA u (i 0) q l, rows_apply W B tB hB u q (i 1) l]

include hA hB in
theorem result_eq : Cert.KernelIdeal.Pf.outT A B = Cert.ReferenceIdeal.Value.G2 X W := by
  funext i
  have hp := parts_eq X W A B tA tB hA hB
  have ht : Cert.KernelIdeal.Pf.top A B = Cert.ReferenceIdeal.Pf.top X W := by
    refine eq_of_forall_ge_iff fun z => ?_
    rw [Cert.ReferenceIdeal.Pf.top_le]
    unfold Cert.KernelIdeal.Pf.top
    simp only [Finset.sup_le_iff, Finset.mem_univ, true_imp_iff, hp]
  rw [Cert.KernelIdeal.Pf.outT_eq]
  unfold Cert.ReferenceIdeal.Value.G2
  rw [Cert.ReferenceIdeal.Pf.pay1_eq, Cert.ReferenceIdeal.Pf.stage_apply]
  unfold Cert.KernelIdeal.Pf.quantised
  rw [ht, hp]

end Cert.Pf

end
-- ==== Proof.lean ====
/- The proof of the claims. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Bits
public import proofs.«01_k».proof.Proof.Value.Ref
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    fun m g _ => Cert.Pf.run_bits m g,
    fun m g _ => (θ_run _ _ _).mono (fun r h => ⟨fun c => ⟨(h.1 c).1, (h.1 c).2.1⟩, h.2⟩) (Cert.KernelIdeal.Pf.run_main (F := Ideal) m g),
    fun m g _ => Cert.ReferenceIdeal.Gen.frame m g,
    trivial,
    fun m g m' g' _ hb => by
      have e : Cert.KernelIdeal.Pf.resT m = Cert.ReferenceIdeal.Value.G2 _ _ := Cert.Pf.result_eq _ _ _ _ _ _ (fun c => (hb c).1) (fun c => (hb c).2)
      refine ⟨_, (θ_run _ _ _).mono (fun r h c => ⟨(h.1 c).2.2.trans e, (h.1 c).1, (h.1 c).2.1⟩) (Cert.KernelIdeal.Pf.run_main (F := Ideal) m g), ?_⟩
      exact (θ_run _ _ _).mono (fun r h => h 0) (Cert.ReferenceIdeal.Value.run (F := Ideal) m' g')⟩

end Cert.Proof

end
